-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectRefIdeal (m : (ℓ : Loc Cert.SelectRefIdeal.nD Cert.SelectRefIdeal.τ Cert.SelectRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Select_SelectIdeal : Prop :=
  True

def algebraic_SelectIdeal_SelectRefIdeal [hSelectIdeal : Cert.SelectIdeal.Facts] [hSelectRefIdeal : Cert.SelectRefIdeal.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v0_0)) (v1 : (c : Dev Cert.SelectIdeal.nD) → Buf (Elt Ideal) ((c.tc : Thread Cert.SelectIdeal.nD Cert.SelectIdeal.τ).loc Cert.SelectIdeal.main_v0_1)) (v2 : (c : Dev Cert.SelectIdeal.nD) → Buf (Elt Ideal) ((c.tc : Thread Cert.SelectIdeal.nD Cert.SelectIdeal.τ).loc Cert.SelectIdeal.main_v0_2)) (v3 : (c : Dev Cert.SelectIdeal.nD) → Buf (Elt Ideal) ((c.tc : Thread Cert.SelectIdeal.nD Cert.SelectIdeal.τ).loc Cert.SelectIdeal.main_v0_3)) (v4 : (c : Dev Cert.SelectIdeal.nD) → Buf (Elt Ideal) ((c.tc : Thread Cert.SelectIdeal.nD Cert.SelectIdeal.τ).loc Cert.SelectIdeal.main_v0_4)) (v5 : (c : Dev Cert.SelectIdeal.nD) → Buf (Elt Ideal) ((c.tc : Thread Cert.SelectIdeal.nD Cert.SelectIdeal.τ).loc Cert.SelectIdeal.main_v0_5)) (v6 : (c : Dev Cert.SelectIdeal.nD) → Buf (Elt Ideal) ((c.tc : Thread Cert.SelectIdeal.nD Cert.SelectIdeal.τ).loc Cert.SelectIdeal.main_v0_6)) (v7 : (c : Dev Cert.SelectIdeal.nD) → Buf (Elt Ideal) ((c.tc : Thread Cert.SelectIdeal.nD Cert.SelectIdeal.τ).loc Cert.SelectIdeal.main_v0_7)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_0) = v0 c
          ∧ r.2.mem ((c.tc : Thread Cert.SelectIdeal.nD Cert.SelectIdeal.τ).loc Cert.SelectIdeal.main_v0_1) = v1 c
          ∧ r.2.mem ((c.tc : Thread Cert.SelectIdeal.nD Cert.SelectIdeal.τ).loc Cert.SelectIdeal.main_v0_2) = v2 c
          ∧ r.2.mem ((c.tc : Thread Cert.SelectIdeal.nD Cert.SelectIdeal.τ).loc Cert.SelectIdeal.main_v0_3) = v3 c
          ∧ r.2.mem ((c.tc : Thread Cert.SelectIdeal.nD Cert.SelectIdeal.τ).loc Cert.SelectIdeal.main_v0_4) = v4 c
          ∧ r.2.mem ((c.tc : Thread Cert.SelectIdeal.nD Cert.SelectIdeal.τ).loc Cert.SelectIdeal.main_v0_5) = v5 c
          ∧ r.2.mem ((c.tc : Thread Cert.SelectIdeal.nD Cert.SelectIdeal.τ).loc Cert.SelectIdeal.main_v0_6) = v6 c
          ∧ r.2.mem ((c.tc : Thread Cert.SelectIdeal.nD Cert.SelectIdeal.τ).loc Cert.SelectIdeal.main_v0_7) = v7 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v41) = v0 c
          ∧ r.2.mem ((c.tc : Thread Cert.SelectRefIdeal.nD Cert.SelectRefIdeal.τ).loc Cert.SelectRefIdeal.main_v52) = v1 c
          ∧ r.2.mem ((c.tc : Thread Cert.SelectRefIdeal.nD Cert.SelectRefIdeal.τ).loc Cert.SelectRefIdeal.main_v55) = v2 c
          ∧ r.2.mem ((c.tc : Thread Cert.SelectRefIdeal.nD Cert.SelectRefIdeal.τ).loc Cert.SelectRefIdeal.main_v58) = v3 c
          ∧ r.2.mem ((c.tc : Thread Cert.SelectRefIdeal.nD Cert.SelectRefIdeal.τ).loc Cert.SelectRefIdeal.main_v61) = v4 c
          ∧ r.2.mem ((c.tc : Thread Cert.SelectRefIdeal.nD Cert.SelectRefIdeal.τ).loc Cert.SelectRefIdeal.main_v67) = v5 c
          ∧ r.2.mem ((c.tc : Thread Cert.SelectRefIdeal.nD Cert.SelectRefIdeal.τ).loc Cert.SelectRefIdeal.main_v69) = v6 c
          ∧ r.2.mem ((c.tc : Thread Cert.SelectRefIdeal.nD Cert.SelectRefIdeal.τ).loc Cert.SelectRefIdeal.main_v70) = v7 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0))

def Claim : Prop :=
  ∃ (hKernel : Cert.Kernel.Facts) (hKernelIdeal : Cert.KernelIdeal.Facts) (hReferenceIdeal : Cert.ReferenceIdeal.Facts) (hSelect : Cert.Select.Facts) (hSelectIdeal : Cert.SelectIdeal.Facts) (hSelectRefIdeal : Cert.SelectRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Select (hSelect := hSelect)
    ∧ quiescent_SelectIdeal (hSelectIdeal := hSelectIdeal)
    ∧ quiescent_SelectRefIdeal (hSelectRefIdeal := hSelectRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Select_SelectIdeal
    ∧ algebraic_SelectIdeal_SelectRefIdeal (hSelectIdeal := hSelectIdeal) (hSelectRefIdeal := hSelectRefIdeal)
-- ==== Pre_finite.lean ====
abbrev S4x32x160x160 : Shape := ⟨4, ![4, 32, 160, 160]⟩
abbrev S4x100 : Shape := ⟨2, ![4, 100]⟩
abbrev S4x100x32 : Shape := ⟨3, ![4, 100, 32]⟩
abbrev S_ : Shape := ⟨0, ![]⟩

class Facts : Prop where
  bcast_S_S4x32x160x160 : S_.BroadcastsInDim S4x32x160x160 (![] : Fin 0 → Fin S4x32x160x160.rank)
  bcast_S_S4x100x32 : S_.BroadcastsInDim S4x100x32 (![] : Fin 0 → Fin S4x100x32.rank)

variable [Facts]

def fn {F : FTy → Type} [FloatOps F] (main_arg0 : FVec F S4x32x160x160 .f32) (main_arg1 : FVec F S4x100 .f32) (main_arg2 : FVec F S4x100 .f32) (main_arg3 : FVec F S4x100 .f32) (main_arg4 : FVec F S4x100 .f32) (main_arg5 : FVec F S4x100x32 .f32) : IVec S4x32x160x160 1 × IVec S4x100x32 1 :=
  let main_v0 : FVec F S4x32x160x160 .f32 := Host.absf main_arg0
  let main_cst : FVec F S_ .f32 := constant S_ .f32 0x7F800000#32
  let main_v1 : FVec F S4x32x160x160 .f32 := broadcastInDim S4x32x160x160 ![] bcast_S_S4x32x160x160 main_cst
  let main_v2 : IVec S4x32x160x160 1 := cmpf .olt main_v0 main_v1
  let main_v3 : FVec F S4x100x32 .f32 := Host.absf main_arg5
  let main_cst_0 : FVec F S_ .f32 := constant S_ .f32 0x7F800000#32
  let main_v4 : FVec F S4x100x32 .f32 := broadcastInDim S4x100x32 ![] bcast_S_S4x100x32 main_cst_0
  let main_v5 : IVec S4x100x32 1 := cmpf .olt main_v3 main_v4
  (main_v2, main_v5)
-- ==== Kernel.lean ====
abbrev S4x32x160x160 : Shape := ⟨4, ![4, 32, 160, 160]⟩
abbrev S4x100 : Shape := ⟨2, ![4, 100]⟩
abbrev S4x100x32 : Shape := ⟨3, ![4, 100, 32]⟩
abbrev S4x1x100 : Shape := ⟨3, ![4, 1, 100]⟩
abbrev S4x100x56x56 : Shape := ⟨4, ![4, 100, 56, 56]⟩
abbrev S1x32x160x160 : Shape := ⟨4, ![1, 32, 160, 160]⟩
abbrev S1x1x100 : Shape := ⟨3, ![1, 1, 100]⟩
abbrev S1x100x32 : Shape := ⟨3, ![1, 100, 32]⟩
abbrev S1x100x56x56 : Shape := ⟨4, ![1, 100, 56, 56]⟩
abbrev S100x160x160 : Shape := ⟨3, ![100, 160, 160]⟩
abbrev S100x56x160 : Shape := ⟨3, ![100, 56, 160]⟩
abbrev S100x160x56 : Shape := ⟨3, ![100, 160, 56]⟩
abbrev S100x32 : Shape := ⟨2, ![100, 32]⟩
abbrev S32x160x160 : Shape := ⟨3, ![32, 160, 160]⟩
abbrev S32x25600 : Shape := ⟨2, ![32, 25600]⟩
abbrev S100x25600 : Shape := ⟨2, ![100, 25600]⟩
abbrev S100 : Shape := ⟨1, ![100]⟩
abbrev S100x1 : Shape := ⟨2, ![100, 1]⟩
abbrev S1x56 : Shape := ⟨2, ![1, 56]⟩
abbrev S100x56 : Shape := ⟨2, ![100, 56]⟩
abbrev S100x56x1 : Shape := ⟨3, ![100, 56, 1]⟩
abbrev S100x1x56 : Shape := ⟨3, ![100, 1, 56]⟩
abbrev S1x160x160 : Shape := ⟨3, ![1, 160, 160]⟩
abbrev S160x160 : Shape := ⟨2, ![160, 160]⟩
abbrev S1x56x160 : Shape := ⟨3, ![1, 56, 160]⟩
abbrev S56x160 : Shape := ⟨2, ![56, 160]⟩
abbrev S1x160x56 : Shape := ⟨3, ![1, 160, 56]⟩
abbrev S160x56 : Shape := ⟨2, ![160, 56]⟩
abbrev S56x56 : Shape := ⟨2, ![56, 56]⟩
abbrev S1x1x56x56 : Shape := ⟨4, ![1, 1, 56, 56]⟩

abbrev nBuf : Space → Nat
  | .hbm => 11
  | .vmem => 17
  | .smem => 0
  | _ => 0

abbrev bufTy : (tb : Table) → Fin (tcTables nBuf tb) → BufTy
  | .hbm, ⟨0, _⟩ => ⟨S4x32x160x160, .f32⟩
  | .hbm, ⟨1, _⟩ => ⟨S4x100, .f32⟩
  | .hbm, ⟨2, _⟩ => ⟨S4x100, .f32⟩
  | .hbm, ⟨3, _⟩ => ⟨S4x100, .f32⟩
  | .hbm, ⟨4, _⟩ => ⟨S4x100, .f32⟩
  | .hbm, ⟨5, _⟩ => ⟨S4x100x32, .f32⟩
  | .hbm, ⟨6, _⟩ => ⟨S4x1x100, .f32⟩
  | .hbm, ⟨7, _⟩ => ⟨S4x1x100, .f32⟩
  | .hbm, ⟨8, _⟩ => ⟨S4x1x100, .f32⟩
  | .hbm, ⟨9, _⟩ => ⟨S4x1x100, .f32⟩
  | .hbm, ⟨10, _⟩ => ⟨S4x100x56x56, .f32⟩
  | .local _ .vmem, ⟨0, _⟩ => ⟨S1x32x160x160, .f32⟩
  | .local _ .vmem, ⟨1, _⟩ => ⟨S1x32x160x160, .f32⟩
  | .local _ .vmem, ⟨2, _⟩ => ⟨S1x1x100, .f32⟩
  | .local _ .vmem, ⟨3, _⟩ => ⟨S1x1x100, .f32⟩
  | .local _ .vmem, ⟨4, _⟩ => ⟨S1x1x100, .f32⟩
  | .local _ .vmem, ⟨5, _⟩ => ⟨S1x1x100, .f32⟩
  | .local _ .vmem, ⟨6, _⟩ => ⟨S1x1x100, .f32⟩
  | .local _ .vmem, ⟨7, _⟩ => ⟨S1x1x100, .f32⟩
  | .local _ .vmem, ⟨8, _⟩ => ⟨S1x1x100, .f32⟩
  | .local _ .vmem, ⟨9, _⟩ => ⟨S1x1x100, .f32⟩
  | .local _ .vmem, ⟨10, _⟩ => ⟨S1x100x32, .f32⟩
  | .local _ .vmem, ⟨11, _⟩ => ⟨S1x100x32, .f32⟩
  | .local _ .vmem, ⟨12, _⟩ => ⟨S1x100x56x56, .f32⟩
  | .local _ .vmem, ⟨13, _⟩ => ⟨S1x100x56x56, .f32⟩
  | .local _ .vmem, ⟨14, _⟩ => ⟨S100x160x160, .f32⟩
  | .local _ .vmem, ⟨15, _⟩ => ⟨S100x56x160, .f32⟩
  | .local _ .vmem, ⟨16, _⟩ => ⟨S100x160x56, .f32⟩
  | _, _ => ⟨S4x32x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c100_i32 : BitVec 32 := 100#32
  let v96 : BitVec 32 := Scalar.addi c0_i32 c100_i32
  let c1_i32 : BitVec 32 := 1#32
  ⟨c0_i32, v96, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v97 : Index := Scalar.indexCast arg11
  let c0_48 : Index := 0#32
  let c0_49 : Index := 0#32
  ![v97.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v100 : Index := Scalar.indexCast arg11
  let c0_50 : Index := 0#32
  let c0_51 : Index := 0#32
  ![v100.toNat, 0, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let v104 : Index := Scalar.indexCast arg11
  let c0_53 : Index := 0#32
  let c0_54 : Index := 0#32
  ![v104.toNat, 0, 0]
def k0_off4 (k0_t1 : Fin k0_t1_loop.trips) : Fin 4 → Nat :=
  let c0_56 : Index := 0#32
  let c0_i32 : BitVec 32 := 0#32
  let c1_i32 : BitVec 32 := 1#32
  let arg11 : BitVec 32 := Scf.iv c0_i32 c1_i32 k0_t1
  let v109 : Index := Scalar.indexCast arg11
  let c0_57 : Index := 0#32
  let c0_58 : Index := 0#32
  ![0, v109.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x100x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x100x56x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x32x160x160 : Shape := ⟨4, ![4, 32, 160, 160]⟩
abbrev S4x100 : Shape := ⟨2, ![4, 100]⟩
abbrev S4x100x32 : Shape := ⟨3, ![4, 100, 32]⟩
abbrev S_ : Shape := ⟨0, ![]⟩
abbrev S56 : Shape := ⟨1, ![56]⟩
abbrev S4x100x1 : Shape := ⟨3, ![4, 100, 1]⟩
abbrev S1x1x56 : Shape := ⟨3, ![1, 1, 56]⟩
abbrev S4x100x56 : Shape := ⟨3, ![4, 100, 56]⟩
abbrev S4x100x1x56x1 : Shape := ⟨5, ![4, 100, 1, 56, 1]⟩
abbrev S4x100x56x1x1 : Shape := ⟨5, ![4, 100, 56, 1, 1]⟩
abbrev S4 : Shape := ⟨1, ![4]⟩
abbrev S4x1x1x1 : Shape := ⟨4, ![4, 1, 1, 1]⟩
abbrev S4x100x56x1 : Shape := ⟨4, ![4, 100, 56, 1]⟩
abbrev S4x100x1x56 : Shape := ⟨4, ![4, 100, 1, 56]⟩
abbrev S4x100x56x56 : Shape := ⟨4, ![4, 100, 56, 56]⟩
abbrev S4x100x56x56x1 : Shape := ⟨5, ![4, 100, 56, 56, 1]⟩
abbrev S4x100x56x56x3 : Shape := ⟨5, ![4, 100, 56, 56, 3]⟩
abbrev S4x100x56x56x32 : Shape := ⟨5, ![4, 100, 56, 56, 32]⟩

abbrev nBuf : Space → Nat
  | .hbm => 175
  | .vmem => 0
  | .smem => 0
  | _ => 0

abbrev hbmTy0_0 (i : Nat) : BufTy := match i % 128 with
  | 0 => ⟨S4x32x160x160, .f32⟩
  | 1 => ⟨S4x100, .f32⟩
  | 2 => ⟨S4x100, .f32⟩
  | 3 => ⟨S4x100, .f32⟩
  | 4 => ⟨S4x100, .f32⟩
  | 5 => ⟨S4x100x32, .f32⟩
  | 6 => ⟨S_, .f32⟩
  | 7 => ⟨S4x100, .f32⟩
  | 8 => ⟨S4x100, .f32⟩
  | 9 => ⟨S_, .f32⟩
  | 10 => ⟨S4x100, .f32⟩
  | 11 => ⟨S4x100, .f32⟩
  | 12 => ⟨S_, .f32⟩
  | 13 => ⟨S4x100, .f32⟩
  | 14 => ⟨S4x100, .f32⟩
  | 15 => ⟨S_, .f32⟩
  | 16 => ⟨S4x100, .f32⟩
  | 17 => ⟨S4x100, .f32⟩
  | 18 => ⟨S_, .f32⟩
  | 19 => ⟨S4x100, .f32⟩
  | 20 => ⟨S4x100, .f32⟩
  | 21 => ⟨S_, .f32⟩
  | 22 => ⟨S4x100, .f32⟩
  | 23 => ⟨S4x100, .f32⟩
  | 24 => ⟨S_, .f32⟩
  | 25 => ⟨S4x100, .f32⟩
  | 26 => ⟨S4x100, .f32⟩
  | 27 => ⟨S_, .f32⟩
  | 28 => ⟨S4x100, .f32⟩
  | 29 => ⟨S4x100, .f32⟩
  | 30 => ⟨S56, .f32⟩
  | 31 => ⟨S_, .f32⟩
  | 32 => ⟨S56, .f32⟩
  | 33 => ⟨S56, .f32⟩
  | 34 => ⟨S_, .f32⟩
  | 35 => ⟨S56, .f32⟩
  | 36 => ⟨S56, .f32⟩
  | 37 => ⟨S4x100x1, .f32⟩
  | 38 => ⟨S4x100, .f32⟩
  | 39 => ⟨S4x100x1, .f32⟩
  | 40 => ⟨S1x1x56, .f32⟩
  | 41 => ⟨S4x100x56, .f32⟩
  | 42 => ⟨S4x100x56, .f32⟩
  | 43 => ⟨S4x100x56, .f32⟩
  | 44 => ⟨S4x100x56, .f32⟩
  | 45 => ⟨S4x100x56, .f32⟩
  | 46 => ⟨S4x100x1, .f32⟩
  | 47 => ⟨S4x100, .f32⟩
  | 48 => ⟨S4x100x1, .f32⟩
  | 49 => ⟨S1x1x56, .f32⟩
  | 50 => ⟨S4x100x56, .f32⟩
  | 51 => ⟨S4x100x56, .f32⟩
  | 52 => ⟨S4x100x56, .f32⟩
  | 53 => ⟨S4x100x56, .f32⟩
  | 54 => ⟨S4x100x56, .f32⟩
  | 55 => ⟨S_, .f32⟩
  | 56 => ⟨S_, .f32⟩
  | 57 => ⟨S_, .f32⟩
  | 58 => ⟨S4x100x56, .f32⟩
  | 59 => ⟨S4x100x56, .f32⟩
  | 60 => ⟨S_, .f32⟩
  | 61 => ⟨S4x100x56, .f32⟩
  | 62 => ⟨S4x100x56, .f32⟩
  | 63 => ⟨S_, .f32⟩
  | 64 => ⟨S_, .f32⟩
  | 65 => ⟨S_, .f32⟩
  | 66 => ⟨S4x100x56, .f32⟩
  | 67 => ⟨S4x100x56, .f32⟩
  | 68 => ⟨S_, .f32⟩
  | 69 => ⟨S4x100x56, .f32⟩
  | 70 => ⟨S4x100x56, .f32⟩
  | 71 => ⟨S4x100x56, .f32⟩
  | 72 => ⟨S4x100x56, .i32⟩
  | 73 => ⟨S4x100x56, .f32⟩
  | 74 => ⟨S4x100x56, .i32⟩
  | 75 => ⟨S_, .i32⟩
  | 76 => ⟨S4x100x56, .i32⟩
  | 77 => ⟨S4x100x56, .i32⟩
  | 78 => ⟨S_, .i32⟩
  | 79 => ⟨S4x100x56, .i32⟩
  | 80 => ⟨S4x100x56, .i32⟩
  | 81 => ⟨S_, .i32⟩
  | 82 => ⟨S4x100x56, .i32⟩
  | 83 => ⟨S4x100x56, .i32⟩
  | 84 => ⟨S_, .i32⟩
  | 85 => ⟨S4x100x56, .i32⟩
  | 86 => ⟨S4x100x56, .i32⟩
  | 87 => ⟨S4x100x56, .f32⟩
  | 88 => ⟨S4x100x56, .f32⟩
  | 89 => ⟨S4x100x1x56x1, .f32⟩
  | 90 => ⟨S4x100x56, .f32⟩
  | 91 => ⟨S4x100x56, .f32⟩
  | 92 => ⟨S4x100x56x1x1, .f32⟩
  | 93 => ⟨S4, .i32⟩
  | 94 => ⟨S4x1x1x1, .i32⟩
  | 95 => ⟨S4x100x56x1, .i32⟩
  | 96 => ⟨S4x100x1x56, .i32⟩
  | 97 => ⟨S4x100x56x56, .i32⟩
  | 98 => ⟨S4x100x56x56, .i32⟩
  | 99 => ⟨S4x100x56x56, .i32⟩
  | 100 => ⟨S4x100x56x56x1, .i32⟩
  | 101 => ⟨S4x100x56x56x1, .i32⟩
  | 102 => ⟨S4x100x56x56x1, .i32⟩
  | 103 => ⟨S4x100x56x56x3, .i32⟩
  | 104 => ⟨S4x100x56x56x32, .f32⟩
  | 105 => ⟨S4x100x56x1, .i32⟩
  | 106 => ⟨S4x100x1x56, .i32⟩
  | 107 => ⟨S4x100x56x56, .i32⟩
  | 108 => ⟨S4x100x56x56, .i32⟩
  | 109 => ⟨S4x100x56x56, .i32⟩
  | 110 => ⟨S4x100x56x56x1, .i32⟩
  | 111 => ⟨S4x100x56x56x1, .i32⟩
  | 112 => ⟨S4x100x56x56x1, .i32⟩
  | 113 => ⟨S4x100x56x56x3, .i32⟩
  | 114 => ⟨S4x100x56x56x32, .f32⟩
  | 115 => ⟨S4x100x56x1, .i32⟩
  | 116 => ⟨S4x100x1x56, .i32⟩
  | 117 => ⟨S4x100x56x56, .i32⟩
  | 118 => ⟨S4x100x56x56, .i32⟩
  | 119 => ⟨S4x100x56x56, .i32⟩
  | 120 => ⟨S4x100x56x56x1, .i32⟩
  | 121 => ⟨S4x100x56x56x1, .i32⟩
  | 122 => ⟨S4x100x56x56x1, .i32⟩
  | 123 => ⟨S4x100x56x56x3, .i32⟩
  | 124 => ⟨S4x100x56x56x32, .f32⟩
  | 125 => ⟨S4x100x56x1, .i32⟩
  | 126 => ⟨S4x100x1x56, .i32⟩
  | 127 => ⟨S4x100x56x56, .i32⟩
  | _ => ⟨S4x32x160x160, .f32⟩

abbrev hbmTy0_1 (i : Nat) : BufTy := match i % 128 with
  | 0 => ⟨S4x100x56x56, .i32⟩
  | 1 => ⟨S4x100x56x56, .i32⟩
  | 2 => ⟨S4x100x56x56x1, .i32⟩
  | 3 => ⟨S4x100x56x56x1, .i32⟩
  | 4 => ⟨S4x100x56x56x1, .i32⟩
  | 5 => ⟨S4x100x56x56x3, .i32⟩
  | 6 => ⟨S4x100x56x56x32, .f32⟩
  | 7 => ⟨S_, .f32⟩
  | 8 => ⟨S4x100x56x1x1, .f32⟩
  | 9 => ⟨S4x100x56x1x1, .f32⟩
  | 10 => ⟨S4x100x56x56x32, .f32⟩
  | 11 => ⟨S4x100x56x56x32, .f32⟩
  | 12 => ⟨S_, .f32⟩
  | 13 => ⟨S4x100x1x56x1, .f32⟩
  | 14 => ⟨S4x100x1x56x1, .f32⟩
  | 15 => ⟨S4x100x56x56x32, .f32⟩
  | 16 => ⟨S4x100x56x56x32, .f32⟩
  | 17 => ⟨S_, .f32⟩
  | 18 => ⟨S4x100x56x1x1, .f32⟩
  | 19 => ⟨S4x100x56x1x1, .f32⟩
  | 20 => ⟨S4x100x56x56x32, .f32⟩
  | 21 => ⟨S4x100x56x56x32, .f32⟩
  | 22 => ⟨S4x100x56x56x32, .f32⟩
  | 23 => ⟨S4x100x56x56x32, .f32⟩
  | 24 => ⟨S4x100x56x56x32, .f32⟩
  | 25 => ⟨S4x100x56x56x32, .f32⟩
  | 26 => ⟨S4x100x56x56x32, .f32⟩
  | 27 => ⟨S_, .f32⟩
  | 28 => ⟨S4x100x1x56x1, .f32⟩
  | 29 => ⟨S4x100x1x56x1, .f32⟩
  | 30 => ⟨S4x100x56x56x32, .f32⟩
  | 31 => ⟨S4x100x56x56x32, .f32⟩
  | 32 => ⟨S4x100x56x56x32, .f32⟩
  | 33 => ⟨S4x100x56x56x32, .f32⟩
  | 34 => ⟨S4x100x56x56x32, .f32⟩
  | 35 => ⟨S4x100x56x56x32, .f32⟩
  | 36 => ⟨S4x100x56x56x32, .f32⟩
  | 37 => ⟨S4x100x56x56x32, .f32⟩
  | 38 => ⟨S4x100x56x56, .f32⟩
  | 39 => ⟨S4x100x56x56, .f32⟩
  | 40 => ⟨S4x100x56x56, .f32⟩
  | 41 => ⟨S_, .f32⟩
  | 42 => ⟨S4x100x56x56, .f32⟩
  | 43 => ⟨S4x100x56x56, .f32⟩
  | 44 => ⟨S_, .f32⟩
  | 45 => ⟨S4x100x56x56, .f32⟩
  | 46 => ⟨S4x100x56x56, .f32⟩
  | _ => ⟨S4x32x160x160, .f32⟩

abbrev hbmTy (i : Nat) : BufTy := match i / 128 with
  | 0 => hbmTy0_0 i
  | 1 => hbmTy0_1 i
  | _ => ⟨S4x32x160x160, .f32⟩

abbrev bufTy : (tb : Table) → Fin (tcTables nBuf tb) → BufTy
  | .hbm, ⟨i, _⟩ => hbmTy i
  | _, _ => ⟨S4x32x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_7 : Ref sig .tc := ⟨.hbm, 31, rfl⟩
abbrev main_v17 : Ref sig .tc := ⟨.hbm, 32, rfl⟩
abbrev main_v18 : Ref sig .tc := ⟨.hbm, 33, rfl⟩
abbrev main_cst_8 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_cst_10 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v39 : Ref sig .tc := ⟨.hbm, 62, rfl⟩
abbrev main_cst_11 : Ref sig .tc := ⟨.hbm, 63, rfl⟩
abbrev main_cst_12 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_v49 : Ref sig .tc := ⟨.hbm, 82, rfl⟩
abbrev main_v50 : Ref sig .tc := ⟨.hbm, 83, rfl⟩
abbrev main_c_15 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_16 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_17 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_18 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_19 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_20 : Ref sig .tc := ⟨.hbm, 169, rfl⟩
abbrev main_v131 : Ref sig .tc := ⟨.hbm, 170, rfl⟩
abbrev main_v132 : Ref sig .tc := ⟨.hbm, 171, rfl⟩
abbrev main_cst_21 : Ref sig .tc := ⟨.hbm, 172, rfl⟩
abbrev main_v133 : Ref sig .tc := ⟨.hbm, 173, rfl⟩
abbrev main_v134 : Ref sig .tc := ⟨.hbm, 174, rfl⟩

abbrev nD : Nat := 1
abbrev τ : Topo := Topo.v7x

variable {F : FTy → Type} [FloatOps F]
-- ==== Select.lean ====
abbrev S4x20000x117 : Shape := ⟨3, ![4, 20000, 117]⟩
abbrev S4x1 : Shape := ⟨2, ![4, 1]⟩
abbrev S4x100 : Shape := ⟨2, ![4, 100]⟩
abbrev S4x100x32 : Shape := ⟨3, ![4, 100, 32]⟩
abbrev S4x2048x117 : Shape := ⟨3, ![4, 2048, 117]⟩
abbrev S4x20480 : Shape := ⟨2, ![4, 20480]⟩
abbrev S4x32x20480 : Shape := ⟨3, ![4, 32, 20480]⟩
abbrev S4x2048x1 : Shape := ⟨3, ![4, 2048, 1]⟩
abbrev S4x2048x80 : Shape := ⟨3, ![4, 2048, 80]⟩
abbrev S4x2048 : Shape := ⟨2, ![4, 2048]⟩
abbrev S4x2048x32 : Shape := ⟨3, ![4, 2048, 32]⟩
abbrev S4x2048x40 : Shape := ⟨3, ![4, 2048, 40]⟩
abbrev S4x40x2048 : Shape := ⟨3, ![4, 40, 2048]⟩
abbrev S4x1x2048 : Shape := ⟨3, ![4, 1, 2048]⟩
abbrev S4x32x2048 : Shape := ⟨3, ![4, 32, 2048]⟩
abbrev S4 : Shape := ⟨1, ![4]⟩
abbrev S1x100 : Shape := ⟨2, ![1, 100]⟩
abbrev S100 : Shape := ⟨1, ![100]⟩
abbrev S100x1 : Shape := ⟨2, ![100, 1]⟩
abbrev S100x32 : Shape := ⟨2, ![100, 32]⟩
abbrev S100x4096 : Shape := ⟨2, ![100, 4096]⟩
abbrev S1x32x4096 : Shape := ⟨3, ![1, 32, 4096]⟩
abbrev S32x4096 : Shape := ⟨2, ![32, 4096]⟩
abbrev S1x100x32 : Shape := ⟨3, ![1, 100, 32]⟩

abbrev nBuf : Space → Nat
  | .hbm => 9
  | .vmem => 20
  | .smem => 0
  | _ => 0

abbrev bufTy : (tb : Table) → Fin (tcTables nBuf tb) → BufTy
  | .hbm, ⟨0, _⟩ => ⟨S4x20000x117, .f32⟩
  | .hbm, ⟨1, _⟩ => ⟨S4x1, .i32⟩
  | .hbm, ⟨2, _⟩ => ⟨S4x100, .f32⟩
  | .hbm, ⟨3, _⟩ => ⟨S4x100, .f32⟩
  | .hbm, ⟨4, _⟩ => ⟨S4x100, .f32⟩
  | .hbm, ⟨5, _⟩ => ⟨S4x100, .f32⟩
  | .hbm, ⟨6, _⟩ => ⟨S4x100, .f32⟩
  | .hbm, ⟨7, _⟩ => ⟨S4x100, .i32⟩
  | .hbm, ⟨8, _⟩ => ⟨S4x100x32, .f32⟩
  | .local _ .vmem, ⟨0, _⟩ => ⟨S4x2048x117, .f32⟩
  | .local _ .vmem, ⟨1, _⟩ => ⟨S4x2048x117, .f32⟩
  | .local _ .vmem, ⟨2, _⟩ => ⟨S4x1, .i32⟩
  | .local _ .vmem, ⟨3, _⟩ => ⟨S4x100, .f32⟩
  | .local _ .vmem, ⟨4, _⟩ => ⟨S4x100, .f32⟩
  | .local _ .vmem, ⟨5, _⟩ => ⟨S4x100, .f32⟩
  | .local _ .vmem, ⟨6, _⟩ => ⟨S4x100, .f32⟩
  | .local _ .vmem, ⟨7, _⟩ => ⟨S4x100, .f32⟩
  | .local _ .vmem, ⟨8, _⟩ => ⟨S4x100, .i32⟩
  | .local _ .vmem, ⟨9, _⟩ => ⟨S4x100x32, .f32⟩
  | .local _ .vmem, ⟨10, _⟩ => ⟨S4x20480, .f32⟩
  | .local _ .vmem, ⟨11, _⟩ => ⟨S4x20480, .f32⟩
  | .local _ .vmem, ⟨12, _⟩ => ⟨S4x20480, .f32⟩
  | .local _ .vmem, ⟨13, _⟩ => ⟨S4x20480, .f32⟩
  | .local _ .vmem, ⟨14, _⟩ => ⟨S4x20480, .f32⟩
  | .local _ .vmem, ⟨15, _⟩ => ⟨S4x20480, .f32⟩
  | .local _ .vmem, ⟨16, _⟩ => ⟨S4x20480, .i32⟩
  | .local _ .vmem, ⟨17, _⟩ => ⟨S4x32x20480, .f32⟩
  | .local _ .vmem, ⟨18, _⟩ => ⟨S4x20480, .f32⟩
  | .local _ .vmem, ⟨19, _⟩ => ⟨S4x100, .i32⟩
  | _, _ => ⟨S4x20000x117, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v0_6 : Ref sig .tc := ⟨.hbm, 7, rfl⟩
abbrev main_v0_7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![10], ![false]⟩

def k0_off1 (i : grid0.Coords) : Fin 2 → Nat :=
  let c0_8 : Index := 0#32
  let arg0 : BitVec 32 := BitVec.ofNat 32 (i 0).val
  let c2048_i32 : BitVec 32 := 2048#32
  let v37 : BitVec 32 := Scalar.muli arg0 c2048_i32
  let v40 : Index := Scalar.indexCast v37
  ![0, v40.toNat]
def k0_off2 (i : grid0.Coords) : Fin 3 → Nat :=
  let c0_15 : Index := 0#32
  let c0_16 : Index := 0#32
  let arg0 : BitVec 32 := BitVec.ofNat 32 (i 0).val
  let c2048_i32 : BitVec 32 := 2048#32
  let v37 : BitVec 32 := Scalar.muli arg0 c2048_i32
  let v82 : Index := Scalar.indexCast v37
  ![0, 0, v82.toNat]
def k0_cond1 (i : grid0.Coords) : BitVec 1 :=
  let arg0 : BitVec 32 := BitVec.ofNat 32 (i 0).val
  let c9_i32 : BitVec 32 := 9#32
  let v86 : BitVec 1 := Scalar.cmpi .eq arg0 c9_i32
  let v87 : BitVec 32 := Scalar.extui v86
  let c0_i32 : BitVec 32 := 0#32
  let v88 : BitVec 1 := Scalar.cmpi .ne v87 c0_i32
  v88

@[reducible] def k0_t1_loop : Scf.Loop 32 :=
  let c0_i32_40 : BitVec 32 := 0#32
  let c100_i32 : BitVec 32 := 100#32
  let v112 : BitVec 32 := Scalar.addi c0_i32_40 c100_i32
  let c1_i32 : BitVec 32 := 1#32
  ⟨c0_i32_40, v112, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x2048x117 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x100 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x100x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SelectRefIdeal.lean ====
abbrev S4x20000x117 : Shape := ⟨3, ![4, 20000, 117]⟩
abbrev S4x20000x1 : Shape := ⟨3, ![4, 20000, 1]⟩
abbrev S4x20000 : Shape := ⟨2, ![4, 20000]⟩
abbrev S_ : Shape := ⟨0, ![]⟩
abbrev S4x20000x80 : Shape := ⟨3, ![4, 20000, 80]⟩
abbrev S100x4 : Shape := ⟨2, ![100, 4]⟩
abbrev S4 : Shape := ⟨1, ![4]⟩
abbrev S4x1 : Shape := ⟨2, ![4, 1]⟩
abbrev S4x2 : Shape := ⟨2, ![4, 2]⟩
abbrev S20000 : Shape := ⟨1, ![20000]⟩
abbrev S1x20000 : Shape := ⟨2, ![1, 20000]⟩
abbrev S1x4 : Shape := ⟨2, ![1, 4]⟩
abbrev S4x100 : Shape := ⟨2, ![4, 100]⟩
abbrev S4x100x1 : Shape := ⟨3, ![4, 100, 1]⟩
abbrev S4x100x2 : Shape := ⟨3, ![4, 100, 2]⟩
abbrev S4x100x117 : Shape := ⟨3, ![4, 100, 117]⟩
abbrev S4x100x80 : Shape := ⟨3, ![4, 100, 80]⟩
abbrev S4x100x32 : Shape := ⟨3, ![4, 100, 32]⟩

abbrev nBuf : Space → Nat
  | .hbm => 194
  | .vmem => 0
  | .smem => 0
  | _ => 0

abbrev hbmTy0_0 (i : Nat) : BufTy := match i % 128 with
  | 0 => ⟨S4x20000x117, .f32⟩
  | 1 => ⟨S4x20000x1, .f32⟩
  | 2 => ⟨S4x20000, .f32⟩
  | 3 => ⟨S4x20000x1, .f32⟩
  | 4 => ⟨S4x20000, .f32⟩
  | 5 => ⟨S4x20000x1, .f32⟩
  | 6 => ⟨S4x20000, .f32⟩
  | 7 => ⟨S4x20000x1, .f32⟩
  | 8 => ⟨S4x20000, .f32⟩
  | 9 => ⟨S_, .f32⟩
  | 10 => ⟨S4x20000, .f32⟩
  | 11 => ⟨S4x20000, .f32⟩
  | 12 => ⟨S4x20000, .f32⟩
  | 13 => ⟨S_, .f32⟩
  | 14 => ⟨S4x20000, .f32⟩
  | 15 => ⟨S4x20000, .f32⟩
  | 16 => ⟨S4x20000, .f32⟩
  | 17 => ⟨S_, .f32⟩
  | 18 => ⟨S4x20000, .f32⟩
  | 19 => ⟨S4x20000, .f32⟩
  | 20 => ⟨S4x20000, .f32⟩
  | 21 => ⟨S_, .f32⟩
  | 22 => ⟨S4x20000, .f32⟩
  | 23 => ⟨S4x20000, .f32⟩
  | 24 => ⟨S4x20000, .f32⟩
  | 25 => ⟨S4x20000x1, .f32⟩
  | 26 => ⟨S4x20000, .f32⟩
  | 27 => ⟨S4x20000x80, .f32⟩
  | 28 => ⟨S_, .f32⟩
  | 29 => ⟨S4x20000, .f32⟩
  | 30 => ⟨S4x20000, .f32⟩
  | 31 => ⟨S_, .f32⟩
  | 32 => ⟨S4x20000, .f32⟩
  | 33 => ⟨S4x20000, .i1⟩
  | 34 => ⟨S_, .i32⟩
  | 35 => ⟨S100x4, .i32⟩
  | 36 => ⟨S_, .i1⟩
  | 37 => ⟨S100x4, .i1⟩
  | 38 => ⟨S_, .i32⟩
  | 39 => ⟨S4x20000, .f32⟩
  | 40 => ⟨S4x20000, .f32⟩
  | 41 => ⟨S4x20000, .f32⟩
  | 42 => ⟨S4x20000, .f32⟩
  | 43 => ⟨S4x20000, .f32⟩
  | 44 => ⟨S_, .i32⟩
  | 45 => ⟨S4x20000, .i1⟩
  | 46 => ⟨S100x4, .i32⟩
  | 47 => ⟨S100x4, .i1⟩
  | 48 => ⟨S_, .i32⟩
  | 49 => ⟨S_, .i1⟩
  | 50 => ⟨S_, .f32⟩
  | 51 => ⟨S_, .f32⟩
  | 52 => ⟨S4x20000, .f32⟩
  | 53 => ⟨S4x20000, .f32⟩
  | 54 => ⟨S4x20000, .i32⟩
  | 55 => ⟨S_, .f32⟩
  | 56 => ⟨S_, .i32⟩
  | 57 => ⟨S4, .f32⟩
  | 58 => ⟨S4, .i32⟩
  | 59 => ⟨S4, .i32⟩
  | 60 => ⟨S4x1, .i32⟩
  | 61 => ⟨S4x1, .i32⟩
  | 62 => ⟨S4x2, .i32⟩
  | 63 => ⟨S4, .f32⟩
  | 64 => ⟨S_, .f32⟩
  | 65 => ⟨S4, .f32⟩
  | 66 => ⟨S4, .i1⟩
  | 67 => ⟨S4, .i32⟩
  | 68 => ⟨S4x1, .i32⟩
  | 69 => ⟨S4x1, .i32⟩
  | 70 => ⟨S4x2, .i32⟩
  | 71 => ⟨S4, .f32⟩
  | 72 => ⟨S4x1, .f32⟩
  | 73 => ⟨S4, .i32⟩
  | 74 => ⟨S4x1, .i32⟩
  | 75 => ⟨S4x1, .i32⟩
  | 76 => ⟨S4x2, .i32⟩
  | 77 => ⟨S4, .f32⟩
  | 78 => ⟨S4x1, .f32⟩
  | 79 => ⟨S4, .i32⟩
  | 80 => ⟨S4x1, .i32⟩
  | 81 => ⟨S4x1, .i32⟩
  | 82 => ⟨S4x2, .i32⟩
  | 83 => ⟨S4, .f32⟩
  | 84 => ⟨S4x1, .f32⟩
  | 85 => ⟨S4, .i32⟩
  | 86 => ⟨S4x1, .i32⟩
  | 87 => ⟨S4x1, .i32⟩
  | 88 => ⟨S4x2, .i32⟩
  | 89 => ⟨S4, .f32⟩
  | 90 => ⟨S4x1, .f32⟩
  | 91 => ⟨S4x20000, .f32⟩
  | 92 => ⟨S4x20000, .f32⟩
  | 93 => ⟨S4x20000, .f32⟩
  | 94 => ⟨S4x20000, .f32⟩
  | 95 => ⟨S4x20000, .f32⟩
  | 96 => ⟨S_, .f32⟩
  | 97 => ⟨S4x20000, .f32⟩
  | 98 => ⟨S4x20000, .f32⟩
  | 99 => ⟨S4x20000, .f32⟩
  | 100 => ⟨S4x20000, .f32⟩
  | 101 => ⟨S4x20000, .f32⟩
  | 102 => ⟨S4x20000, .f32⟩
  | 103 => ⟨S4x20000, .f32⟩
  | 104 => ⟨S_, .f32⟩
  | 105 => ⟨S4x20000, .f32⟩
  | 106 => ⟨S4x20000, .f32⟩
  | 107 => ⟨S4x20000, .f32⟩
  | 108 => ⟨S4x1, .f32⟩
  | 109 => ⟨S4x1, .f32⟩
  | 110 => ⟨S4x1, .f32⟩
  | 111 => ⟨S4x20000, .f32⟩
  | 112 => ⟨S4x20000, .f32⟩
  | 113 => ⟨S4x20000, .f32⟩
  | 114 => ⟨S4x20000, .f32⟩
  | 115 => ⟨S4x20000, .f32⟩
  | 116 => ⟨S4x20000, .f32⟩
  | 117 => ⟨S_, .f32⟩
  | 118 => ⟨S4x20000, .f32⟩
  | 119 => ⟨S4x20000, .f32⟩
  | 120 => ⟨S4x20000, .f32⟩
  | 121 => ⟨S20000, .i32⟩
  | 122 => ⟨S_, .f32⟩
  | 123 => ⟨S4x20000, .f32⟩
  | 124 => ⟨S4x20000, .i1⟩
  | 125 => ⟨S4x20000, .i1⟩
  | 126 => ⟨S4x1, .i32⟩
  | 127 => ⟨S1x20000, .i32⟩
  | _ => ⟨S4x20000x117, .f32⟩

abbrev hbmTy0_1 (i : Nat) : BufTy := match i % 128 with
  | 0 => ⟨S4x20000, .i32⟩
  | 1 => ⟨S4x20000, .i32⟩
  | 2 => ⟨S4x20000, .i1⟩
  | 3 => ⟨S4x20000, .i1⟩
  | 4 => ⟨S1x4, .i32⟩
  | 5 => ⟨S_, .i32⟩
  | 6 => ⟨S100x4, .i32⟩
  | 7 => ⟨S1x4, .i1⟩
  | 8 => ⟨S_, .i32⟩
  | 9 => ⟨S100x4, .i1⟩
  | 10 => ⟨S_, .i32⟩
  | 11 => ⟨S_, .i32⟩
  | 12 => ⟨S4x100, .i1⟩
  | 13 => ⟨S4x100, .i32⟩
  | 14 => ⟨S4, .i32⟩
  | 15 => ⟨S4x1, .i32⟩
  | 16 => ⟨S4x100, .i32⟩
  | 17 => ⟨S4x100x1, .i32⟩
  | 18 => ⟨S4x100x1, .i32⟩
  | 19 => ⟨S4x100x2, .i32⟩
  | 20 => ⟨S4x100x117, .f32⟩
  | 21 => ⟨S4x100, .i32⟩
  | 22 => ⟨S_, .i32⟩
  | 23 => ⟨S4, .i32⟩
  | 24 => ⟨S4x1, .i32⟩
  | 25 => ⟨S4x100x1, .f32⟩
  | 26 => ⟨S4x100, .f32⟩
  | 27 => ⟨S4x100x1, .f32⟩
  | 28 => ⟨S4x100, .f32⟩
  | 29 => ⟨S4x100x1, .f32⟩
  | 30 => ⟨S4x100, .f32⟩
  | 31 => ⟨S4x100x1, .f32⟩
  | 32 => ⟨S4x100, .f32⟩
  | 33 => ⟨S_, .f32⟩
  | 34 => ⟨S4x100, .f32⟩
  | 35 => ⟨S4x100, .f32⟩
  | 36 => ⟨S4x100, .f32⟩
  | 37 => ⟨S_, .f32⟩
  | 38 => ⟨S4x100, .f32⟩
  | 39 => ⟨S4x100, .f32⟩
  | 40 => ⟨S4x100, .f32⟩
  | 41 => ⟨S_, .f32⟩
  | 42 => ⟨S4x100, .f32⟩
  | 43 => ⟨S4x100, .f32⟩
  | 44 => ⟨S4x100, .f32⟩
  | 45 => ⟨S_, .f32⟩
  | 46 => ⟨S4x100, .f32⟩
  | 47 => ⟨S4x100, .f32⟩
  | 48 => ⟨S4x100, .f32⟩
  | 49 => ⟨S4x100x1, .f32⟩
  | 50 => ⟨S4x100, .f32⟩
  | 51 => ⟨S4x100x80, .f32⟩
  | 52 => ⟨S_, .f32⟩
  | 53 => ⟨S4x100, .f32⟩
  | 54 => ⟨S4x100, .f32⟩
  | 55 => ⟨S_, .f32⟩
  | 56 => ⟨S_, .f32⟩
  | 57 => ⟨S4x100, .f32⟩
  | 58 => ⟨S4x100, .f32⟩
  | 59 => ⟨S4x100x80, .f32⟩
  | 60 => ⟨S4x100x80, .i32⟩
  | 61 => ⟨S_, .f32⟩
  | 62 => ⟨S_, .i32⟩
  | 63 => ⟨S4x100, .f32⟩
  | 64 => ⟨S4x100, .i32⟩
  | 65 => ⟨S4x100x32, .f32⟩
  | _ => ⟨S4x20000x117, .f32⟩

abbrev hbmTy (i : Nat) : BufTy := match i / 128 with
  | 0 => hbmTy0_0 i
  | 1 => hbmTy0_1 i
  | _ => ⟨S4x20000x117, .f32⟩

abbrev bufTy : (tb : Table) → Fin (tcTables nBuf tb) → BufTy
  | .hbm, ⟨i, _⟩ => hbmTy i
  | _, _ => ⟨S4x20000x117, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_v23 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_c_6 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev main_v29_5 : Ref sig .tc := ⟨.hbm, 44, rfl⟩
abbrev main_v29_6 : Ref sig .tc := ⟨.hbm, 45, rfl⟩
abbrev main_v29_7 : Ref sig .tc := ⟨.hbm, 46, rfl⟩
abbrev main_v29_8 : Ref sig .tc := ⟨.hbm, 47, rfl⟩
abbrev main_while0c_c_22 : Ref sig .tc := ⟨.hbm, 48, rfl⟩
abbrev main_while0c_v71 : Ref sig .tc := ⟨.hbm, 49, rfl⟩
abbrev main_while0b_cst_22 : Ref sig .tc := ⟨.hbm, 50, rfl⟩
abbrev main_while0b_call0_v0 : Ref sig .tc := ⟨.hbm, 51, rfl⟩
abbrev main_while0b_call0_v1 : Ref sig .tc := ⟨.hbm, 52, rfl⟩
abbrev main_while0b_v71 : Ref sig .tc := ⟨.hbm, 53, rfl⟩
abbrev main_while0b_call1_v0 : Ref sig .tc := ⟨.hbm, 54, rfl⟩
abbrev main_while0b_call1_cst : Ref sig .tc := ⟨.hbm, 55, rfl⟩
abbrev main_while0b_call1_c : Ref sig .tc := ⟨.hbm, 56, rfl⟩
abbrev main_while0b_call1_v1_0 : Ref sig .tc := ⟨.hbm, 57, rfl⟩
abbrev main_while0b_v72 : Ref sig .tc := ⟨.hbm, 58, rfl⟩
abbrev main_while0b_v73 : Ref sig .tc := ⟨.hbm, 59, rfl⟩
abbrev main_while0b_v74 : Ref sig .tc := ⟨.hbm, 60, rfl⟩
abbrev main_while0b_v75 : Ref sig .tc := ⟨.hbm, 61, rfl⟩
abbrev main_while0b_v76 : Ref sig .tc := ⟨.hbm, 62, rfl⟩
abbrev main_while0b_v77 : Ref sig .tc := ⟨.hbm, 63, rfl⟩
abbrev main_while0b_cst_23 : Ref sig .tc := ⟨.hbm, 64, rfl⟩
abbrev main_while0b_v78 : Ref sig .tc := ⟨.hbm, 65, rfl⟩
abbrev main_while0b_v79 : Ref sig .tc := ⟨.hbm, 66, rfl⟩
abbrev main_while0b_v80 : Ref sig .tc := ⟨.hbm, 67, rfl⟩
abbrev main_while0b_v81 : Ref sig .tc := ⟨.hbm, 68, rfl⟩
abbrev main_while0b_v82 : Ref sig .tc := ⟨.hbm, 69, rfl⟩
abbrev main_while0b_v83 : Ref sig .tc := ⟨.hbm, 70, rfl⟩
abbrev main_while0b_v84 : Ref sig .tc := ⟨.hbm, 71, rfl⟩
abbrev main_while0b_v85 : Ref sig .tc := ⟨.hbm, 72, rfl⟩
abbrev main_while0b_v86 : Ref sig .tc := ⟨.hbm, 73, rfl⟩
abbrev main_while0b_v87 : Ref sig .tc := ⟨.hbm, 74, rfl⟩
abbrev main_while0b_v88 : Ref sig .tc := ⟨.hbm, 75, rfl⟩
abbrev main_while0b_v89 : Ref sig .tc := ⟨.hbm, 76, rfl⟩
abbrev main_while0b_v90 : Ref sig .tc := ⟨.hbm, 77, rfl⟩
abbrev main_while0b_v91 : Ref sig .tc := ⟨.hbm, 78, rfl⟩
abbrev main_while0b_v92 : Ref sig .tc := ⟨.hbm, 79, rfl⟩
abbrev main_while0b_v93 : Ref sig .tc := ⟨.hbm, 80, rfl⟩
abbrev main_while0b_v94 : Ref sig .tc := ⟨.hbm, 81, rfl⟩
abbrev main_while0b_v95 : Ref sig .tc := ⟨.hbm, 82, rfl⟩
abbrev main_while0b_v96 : Ref sig .tc := ⟨.hbm, 83, rfl⟩
abbrev main_while0b_v97 : Ref sig .tc := ⟨.hbm, 84, rfl⟩
abbrev main_while0b_v98 : Ref sig .tc := ⟨.hbm, 85, rfl⟩
abbrev main_while0b_v99 : Ref sig .tc := ⟨.hbm, 86, rfl⟩
abbrev main_while0b_v100 : Ref sig .tc := ⟨.hbm, 87, rfl⟩
abbrev main_while0b_v101 : Ref sig .tc := ⟨.hbm, 88, rfl⟩
abbrev main_while0b_v102 : Ref sig .tc := ⟨.hbm, 89, rfl⟩
abbrev main_while0b_v103 : Ref sig .tc := ⟨.hbm, 90, rfl⟩
abbrev main_while0b_v104 : Ref sig .tc := ⟨.hbm, 91, rfl⟩
abbrev main_while0b_v105 : Ref sig .tc := ⟨.hbm, 92, rfl⟩
abbrev main_while0b_v106 : Ref sig .tc := ⟨.hbm, 93, rfl⟩
abbrev main_while0b_v107 : Ref sig .tc := ⟨.hbm, 94, rfl⟩
abbrev main_while0b_v108 : Ref sig .tc := ⟨.hbm, 95, rfl⟩
abbrev main_while0b_cst_24 : Ref sig .tc := ⟨.hbm, 96, rfl⟩
abbrev main_while0b_v109 : Ref sig .tc := ⟨.hbm, 97, rfl⟩
abbrev main_while0b_v110 : Ref sig .tc := ⟨.hbm, 98, rfl⟩
abbrev main_while0b_v111 : Ref sig .tc := ⟨.hbm, 99, rfl⟩
abbrev main_while0b_v112 : Ref sig .tc := ⟨.hbm, 100, rfl⟩
abbrev main_while0b_v113 : Ref sig .tc := ⟨.hbm, 101, rfl⟩
abbrev main_while0b_v114 : Ref sig .tc := ⟨.hbm, 102, rfl⟩
abbrev main_while0b_v115 : Ref sig .tc := ⟨.hbm, 103, rfl⟩
abbrev main_while0b_cst_25 : Ref sig .tc := ⟨.hbm, 104, rfl⟩
abbrev main_while0b_v116 : Ref sig .tc := ⟨.hbm, 105, rfl⟩
abbrev main_while0b_v117 : Ref sig .tc := ⟨.hbm, 106, rfl⟩
abbrev main_while0b_v118 : Ref sig .tc := ⟨.hbm, 107, rfl⟩
abbrev main_while0b_v119 : Ref sig .tc := ⟨.hbm, 108, rfl⟩
abbrev main_while0b_v120 : Ref sig .tc := ⟨.hbm, 109, rfl⟩
abbrev main_while0b_v121 : Ref sig .tc := ⟨.hbm, 110, rfl⟩
abbrev main_while0b_v122 : Ref sig .tc := ⟨.hbm, 111, rfl⟩
abbrev main_while0b_v123 : Ref sig .tc := ⟨.hbm, 112, rfl⟩
abbrev main_while0b_v124 : Ref sig .tc := ⟨.hbm, 113, rfl⟩
abbrev main_while0b_v125 : Ref sig .tc := ⟨.hbm, 114, rfl⟩
abbrev main_while0b_v126 : Ref sig .tc := ⟨.hbm, 115, rfl⟩
abbrev main_while0b_v127 : Ref sig .tc := ⟨.hbm, 116, rfl⟩
abbrev main_while0b_cst_26 : Ref sig .tc := ⟨.hbm, 117, rfl⟩
abbrev main_while0b_v128 : Ref sig .tc := ⟨.hbm, 118, rfl⟩
abbrev main_while0b_v129 : Ref sig .tc := ⟨.hbm, 119, rfl⟩
abbrev main_while0b_v130 : Ref sig .tc := ⟨.hbm, 120, rfl⟩
abbrev main_while0b_v131 : Ref sig .tc := ⟨.hbm, 121, rfl⟩
abbrev main_while0b_cst_27 : Ref sig .tc := ⟨.hbm, 122, rfl⟩
abbrev main_while0b_v132 : Ref sig .tc := ⟨.hbm, 123, rfl⟩
abbrev main_while0b_v133 : Ref sig .tc := ⟨.hbm, 124, rfl⟩
abbrev main_while0b_v134 : Ref sig .tc := ⟨.hbm, 125, rfl⟩
abbrev main_while0b_v135 : Ref sig .tc := ⟨.hbm, 126, rfl⟩
abbrev main_while0b_v136 : Ref sig .tc := ⟨.hbm, 127, rfl⟩
abbrev main_while0b_v137 : Ref sig .tc := ⟨.hbm, 128, rfl⟩
abbrev main_while0b_v138 : Ref sig .tc := ⟨.hbm, 129, rfl⟩
abbrev main_while0b_v139 : Ref sig .tc := ⟨.hbm, 130, rfl⟩
abbrev main_while0b_v140 : Ref sig .tc := ⟨.hbm, 131, rfl⟩
abbrev main_while0b_call2_v0 : Ref sig .tc := ⟨.hbm, 132, rfl⟩
abbrev main_while0b_call2_c : Ref sig .tc := ⟨.hbm, 133, rfl⟩
abbrev main_while0b_v141 : Ref sig .tc := ⟨.hbm, 134, rfl⟩
abbrev main_while0b_call3_v0 : Ref sig .tc := ⟨.hbm, 135, rfl⟩
abbrev main_while0b_call3_c : Ref sig .tc := ⟨.hbm, 136, rfl⟩
abbrev main_while0b_v142 : Ref sig .tc := ⟨.hbm, 137, rfl⟩
abbrev main_while0b_c_28 : Ref sig .tc := ⟨.hbm, 138, rfl⟩
abbrev main_while0b_v143 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_c_7 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_v49 : Ref sig .tc := ⟨.hbm, 160, rfl⟩
abbrev main_cst_8 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_cst_9 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_cst_10 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_cst_11 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_cst_12 : Ref sig .tc := ⟨.hbm, 180, rfl⟩
abbrev main_v65 : Ref sig .tc := ⟨.hbm, 181, rfl⟩
abbrev main_v66 : Ref sig .tc := ⟨.hbm, 182, rfl⟩
abbrev main_cst_13 : Ref sig .tc := ⟨.hbm, 183, rfl⟩
abbrev main_call4_v0 : Ref sig .tc := ⟨.hbm, 184, rfl⟩
abbrev main_call4_v1 : Ref sig .tc := ⟨.hbm, 185, rfl⟩
abbrev main_v67 : Ref sig .tc := ⟨.hbm, 186, rfl⟩
abbrev main_v68 : Ref sig .tc := ⟨.hbm, 187, rfl⟩
abbrev main_call5_v0 : Ref sig .tc := ⟨.hbm, 188, rfl⟩
abbrev main_call5_cst : Ref sig .tc := ⟨.hbm, 189, rfl⟩
abbrev main_call5_c : Ref sig .tc := ⟨.hbm, 190, rfl⟩
abbrev main_call5_v1_0 : Ref sig .tc := ⟨.hbm, 191, rfl⟩
abbrev main_v69 : Ref sig .tc := ⟨.hbm, 192, rfl⟩
abbrev main_v70 : Ref sig .tc := ⟨.hbm, 193, rfl⟩

abbrev nD : Nat := 1
abbrev τ : Topo := Topo.v7x

variable {F : FTy → Type} [FloatOps F]

abbrev main_while0_count : Scf.Loop 32 := ⟨0#32, 100#32, 1#32⟩
-- ==== Proof.MaskMath.lean ====
/- The mathematics of the mask computation, apart from any program: a row of hat weights picks out the two neighbours
   of a bilinear interpolation, and interpolating a linear combination of feature planes is the linear combination of
   the interpolated planes. Everything here is over the reals; the last section carries it to extended reals that
   happen to be real. -/
module

public import Idealize.ShloMosaic.PureOps.Ideal.Laws

@[expose] public section

noncomputable section

namespace Cert.Proof.Mask

open Idealize.ShloMosaic

/-- The hat weight of the grid line `k` at the coordinate `x`. -/
def hat (x : ℝ) (k : ℕ) : ℝ := max (1 - |x - k|) 0

/-- A coordinate in `[0, 159]` has a hat weight at its two neighbouring grid lines only, so the weighted sum is the
    linear interpolation between them (at `159` both neighbours are the last line). -/
theorem hat_sum (f : Fin 160 → ℝ) {x : ℝ} (hx1 : x ≤ 159) (i0 i1 : Fin 160)
    (h0 : (((i0 : ℕ) : ℤ)) = ⌊x⌋) (h1 : (i1 : ℕ) = min ((i0 : ℕ) + 1) 159) :
    ∑ k : Fin 160, hat x k * f k = (1 - (x - ((i0 : ℕ) : ℝ))) * f i0 + (x - ((i0 : ℕ) : ℝ)) * f i1 := by
  have hl : ((i0 : ℕ) : ℝ) ≤ x := by
    have := Int.floor_le x
    rw [← h0] at this; exact_mod_cast this
  have hu : x < ((i0 : ℕ) : ℝ) + 1 := by
    have := Int.lt_floor_add_one x
    rw [← h0] at this; exact_mod_cast this
  have hz : ∀ k : Fin 160, k ≠ i0 → (k : ℕ) ≠ (i0 : ℕ) + 1 → hat x k = 0 := by
    intro k hk hk'
    have hkn : (k : ℕ) ≠ i0 := fun e => hk (Fin.ext e)
    unfold hat
    apply max_eq_right
    rcases lt_or_gt_of_ne hkn with h | h
    · have : ((k : ℕ) : ℝ) + 1 ≤ ((i0 : ℕ) : ℝ) := by exact_mod_cast h
      rw [abs_of_nonneg (by linarith)]; linarith
    · have : ((i0 : ℕ) : ℝ) + 2 ≤ ((k : ℕ) : ℝ) := by
        have : (i0 : ℕ) + 2 ≤ k := by omega
        exact_mod_cast this
      rw [abs_of_nonpos (by linarith)]; linarith
  have ha : hat x i0 = 1 - (x - ((i0 : ℕ) : ℝ)) := by
    unfold hat
    rw [abs_of_nonneg (by linarith)]
    exact max_eq_left (by linarith)
  by_cases hc : (i0 : ℕ) < 159
  · have e1 : (i1 : ℕ) = (i0 : ℕ) + 1 := by omega
    have hne : i0 ≠ i1 := fun e => by rw [← e] at e1; omega
    have hb : hat x i1 = x - ((i0 : ℕ) : ℝ) := by
      unfold hat
      rw [e1]; push_cast
      rw [abs_of_nonpos (by linarith)]
      rw [max_eq_left (by linarith)]; ring
    rw [Finset.sum_eq_add i0 i1 hne (fun k _ hk => by
      rw [hz k hk.1 (fun e => hk.2 (Fin.ext (e.trans e1.symm))), zero_mul]) (by simp) (by simp), ha, hb]
  · have e0 : (i0 : ℕ) = 159 := by have := i0.isLt; omega
    have e1 : i1 = i0 := Fin.ext (by omega)
    have hx : x - ((i0 : ℕ) : ℝ) = 0 := by
      have : ((i0 : ℕ) : ℝ) = 159 := by rw [e0]; norm_num
      linarith
    rw [Finset.sum_eq_single i0 (fun k _ hk => by
      rw [hz k hk (by have := k.isLt; omega), zero_mul]) (by simp), ha, hx, e1]
    ring

/-- Interpolating, along both axes, the combination `∑ c, a c * P c` of planes gives the combination of the planes'
    bilinear interpolations. -/
theorem combine_real (a : Fin 32 → ℝ) (P : Fin 32 → Fin 160 → Fin 160 → ℝ) {x y : ℝ} (hx : x ≤ 159) (hy : y ≤ 159)
    (x0 x1 y0 y1 : Fin 160) (hx0 : ((x0 : ℕ) : ℤ) = ⌊x⌋) (hx1 : (x1 : ℕ) = min ((x0 : ℕ) + 1) 159)
    (hy0 : ((y0 : ℕ) : ℤ) = ⌊y⌋) (hy1 : (y1 : ℕ) = min ((y0 : ℕ) + 1) 159) :
    ∑ q : Fin 160, (∑ p : Fin 160, hat y p * ∑ c : Fin 32, a c * P c p q) * hat x q
      = ∑ c : Fin 32, a c *
          (P c y0 x0 * (1 - (y - ((y0 : ℕ) : ℝ))) * (1 - (x - ((x0 : ℕ) : ℝ)))
            + P c y0 x1 * (1 - (y - ((y0 : ℕ) : ℝ))) * (x - ((x0 : ℕ) : ℝ))
            + P c y1 x0 * (y - ((y0 : ℕ) : ℝ)) * (1 - (x - ((x0 : ℕ) : ℝ)))
            + P c y1 x1 * (y - ((y0 : ℕ) : ℝ)) * (x - ((x0 : ℕ) : ℝ))) := by
  have e : ∀ q : Fin 160, (∑ p : Fin 160, hat y p * ∑ c : Fin 32, a c * P c p q) * hat x q
      = hat x q * ((1 - (y - ((y0 : ℕ) : ℝ))) * (∑ c : Fin 32, a c * P c y0 q)
          + (y - ((y0 : ℕ) : ℝ)) * ∑ c : Fin 32, a c * P c y1 q) := fun q => by
    rw [mul_comm, hat_sum (fun p => ∑ c : Fin 32, a c * P c p q) hy y0 y1 hy0 hy1]
  rw [Finset.sum_congr rfl fun q _ => e q,
    hat_sum (fun q => (1 - (y - ((y0 : ℕ) : ℝ))) * (∑ c : Fin 32, a c * P c y0 q)
          + (y - ((y0 : ℕ) : ℝ)) * ∑ c : Fin 32, a c * P c y1 q) hx x0 x1 hx0 hx1]
  simp only [Finset.mul_sum, ← Finset.sum_add_distrib]
  exact Finset.sum_congr rfl fun c _ => by ring

/-! ## The same over extended reals -/

/-- A finite sum of reals, carried to the extended reals. -/
theorem coe_sum {n : ℕ} (f : Fin n → ℝ) : ((∑ k, f k : ℝ) : EReal) = ∑ k, ((f k : ℝ) : EReal) := by
  induction n with
  | zero => simp
  | succ n ih => rw [Fin.sum_univ_castSucc, Fin.sum_univ_castSucc, EReal.coe_add, ih]

/-- The larger of two reals, carried to the extended reals. -/
theorem coe_max (x y : ℝ) : ((max x y : ℝ) : EReal) = max (x : EReal) (y : EReal) :=
  EReal.coe_strictMono.monotone.map_max

/-- The smaller of two reals, carried to the extended reals. -/
theorem coe_min (x y : ℝ) : ((min x y : ℝ) : EReal) = min (x : EReal) (y : EReal) :=
  EReal.coe_strictMono.monotone.map_min

/-- A box corner in feature units: a quarter of its pixel position, less half a cell. -/
def corner (b : EReal) : EReal := b * ((1/4 : ℝ) : EReal) - ((1/2 : ℝ) : EReal)

/-- The sampling fraction of the output cell `i` of 56. -/
def frac (i : ℕ) : EReal := Ideal.div ((((i : ℕ) : ℝ) : EReal) + ((1/2 : ℝ) : EReal)) ((56 : ℝ) : EReal)

/-- The sampling coordinate of output cell `i` between the corners of a box, held inside the feature plane. -/
def coord (b0 b1 : EReal) (i : ℕ) : EReal :=
  min ((159 : ℝ) : EReal) (max ((0 : ℝ) : EReal) (corner b0 + frac i * (corner b1 - corner b0)))

/-- However infinite the box, the coordinate is a real number between 0 and 159. -/
theorem coord_real (b0 b1 : EReal) (i : ℕ) : ∃ x : ℝ, coord b0 b1 i = (x : EReal) ∧ 0 ≤ x ∧ x ≤ 159 := by
  have hlo : ((0 : ℝ) : EReal) ≤ coord b0 b1 i := le_min (EReal.coe_le_coe_iff.2 (by norm_num)) (le_max_left _ _)
  have hhi : coord b0 b1 i ≤ ((159 : ℝ) : EReal) := min_le_left _ _
  generalize coord b0 b1 i = z at hlo hhi
  induction z with
  | bot => exact absurd hlo (by simp)
  | top => exact absurd hhi (by simp)
  | coe r => exact ⟨r, rfl, EReal.coe_le_coe_iff.1 hlo, EReal.coe_le_coe_iff.1 hhi⟩

/-- An extended real whose absolute value is below the top is real. -/
theorem exists_real {z : EReal} (h : max z (-z) < ⊤) : ∃ r : ℝ, z = (r : EReal) := by
  induction z with
  | bot => simp at h
  | top => simp at h
  | coe r => exact ⟨r, rfl⟩

/-- The hat weight as a kernel's words compute it, coordinate less grid line. -/
theorem hat_coe (x : ℝ) (k : ℕ) :
    max (((1 : ℝ) : EReal) - max ((x : EReal) - (((k : ℕ) : ℝ) : EReal)) (-((x : EReal) - (((k : ℕ) : ℝ) : EReal))))
      ((0 : ℝ) : EReal) = ((hat x k : ℝ) : EReal) := by
  unfold hat
  rw [coe_max, EReal.coe_sub, abs_eq_max_neg, coe_max, EReal.coe_neg, EReal.coe_sub]

/-- The hat weight as a kernel's words compute it, grid line less coordinate. -/
theorem hat_coe' (x : ℝ) (k : ℕ) :
    max (((1 : ℝ) : EReal) - max ((((k : ℕ) : ℝ) : EReal) - (x : EReal)) (-((((k : ℕ) : ℝ) : EReal) - (x : EReal))))
      ((0 : ℝ) : EReal) = ((hat x k : ℝ) : EReal) := by
  unfold hat
  rw [abs_sub_comm, coe_max, EReal.coe_sub, abs_eq_max_neg, coe_max, EReal.coe_neg, EReal.coe_sub]

/-- The two orders of work agree on real features and coefficients: weights laid on the combined plane, against the
    combination of four weighted corners per plane. -/
theorem combine (a : Fin 32 → EReal) (P : Fin 32 → Fin 160 → Fin 160 → EReal) (x y : ℝ) (hx : x ≤ 159) (hy : y ≤ 159)
    (ha : ∀ c, ∃ r : ℝ, a c = (r : EReal)) (hP : ∀ c p q, ∃ r : ℝ, P c p q = (r : EReal))
    (x0 x1 y0 y1 : Fin 160) (hx0 : ((x0 : ℕ) : ℤ) = ⌊x⌋) (hx1 : (x1 : ℕ) = min ((x0 : ℕ) + 1) 159)
    (hy0 : ((y0 : ℕ) : ℤ) = ⌊y⌋) (hy1 : (y1 : ℕ) = min ((y0 : ℕ) + 1) 159) :
    ∑ q : Fin 160, (∑ p : Fin 160, ((hat y p : ℝ) : EReal) * ∑ c : Fin 32, a c * P c p q) * ((hat x q : ℝ) : EReal)
      = ∑ c : Fin 32, a c *
          (P c y0 x0 * (((1 : ℝ) : EReal) - ((y : EReal) - (((y0 : ℕ) : ℝ) : EReal)))
                * (((1 : ℝ) : EReal) - ((x : EReal) - (((x0 : ℕ) : ℝ) : EReal)))
            + P c y0 x1 * (((1 : ℝ) : EReal) - ((y : EReal) - (((y0 : ℕ) : ℝ) : EReal)))
                * ((x : EReal) - (((x0 : ℕ) : ℝ) : EReal))
            + P c y1 x0 * ((y : EReal) - (((y0 : ℕ) : ℝ) : EReal))
                * (((1 : ℝ) : EReal) - ((x : EReal) - (((x0 : ℕ) : ℝ) : EReal)))
            + P c y1 x1 * ((y : EReal) - (((y0 : ℕ) : ℝ) : EReal)) * ((x : EReal) - (((x0 : ℕ) : ℝ) : EReal))) := by
  choose ar har using ha
  choose Pr hPr using hP
  have key := congrArg (fun r : ℝ => (r : EReal)) (combine_real ar Pr hx hy x0 x1 y0 y1 hx0 hx1 hy0 hy1)
  simp only [coe_sum, EReal.coe_mul, EReal.coe_add, EReal.coe_sub] at key
  simp only [har, hPr]
  exact key

end Cert.Proof.Mask

end
-- ==== Proof.MaskRef.lean ====
/- The mask reference, read at one output cell: the four neighbours of the sampling point in every feature plane, their
   bilinear weights, the combination over the planes, and the logistic function. -/
module

public import proofs.«01_k».proof.Proof.MaskMath
public import proofs.«01_k».proof.Proof.Gen.ReferenceIdeal
public import proofs.«01_k».proof.Proof.Gen.ReferenceIdeal.Read
public import Idealize.ShloMosaic.Lib.ValueIdxCore
public import Idealize.ShloMosaic.Lib.Pipeline.Value

@[expose] public section

set_option maxRecDepth 16384

noncomputable section

namespace Cert.Proof.Mask

open Idealize.ShloMosaic Idealize.ShloMosaic.ValueIdx

/-! ## The literal words -/

theorem word_zero : (FloatOps.ofBits .f32 0x00000000#32 : Ideal .f32) = ((0 : ℝ) : EReal) := by
  rw [Ideal.ofBits_def]; simp [Ideal.ofBits, Ideal.ieee, -EReal.coe_mul]
theorem word_quarter : (FloatOps.ofBits .f32 0x3E800000#32 : Ideal .f32) = ((1/4 : ℝ) : EReal) := by
  rw [Ideal.ofBits_def]; simp [Ideal.ofBits, Ideal.ieee, -EReal.coe_mul]; norm_num
theorem word_half : (FloatOps.ofBits .f32 0x3F000000#32 : Ideal .f32) = ((1/2 : ℝ) : EReal) := by
  rw [Ideal.ofBits_def]; simp [Ideal.ofBits, Ideal.ieee, -EReal.coe_mul]; norm_num
theorem word_one : (FloatOps.ofBits .f32 0x3F800000#32 : Ideal .f32) = ((1 : ℝ) : EReal) := by
  rw [Ideal.ofBits_def]; simp [Ideal.ofBits, Ideal.ieee, -EReal.coe_mul, -EReal.coe_one]; norm_num
theorem word_56 : (FloatOps.ofBits .f32 0x42600000#32 : Ideal .f32) = ((56 : ℝ) : EReal) := by
  rw [Ideal.ofBits_def]; simp [Ideal.ofBits, Ideal.ieee, -EReal.coe_mul]; norm_num
theorem word_159 : (FloatOps.ofBits .f32 0x431F0000#32 : Ideal .f32) = ((159 : ℝ) : EReal) := by
  rw [Ideal.ofBits_def]; simp [Ideal.ofBits, Ideal.ieee, -EReal.coe_mul]; norm_num
theorem word_inf : (FloatOps.ofBits .f32 0x7F800000#32 : Ideal .f32) = (⊤ : EReal) := by
  rw [Ideal.ofBits_def]; simp [Ideal.ofBits, Ideal.ieee]

/-! ## Integer words of a coordinate -/

/-- A small word read as an integer. -/
theorem toInt_small (n : ℕ) (h : n < 2 ^ 31) : (BitVec.ofNat 32 n).toInt = (n : ℤ) := by
  rw [BitVec.toInt_ofNat']
  have : (2:ℕ) ^ 32 = 4294967296 := by norm_num
  norm_num at h
  rw [Int.bmod_eq_of_le] <;> push_cast <;> omega

/-- A small word as a float. -/
theorem sitofp_small (n : ℕ) (h : n < 2 ^ 31) :
    (FloatOps.sitofp .f32 (BitVec.ofNat 32 n) : Ideal .f32) = (((n : ℕ) : ℝ) : EReal) := by
  show (((BitVec.ofNat 32 n).toInt : ℝ) : EReal) = _
  rw [toInt_small n h]; push_cast; rfl

/-- The floor of a coordinate, as the word of a natural number below 160. -/
theorem floor_word (x : ℝ) (h0 : 0 ≤ x) (h1 : x ≤ 159) :
    ∃ n : Fin 160, ((n : ℕ) : ℤ) = ⌊x⌋ ∧
      (FloatOps.fptosi 32 (FloatOps.hostUnary .floor ((x : EReal) : Ideal .f32) : Ideal .f32) : BitVec 32) = BitVec.ofNat 32 n := by
  have f0 : 0 ≤ ⌊x⌋ := Int.floor_nonneg.2 h0
  have f1 : ⌊x⌋ ≤ 159 := by
    have := Int.floor_le_floor h1
    simpa using this
  refine ⟨⟨⌊x⌋.toNat, by omega⟩, by simp [f0], ?_⟩
  show Ideal.fptosi 32 (Ideal.liftRound Int.floor (x : EReal)) = _
  unfold Ideal.fptosi
  rw [Ideal.liftRound_coe, Ideal.toIntClamped_coe, if_pos (by exact_mod_cast f0), Int.floor_intCast]
  have e : max (-((2 ^ (32 - 1) : ℕ) : ℤ)) (min (((2 ^ (32 - 1) : ℕ) : ℤ) - 1) ⌊x⌋) = ((⌊x⌋.toNat : ℕ) : ℤ) := by
    rw [min_eq_right (by norm_num; omega), max_eq_right (by norm_num; omega)]; omega
  rw [e, BitVec.ofInt_natCast]

/-- The next line, held at the last. -/
theorem next_word : ∀ n : Fin 160, IntOp.minsi (IntOp.addi (BitVec.ofNat 32 (n : ℕ)) 1#32) 159#32
    = BitVec.ofNat 32 (min ((n : ℕ) + 1) 159) := by decide +kernel

/-! ## The gather, read at an index -/

section Ref
open Cert.ReferenceIdeal Cert.ReferenceIdeal.Read Cert.ReferenceIdeal.Facts₀ Cert.ReferenceIdeal.Facts

local notation "gd" => gather_S4x32x160x160_S4x100x56x56x3_S4x100x56x56x32_4_023_n_n_023_4_13211

/-- The gathered element: the plane `c` of the batch, row and column the three start words name. -/
theorem gather_apply {α : Type} (x : S4x32x160x160.Idx → α) (idx : IVec S4x100x56x56x3 32)
    (b : Fin 4) (r : Fin 100) (y z : Fin 56) (c : Fin 32) (n0 : Fin 4) (n1 n2 : Fin 160)
    (h0 : idx (ix5 b r y z 0) = BitVec.ofNat 32 n0) (h1 : idx (ix5 b r y z 1) = BitVec.ofNat 32 n1)
    (h2 : idx (ix5 b r y z 2) = BitVec.ofNat 32 n2) :
    Host.gather gd x idx (ix5 b r y z c) = x (ix4 n0 c n1 n2) := by
  unfold Host.gather
  congr 1
  have hsi : ∀ (k : Fin (gd).startIndexMap.length) (k' : Fin 3), k.val = k'.val →
      (gd).siIdx (ix5 b r y z c) k = ix5 b r y z k' := by
    intro k k' e
    funext a; refine Fin.ext ?_
    match a with
    | ⟨0, _⟩ => rfl
    | ⟨1, _⟩ => rfl
    | ⟨2, _⟩ => rfl
    | ⟨3, _⟩ => rfl
    | ⟨4, _⟩ => exact e
  have hoff : ∀ a : Fin 4, a ∈ (gd).collapsedSliceDims → (gd).offCoord (ix5 b r y z c) a = 0 := fun a ha =>
    GatherDims.offCoord_eq_zero _ _ _ (fun h => ((GatherDims.mem_sKept _ _).mp h).1 ha)
  funext a; refine Fin.ext ?_
  show (gd).start (ix5 b r y z c) idx a + (gd).batchCoord (ix5 b r y z c) a + (gd).offCoord (ix5 b r y z c) a = _
  rw [GatherDims.batchCoord_eq_zero _ _ _ List.not_mem_nil, Nat.add_zero]
  match a with
  | ⟨0, _⟩ =>
    have e : (gd).start (ix5 b r y z c) idx 0 = min (idx (ix5 b r y z 0)).toInt.toNat (4 - 1) := by
      unfold GatherDims.start
      rw [dif_pos (show (0 : Fin 4) ∈ (gd).startIndexMap by decide)]
      exact congrArg (fun j => min (idx j).toInt.toNat (4 - 1)) (hsi _ 0 (by decide))
    show (gd).start (ix5 b r y z c) idx 0 + (gd).offCoord (ix5 b r y z c) 0 = n0.val
    rw [hoff 0 (by decide), e, h0, toInt_small _ (by omega)]
    omega
  | ⟨1, _⟩ =>
    have hs : (gd).start (ix5 b r y z c) idx 1 = 0 := by
      unfold GatherDims.start
      rw [dif_neg (show (1 : Fin 4) ∉ (gd).startIndexMap by decide)]
    show (gd).start (ix5 b r y z c) idx 1 + (gd).offCoord (ix5 b r y z c) 1 = _
    rw [hs, Nat.zero_add]
    unfold GatherDims.offCoord
    rw [dif_pos (show (1 : Fin 4) ∈ (gd).sKept by decide)]
    rfl
  | ⟨2, _⟩ =>
    have e : (gd).start (ix5 b r y z c) idx 2 = min (idx (ix5 b r y z 1)).toInt.toNat (160 - 1) := by
      unfold GatherDims.start
      rw [dif_pos (show (2 : Fin 4) ∈ (gd).startIndexMap by decide)]
      exact congrArg (fun j => min (idx j).toInt.toNat (160 - 1)) (hsi _ 1 (by decide))
    show (gd).start (ix5 b r y z c) idx 2 + (gd).offCoord (ix5 b r y z c) 2 = n1.val
    rw [hoff 2 (by decide), e, h1, toInt_small _ (by omega)]
    omega
  | ⟨3, _⟩ =>
    have e : (gd).start (ix5 b r y z c) idx 3 = min (idx (ix5 b r y z 2)).toInt.toNat (160 - 1) := by
      unfold GatherDims.start
      rw [dif_pos (show (3 : Fin 4) ∈ (gd).startIndexMap by decide)]
      exact congrArg (fun j => min (idx j).toInt.toNat (160 - 1)) (hsi _ 2 (by decide))
    show (gd).start (ix5 b r y z c) idx 3 + (gd).offCoord (ix5 b r y z c) 3 = n2.val
    rw [hoff 3 (by decide), e, h2, toInt_small _ (by omega)]
    omega

/-- Three index arrays joined along the last axis, read at each of its three positions. -/
theorem concat3_apply (u0 u1 u2 : IVec S4x100x56x56x1 32)
    (h : Shape.Concatenates (([⟨S4x100x56x56x1, u0⟩, ⟨S4x100x56x56x1, u1⟩, ⟨S4x100x56x56x1, u2⟩] :
      List ((s : Shape) × (s.Idx → BitVec 32))).map (·.1)) S4x100x56x56x3 4)
    (b : Fin 4) (r : Fin 100) (y z : Fin 56) :
    concatenate S4x100x56x56x3 4 [⟨S4x100x56x56x1, u0⟩, ⟨S4x100x56x56x1, u1⟩, ⟨S4x100x56x56x1, u2⟩] h (ix5 b r y z 0)
        = u0 (ix5 b r y z 0)
    ∧ concatenate S4x100x56x56x3 4 [⟨S4x100x56x56x1, u0⟩, ⟨S4x100x56x56x1, u1⟩, ⟨S4x100x56x56x1, u2⟩] h (ix5 b r y z 1)
        = u1 (ix5 b r y z 0)
    ∧ concatenate S4x100x56x56x3 4 [⟨S4x100x56x56x1, u0⟩, ⟨S4x100x56x56x1, u1⟩, ⟨S4x100x56x56x1, u2⟩] h (ix5 b r y z 2)
        = u2 (ix5 b r y z 0) := by
  have off : ∀ (k : Fin 3) (a : Fin 5), a.cast (rfl : S4x100x56x56x1.rank = S4x100x56x56x3.rank) ≠ (4 : Fin 5) →
      ((ix5 b r y z (0 : Fin 1) : S4x100x56x56x1.Idx) a).val
        = ((ix5 b r y z k : S4x100x56x56x3.Idx) (a.cast rfl)).val := by
    intro k a ha
    match a with
    | ⟨0, _⟩ => rfl
    | ⟨1, _⟩ => rfl
    | ⟨2, _⟩ => rfl
    | ⟨3, _⟩ => rfl
    | ⟨4, _⟩ => exact absurd rfl ha
  refine ⟨?_, ?_, ?_⟩
  · exact concatenate_apply_piece 4 _ h _ 0 (by simp) S4x100x56x56x1 u0 rfl rfl 0 (by rfl) _ (off 0) (by rfl)
  · exact concatenate_apply_piece 4 _ h _ 1 (by simp) S4x100x56x56x1 u1 rfl rfl 1 (by rfl) _ (off 1) (by rfl)
  · exact concatenate_apply_piece 4 _ h _ 2 (by simp) S4x100x56x56x1 u2 rfl rfl 2 (by rfl) _ (off 2) (by rfl)

/-! ## The stages -/

variable (x1 x2 x3 x4 : (⟨S4x100, .f32⟩ : BufTy).Contents (Elt Ideal))

/-- The column coordinate. -/
theorem gx_apply (b : Fin 4) (r : Fin 100) (z : Fin 56) :
    val_main_v39 (F := Ideal) x1 x3 (ix3 b r z) = coord (x1 (ix2 b r)) (x3 (ix2 b r)) z := by
  have i1 : idx_main_v21 (idx_main_v28 (ix3 b r z)) = ix2 b r := by
    funext a; match a with | ⟨0, _⟩ => rfl | ⟨1, _⟩ => rfl
  have i2 : idx_main_v23 (idx_main_v26 (ix3 b r z)) = ix2 b r := by
    funext a; match a with | ⟨0, _⟩ => rfl | ⟨1, _⟩ => rfl
  have e16 : ∀ j : S56.Idx, val_main_v16 (F := Ideal) j = (((j 0).val : ℝ) : EReal) := fun j =>
    sitofp_small _ (by have := (j 0).isLt; simp at this ⊢; omega)
  simp only [val_main_v39_apply, val_main_call0_v4_apply, val_main_call0_v3_apply, val_main_cst_10_apply,
    val_main_call0_v2_apply, val_main_call0_v1_apply, val_main_call0_v0_apply, val_main_cst_9_apply,
    val_main_v29_apply, val_main_v28_apply, val_main_v21_apply, val_main_v27_apply, val_main_v26_apply,
    val_main_v25_apply, val_main_v24_apply, val_main_v23_apply, val_main_v20_apply, val_main_v18_apply,
    val_main_v17_apply, val_main_cst_7_apply, val_main_v19_apply, val_main_cst_8_apply, val_main_v22_apply, i1, i2, e16,
    val_main_v11_apply, val_main_v10_apply, val_main_cst_4_apply, val_main_v9_apply, val_main_v8_apply,
    val_main_cst_3_apply, val_main_v3_apply, val_main_v2_apply, val_main_cst_0_apply, val_main_v1_apply,
    val_main_v0_apply, val_main_cst_apply, word_zero, word_quarter, word_half, word_56, word_159]
  rfl

/-- The row coordinate. -/
theorem gy_apply (b : Fin 4) (r : Fin 100) (y : Fin 56) :
    val_main_v40 (F := Ideal) x2 x4 (ix3 b r y) = coord (x2 (ix2 b r)) (x4 (ix2 b r)) y := by
  have i1 : idx_main_v30 (idx_main_v37 (ix3 b r y)) = ix2 b r := by
    funext a; match a with | ⟨0, _⟩ => rfl | ⟨1, _⟩ => rfl
  have i2 : idx_main_v32 (idx_main_v35 (ix3 b r y)) = ix2 b r := by
    funext a; match a with | ⟨0, _⟩ => rfl | ⟨1, _⟩ => rfl
  have e16 : ∀ j : S56.Idx, val_main_v16 (F := Ideal) j = (((j 0).val : ℝ) : EReal) := fun j =>
    sitofp_small _ (by have := (j 0).isLt; simp at this ⊢; omega)
  simp only [val_main_v40_apply, val_main_call1_v4_apply, val_main_call1_v3_apply, val_main_cst_12_apply,
    val_main_call1_v2_apply, val_main_call1_v1_apply, val_main_call1_v0_apply, val_main_cst_11_apply,
    val_main_v38_apply, val_main_v37_apply, val_main_v30_apply, val_main_v36_apply, val_main_v35_apply,
    val_main_v34_apply, val_main_v33_apply, val_main_v32_apply, val_main_v20_apply, val_main_v18_apply,
    val_main_v17_apply, val_main_cst_7_apply, val_main_v19_apply, val_main_cst_8_apply, val_main_v31_apply, i1, i2, e16,
    val_main_v15_apply, val_main_v14_apply, val_main_cst_6_apply, val_main_v13_apply, val_main_v12_apply,
    val_main_cst_5_apply, val_main_v7_apply, val_main_v6_apply, val_main_cst_2_apply, val_main_v5_apply,
    val_main_v4_apply, val_main_cst_1_apply, word_zero, word_quarter, word_half, word_56, word_159]
  rfl

/-- One output cell of the reference: the logistic function of the combination, over the planes, of the four
    neighbours' bilinear sum. -/
theorem ref_apply (x0 : (⟨S4x32x160x160, .f32⟩ : BufTy).Contents (Elt Ideal))
    (x5 : (⟨S4x100x32, .f32⟩ : BufTy).Contents (Elt Ideal)) (b : Fin 4) (r : Fin 100) (y z : Fin 56) :
    ∃ (X Y : ℝ) (c0 c1 r0 r1 : Fin 160),
      coord (x1 (ix2 b r)) (x3 (ix2 b r)) z = (X : EReal) ∧ coord (x2 (ix2 b r)) (x4 (ix2 b r)) y = (Y : EReal)
      ∧ X ≤ 159 ∧ Y ≤ 159 ∧ ((c0 : ℕ) : ℤ) = ⌊X⌋ ∧ (c1 : ℕ) = min ((c0 : ℕ) + 1) 159
      ∧ ((r0 : ℕ) : ℤ) = ⌊Y⌋ ∧ (r1 : ℕ) = min ((r0 : ℕ) + 1) 159
      ∧ val_main_v134 (F := Ideal) x0 x1 x2 x3 x4 x5 (ix4 b r y z) = Ideal.logistic (∑ c : Fin 32, x5 (ix3 b r c) *
          (x0 (ix4 b c r0 c0) * (((1 : ℝ) : EReal) - ((Y : EReal) - (((r0 : ℕ) : ℝ) : EReal)))
                * (((1 : ℝ) : EReal) - ((X : EReal) - (((c0 : ℕ) : ℝ) : EReal)))
            + x0 (ix4 b c r0 c1) * (((1 : ℝ) : EReal) - ((Y : EReal) - (((r0 : ℕ) : ℝ) : EReal)))
                * ((X : EReal) - (((c0 : ℕ) : ℝ) : EReal))
            + x0 (ix4 b c r1 c0) * ((Y : EReal) - (((r0 : ℕ) : ℝ) : EReal))
                * (((1 : ℝ) : EReal) - ((X : EReal) - (((c0 : ℕ) : ℝ) : EReal)))
            + x0 (ix4 b c r1 c1) * ((Y : EReal) - (((r0 : ℕ) : ℝ) : EReal)) * ((X : EReal) - (((c0 : ℕ) : ℝ) : EReal)))) := by
  obtain ⟨X, hX, hX0, hX1⟩ := coord_real (x1 (ix2 b r)) (x3 (ix2 b r)) z
  obtain ⟨Y, hY, hY0, hY1⟩ := coord_real (x2 (ix2 b r)) (x4 (ix2 b r)) y
  obtain ⟨c0, hc0, wc0⟩ := floor_word X hX0 hX1
  obtain ⟨r0, hr0, wr0⟩ := floor_word Y hY0 hY1
  refine ⟨X, Y, c0, ⟨min ((c0 : ℕ) + 1) 159, by omega⟩, r0, ⟨min ((r0 : ℕ) + 1) 159, by omega⟩,
    hX, hY, hX1, hY1, hc0, rfl, hr0, rfl, ?_⟩
  -- the integer coordinates
  have v42 : val_main_v42 (F := Ideal) x1 x3 (ix3 b r z) = BitVec.ofNat 32 c0 := by
    rw [val_main_v42_apply, val_main_v41_apply, gx_apply, hX, wc0]
  have v44 : val_main_v44 (F := Ideal) x2 x4 (ix3 b r y) = BitVec.ofNat 32 r0 := by
    rw [val_main_v44_apply, val_main_v43_apply, gy_apply, hY, wr0]
  have v48 : val_main_v48 (F := Ideal) x1 x3 (ix3 b r z) = BitVec.ofNat 32 (min ((c0 : ℕ) + 1) 159) := by
    rw [val_main_v48_apply, val_main_v46_apply, val_main_v45_apply, val_main_c_apply, val_main_v47_apply,
      val_main_c_13_apply, v42, next_word]
  have v52 : val_main_v52 (F := Ideal) x2 x4 (ix3 b r y) = BitVec.ofNat 32 (min ((r0 : ℕ) + 1) 159) := by
    rw [val_main_v52_apply, val_main_v50_apply, val_main_v49_apply, val_main_c_14_apply, val_main_v51_apply,
      val_main_c_15_apply, v44, next_word]
  -- the fractions
  have v54 : val_main_v54 (F := Ideal) x1 x3 (ix3 b r z) = (X : EReal) - (((c0 : ℕ) : ℝ) : EReal) := by
    rw [val_main_v54_apply, val_main_v53_apply, v42, gx_apply, hX, sitofp_small _ (by omega)]; rfl
  have v57 : val_main_v57 (F := Ideal) x2 x4 (ix3 b r y) = (Y : EReal) - (((r0 : ℕ) : ℝ) : EReal) := by
    rw [val_main_v57_apply, val_main_v56_apply, v44, gy_apply, hY, sitofp_small _ (by omega)]; rfl
  -- the four gathers
  have v70 : ∀ c : Fin 32, val_main_v70 (F := Ideal) x0 x1 x2 x3 x4 (ix5 b r y z c) = x0 (ix4 b c r0 c0) := fun c => by
    obtain ⟨h0, h1, h2⟩ := concat3_apply (val_main_v66 (F := Ideal)) (val_main_v67 (F := Ideal) x2 x4)
      (val_main_v68 (F := Ideal) x1 x3) (Gen.facts.concatenates_S4x100x56x56x1_S4x100x56x56x1_S4x100x56x56x1_S4x100x56x56x3_d4) b r y z
    unfold val_main_v70
    refine gather_apply x0 _ b r y z c b r0 c0 (h0.trans ?_) (h1.trans ?_) (h2.trans ?_)
    · rw [val_main_v66_apply, val_main_v63_apply, val_main_v60_apply, val_main_v59_apply]
    · rw [val_main_v67_apply, val_main_v64_apply, val_main_v61_apply]
      exact (congrArg _ (by funext a; match a with | ⟨0, _⟩ => rfl | ⟨1, _⟩ => rfl | ⟨2, _⟩ => rfl)).trans v44
    · rw [val_main_v68_apply, val_main_v65_apply, val_main_v62_apply]
      exact (congrArg _ (by funext a; match a with | ⟨0, _⟩ => rfl | ⟨1, _⟩ => rfl | ⟨2, _⟩ => rfl)).trans v42
  have v80 : ∀ c : Fin 32, val_main_v80 (F := Ideal) x0 x1 x2 x3 x4 (ix5 b r y z c) = x0 (ix4 b c r0 ⟨min ((c0 : ℕ) + 1) 159, by omega⟩) := fun c => by
    obtain ⟨h0, h1, h2⟩ := concat3_apply (val_main_v76 (F := Ideal)) (val_main_v77 (F := Ideal) x2 x4)
      (val_main_v78 (F := Ideal) x1 x3) (Gen.facts.concatenates_S4x100x56x56x1_S4x100x56x56x1_S4x100x56x56x1_S4x100x56x56x3_d4) b r y z
    unfold val_main_v80
    refine gather_apply x0 _ b r y z c b r0 ⟨min ((c0 : ℕ) + 1) 159, by omega⟩ (h0.trans ?_) (h1.trans ?_) (h2.trans ?_)
    · rw [val_main_v76_apply, val_main_v73_apply, val_main_v60_apply, val_main_v59_apply]
    · rw [val_main_v77_apply, val_main_v74_apply, val_main_v71_apply]
      exact (congrArg _ (by funext a; match a with | ⟨0, _⟩ => rfl | ⟨1, _⟩ => rfl | ⟨2, _⟩ => rfl)).trans v44
    · rw [val_main_v78_apply, val_main_v75_apply, val_main_v72_apply]
      exact (congrArg _ (by funext a; match a with | ⟨0, _⟩ => rfl | ⟨1, _⟩ => rfl | ⟨2, _⟩ => rfl)).trans v48
  have v90 : ∀ c : Fin 32, val_main_v90 (F := Ideal) x0 x1 x2 x3 x4 (ix5 b r y z c) = x0 (ix4 b c ⟨min ((r0 : ℕ) + 1) 159, by omega⟩ c0) := fun c => by
    obtain ⟨h0, h1, h2⟩ := concat3_apply (val_main_v86 (F := Ideal)) (val_main_v87 (F := Ideal) x2 x4)
      (val_main_v88 (F := Ideal) x1 x3) (Gen.facts.concatenates_S4x100x56x56x1_S4x100x56x56x1_S4x100x56x56x1_S4x100x56x56x3_d4) b r y z
    unfold val_main_v90
    refine gather_apply x0 _ b r y z c b ⟨min ((r0 : ℕ) + 1) 159, by omega⟩ c0 (h0.trans ?_) (h1.trans ?_) (h2.trans ?_)
    · rw [val_main_v86_apply, val_main_v83_apply, val_main_v60_apply, val_main_v59_apply]
    · rw [val_main_v87_apply, val_main_v84_apply, val_main_v81_apply]
      exact (congrArg _ (by funext a; match a with | ⟨0, _⟩ => rfl | ⟨1, _⟩ => rfl | ⟨2, _⟩ => rfl)).trans v52
    · rw [val_main_v88_apply, val_main_v85_apply, val_main_v82_apply]
      exact (congrArg _ (by funext a; match a with | ⟨0, _⟩ => rfl | ⟨1, _⟩ => rfl | ⟨2, _⟩ => rfl)).trans v42
  have v100 : ∀ c : Fin 32, val_main_v100 (F := Ideal) x0 x1 x2 x3 x4 (ix5 b r y z c) = x0 (ix4 b c ⟨min ((r0 : ℕ) + 1) 159, by omega⟩ ⟨min ((c0 : ℕ) + 1) 159, by omega⟩) := fun c => by
    obtain ⟨h0, h1, h2⟩ := concat3_apply (val_main_v96 (F := Ideal)) (val_main_v97 (F := Ideal) x2 x4)
      (val_main_v98 (F := Ideal) x1 x3) (Gen.facts.concatenates_S4x100x56x56x1_S4x100x56x56x1_S4x100x56x56x1_S4x100x56x56x3_d4) b r y z
    unfold val_main_v100
    refine gather_apply x0 _ b r y z c b ⟨min ((r0 : ℕ) + 1) 159, by omega⟩ ⟨min ((c0 : ℕ) + 1) 159, by omega⟩ (h0.trans ?_) (h1.trans ?_) (h2.trans ?_)
    · rw [val_main_v96_apply, val_main_v93_apply, val_main_v60_apply, val_main_v59_apply]
    · rw [val_main_v97_apply, val_main_v94_apply, val_main_v91_apply]
      exact (congrArg _ (by funext a; match a with | ⟨0, _⟩ => rfl | ⟨1, _⟩ => rfl | ⟨2, _⟩ => rfl)).trans v52
    · rw [val_main_v98_apply, val_main_v95_apply, val_main_v92_apply]
      exact (congrArg _ (by funext a; match a with | ⟨0, _⟩ => rfl | ⟨1, _⟩ => rfl | ⟨2, _⟩ => rfl)).trans v48
  -- the weights along both axes
  have wy : ∀ j : S4x100x56x1x1.Idx, j = ix5 b r y 0 0 → val_main_v58 (F := Ideal) x2 x4 j = (Y : EReal) - (((r0 : ℕ) : ℝ) : EReal) := by
    rintro j rfl
    rw [val_main_v58_apply]
    exact (congrArg _ (by funext a; match a with | ⟨0, _⟩ => rfl | ⟨1, _⟩ => rfl | ⟨2, _⟩ => rfl)).trans v57
  have wx : ∀ j : S4x100x1x56x1.Idx, j = ix5 b r 0 z 0 → val_main_v55 (F := Ideal) x1 x3 j = (X : EReal) - (((c0 : ℕ) : ℝ) : EReal) := by
    rintro j rfl
    rw [val_main_v55_apply]
    exact (congrArg _ (by funext a; match a with | ⟨0, _⟩ => rfl | ⟨1, _⟩ => rfl | ⟨2, _⟩ => rfl)).trans v54
  have iy : ∀ c : Fin 32, idx_main_v103 (ix5 b r y z c) = ix5 b r y 0 0 := fun c => by
    funext a; match a with | ⟨0, _⟩ => rfl | ⟨1, _⟩ => rfl | ⟨2, _⟩ => rfl | ⟨3, _⟩ => rfl | ⟨4, _⟩ => rfl
  have ix : ∀ c : Fin 32, idx_main_v107 (ix5 b r y z c) = ix5 b r 0 z 0 := fun c => by
    funext a; match a with | ⟨0, _⟩ => rfl | ⟨1, _⟩ => rfl | ⟨2, _⟩ => rfl | ⟨3, _⟩ => rfl | ⟨4, _⟩ => rfl
  have v128 : val_main_v128 (F := Ideal) x0 x1 x2 x3 x4 x5 (ix4 b r y z) = ∑ c : Fin 32, x5 (ix3 b r c) *
      val_main_v127 (F := Ideal) x0 x1 x2 x3 x4 (ix5 b r y z c) := by
    rw [val_main_v128_apply]
    refine Finset.sum_congr rfl fun c _ => ?_
    have e1 : lidx_main_v128 (ix4 b r y z) c = ix3 b r c := by
      funext a; match a with | ⟨0, _⟩ => rfl | ⟨1, _⟩ => rfl | ⟨2, _⟩ => rfl
    have e2 : ridx_main_v128 (ix4 b r y z) c = ix5 b r y z c := by
      funext a; match a with | ⟨0, _⟩ => rfl | ⟨1, _⟩ => rfl | ⟨2, _⟩ => rfl | ⟨3, _⟩ => rfl | ⟨4, _⟩ => rfl
    rw [e1, e2]
  have v127 : ∀ c : Fin 32, val_main_v127 (F := Ideal) x0 x1 x2 x3 x4 (ix5 b r y z c) = _ := fun c => by
    rw [val_main_v127_apply, val_main_v122_apply, val_main_v115_apply, val_main_v108_apply, val_main_v104_apply,
      val_main_v103_apply, val_main_v102_apply, val_main_v101_apply, val_main_cst_16_apply,
      val_main_v107_apply, val_main_v106_apply, val_main_v105_apply, val_main_cst_17_apply,
      val_main_v114_apply, val_main_v112_apply, val_main_v111_apply, val_main_v110_apply, val_main_v109_apply,
      val_main_cst_18_apply, val_main_v113_apply, val_main_v121_apply, val_main_v117_apply, val_main_v116_apply,
      val_main_v120_apply, val_main_v119_apply, val_main_v118_apply, val_main_cst_19_apply, val_main_v126_apply,
      val_main_v124_apply, val_main_v123_apply, val_main_v125_apply, v70, v80, v90, v100,
      wy _ (iy c), wx _ (ix c), word_one]
  rw [val_main_v134_apply, val_main_v133_apply, val_main_cst_21_apply, val_main_v132_apply, val_main_v131_apply,
    val_main_cst_20_apply, val_main_v130_apply, val_main_v129_apply, v128, word_one]
  simp only [v127]
  rfl

end Ref

end Cert.Proof.Mask

end
-- ==== Proof.MaskPay.lean ====
/- The mask kernel's arithmetic, read entry by entry at the ideal values: the combination of the feature planes, the
   sampling coordinates of a box, the two tables of hat weights, and one box's sampled mask. -/
module

public import proofs.«01_k».proof.Proof.MaskRef
public import proofs.«01_k».proof.Proof.Gen.KernelIdeal.Skeleton

@[expose] public section

set_option maxRecDepth 16384

noncomputable section

namespace Cert.Proof.Mask

open Idealize.ShloMosaic Idealize.ShloMosaic.ValueIdx

section Pay
open Cert.KernelIdeal Cert.KernelIdeal.Gen

/-! ## The three matrix products -/

/-- The combination product: a sum over the 32 feature planes. -/
theorem dot_planes (a : FVec Ideal S100x32 .f32) (b : FVec Ideal S32x25600 .f32) (r : Fin 100) (n : Fin 25600) :
    matmul dot_S100x32_S32x25600_S100x25600_1_0_0_1_n_n none a b (constant (F := Ideal) S100x25600 .f32 0x00000000#32) (ix2 r n)
      = ∑ c : Fin 32, a (ix2 r c) * b (ix2 c n) := by
  refine (Ideal.matmul_constant_zero_apply _ _ _ _ _).trans ?_
  rw [← Equiv.sum_comp (contrEquiv1 dot_S100x32_S32x25600_S100x25600_1_0_0_1_n_n 32 rfl rfl).symm]
  refine Finset.sum_congr rfl fun c _ => ?_
  have hc := contrEquiv1_symm_val dot_S100x32_S32x25600_S100x25600_1_0_0_1_n_n 32 rfl rfl c
  congr 1
  · refine congrArg a (funext fun x => Fin.ext ?_)
    match x with
    | ⟨0, _⟩ => simp [DotDims.lhsIdx, dot_S100x32_S32x25600_S100x25600_1_0_0_1_n_n]; rfl
    | ⟨1, _⟩ => refine Eq.trans ?_ hc; simp [DotDims.lhsIdx, dot_S100x32_S32x25600_S100x25600_1_0_0_1_n_n]; rfl
  · refine congrArg b (funext fun x => Fin.ext ?_)
    match x with
    | ⟨0, _⟩ => refine Eq.trans ?_ hc; simp [DotDims.rhsIdx, dot_S100x32_S32x25600_S100x25600_1_0_0_1_n_n]; rfl
    | ⟨1, _⟩ => simp [DotDims.rhsIdx, dot_S100x32_S32x25600_S100x25600_1_0_0_1_n_n]; rfl

/-- The product with the row weights: a sum over the 160 rows. -/
theorem dot_rows (a : FVec Ideal S56x160 .f32) (b : FVec Ideal S160x160 .f32) (y : Fin 56) (q : Fin 160) :
    matmul dot_S56x160_S160x160_S56x160_1_0_0_1_n_n none a b (constant (F := Ideal) S56x160 .f32 0x00000000#32) (ix2 y q)
      = ∑ p : Fin 160, a (ix2 y p) * b (ix2 p q) := by
  refine (Ideal.matmul_constant_zero_apply _ _ _ _ _).trans ?_
  rw [← Equiv.sum_comp (contrEquiv1 dot_S56x160_S160x160_S56x160_1_0_0_1_n_n 160 rfl rfl).symm]
  refine Finset.sum_congr rfl fun c _ => ?_
  have hc := contrEquiv1_symm_val dot_S56x160_S160x160_S56x160_1_0_0_1_n_n 160 rfl rfl c
  congr 1
  · refine congrArg a (funext fun x => Fin.ext ?_)
    match x with
    | ⟨0, _⟩ => simp [DotDims.lhsIdx, dot_S56x160_S160x160_S56x160_1_0_0_1_n_n]; rfl
    | ⟨1, _⟩ => refine Eq.trans ?_ hc; simp [DotDims.lhsIdx, dot_S56x160_S160x160_S56x160_1_0_0_1_n_n]; rfl
  · refine congrArg b (funext fun x => Fin.ext ?_)
    match x with
    | ⟨0, _⟩ => refine Eq.trans ?_ hc; simp [DotDims.rhsIdx, dot_S56x160_S160x160_S56x160_1_0_0_1_n_n]; rfl
    | ⟨1, _⟩ => simp [DotDims.rhsIdx, dot_S56x160_S160x160_S56x160_1_0_0_1_n_n]; rfl

/-- The product with the column weights: a sum over the 160 columns. -/
theorem dot_cols (a : FVec Ideal S56x160 .f32) (b : FVec Ideal S160x56 .f32) (y z : Fin 56) :
    matmul dot_S56x160_S160x56_S56x56_1_0_0_1_n_n none a b (constant (F := Ideal) S56x56 .f32 0x00000000#32) (ix2 y z)
      = ∑ q : Fin 160, a (ix2 y q) * b (ix2 q z) := by
  refine (Ideal.matmul_constant_zero_apply _ _ _ _ _).trans ?_
  rw [← Equiv.sum_comp (contrEquiv1 dot_S56x160_S160x56_S56x56_1_0_0_1_n_n 160 rfl rfl).symm]
  refine Finset.sum_congr rfl fun c _ => ?_
  have hc := contrEquiv1_symm_val dot_S56x160_S160x56_S56x56_1_0_0_1_n_n 160 rfl rfl c
  congr 1
  · refine congrArg a (funext fun x => Fin.ext ?_)
    match x with
    | ⟨0, _⟩ => simp [DotDims.lhsIdx, dot_S56x160_S160x56_S56x56_1_0_0_1_n_n]; rfl
    | ⟨1, _⟩ => refine Eq.trans ?_ hc; simp [DotDims.lhsIdx, dot_S56x160_S160x56_S56x56_1_0_0_1_n_n]; rfl
  · refine congrArg b (funext fun x => Fin.ext ?_)
    match x with
    | ⟨0, _⟩ => refine Eq.trans ?_ hc; simp [DotDims.rhsIdx, dot_S56x160_S160x56_S56x56_1_0_0_1_n_n]; rfl
    | ⟨1, _⟩ => simp [DotDims.rhsIdx, dot_S56x160_S160x56_S56x56_1_0_0_1_n_n]; rfl

/-! ## The payloads -/

/-- The combined planes: entry (r, p, q) sums box r's coefficients against the planes' pixel (p, q). -/
theorem pay4_apply (v0 : Vec Ideal S1x100x32 .f32) (v2 : Vec Ideal S1x32x160x160 .f32) (r : Fin 100) (p q : Fin 160) :
    k0_pay4 (F := Ideal) v0 v2 (ix3 r p q) = ∑ c : Fin 32, v0 (ix3 0 r c) * v2 (ix4 0 c p q) := by
  unfold k0_pay4
  rw [shapeCast_self, shapeCast_apply _ _ (ix3 r p q) (ix2 r (⟨p.val * 160 + q.val, by omega⟩ : Fin 25600)) (by
    rw [Shape.rowMajor_val_two, Shape.rowMajor_val_three]
    show r.val * 25600 + (p.val * 160 + q.val) = (r.val * 160 + p.val) * 160 + q.val
    omega), dot_planes]
  refine Finset.sum_congr rfl fun c _ => ?_
  congr 1
  · exact shapeCast_apply _ _ (ix2 r c) (ix3 0 r c) (by
      rw [Shape.rowMajor_val_two, Shape.rowMajor_val_three]
      show ((0 : Fin 1).val * 100 + r.val) * 32 + c.val = r.val * 32 + c.val
      simp)
  · rw [shapeCast_apply _ _ (ix2 c (⟨p.val * 160 + q.val, by omega⟩ : Fin 25600)) (ix3 c p q) (by
      rw [Shape.rowMajor_val_two, Shape.rowMajor_val_three]
      show (c.val * 160 + p.val) * 160 + q.val = c.val * 25600 + (p.val * 160 + q.val)
      omega)]
    exact shapeCast_apply _ _ (ix3 c p q) (ix4 0 c p q) (by
      rw [Shape.rowMajor_val_four, Shape.rowMajor_val_three]
      show (((0 : Fin 1).val * 32 + c.val) * 160 + p.val) * 160 + q.val = (c.val * 160 + p.val) * 160 + q.val
      simp)

/-- A row of box coordinates turned into a column. -/
theorem col_apply (v : Vec Ideal S1x1x100 .f32) (h : S1x1x100.ShapeCasts S100) (h' : S100.ShapeCasts S100x1) (r : Fin 100) :
    shapeCast S100x1 (shapeCast S100 v h) h' (ix2 r 0) = v (ix3 0 0 r) := by
  rw [shapeCast_apply _ _ (ix2 r 0) (ix1 r) (by
    rw [Shape.rowMajor_val_two, Shape.rowMajor_val_one]; show r.val = r.val * 1 + (0 : Fin 1).val; simp)]
  exact shapeCast_apply _ _ (ix1 r) (ix3 0 0 r) (by
    rw [Shape.rowMajor_val_three, Shape.rowMajor_val_one]
    show ((0 : Fin 1).val * 1 + (0 : Fin 1).val) * 100 + r.val = r.val; simp)

/-- A column spread over the 56 samples. -/
theorem spread_col {α : Type} (x : S100x1.Idx → α) (h : S100x1.Broadcasts S100x56) (r : Fin 100) (i : Fin 56) :
    broadcastTo S100x56 x h (ix2 r i) = x (ix2 r 0) :=
  broadcastTo_apply x h _ _ (fun a => by match a with | ⟨0, _⟩ => rfl | ⟨1, _⟩ => rfl)

/-- A row spread over the 100 boxes. -/
theorem spread_row {α : Type} (x : S1x56.Idx → α) (h : S1x56.Broadcasts S100x56) (r : Fin 100) (i : Fin 56) :
    broadcastTo S100x56 x h (ix2 r i) = x (ix2 0 i) :=
  broadcastTo_apply x h _ _ (fun a => by match a with | ⟨0, _⟩ => rfl | ⟨1, _⟩ => rfl)

/-- The scaled and shifted lower corner. -/
theorem pay5_apply (v : Vec Ideal S1x1x100 .f32) (r : Fin 100) : k0_pay5 (F := Ideal) v (ix2 r 0) = corner (v (ix3 0 0 r)) := by
  have e := col_apply v shapeCasts_S1x1x100_S100 shapeCasts_S100_S100x1 r
  show FloatOps.subf (F := Ideal) (φ := .f32) (FloatOps.mulf (shapeCast S100x1 (shapeCast S100 v shapeCasts_S1x1x100_S100) shapeCasts_S100_S100x1 (ix2 r 0))
    (FloatOps.ofBits .f32 0x3E800000#32)) (FloatOps.ofBits .f32 0x3F000000#32) = _
  rw [e, word_quarter, word_half]; rfl

/-- The offset of a sample from the lower corner. -/
theorem pay6_apply (v w : Vec Ideal S1x1x100 .f32) (r : Fin 100) (i : Fin 56) :
    k0_pay6 (F := Ideal) v w (ix2 r i) = frac i * (corner (w (ix3 0 0 r)) - corner (v (ix3 0 0 r))) := by
  unfold k0_pay6
  dsimp only
  show FloatOps.mulf (broadcastTo S100x56 _ _ (ix2 r i)) (broadcastTo S100x56 _ _ (ix2 r i)) = _
  rw [spread_row, spread_col]
  show FloatOps.mulf (FloatOps.divf (FloatOps.addf (FloatOps.sitofp .f32 (iota .tc S1x56 32 [1] iota_S1x56_d1_w32 (ix2 0 i)))
      (FloatOps.ofBits .f32 0x3F000000#32)) (FloatOps.ofBits .f32 0x42600000#32))
    (FloatOps.subf (FloatOps.subf (FloatOps.mulf (shapeCast S100x1 (shapeCast S100 w shapeCasts_S1x1x100_S100) shapeCasts_S100_S100x1 (ix2 r 0))
      (FloatOps.ofBits .f32 0x3E800000#32)) (FloatOps.ofBits .f32 0x3F000000#32)) (k0_pay5 (F := Ideal) v (ix2 r 0))) = _
  rw [col_apply, pay5_apply, iota_single_apply, word_quarter, word_half, word_56]
  show FloatOps.mulf (FloatOps.divf (FloatOps.addf (FloatOps.sitofp .f32 (BitVec.ofNat 32 i.val)) _) _) _ = _
  rw [sitofp_small _ (by omega)]
  rfl

/-- The clipped coordinate from a corner and an offset. -/
theorem pay8_apply (a b : FVec Ideal S100x56 .f32) (j : S100x56.Idx) :
    k0_pay8 (F := Ideal) a b j = min ((159 : ℝ) : EReal) (max ((0 : ℝ) : EReal) (b j + a j)) := by
  show FloatOps.minimumf (FloatOps.ofBits .f32 0x431F0000#32) (FloatOps.maximumf (FloatOps.ofBits .f32 0x00000000#32) (FloatOps.addf (b j) (a j))) = _
  rw [word_159, word_zero]; rfl

/-- The column coordinate of sample z of box r. -/
theorem gcol_apply (v w : Vec Ideal S1x1x100 .f32) (r : Fin 100) (z : Fin 56) :
    k0_pay8 (F := Ideal) (k0_pay6 v w) (k0_pay7 v) (ix2 r z) = coord (v (ix3 0 0 r)) (w (ix3 0 0 r)) z := by
  rw [pay8_apply, pay6_apply]
  show min _ (max _ (broadcastTo S100x56 (k0_pay5 (F := Ideal) v) broadcasts_S100x1_S100x56 (ix2 r z) + _)) = _
  rw [spread_col, pay5_apply]; rfl

/-- The row weight before the cut at zero. -/
theorem pay9_eq (v w : Vec Ideal S1x1x100 .f32) (r : Fin 100) (y : Fin 56) (p : Fin 160) :
    k0_pay9 (F := Ideal) v w (ix3 r y p) = ((1 : ℝ) : EReal) -
      max (coord (v (ix3 0 0 r)) (w (ix3 0 0 r)) y - (((p : ℕ) : ℝ) : EReal)) (-(coord (v (ix3 0 0 r)) (w (ix3 0 0 r)) y - (((p : ℕ) : ℝ) : EReal))) := by
  have e : k0_pay9 (F := Ideal) v w (ix3 r y p) = FloatOps.subf (FloatOps.ofBits .f32 0x3F800000#32) (FloatOps.absf (FloatOps.subf
      (broadcastTo S100x56x160 (shapeCast S100x56x1 (k0_pay8 (F := Ideal) (k0_pay6 v w) (k0_pay7 v)) shapeCasts_S100x56_S100x56x1)
        broadcasts_S100x56x1_S100x56x160 (ix3 r y p))
      (FloatOps.sitofp .f32 (iota .tc S100x56x160 32 [2] iota_S100x56x160_d2_w32 (ix3 r y p))))) := rfl
  rw [e, broadcastTo_apply _ _ _ (ix3 r y (0 : Fin 1)) (fun a => by match a with | ⟨0, _⟩ => rfl | ⟨1, _⟩ => rfl | ⟨2, _⟩ => rfl),
    shapeCast_apply _ _ (ix3 r y (0 : Fin 1)) (ix2 r y) (by
      rw [Shape.rowMajor_val_two, Shape.rowMajor_val_three]; show r.val * 56 + y.val = (r.val * 56 + y.val) * 1 + (0 : Fin 1).val; simp),
    gcol_apply, iota_single_apply, word_one]
  show FloatOps.subf _ (FloatOps.absf (FloatOps.subf _ (FloatOps.sitofp .f32 (BitVec.ofNat 32 p.val)))) = _
  rw [sitofp_small _ (by omega)]
  rfl

/-- The table of row weights. -/
theorem wrow_apply (v w : Vec Ideal S1x1x100 .f32) (r : Fin 100) (y : Fin 56) (p : Fin 160) (Y : ℝ)
    (hY : coord (v (ix3 0 0 r)) (w (ix3 0 0 r)) y = (Y : EReal)) :
    k0_pay1 (F := Ideal) (k0_pay9 v w) (ix3 r y p) = ((hat Y p : ℝ) : EReal) := by
  unfold k0_pay1
  rw [shapeCast_self]
  show FloatOps.maximumf (k0_pay9 (F := Ideal) v w (ix3 r y p)) (FloatOps.ofBits .f32 0x00000000#32) = _
  rw [pay9_eq, hY, word_zero]
  exact hat_coe Y p

/-- The table of column weights. -/
theorem wcol_apply (g : FVec Ideal S100x56 .f32) (r : Fin 100) (z : Fin 56) (q : Fin 160) (X : ℝ) (hX : g (ix2 r z) = (X : EReal)) :
    k0_pay2 (F := Ideal) g (ix3 r q z) = ((hat X q : ℝ) : EReal) := by
  unfold k0_pay2
  dsimp only
  rw [shapeCast_self]
  show FloatOps.maximumf (FloatOps.subf (FloatOps.ofBits .f32 0x3F800000#32) (FloatOps.absf (FloatOps.subf
    (FloatOps.sitofp .f32 (iota .tc S100x160x56 32 [1] iota_S100x160x56_d1_w32 (ix3 r q z)))
    (broadcastTo S100x160x56 (shapeCast S100x1x56 g shapeCasts_S100x56_S100x1x56) broadcasts_S100x1x56_S100x160x56 (ix3 r q z)))))
    (FloatOps.ofBits .f32 0x00000000#32) = _
  rw [broadcastTo_apply _ _ _ (ix3 r (0 : Fin 1) z) (fun a => by match a with | ⟨0, _⟩ => rfl | ⟨1, _⟩ => rfl | ⟨2, _⟩ => rfl),
    shapeCast_apply _ _ (ix3 r (0 : Fin 1) z) (ix2 r z) (by
      rw [Shape.rowMajor_val_two, Shape.rowMajor_val_three]; show r.val * 56 + z.val = (r.val * 1 + (0 : Fin 1).val) * 56 + z.val; simp),
    hX, iota_single_apply, word_one, word_zero]
  show FloatOps.maximumf (FloatOps.subf _ (FloatOps.absf (FloatOps.subf (FloatOps.sitofp .f32 (BitVec.ofNat 32 q.val)) _))) _ = _
  rw [sitofp_small _ (by omega)]
  exact hat_coe' X q

/-- One box's sampled mask: row weights, plane, column weights, then the logistic function. -/
theorem pay3_apply (P : Vec Ideal S1x160x160 .f32) (R : Vec Ideal S1x56x160 .f32) (C : Vec Ideal S1x160x56 .f32) (y z : Fin 56) :
    k0_pay3 (F := Ideal) P R C (ix4 0 0 y z) = Ideal.logistic (∑ q : Fin 160,
      (∑ p : Fin 160, R (ix3 0 y p) * P (ix3 0 p q)) * C (ix3 0 q z)) := by
  unfold k0_pay3
  rw [shapeCast_apply _ _ (ix4 0 0 y z) (ix2 y z) (by
    rw [Shape.rowMajor_val_two, Shape.rowMajor_val_four]
    show y.val * 56 + z.val = (((0 : Fin 1).val * 1 + (0 : Fin 1).val) * 56 + y.val) * 56 + z.val; simp)]
  show FloatOps.logistic (matmul _ none _ _ _ (ix2 y z)) = _
  rw [dot_cols]
  refine congrArg Ideal.logistic (Finset.sum_congr rfl fun q _ => ?_)
  rw [dot_rows]
  congr 1
  · refine Finset.sum_congr rfl fun p _ => ?_
    congr 1
    · exact shapeCast_apply _ _ (ix2 y p) (ix3 0 y p) (by
        rw [Shape.rowMajor_val_two, Shape.rowMajor_val_three]
        show ((0 : Fin 1).val * 56 + y.val) * 160 + p.val = y.val * 160 + p.val; simp)
    · exact shapeCast_apply _ _ (ix2 p q) (ix3 0 p q) (by
        rw [Shape.rowMajor_val_two, Shape.rowMajor_val_three]
        show ((0 : Fin 1).val * 160 + p.val) * 160 + q.val = p.val * 160 + q.val; simp)
  · exact shapeCast_apply _ _ (ix2 q z) (ix3 0 q z) (by
      rw [Shape.rowMajor_val_two, Shape.rowMajor_val_three]
      show ((0 : Fin 1).val * 160 + q.val) * 56 + z.val = q.val * 56 + z.val; simp)

end Pay

end Cert.Proof.Mask

end
-- ==== Proof.MaskOut.lean ====
/- The mask kernel's run, read: what one grid point leaves in its output block, and the result array cell by cell. -/
module

public import proofs.«01_k».proof.Proof.MaskPay
public import proofs.«01_k».proof.Proof.Gen.KernelIdeal.Value
public import Idealize.ShloMosaic.Lib.Claim

@[expose] public section

set_option maxRecDepth 16384

noncomputable section

namespace Cert.Proof.Mask

open Idealize.ShloMosaic Idealize.ShloMosaic.TcCoe Idealize.ShloMosaic.ValueIdx Idealize.SL.Sem
open Cert.KernelIdeal Cert.KernelIdeal.Gen

section Trips

variable (𝒱 : Variants) (c : Dev nD) (bd : Option 𝒱.V) (i : grid0.Coords)
  (arg1 : Memref sig .tc .vmem S1x32x160x160 .f32) (harg1 : arg1.IsWhole) (arg2 : Memref sig .tc .vmem S1x1x100 .f32) (harg2 : arg2.IsWhole)
  (arg3 : Memref sig .tc .vmem S1x1x100 .f32) (harg3 : arg3.IsWhole) (arg4 : Memref sig .tc .vmem S1x1x100 .f32) (harg4 : arg4.IsWhole)
  (arg5 : Memref sig .tc .vmem S1x1x100 .f32) (harg5 : arg5.IsWhole) (arg6 : Memref sig .tc .vmem S1x100x32 .f32) (harg6 : arg6.IsWhole)
  (arg7 : Memref sig .tc .vmem S1x100x56x56 .f32) (harg7 : arg7.IsWhole) (arg8 : Memref sig .tc .vmem S100x160x160 .f32) (harg8 : arg8.IsWhole)
  (arg9 : Memref sig .tc .vmem S100x56x160 .f32) (harg9 : arg9.IsWhole) (arg10 : Memref sig .tc .vmem S100x160x56 .f32) (harg10 : arg10.IsWhole)
  (X8 : BufTy.Contents (Elt Ideal) arg8.view.ty) (X9 : BufTy.Contents (Elt Ideal) arg9.view.ty) (X10 : BufTy.Contents (Elt Ideal) arg10.view.ty)

/-- The mask of every box, from the combined planes and the two tables of weights as the loop finds them. -/
def boxes (A : S100x160x160.Idx → EReal) (R : S100x56x160.Idx → EReal) (C : S100x160x56.Idx → EReal) (j : S1x100x56x56.Idx) : EReal :=
  Ideal.logistic (∑ q : Fin 160, (∑ p : Fin 160, R (ix3 (j 1) (j 2) p) * A (ix3 (j 1) p q)) * C (ix3 (j 1) q (j 3)))

/-- Every piece the loop has stored is one box's mask, at that box. -/
theorem pieces (k : ℕ) (hk : k ≤ k0_t1_loop.trips) : ∀ p ∈ pb_k0_t1 (F := Ideal) 𝒱 c bd i arg1 harg1 arg2 harg2 arg3 harg3 arg4 harg4 arg5 harg5
      arg6 harg6 arg7 harg7 arg8 harg8 arg9 harg9 arg10 harg10 X8 X9 X10 k,
    ∀ x : p.1.shape.Idx, p.2 x = boxes (arg8.view.read (Elt Ideal) X8) (arg9.view.read (Elt Ideal) X9) (arg10.view.read (Elt Ideal) X10) (p.1.emb x) := by
  induction k with
  | zero => intro p hp; exact absurd hp List.not_mem_nil
  | succ k ih =>
    intro p hp
    rw [pb_k0_t1_succ 𝒱 c bd i arg1 harg1 arg2 harg2 arg3 harg3 arg4 harg4 arg5 harg5 arg6 harg6 arg7 harg7 arg8 harg8 arg9 harg9 arg10
      harg10 X8 X9 X10 ⟨k, hk⟩] at hp
    rcases List.mem_append.mp hp with hp | hp
    · unfold tripL_k0_t1 trip_k0_t1 at hp
      obtain rfl := List.mem_singleton.mp hp
      intro x
      have hk' : k < 100 := by have := k0_t1_abs.2.1; omega
      obtain ⟨y, z, rfl⟩ : ∃ (y z : Fin 56), x = ix4 (0 : Fin 1) (0 : Fin 1) y z := by
        refine ⟨x 2, x 3, funext fun a => ?_⟩
        match a with
        | ⟨0, _⟩ => exact Subsingleton.elim (α := Fin 1) _ _
        | ⟨1, _⟩ => exact Subsingleton.elim (α := Fin 1) _ _
        | ⟨2, _⟩ => rfl
        | ⟨3, _⟩ => rfl
      have e4 := k0_off4_eq ⟨k, hk⟩
      have e1 := k0_off1_eq ⟨k, hk⟩
      have e2 := k0_off2_eq ⟨k, hk⟩
      have e3 := k0_off3_eq ⟨k, hk⟩
      have d : (Rect.unit (s := S1x100x56x56) (k0_off4 ⟨k, hk⟩) S1x1x56x56.size (k0_off4_inb ⟨k, hk⟩)).emb (ix4 (0 : Fin 1) (0 : Fin 1) y z)
          = ix4 (0 : Fin 1) (⟨k, hk'⟩ : Fin 100) y z := by
        funext a; refine Fin.ext ?_
        show k0_off4 ⟨k, hk⟩ a + 1 * ((ix4 (0 : Fin 1) (0 : Fin 1) y z : S1x1x56x56.Idx) a).val = _
        rw [e4]
        match a with
        | ⟨0, _⟩ => rfl
        | ⟨1, _⟩ => rfl
        | ⟨2, _⟩ => show 0 + 1 * y.val = y.val; omega
        | ⟨3, _⟩ => show 0 + 1 * z.val = z.val; omega
      refine (pay3_apply _ _ _ y z).trans ?_
      refine Eq.trans ?_ (congrArg (boxes _ _ _) d.symm)
      refine congrArg Ideal.logistic (Finset.sum_congr rfl fun q _ => ?_)
      have r1 : ∀ p q : Fin 160, (Rect.unit (s := S100x160x160) (k0_off1 ⟨k, hk⟩) S1x160x160.size (k0_off1_inb ⟨k, hk⟩)).emb (ix3 (0 : Fin 1) p q)
          = ix3 (⟨k, hk'⟩ : Fin 100) p q := fun p q => by
        funext a; refine Fin.ext ?_
        show k0_off1 ⟨k, hk⟩ a + 1 * ((ix3 (0 : Fin 1) p q : S1x160x160.Idx) a).val = _
        rw [e1]
        match a with
        | ⟨0, _⟩ => rfl
        | ⟨1, _⟩ => show 0 + 1 * p.val = p.val; omega
        | ⟨2, _⟩ => show 0 + 1 * q.val = q.val; omega
      have r2 : ∀ (y : Fin 56) (p : Fin 160), (Rect.unit (s := S100x56x160) (k0_off2 ⟨k, hk⟩) S1x56x160.size (k0_off2_inb ⟨k, hk⟩)).emb (ix3 (0 : Fin 1) y p)
          = ix3 (⟨k, hk'⟩ : Fin 100) y p := fun p q => by
        funext a; refine Fin.ext ?_
        show k0_off2 ⟨k, hk⟩ a + 1 * ((ix3 (0 : Fin 1) p q : S1x56x160.Idx) a).val = _
        rw [e2]
        match a with
        | ⟨0, _⟩ => rfl
        | ⟨1, _⟩ => show 0 + 1 * p.val = p.val; omega
        | ⟨2, _⟩ => show 0 + 1 * q.val = q.val; omega
      have r3 : ∀ (q : Fin 160) (z : Fin 56), (Rect.unit (s := S100x160x56) (k0_off3 ⟨k, hk⟩) S1x160x56.size (k0_off3_inb ⟨k, hk⟩)).emb (ix3 (0 : Fin 1) q z)
          = ix3 (⟨k, hk'⟩ : Fin 100) q z := fun p q => by
        funext a; refine Fin.ext ?_
        show k0_off3 ⟨k, hk⟩ a + 1 * ((ix3 (0 : Fin 1) p q : S1x160x56.Idx) a).val = _
        rw [e3]
        match a with
        | ⟨0, _⟩ => rfl
        | ⟨1, _⟩ => show 0 + 1 * p.val = p.val; omega
        | ⟨2, _⟩ => show 0 + 1 * q.val = q.val; omega
      congr 1
      · refine Finset.sum_congr rfl fun p _ => ?_
        exact congrArg₂ (· * ·) (congrArg (arg9.view.read (Elt Ideal) X9) (r2 y p)) (congrArg (arg8.view.read (Elt Ideal) X8) (r1 p q))
      · exact congrArg (arg10.view.read (Elt Ideal) X10) (r3 q z)
    · exact ih (Nat.le_of_succ_le hk) p hp

end Trips

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- A buffer loaded whole, at the contents it was given. -/
theorem whole_load {s : Shape} {e : EltTy} (a : Memref sig .tc .vmem s e) (h : a.IsWhole) {off : Fin s.rank → Nat} (hz : off = fun _ => 0)
    (inb : ∀ x, off x + s.size x ≤ s.size x) (x : s.Idx → Elt Ideal e) :
    a.view.readAt (Elt Ideal) (Rect.unit off s.size inb).toLoadRect (h.unread x) = x := by
  rw [View.readAt_eq_ld, h.read_unread, View.ld_unit_zero hz]

/-- A buffer stored whole, read back. -/
theorem stored {s : Shape} {e : EltTy} (a : Memref sig .tc .vmem s e) {off : Fin s.rank → Nat} (hz : off = fun _ => 0)
    (inb : ∀ x, off x + s.size x ≤ s.size x) (w : s.Idx → Elt Ideal e) :
    a.view.read (Elt Ideal) (a.view.writes (Elt Ideal) a.view.junk [⟨Rect.unit off s.size inb, w⟩]) = w := by
  funext j
  exact (View.read_writes_junk_apply_eq_canon a.view j _).trans (congrFun (View.canon_unit_zero (Val := Elt Ideal) hz inb w) j)

theorem boxes_congr {A A' : S100x160x160.Idx → EReal} {R R' : S100x56x160.Idx → EReal} {C C' : S100x160x56.Idx → EReal} (hA : A = A') (hR : R = R')
    (hC : C = C') (j : S1x100x56x56.Idx) : boxes A R C j = boxes A' R' C' j := by rw [hA, hR, hC]

/-- One cell of the block a grid point leaves, from the point's input blocks. -/
theorem out_apply (c : Dev nD) (i : grid0.Coords)
    (arg1 : Memref sig .tc .vmem S1x32x160x160 .f32) (harg1 : arg1.IsWhole) (arg2 : Memref sig .tc .vmem S1x1x100 .f32) (harg2 : arg2.IsWhole)
    (arg3 : Memref sig .tc .vmem S1x1x100 .f32) (harg3 : arg3.IsWhole) (arg4 : Memref sig .tc .vmem S1x1x100 .f32) (harg4 : arg4.IsWhole)
    (arg5 : Memref sig .tc .vmem S1x1x100 .f32) (harg5 : arg5.IsWhole) (arg6 : Memref sig .tc .vmem S1x100x32 .f32) (harg6 : arg6.IsWhole)
    (arg7 : Memref sig .tc .vmem S1x100x56x56 .f32) (harg7 : arg7.IsWhole)
    (x0 : Vec Ideal S1x32x160x160 .f32) (x1 x2 x3 x4 : Vec Ideal S1x1x100 .f32) (x5 : Vec Ideal S1x100x32 .f32)
    (r : Fin 100) (y z : Fin 56) (X Y : ℝ) (hX : coord (x1 (ix3 0 0 r)) (x3 (ix3 0 0 r)) z = (X : EReal))
    (hY : coord (x2 (ix3 0 0 r)) (x4 (ix3 0 0 r)) y = (Y : EReal)) :
    out0_A_6 (F := Ideal) c i arg1 harg1 arg2 harg2 arg3 harg3 arg4 harg4 arg5 harg5 arg6 harg6 arg7 harg7 scM0_0 (Memref.isWhole_whole _)
        scM0_1 (Memref.isWhole_whole _) scM0_2 (Memref.isWhole_whole _) x0 x1 x2 x3 x4 x5 (ix4 0 r y z)
      = Ideal.logistic (∑ q : Fin 160, (∑ p : Fin 160, ((hat Y p : ℝ) : EReal) * ∑ f : Fin 32, x5 (ix3 0 r f) * x0 (ix4 0 f p q)) *
          ((hat X q : ℝ) : EReal)) := by
  have hc := cover0_A_6 (F := Ideal) c i arg1 harg1 arg2 harg2 arg3 harg3 arg4 harg4 arg5 harg5 arg6 harg6 arg7 harg7 scM0_0
    (Memref.isWhole_whole _) scM0_1 (Memref.isWhole_whole _) scM0_2 (Memref.isWhole_whole _) x0 x1 x2 x3 x4 x5 (ix4 0 r y z)
  unfold out0_A_6
  rw [View.read_writes_junk_apply_eq_canon]
  simp only [kernelRun0_A] at hc ⊢
  rw [View.canon_apply_of_pieces _ _ (pieces _ c none i _ harg1 _ harg2 _ harg3 _ harg4 _ harg5 _ harg6 _ harg7 _ _ _ _ _ _ _ _ _ _ le_rfl) _ hc]
  refine (boxes_congr (stored scM0_0 zero3 _ _) (stored scM0_1 zero3 _ _) (stored scM0_2 zero3 _ _) _).trans ?_
  unfold kernelRun0_A.sl.r_3 kernelRun0_A.sl.r_2 kernelRun0_A.sl.r kernelRun0_A.sl.r_1
  rw [whole_load arg2 harg2 zero3, whole_load arg3 harg3 zero3, whole_load arg4 harg4 zero3,
    whole_load arg5 harg5 zero3, whole_load arg6 harg6 zero3,
    whole_load arg1 harg1 zero4]
  refine congrArg Ideal.logistic (Finset.sum_congr rfl fun q _ => ?_)
  refine congrArg₂ (· * ·) (Finset.sum_congr rfl fun p _ => ?_) ?_
  · exact congrArg₂ (· * ·) (wrow_apply x2 x4 r y p Y hY) (pay4_apply x5 x0 r p q)
  · exact wcol_apply _ r z q X ((gcol_apply x1 x3 r z).trans hX)

/-! ## The result array -/

variable (m : (ℓ : Loc nD τ sig) → Buf (Elt Ideal) ℓ)

/-- Argument 0 as device `c` is given it. -/
abbrev in0 (c : Dev nD) : S4x32x160x160.Idx → EReal := m ((c : Thread nD τ).loc main_arg0)
/-- Argument 1 as device `c` is given it. -/
abbrev in1 (c : Dev nD) : S4x100.Idx → EReal := m ((c : Thread nD τ).loc main_arg1)
/-- Argument 2 as device `c` is given it. -/
abbrev in2 (c : Dev nD) : S4x100.Idx → EReal := m ((c : Thread nD τ).loc main_arg2)
/-- Argument 3 as device `c` is given it. -/
abbrev in3 (c : Dev nD) : S4x100.Idx → EReal := m ((c : Thread nD τ).loc main_arg3)
/-- Argument 4 as device `c` is given it. -/
abbrev in4 (c : Dev nD) : S4x100.Idx → EReal := m ((c : Thread nD τ).loc main_arg4)
/-- Argument 5 as device `c` is given it. -/
abbrev in5 (c : Dev nD) : S4x100x32.Idx → EReal := m ((c : Thread nD τ).loc main_arg5)

theorem index6 : ∀ t : Fin cfg0.N, win0_6.index t 0 = t.val ∧ win0_6.index t 1 = 0 ∧ win0_6.index t 2 = 0 ∧ win0_6.index t 3 = 0 :=
  (by decide +kernel : ∀ t : Fin grid0.N, win0_6.index t 0 = t.val ∧ win0_6.index t 1 = 0 ∧ win0_6.index t 2 = 0 ∧ win0_6.index t 3 = 0)
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem index4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem index5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- The planes' block at a point is the batch entry's planes. -/
theorem blk0 (c : Dev nD) (t : Fin cfg0.N) (b : Fin 4) (hb : b.val = t.val) (f : Fin 32) (p q : Fin 160) :
    (iblk m c 0 t : S1x32x160x160.Idx → EReal) (ix4 0 f p q) = in0 m c (ix4 b f p q) := by
  show V m c main_arg0 ((win0_0.rect t).emb (ix4 (0 : Fin 1) f p q)) = _
  rw [V_main_arg0]
  refine congrArg (m ((c : Thread nD τ).loc main_arg0)) (funext fun a => Fin.ext ?_)
  refine (Pipeline.Window.rect_emb_val win0_0 t _ a).trans ?_
  obtain ⟨h0, h1, h2, h3⟩ := index0 t
  match a with
  | ⟨0, _⟩ => show win0_0.index t 0 * 1 + 0 = b.val; omega
  | ⟨1, _⟩ => show win0_0.index t 1 * 32 + f.val = f.val; omega
  | ⟨2, _⟩ => show win0_0.index t 2 * 160 + p.val = p.val; omega
  | ⟨3, _⟩ => show win0_0.index t 3 * 160 + q.val = q.val; omega

/-- The coefficients' block at a point is the batch entry's coefficients. -/
theorem blk5 (c : Dev nD) (t : Fin cfg0.N) (b : Fin 4) (hb : b.val = t.val) (r : Fin 100) (f : Fin 32) :
    (iblk m c 5 t : S1x100x32.Idx → EReal) (ix3 0 r f) = in5 m c (ix3 b r f) := by
  show V m c main_arg5 ((win0_5.rect t).emb (ix3 (0 : Fin 1) r f)) = _
  rw [V_main_arg5]
  refine congrArg (m ((c : Thread nD τ).loc main_arg5)) (funext fun a => Fin.ext ?_)
  refine (Pipeline.Window.rect_emb_val win0_5 t _ a).trans ?_
  obtain ⟨h0, h1, h2⟩ := index5 t
  match a with
  | ⟨0, _⟩ => show win0_5.index t 0 * 1 + 0 = b.val; omega
  | ⟨1, _⟩ => show win0_5.index t 1 * 100 + r.val = r.val; omega
  | ⟨2, _⟩ => show win0_5.index t 2 * 32 + f.val = f.val; omega

/-- A row of box coordinates given a unit axis, read back. -/
theorem unit_row (x : S4x100.Idx → EReal) (j : S4x1x100.Idx) (b : Fin 4) (r : Fin 100) (h0 : (j 0).val = b.val) (h2 : (j 2).val = r.val) :
    broadcastInDim S4x1x100 ![0, 2] bcast_S4x100_S4x1x100_0_2 x j = x (ix2 b r) :=
  broadcastInDim_apply _ _ x _ _ (fun a => by
    match a with
    | ⟨0, _⟩ => exact h0.symm
    | ⟨1, _⟩ => exact h2.symm)

/-- The lower column coordinates' block at a point is the batch entry's. -/
theorem blk1 (c : Dev nD) (t : Fin cfg0.N) (b : Fin 4) (hb : b.val = t.val) (r : Fin 100) :
    (iblk m c 1 t : S1x1x100.Idx → EReal) (ix3 0 0 r) = in1 m c (ix2 b r) := by
  show V m c main_v0 ((win0_1.rect t).emb (ix3 (0 : Fin 1) (0 : Fin 1) r)) = _
  entry_read
  obtain ⟨h0, h1, h2⟩ := index1 t
  refine unit_row _ _ b r ?_ ?_
  · refine (Pipeline.Window.rect_emb_val win0_1 t _ 0).trans ?_; show win0_1.index t 0 * 1 + 0 = b.val; omega
  · refine (Pipeline.Window.rect_emb_val win0_1 t _ 2).trans ?_; show win0_1.index t 2 * 100 + r.val = r.val; omega

/-- The lower row coordinates' block at a point is the batch entry's. -/
theorem blk2 (c : Dev nD) (t : Fin cfg0.N) (b : Fin 4) (hb : b.val = t.val) (r : Fin 100) :
    (iblk m c 2 t : S1x1x100.Idx → EReal) (ix3 0 0 r) = in2 m c (ix2 b r) := by
  show V m c main_v1 ((win0_2.rect t).emb (ix3 (0 : Fin 1) (0 : Fin 1) r)) = _
  entry_read
  obtain ⟨h0, h1, h2⟩ := index2 t
  refine unit_row _ _ b r ?_ ?_
  · refine (Pipeline.Window.rect_emb_val win0_2 t _ 0).trans ?_; show win0_2.index t 0 * 1 + 0 = b.val; omega
  · refine (Pipeline.Window.rect_emb_val win0_2 t _ 2).trans ?_; show win0_2.index t 2 * 100 + r.val = r.val; omega

/-- The upper column coordinates' block at a point is the batch entry's. -/
theorem blk3 (c : Dev nD) (t : Fin cfg0.N) (b : Fin 4) (hb : b.val = t.val) (r : Fin 100) :
    (iblk m c 3 t : S1x1x100.Idx → EReal) (ix3 0 0 r) = in3 m c (ix2 b r) := by
  show V m c main_v2 ((win0_3.rect t).emb (ix3 (0 : Fin 1) (0 : Fin 1) r)) = _
  entry_read
  obtain ⟨h0, h1, h2⟩ := index3 t
  refine unit_row _ _ b r ?_ ?_
  · refine (Pipeline.Window.rect_emb_val win0_3 t _ 0).trans ?_; show win0_3.index t 0 * 1 + 0 = b.val; omega
  · refine (Pipeline.Window.rect_emb_val win0_3 t _ 2).trans ?_; show win0_3.index t 2 * 100 + r.val = r.val; omega

/-- The upper row coordinates' block at a point is the batch entry's. -/
theorem blk4 (c : Dev nD) (t : Fin cfg0.N) (b : Fin 4) (hb : b.val = t.val) (r : Fin 100) :
    (iblk m c 4 t : S1x1x100.Idx → EReal) (ix3 0 0 r) = in4 m c (ix2 b r) := by
  show V m c main_v3 ((win0_4.rect t).emb (ix3 (0 : Fin 1) (0 : Fin 1) r)) = _
  entry_read
  obtain ⟨h0, h1, h2⟩ := index4 t
  refine unit_row _ _ b r ?_ ?_
  · refine (Pipeline.Window.rect_emb_val win0_4 t _ 0).trans ?_; show win0_4.index t 0 * 1 + 0 = b.val; omega
  · refine (Pipeline.Window.rect_emb_val win0_4 t _ 2).trans ?_; show win0_4.index t 2 * 100 + r.val = r.val; omega

/-- No block overhangs the result array: what is written back is the whole block. -/
theorem cut_full (t : Fin cfg0.N) (O : S1x100x56x56.Idx → EReal) (r : Fin 100) (y z : Fin 56) :
    (cfg0.win 6).cut (grid0.coords t) O (ix4 (0 : Fin 1) r y z) = O (ix4 0 r y z) := by
  refine congrArg O (funext fun a => Fin.ext ?_)
  match a with
  | ⟨0, _⟩ => rfl
  | ⟨1, _⟩ => rfl
  | ⟨2, _⟩ => rfl
  | ⟨3, _⟩ => rfl

/-- The result array after the run, cell by cell. -/
theorem final_apply (c : Dev nD) (b : Fin 4) (r : Fin 100) (y z : Fin 56) (X Y : ℝ)
    (hX : coord (in1 m c (ix2 b r)) (in3 m c (ix2 b r)) z = (X : EReal))
    (hY : coord (in2 m c (ix2 b r)) (in4 m c (ix2 b r)) y = (Y : EReal)) :
    ((dats (F := Ideal) m 0 c).arrAt 6 cfg0.N : S4x100x56x56.Idx → EReal) (ix4 b r y z)
      = Ideal.logistic (∑ q : Fin 160, (∑ p : Fin 160, ((hat Y p : ℝ) : EReal) *
          ∑ f : Fin 32, in5 m c (ix3 b r f) *
            in0 m c (ix4 b f p q)) * ((hat X q : ℝ) : EReal)) := by
  have hN : cfg0.N = 4 := N_0
  obtain ⟨t, hb⟩ : ∃ t : Fin cfg0.N, b.val = t.val := ⟨⟨b.val, by omega⟩, rfl⟩
  have e := congrFun (Cert.KernelIdeal.Value.blocks6 (F := Ideal) m c t (flush0_6 t)) (ix4 (0 : Fin 1) r y z)
  rw [Cert.KernelIdeal.Value.flushed6_A] at e
  have d : (win0_6.rect t).emb (ix4 (0 : Fin 1) r y z) = ix4 b r y z := by
    funext a; refine Fin.ext ?_
    refine (Pipeline.Window.rect_emb_val win0_6 t _ a).trans ?_
    obtain ⟨h0, h1, h2, h3⟩ := index6 t
    match a with
    | ⟨0, _⟩ => show win0_6.index t 0 * 1 + 0 = b.val; omega
    | ⟨1, _⟩ => show win0_6.index t 1 * 100 + r.val = r.val; omega
    | ⟨2, _⟩ => show win0_6.index t 2 * 56 + y.val = y.val; omega
    | ⟨3, _⟩ => show win0_6.index t 3 * 56 + z.val = z.val; omega
  refine (congrArg ((dats (F := Ideal) m 0 c).arrAt 6 cfg0.N : S4x100x56x56.Idx → EReal) d.symm).trans (e.trans ?_)
  refine (cut_full t _ r y z).trans ?_
  have hX' : coord ((iblk m c 1 t : S1x1x100.Idx → EReal) (ix3 0 0 r)) ((iblk m c 3 t : S1x1x100.Idx → EReal) (ix3 0 0 r)) z = (X : EReal) := by
    rw [blk1 m c t b hb r, blk3 m c t b hb r]; exact hX
  have hY' : coord ((iblk m c 2 t : S1x1x100.Idx → EReal) (ix3 0 0 r)) ((iblk m c 4 t : S1x1x100.Idx → EReal) (ix3 0 0 r)) y = (Y : EReal) := by
    rw [blk2 m c t b hb r, blk4 m c t b hb r]; exact hY
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) r y z X Y hX' hY').trans ?_
  refine congrArg Ideal.logistic (Finset.sum_congr rfl fun q _ => ?_)
  refine congrArg (· * ((hat X q : ℝ) : EReal)) (Finset.sum_congr rfl fun p _ => ?_)
  refine congrArg (((hat Y p : ℝ) : EReal) * ·) (Finset.sum_congr rfl fun f _ => ?_)
  exact congrArg₂ (· * ·) (blk5 m c t b hb r f) (blk0 m c t b hb f p q)

end Cert.Proof.Mask

end
-- ==== Proof.SelBody.lean ====
/-
  The selection kernel's body at one grid point: the stores of the point's block into the scratch arrays, and at the
  last point the hundred selection rounds over the scratch arrays, then the stores of the results. From any contents of
  its buffers the body runs to its end and leaves the input block as it was.
-/
module

public import proofs.«01_k».proof.Proof.Gen.SelectIdeal.Frame
public import proofs.«01_k».proof.Proof.Gen.SelectIdeal.Skeleton
public import proofs.«01_k».proof.Proof.Gen.SelectIdeal.Loops

@[expose] public section

set_option maxRecDepth 16384

noncomputable section

namespace Cert.SelectIdeal.Pick

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S4x2048x117 .f32) (harg1 : arg1.IsWhole) (arg2 : Memref sig .tc .vmem S4x1 .i32) (harg2 : arg2.IsWhole) (arg3 : Memref sig .tc .vmem S4x100 .f32) (harg3 : arg3.IsWhole) (arg4 : Memref sig .tc .vmem S4x100 .f32) (harg4 : arg4.IsWhole) (arg5 : Memref sig .tc .vmem S4x100 .f32) (harg5 : arg5.IsWhole) (arg6 : Memref sig .tc .vmem S4x100 .f32) (harg6 : arg6.IsWhole) (arg7 : Memref sig .tc .vmem S4x100 .f32) (harg7 : arg7.IsWhole) (arg8 : Memref sig .tc .vmem S4x100 .i32) (harg8 : arg8.IsWhole) (arg9 : Memref sig .tc .vmem S4x100x32 .f32) (harg9 : arg9.IsWhole) (arg10 : Memref sig .tc .vmem S4x20480 .f32) (harg10 : arg10.IsWhole) (arg11 : Memref sig .tc .vmem S4x20480 .f32) (harg11 : arg11.IsWhole) (arg12 : Memref sig .tc .vmem S4x20480 .f32) (harg12 : arg12.IsWhole) (arg13 : Memref sig .tc .vmem S4x20480 .f32) (harg13 : arg13.IsWhole) (arg14 : Memref sig .tc .vmem S4x20480 .f32) (harg14 : arg14.IsWhole) (arg15 : Memref sig .tc .vmem S4x20480 .f32) (harg15 : arg15.IsWhole) (arg16 : Memref sig .tc .vmem S4x20480 .i32) (harg16 : arg16.IsWhole) (arg17 : Memref sig .tc .vmem S4x32x20480 .f32) (harg17 : arg17.IsWhole) (arg18 : Memref sig .tc .vmem S4x20480 .f32) (harg18 : arg18.IsWhole) (arg19 : Memref sig .tc .vmem S4x100 .i32) (harg19 : arg19.IsWhole)

/-- What the body does at the last grid point once the scratch arrays are filled. -/
def rounds (k0_h1 : k0_cond1 i = 1#1) :
    Prog (TpuEff nD τ sig (Elt F) Λ₀ .tc) PUnit := do
  let ⟨v113_1, v113_2, v113_3, v113_4, v113_5, v113_6, v113_7⟩ : Σ' (v113_1 : IVec S4x100 32) (v113_2 : FVec F S4x100 .f32) (v113_3 : FVec F S4x100 .f32) (v113_4 : FVec F S4x100 .f32) (v113_5 : FVec F S4x100 .f32) (v113_6 : FVec F S4x100 .f32), IVec S4x100 32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1
  let ⟨v128, v140, v146⟩ : Σ' (v128 : IVec S100x1 32) (v140 : FVec F S100x32 .f32), IVec S100x4096 32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v113_1 v113_2 v113_3 v113_4 v113_5 v113_6 v113_7
  let v184 : FVec F S100x32 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v128 v140 v146
  let ⟨v190, v224, v225⟩ : Σ' (v190 : IVec S100x1 32) (v224 : FVec F S100x32 .f32), IVec S100x4096 32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v184
  let ⟨v252, v253, v263⟩ : Σ' (v252 : IVec S100x1 32) (v253 : FVec F S100x32 .f32), FVec F S100x32 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v190 v224 v225
  let ⟨v297, v304⟩ : Σ' (v297 : FVec F S100x32 .f32), FVec F S100x4096 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v252 v253 v263
  let ⟨v314, v337, v344⟩ : Σ' (v314 : IVec S100x1 32) (v337 : FVec F S100x32 .f32), FVec F S100x4096 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v297 v304
  let v345 : Vec F S1x32x4096 .f32 ← Prog.lift (.load arg17 (Rect.unit (s := S4x32x20480) ![3, 0, 8192] S1x32x4096.size inb_S4x32x20480_S1x32x4096_3_0_8192).toLoadRect (View.loadsAt_vmem h_S1x32x4096))
  let v356 : Vec F S1x32x4096 .f32 ← Prog.lift (.load arg17 (Rect.unit (s := S4x32x20480) ![3, 0, 12288] S1x32x4096.size inb_S4x32x20480_S1x32x4096_3_0_12288).toLoadRect (View.loadsAt_vmem h_S1x32x4096))
  let v367 : Vec F S1x32x4096 .f32 ← Prog.lift (.load arg17 (Rect.unit (s := S4x32x20480) ![3, 0, 16384] S1x32x4096.size inb_S4x32x20480_S1x32x4096_3_0_16384).toLoadRect (View.loadsAt_vmem h_S1x32x4096))
  let v371 : Vec F S1x100x32 .f32 ← Prog.lift (.load arg9 (Rect.unit (s := S4x100x32) ![3, 0, 0] S1x100x32.size inb_S4x100x32_S1x100x32_3_0_0).toLoadRect (View.loadsAt_vmem h_S1x100x32))
  Prog.lift (.store arg9 (Rect.unit (s := S4x100x32) ![3, 0, 0] S1x100x32.size inb_S4x100x32_S1x100x32_3_0_0) (k0_pay1 v314 v337 v344 v345 v356 v367) Finset.univ (View.stores_vmem_bits_univ h_S1x100x32 rfl) (.inl rfl))
  pure ⟨⟩

set_option maxHeartbeats 4000000 in
/-- The rounds run from the scratch arrays at given contents: what is left in each result. -/
@[irreducible] def roundsRun (k0_h1 : k0_cond1 i = 1#1)
    (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32) (f18 : BufTy.Contents (Elt F) arg18.view.ty) (f19 : BufTy.Contents (Elt F) arg19.view.ty) :
    Σ' (L2 : List (View.Piece (Elt F) S4x1 .i32)) (L3 : List (View.Piece (Elt F) S4x100 .f32)) (L4 : List (View.Piece (Elt F) S4x100 .f32)) (L5 : List (View.Piece (Elt F) S4x100 .f32)) (L6 : List (View.Piece (Elt F) S4x100 .f32)) (L7 : List (View.Piece (Elt F) S4x100 .f32)) (L8 : List (View.Piece (Elt F) S4x100 .i32)), { L9 : List (View.Piece (Elt F) S4x100x32 .f32) //
      ∀ (E : Set ℕ) (K : PUnit → sProp 𝕄),
        iprop(owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5 ∗ owns (c : Thread nD τ) arg16 fullShare s6 ∗ owns (c : Thread nD τ) arg17 fullShare s7 ∗ (arg18.view.loc (c : Thread nD τ) ↦[arg18.view.set]{fullShare} f18) ∗ (arg19.view.loc (c : Thread nD τ) ↦[arg19.view.set]{fullShare} f19) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5 ∗ owns (c : Thread nD τ) arg16 fullShare s6 ∗ owns (c : Thread nD τ) arg17 fullShare s7 ∗ (∃ f, arg18.view.loc (c : Thread nD τ) ↦[arg18.view.set]{fullShare} f) ∗ (∃ f, arg19.view.loc (c : Thread nD τ) ↦[arg19.view.set]{fullShare} f) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (rounds (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1) K } := by
  refine ⟨?_, ?_, ?_, ?_, ?_, ?_, ?_, ?_, fun E K => ?run⟩
  case run =>
    unfold rounds
    simp only [k0_part3_eq_skeleton, k0_part4_eq_skeleton, k0_part5_eq_skeleton, k0_part6_eq_skeleton, k0_part7_eq_skeleton, k0_part8_eq_skeleton, k0_part9_eq_skeleton]
    unfold owns
    iintro ⟨⟨%g0, %hg0, S0⟩, ⟨%g1, %hg1, S1⟩, ⟨%g2, %hg2, S2⟩, ⟨%g3, %hg3, S3⟩, ⟨%g4, %hg4, S4⟩, ⟨%g5, %hg5, S5⟩, ⟨%g6, %hg6, S6⟩, ⟨%g7, %hg7, S7⟩, T8, T9, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg10.eq_unread hg0; obtain rfl := harg11.eq_unread hg1; obtain rfl := harg12.eq_unread hg2; obtain rfl := harg13.eq_unread hg3; obtain rfl := harg14.eq_unread hg4; obtain rfl := harg15.eq_unread hg5; obtain rfl := harg16.eq_unread hg6; obtain rfl := harg17.eq_unread hg7
    sl_exec
    sl_step
    iapply Hk
    isplitl [S0]
    · iexists _; isplitr; · ipureintro; exact harg10.read_unread _
      iexact S0
    isplitl [S1]
    · iexists _; isplitr; · ipureintro; exact harg11.read_unread _
      iexact S1
    isplitl [S2]
    · iexists _; isplitr; · ipureintro; exact harg12.read_unread _
      iexact S2
    isplitl [S3]
    · iexists _; isplitr; · ipureintro; exact harg13.read_unread _
      iexact S3
    isplitl [S4]
    · iexists _; isplitr; · ipureintro; exact harg14.read_unread _
      iexact S4
    isplitl [S5]
    · iexists _; isplitr; · ipureintro; exact harg15.read_unread _
      iexact S5
    isplitl [S6]
    · iexists _; isplitr; · ipureintro; exact harg16.read_unread _
      iexact S6
    isplitl [S7]
    · iexists _; isplitr; · ipureintro; exact harg17.read_unread _
      iexact S7
    isplitl [T8]; · iexists _; iexact T8
    isplitl [T9]; · iexists _; iexact T9
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

set_option maxHeartbeats 1000000 in
/-- The rounds run from any contents of the buffers. -/
theorem rounds_any (h : k0_cond1 i = 1#1) (E : Set ℕ) (K : PUnit → sProp 𝕄) :
    iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (rounds (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h) K := by
  iintro ⟨⟨%s0, S0⟩, ⟨%s1, S1⟩, ⟨%s2, S2⟩, ⟨%s3, S3⟩, ⟨%s4, S4⟩, ⟨%s5, S5⟩, ⟨%s6, S6⟩, ⟨%s7, S7⟩, T8, T9, H2, H3, H4, H5, H6, H7, H8, H9, Hk⟩
  unfold owns
  icases T8 with ⟨%d18, %f18, -, T8⟩
  icases T9 with ⟨%d19, %f19, -, T9⟩
  iapply ((roundsRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19).2.2.2.2.2.2.2.2 E K)
  unfold owns
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [T8]; · iexact T8
  isplitl [T9]; · iexact T9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨S0, S1, S2, S3, S4, S5, S6, S7, ⟨%t8, T8⟩, ⟨%t9, T9⟩, ⟨%o2, H2⟩, ⟨%o3, H3⟩, ⟨%o4, H4⟩, ⟨%o5, H5⟩, ⟨%o6, H6⟩, ⟨%o7, H7⟩, ⟨%o8, H8⟩, ⟨%o9, H9⟩⟩
  iapply Hk
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [T8]
  · iexists _, _; isplitr; swap; · iexact T8
    ipureintro; rfl
  isplitl [T9]
  · iexists _, _; isplitr; swap; · iexact T9
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

set_option maxHeartbeats 1000000 in
/-- The body at a point, from any contents of its buffers: the input block stays as it was. -/
theorem body_any (x : Vec F S4x2048x117 .f32) (E : Set ℕ) (K : PUnit → sProp 𝕄) :
    iprop(owns (c : Thread nD τ) arg1 fullShare x ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0__nms_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__nms_body_eq_skeleton]; unfold cc0__nms_body_skel
  simp only [k0_part10_eq_skeleton, k0_part11_eq_skeleton]
  unfold owns
  iintro ⟨⟨%gx, %hgx, X⟩, ⟨%s0, %g0, -, S0⟩, ⟨%s1, %g1, -, S1⟩, ⟨%s2, %g2, -, S2⟩, ⟨%s3, %g3, -, S3⟩, ⟨%s4, %g4, -, S4⟩, ⟨%s5, %g5, -, S5⟩, ⟨%s6, %g6, -, S6⟩, ⟨%s7, %g7, -, S7⟩, ⟨%s8, %g8, -, S8⟩, ⟨%s9, %g9, -, S9⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  sl_exec
  by_cases h : k0_cond1 i = 1#1
  · rw [dif_pos h]
    change Entails' _ (wp Idealize.ShloMosaic.frame (wpE (defs₀ (F := F)) Variants.none c none) E (rounds (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h) K)
    iapply (rounds_any c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h E K)
    unfold owns
    isplitl [S0]
    · iexists _, _; isplitr; swap; · iexact S0
      ipureintro; rfl
    isplitl [S1]
    · iexists _, _; isplitr; swap; · iexact S1
      ipureintro; rfl
    isplitl [S2]
    · iexists _, _; isplitr; swap; · iexact S2
      ipureintro; rfl
    isplitl [S3]
    · iexists _, _; isplitr; swap; · iexact S3
      ipureintro; rfl
    isplitl [S4]
    · iexists _, _; isplitr; swap; · iexact S4
      ipureintro; rfl
    isplitl [S5]
    · iexists _, _; isplitr; swap; · iexact S5
      ipureintro; rfl
    isplitl [S6]
    · iexists _, _; isplitr; swap; · iexact S6
      ipureintro; rfl
    isplitl [S7]
    · iexists _, _; isplitr; swap; · iexact S7
      ipureintro; rfl
    isplitl [S8]
    · iexists _, _; isplitr; swap; · iexact S8
      ipureintro; rfl
    isplitl [S9]
    · iexists _, _; isplitr; swap; · iexact S9
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iintro HH
    iapply Hk
    isplitl [X]
    · iexists _; isplitr; swap; · iexact X
      ipureintro; exact hgx
    iexact HH
  · rw [dif_neg h]
    sl_step
    iapply Hk
    isplitl [X]
    · iexists _; isplitr; swap; · iexact X
      ipureintro; exact hgx
    isplitl [S0]
    · iexists _, _; isplitr; swap; · iexact S0
      ipureintro; rfl
    isplitl [S1]
    · iexists _, _; isplitr; swap; · iexact S1
      ipureintro; rfl
    isplitl [S2]
    · iexists _, _; isplitr; swap; · iexact S2
      ipureintro; rfl
    isplitl [S3]
    · iexists _, _; isplitr; swap; · iexact S3
      ipureintro; rfl
    isplitl [S4]
    · iexists _, _; isplitr; swap; · iexact S4
      ipureintro; rfl
    isplitl [S5]
    · iexists _, _; isplitr; swap; · iexact S5
      ipureintro; rfl
    isplitl [S6]
    · iexists _, _; isplitr; swap; · iexact S6
      ipureintro; rfl
    isplitl [S7]
    · iexists _, _; isplitr; swap; · iexact S7
      ipureintro; rfl
    isplitl [S8]
    · iexists _, _; isplitr; swap; · iexact S8
      ipureintro; rfl
    isplitl [S9]
    · iexists _, _; isplitr; swap; · iexact S9
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.SelectIdeal.Pick

end
-- ==== Proof.SelFrame.lean ====
/-
  The selection kernel's run: from any memory it ends, its argument as it was and every semaphore counter at zero.
-/
module

public import proofs.«01_k».proof.Proof.SelBody
public import Idealize.ShloMosaic.Lib.Pipeline.Frame

@[expose] public section

set_option maxRecDepth 16384

noncomputable section

namespace Cert.SelectIdeal.Pick

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data on core `c`: the arrays as the launch finds them; nothing is said of what the body leaves. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The invariant: the scratch arrays at some contents, the generator register at some state. -/
theorem Phi_eq (c : Dev nD) : (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]

/-- The body's row in the table is the body at the point. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at a grid point, from the windows' buffers at any contents. -/
theorem sound (c : Dev nD) (t : Fin cfg0.N) (y0 : Vec F S4x2048x117 .f32) (y1 : Vec F S4x1 .i32) (y2 y3 y4 y5 y6 : Vec F S4x100 .f32)
    (y7 : Vec F S4x100 .i32) (y8 : Vec F S4x100x32 .f32) :
    iprop(Pipeline.ΦA spec0 c ∗ (rdat m c).owesAt () t.castSucc ∗ owns (c : Thread nD τ) (win0_0.stage (cfg0.slots t 0)) fullShare y0 ∗ owns (c : Thread nD τ) (win0_1.stage (cfg0.slots t 1)) fullShare y1 ∗ owns (c : Thread nD τ) (win0_2.stage (cfg0.slots t 2)) fullShare y2 ∗ owns (c : Thread nD τ) (win0_3.stage (cfg0.slots t 3)) fullShare y3 ∗ owns (c : Thread nD τ) (win0_4.stage (cfg0.slots t 4)) fullShare y4 ∗ owns (c : Thread nD τ) (win0_5.stage (cfg0.slots t 5)) fullShare y5 ∗ owns (c : Thread nD τ) (win0_6.stage (cfg0.slots t 6)) fullShare y6 ∗ owns (c : Thread nD τ) (win0_7.stage (cfg0.slots t 7)) fullShare y7 ∗ owns (c : Thread nD τ) (win0_8.stage (cfg0.slots t 8)) fullShare y8)
      ⊢ wp frame (wpE (defs₀ (F := F)) Variants.none c none) Set.univ (bodyAt0 t) fun _ =>
        iprop(Pipeline.ΦA spec0 c ∗ (rdat m c).owesAt () t.succ ∗ (∃ X, ⌜True⌝ ∗ owns (c : Thread nD τ) (win0_0.stage (cfg0.slots t 0)) fullShare X) ∗ (∃ X, ⌜True⌝ ∗ owns (c : Thread nD τ) (win0_1.stage (cfg0.slots t 1)) fullShare X) ∗ (∃ X, ⌜True⌝ ∗ owns (c : Thread nD τ) (win0_2.stage (cfg0.slots t 2)) fullShare X) ∗ (∃ X, ⌜True⌝ ∗ owns (c : Thread nD τ) (win0_3.stage (cfg0.slots t 3)) fullShare X) ∗ (∃ X, ⌜True⌝ ∗ owns (c : Thread nD τ) (win0_4.stage (cfg0.slots t 4)) fullShare X) ∗ (∃ X, ⌜True⌝ ∗ owns (c : Thread nD τ) (win0_5.stage (cfg0.slots t 5)) fullShare X) ∗ (∃ X, ⌜True⌝ ∗ owns (c : Thread nD τ) (win0_6.stage (cfg0.slots t 6)) fullShare X) ∗ (∃ X, ⌜True⌝ ∗ owns (c : Thread nD τ) (win0_7.stage (cfg0.slots t 7)) fullShare X) ∗ (∃ X, ⌜True⌝ ∗ owns (c : Thread nD τ) (win0_8.stage (cfg0.slots t 8)) fullShare X)) := by
  rw [show (rdat m c).owesAt () t.succ = (rdat m c).owesAt () t.castSucc from rfl, Phi_eq]
  iintro ⟨⟨⟨S0, S1, S2, S3, S4, S5, S6, S7, S8, S9⟩, Hg⟩, HO, H0, H1, H2, H3, H4, H5, H6, H7, H8⟩
  iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) y0 Set.univ _)
  isplitl [H0]; · iexact H0
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, S0, S1, S2, S3, S4, S5, S6, S7, S8, S9, ⟨%z1, H1⟩, ⟨%z2, H2⟩, ⟨%z3, H3⟩, ⟨%z4, H4⟩, ⟨%z5, H5⟩, ⟨%z6, H6⟩, ⟨%z7, H7⟩, ⟨%z8, H8⟩⟩
  isplitl [S0 S1 S2 S3 S4 S5 S6 S7 S8 S9 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [HO]; · iexact HO
  isplitl [H0]
  · iexists _; isplitr; · ipureintro; trivial
    iexact H0
  isplitl [H1]
  · iexists _; isplitr; · ipureintro; trivial
    iexact H1
  isplitl [H2]
  · iexists _; isplitr; · ipureintro; trivial
    iexact H2
  isplitl [H3]
  · iexists _; isplitr; · ipureintro; trivial
    iexact H3
  isplitl [H4]
  · iexists _; isplitr; · ipureintro; trivial
    iexact H4
  isplitl [H5]
  · iexists _; isplitr; · ipureintro; trivial
    iexact H5
  isplitl [H6]
  · iexists _; isplitr; · ipureintro; trivial
    iexact H6
  isplitl [H7]
  · iexists _; isplitr; · ipureintro; trivial
    iexact H7
  iexists _; isplitr; · ipureintro; trivial
  iexact H8

/-- The pipeline's obligation of the body. -/
theorem obligation (c : Dev nD) : (rdat m c).BodyObligation (defs₀ (F := F)) Variants.none () Set.univ := fun t Y _ => by
  rw [bigSep_W0, bigSep_W0, defs₀_row]
  exact sound m c t (Y 0) (Y 1) (Y 2) (Y 3) (Y 4) (Y 5) (Y 6) (Y 7) (Y 8)

set_option backward.isDefEq.respectTransparency.types false in
/-- The run: the pipeline's arrays as the data says, every counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame (Q' := _) cfgs (0 : Fin 1) launch0 defs₀ Variants.none (fun c => rdat m c) m ρ main
    (hbody := obligation m) (hshare := fun c => Pipeline.RDat.share_full (rdat m c) fun _ => rfl)
    (howed := fun _ _ => rfl) (V := V m) (hmain := hmain m Variants.none) (hA := fun _ _ => rfl) (hΦ := fun _ _ => rfl)

/-- The argument ends as it was and every counter at zero. -/
theorem frame_run : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => Pipeline.RDat.FramePost.arr_in h.1 c 0 rfl, h.2⟩) (run_main m ρ)

end Cert.SelectIdeal.Pick

end
-- ==== Proof.SelRefStep.lean ====
/-
  One trip of the reference selection loop as plain definitions: the state, its initial value and the step.
-/
module

public import proofs.«01_k».proof.SelectRefIdeal
public import proofs.«01_k».proof.Proof.Gen.SelectRefIdeal

@[expose] public section

noncomputable section

namespace Cert.SelectRefIdeal.Step

open Idealize.ShloMosaic Cert.SelectRefIdeal Cert.SelectRefIdeal.Gen

variable {F : FTy → Type} [FloatOps F]

/-- The contents of a buffer of shape `s` and element type `e`. -/
abbrev Arr (F : FTy → Type) [FloatOps F] (s : Shape) (e : EltTy) : Type := (⟨s, e⟩ : BufTy).Contents (Elt F)

/-- What a trip hands the next. -/
structure State (F : FTy → Type) [FloatOps F] where
  main_v29_6 : Arr F S4x20000 .i1
  main_v29_7 : Arr F S100x4 .i32
  main_v29_8 : Arr F S100x4 .i1
  main_v29_0 : Arr F S4x20000 .f32
  main_v29_1 : Arr F S4x20000 .f32
  main_v29_2 : Arr F S4x20000 .f32
  main_v29_3 : Arr F S4x20000 .f32
  main_v29_4 : Arr F S4x20000 .f32

/-! What @main computes before the loop without reading an argument. -/

def K_main_cst : Arr F S_ .f32 := constant S_ .f32 0x40000000#32
def K_main_v8 : Arr F S4x20000 .f32 := broadcastInDim S4x20000 ![] bcast_S_S4x20000 ((K_main_cst (F := F)))
def K_main_cst_0 : Arr F S_ .f32 := constant S_ .f32 0x40000000#32
def K_main_v11 : Arr F S4x20000 .f32 := broadcastInDim S4x20000 ![] bcast_S_S4x20000 ((K_main_cst_0 (F := F)))
def K_main_cst_1 : Arr F S_ .f32 := constant S_ .f32 0x40000000#32
def K_main_v14 : Arr F S4x20000 .f32 := broadcastInDim S4x20000 ![] bcast_S_S4x20000 ((K_main_cst_1 (F := F)))
def K_main_cst_2 : Arr F S_ .f32 := constant S_ .f32 0x40000000#32
def K_main_v17 : Arr F S4x20000 .f32 := broadcastInDim S4x20000 ![] bcast_S_S4x20000 ((K_main_cst_2 (F := F)))
def K_main_cst_3 : Arr F S_ .f32 := constant S_ .f32 0xFF800000#32
def K_main_cst_4 : Arr F S_ .f32 := constant S_ .f32 0x3E800000#32
def K_main_v25 : Arr F S4x20000 .f32 := broadcastInDim S4x20000 ![] bcast_S_S4x20000 ((K_main_cst_4 (F := F)))
def K_main_c : Arr F S_ .i32 := constantI S_ 32 0#32
def K_main_v27 : Arr F S100x4 .i32 := broadcastInDim S100x4 ![] bcast_S_S100x4 ((K_main_c (F := F)))
def K_main_c_5 : Arr F S_ .i1 := constantI S_ 1 0#1
def K_main_v28 : Arr F S100x4 .i1 := broadcastInDim S100x4 ![] bcast_S_S100x4 ((K_main_c_5 (F := F)))
def K_main_c_6 : Arr F S_ .i32 := constantI S_ 32 0#32

/-! What @main computes before the loop from its arguments, as functions of them. -/

def A_main_v0 (main_arg0 : Arr F S4x20000x117 .f32) : Arr F S4x20000x1 .f32 := extractStridedSlice S4x20000x1 ![0, 0, 0] (main_arg0) slices_S4x20000x117_S4x20000x1_0_0_0
def A_main_v1 (main_arg0 : Arr F S4x20000x117 .f32) : Arr F S4x20000 .f32 := shapeCast _ ((A_main_v0 main_arg0)) shapeCasts_S4x20000x1_S4x20000
def A_main_v2 (main_arg0 : Arr F S4x20000x117 .f32) : Arr F S4x20000x1 .f32 := extractStridedSlice S4x20000x1 ![0, 0, 1] (main_arg0) slices_S4x20000x117_S4x20000x1_0_0_1
def A_main_v3 (main_arg0 : Arr F S4x20000x117 .f32) : Arr F S4x20000 .f32 := shapeCast _ ((A_main_v2 main_arg0)) shapeCasts_S4x20000x1_S4x20000
def A_main_v4 (main_arg0 : Arr F S4x20000x117 .f32) : Arr F S4x20000x1 .f32 := extractStridedSlice S4x20000x1 ![0, 0, 2] (main_arg0) slices_S4x20000x117_S4x20000x1_0_0_2
def A_main_v5 (main_arg0 : Arr F S4x20000x117 .f32) : Arr F S4x20000 .f32 := shapeCast _ ((A_main_v4 main_arg0)) shapeCasts_S4x20000x1_S4x20000
def A_main_v6 (main_arg0 : Arr F S4x20000x117 .f32) : Arr F S4x20000x1 .f32 := extractStridedSlice S4x20000x1 ![0, 0, 3] (main_arg0) slices_S4x20000x117_S4x20000x1_0_0_3
def A_main_v7 (main_arg0 : Arr F S4x20000x117 .f32) : Arr F S4x20000 .f32 := shapeCast _ ((A_main_v6 main_arg0)) shapeCasts_S4x20000x1_S4x20000
def A_main_v9 (main_arg0 : Arr F S4x20000x117 .f32) : Arr F S4x20000 .f32 := Host.divf ((A_main_v5 main_arg0)) ((K_main_v8 (F := F)))
def A_main_v10 (main_arg0 : Arr F S4x20000x117 .f32) : Arr F S4x20000 .f32 := subf ((A_main_v1 main_arg0)) ((A_main_v9 main_arg0))
def A_main_v12 (main_arg0 : Arr F S4x20000x117 .f32) : Arr F S4x20000 .f32 := Host.divf ((A_main_v7 main_arg0)) ((K_main_v11 (F := F)))
def A_main_v13 (main_arg0 : Arr F S4x20000x117 .f32) : Arr F S4x20000 .f32 := subf ((A_main_v3 main_arg0)) ((A_main_v12 main_arg0))
def A_main_v15 (main_arg0 : Arr F S4x20000x117 .f32) : Arr F S4x20000 .f32 := Host.divf ((A_main_v5 main_arg0)) ((K_main_v14 (F := F)))
def A_main_v16 (main_arg0 : Arr F S4x20000x117 .f32) : Arr F S4x20000 .f32 := addf ((A_main_v1 main_arg0)) ((A_main_v15 main_arg0))
def A_main_v18 (main_arg0 : Arr F S4x20000x117 .f32) : Arr F S4x20000 .f32 := Host.divf ((A_main_v7 main_arg0)) ((K_main_v17 (F := F)))
def A_main_v19 (main_arg0 : Arr F S4x20000x117 .f32) : Arr F S4x20000 .f32 := addf ((A_main_v3 main_arg0)) ((A_main_v18 main_arg0))
def A_main_v20 (main_arg0 : Arr F S4x20000x117 .f32) : Arr F S4x20000x1 .f32 := extractStridedSlice S4x20000x1 ![0, 0, 4] (main_arg0) slices_S4x20000x117_S4x20000x1_0_0_4
def A_main_v21 (main_arg0 : Arr F S4x20000x117 .f32) : Arr F S4x20000 .f32 := shapeCast _ ((A_main_v20 main_arg0)) shapeCasts_S4x20000x1_S4x20000
def A_main_v22 (main_arg0 : Arr F S4x20000x117 .f32) : Arr F S4x20000x80 .f32 := extractStridedSlice S4x20000x80 ![0, 0, 5] (main_arg0) slices_S4x20000x117_S4x20000x80_0_0_5
def A_main_v23 (main_arg0 : Arr F S4x20000x117 .f32) : Arr F S4x20000 .f32 := Host.reduce FloatOps.maximumf ((A_main_v22 main_arg0)) ((K_main_cst_3 (F := F))) reducesTo_S4x20000x80_S4x20000_d2 h_S_
def A_main_v24 (main_arg0 : Arr F S4x20000x117 .f32) : Arr F S4x20000 .f32 := mulf ((A_main_v21 main_arg0)) ((A_main_v23 main_arg0))
def A_main_v26 (main_arg0 : Arr F S4x20000x117 .f32) : Arr F S4x20000 .i1 := cmpf .ogt ((A_main_v24 main_arg0)) ((K_main_v25 (F := F)))

/-! One trip's values, in the body's order. -/

def b0 (j : ℕ) (s : State F) : Arr F S_ .f32 :=
  constant S_ .f32 0xFF800000#32
def b1 (j : ℕ) (s : State F) : Arr F S_ .f32 := b0 j s
theorem b1_id (j : ℕ) (s : State F) : b1 j s = b0 j s := rfl
def b2 (j : ℕ) (s : State F) : Arr F S4x20000 .f32 :=
  broadcastInDim S4x20000 ![] bcast_S_S4x20000 ((b1 j s))
def b3 (j : ℕ) (s : State F) : Arr F S4x20000 .f32 :=
  select (s.main_v29_6) (s.main_v29_0) ((b2 j s))
def b4 (j : ℕ) (s : State F) : Arr F S4x20000 .i32 :=
  iotaInDim S4x20000 32 1
def b5 (j : ℕ) (s : State F) : Arr F S_ .f32 :=
  constant S_ .f32 0xFF800000#32
def b6 (j : ℕ) (s : State F) : Arr F S_ .i32 :=
  constantI S_ 32 0#32
def b7 (j : ℕ) (s : State F) : Arr F S4 .f32 :=
  (fun p => (Host.argReduce reducer_argmax_f32_i32 ((b3 j s)) ((b4 j s)) ((b5 j s)) ((b6 j s)) reducesTo_S4x20000_S4_d1 h_S_ p).1)
def b8 (j : ℕ) (s : State F) : Arr F S4 .i32 :=
  (fun p => (Host.argReduce reducer_argmax_f32_i32 ((b3 j s)) ((b4 j s)) ((b5 j s)) ((b6 j s)) reducesTo_S4x20000_S4_d1 h_S_ p).2)
def b9 (j : ℕ) (s : State F) : Arr F S4 .i32 :=
  iotaInDim S4 32 0
def b10 (j : ℕ) (s : State F) : Arr F S4x1 .i32 :=
  broadcastInDim S4x1 ![0] bcast_S4_S4x1_0 ((b9 j s))
def b11 (j : ℕ) (s : State F) : Arr F S4x1 .i32 :=
  broadcastInDim S4x1 ![0] bcast_S4_S4x1_0 ((b8 j s))
def b12 (j : ℕ) (s : State F) : Arr F S4x2 .i32 :=
  concatenate S4x2 1 [⟨S4x1, ((b10 j s))⟩, ⟨S4x1, ((b11 j s))⟩] concatenates_S4x1_S4x1_S4x2_d1
def b13 (j : ℕ) (s : State F) : Arr F S4 .f32 :=
  Host.gather gather_S4x20000_S4x2_S4_n_01_n_n_01_1_11 ((b3 j s)) ((b12 j s))
def b14 (j : ℕ) (s : State F) : Arr F S_ .f32 :=
  constant S_ .f32 0x3E800000#32
def b15 (j : ℕ) (s : State F) : Arr F S4 .f32 :=
  broadcastInDim S4 ![] bcast_S_S4 ((b14 j s))
def b16 (j : ℕ) (s : State F) : Arr F S4 .i1 :=
  cmpf .ogt ((b13 j s)) ((b15 j s))
def b17 (j : ℕ) (s : State F) : Arr F S4 .i32 :=
  iotaInDim S4 32 0
def b18 (j : ℕ) (s : State F) : Arr F S4x1 .i32 :=
  broadcastInDim S4x1 ![0] bcast_S4_S4x1_0 ((b17 j s))
def b19 (j : ℕ) (s : State F) : Arr F S4x1 .i32 :=
  broadcastInDim S4x1 ![0] bcast_S4_S4x1_0 ((b8 j s))
def b20 (j : ℕ) (s : State F) : Arr F S4x2 .i32 :=
  concatenate S4x2 1 [⟨S4x1, ((b18 j s))⟩, ⟨S4x1, ((b19 j s))⟩] concatenates_S4x1_S4x1_S4x2_d1
def b21 (j : ℕ) (s : State F) : Arr F S4 .f32 :=
  Host.gather gather_S4x20000_S4x2_S4_n_01_n_n_01_1_11 (s.main_v29_1) ((b20 j s))
def b22 (j : ℕ) (s : State F) : Arr F S4x1 .f32 :=
  broadcastInDim S4x1 ![0] bcast_S4_S4x1_0 ((b21 j s))
def b23 (j : ℕ) (s : State F) : Arr F S4 .i32 :=
  iotaInDim S4 32 0
def b24 (j : ℕ) (s : State F) : Arr F S4x1 .i32 :=
  broadcastInDim S4x1 ![0] bcast_S4_S4x1_0 ((b23 j s))
def b25 (j : ℕ) (s : State F) : Arr F S4x1 .i32 :=
  broadcastInDim S4x1 ![0] bcast_S4_S4x1_0 ((b8 j s))
def b26 (j : ℕ) (s : State F) : Arr F S4x2 .i32 :=
  concatenate S4x2 1 [⟨S4x1, ((b24 j s))⟩, ⟨S4x1, ((b25 j s))⟩] concatenates_S4x1_S4x1_S4x2_d1
def b27 (j : ℕ) (s : State F) : Arr F S4 .f32 :=
  Host.gather gather_S4x20000_S4x2_S4_n_01_n_n_01_1_11 (s.main_v29_2) ((b26 j s))
def b28 (j : ℕ) (s : State F) : Arr F S4x1 .f32 :=
  broadcastInDim S4x1 ![0] bcast_S4_S4x1_0 ((b27 j s))
def b29 (j : ℕ) (s : State F) : Arr F S4 .i32 :=
  iotaInDim S4 32 0
def b30 (j : ℕ) (s : State F) : Arr F S4x1 .i32 :=
  broadcastInDim S4x1 ![0] bcast_S4_S4x1_0 ((b29 j s))
def b31 (j : ℕ) (s : State F) : Arr F S4x1 .i32 :=
  broadcastInDim S4x1 ![0] bcast_S4_S4x1_0 ((b8 j s))
def b32 (j : ℕ) (s : State F) : Arr F S4x2 .i32 :=
  concatenate S4x2 1 [⟨S4x1, ((b30 j s))⟩, ⟨S4x1, ((b31 j s))⟩] concatenates_S4x1_S4x1_S4x2_d1
def b33 (j : ℕ) (s : State F) : Arr F S4 .f32 :=
  Host.gather gather_S4x20000_S4x2_S4_n_01_n_n_01_1_11 (s.main_v29_3) ((b32 j s))
def b34 (j : ℕ) (s : State F) : Arr F S4x1 .f32 :=
  broadcastInDim S4x1 ![0] bcast_S4_S4x1_0 ((b33 j s))
def b35 (j : ℕ) (s : State F) : Arr F S4 .i32 :=
  iotaInDim S4 32 0
def b36 (j : ℕ) (s : State F) : Arr F S4x1 .i32 :=
  broadcastInDim S4x1 ![0] bcast_S4_S4x1_0 ((b35 j s))
def b37 (j : ℕ) (s : State F) : Arr F S4x1 .i32 :=
  broadcastInDim S4x1 ![0] bcast_S4_S4x1_0 ((b8 j s))
def b38 (j : ℕ) (s : State F) : Arr F S4x2 .i32 :=
  concatenate S4x2 1 [⟨S4x1, ((b36 j s))⟩, ⟨S4x1, ((b37 j s))⟩] concatenates_S4x1_S4x1_S4x2_d1
def b39 (j : ℕ) (s : State F) : Arr F S4 .f32 :=
  Host.gather gather_S4x20000_S4x2_S4_n_01_n_n_01_1_11 (s.main_v29_4) ((b38 j s))
def b40 (j : ℕ) (s : State F) : Arr F S4x1 .f32 :=
  broadcastInDim S4x1 ![0] bcast_S4_S4x1_0 ((b39 j s))
def b41 (j : ℕ) (s : State F) : Arr F S4x20000 .f32 :=
  broadcastInDim S4x20000 ![0, 1] bcast_S4x1_S4x20000_0_1 ((b34 j s))
def b42 (j : ℕ) (s : State F) : Arr F S4x20000 .f32 :=
  minimumf ((b41 j s)) (s.main_v29_3)
def b43 (j : ℕ) (s : State F) : Arr F S4x20000 .f32 :=
  broadcastInDim S4x20000 ![0, 1] bcast_S4x1_S4x20000_0_1 ((b22 j s))
def b44 (j : ℕ) (s : State F) : Arr F S4x20000 .f32 :=
  maximumf ((b43 j s)) (s.main_v29_1)
def b45 (j : ℕ) (s : State F) : Arr F S4x20000 .f32 :=
  subf ((b42 j s)) ((b44 j s))
def b46 (j : ℕ) (s : State F) : Arr F S_ .f32 :=
  constant S_ .f32 0x00000000#32
def b47 (j : ℕ) (s : State F) : Arr F S4x20000 .f32 :=
  broadcastInDim S4x20000 ![] bcast_S_S4x20000 ((b46 j s))
def b48 (j : ℕ) (s : State F) : Arr F S4x20000 .f32 :=
  maximumf ((b45 j s)) ((b47 j s))
def b49 (j : ℕ) (s : State F) : Arr F S4x20000 .f32 :=
  broadcastInDim S4x20000 ![0, 1] bcast_S4x1_S4x20000_0_1 ((b40 j s))
def b50 (j : ℕ) (s : State F) : Arr F S4x20000 .f32 :=
  minimumf ((b49 j s)) (s.main_v29_4)
def b51 (j : ℕ) (s : State F) : Arr F S4x20000 .f32 :=
  broadcastInDim S4x20000 ![0, 1] bcast_S4x1_S4x20000_0_1 ((b28 j s))
def b52 (j : ℕ) (s : State F) : Arr F S4x20000 .f32 :=
  maximumf ((b51 j s)) (s.main_v29_2)
def b53 (j : ℕ) (s : State F) : Arr F S4x20000 .f32 :=
  subf ((b50 j s)) ((b52 j s))
def b54 (j : ℕ) (s : State F) : Arr F S_ .f32 :=
  constant S_ .f32 0x00000000#32
def b55 (j : ℕ) (s : State F) : Arr F S4x20000 .f32 :=
  broadcastInDim S4x20000 ![] bcast_S_S4x20000 ((b54 j s))
def b56 (j : ℕ) (s : State F) : Arr F S4x20000 .f32 :=
  maximumf ((b53 j s)) ((b55 j s))
def b57 (j : ℕ) (s : State F) : Arr F S4x20000 .f32 :=
  mulf ((b48 j s)) ((b56 j s))
def b58 (j : ℕ) (s : State F) : Arr F S4x1 .f32 :=
  subf ((b34 j s)) ((b22 j s))
def b59 (j : ℕ) (s : State F) : Arr F S4x1 .f32 :=
  subf ((b40 j s)) ((b28 j s))
def b60 (j : ℕ) (s : State F) : Arr F S4x1 .f32 :=
  mulf ((b58 j s)) ((b59 j s))
def b61 (j : ℕ) (s : State F) : Arr F S4x20000 .f32 :=
  subf (s.main_v29_3) (s.main_v29_1)
def b62 (j : ℕ) (s : State F) : Arr F S4x20000 .f32 :=
  subf (s.main_v29_4) (s.main_v29_2)
def b63 (j : ℕ) (s : State F) : Arr F S4x20000 .f32 :=
  mulf ((b61 j s)) ((b62 j s))
def b64 (j : ℕ) (s : State F) : Arr F S4x20000 .f32 :=
  broadcastInDim S4x20000 ![0, 1] bcast_S4x1_S4x20000_0_1 ((b60 j s))
def b65 (j : ℕ) (s : State F) : Arr F S4x20000 .f32 :=
  addf ((b64 j s)) ((b63 j s))
def b66 (j : ℕ) (s : State F) : Arr F S4x20000 .f32 :=
  subf ((b65 j s)) ((b57 j s))
def b67 (j : ℕ) (s : State F) : Arr F S_ .f32 :=
  constant S_ .f32 0x3089705F#32
def b68 (j : ℕ) (s : State F) : Arr F S4x20000 .f32 :=
  broadcastInDim S4x20000 ![] bcast_S_S4x20000 ((b67 j s))
def b69 (j : ℕ) (s : State F) : Arr F S4x20000 .f32 :=
  addf ((b66 j s)) ((b68 j s))
def b70 (j : ℕ) (s : State F) : Arr F S4x20000 .f32 :=
  Host.divf ((b57 j s)) ((b69 j s))
def b71 (j : ℕ) (s : State F) : Arr F S20000 .i32 :=
  iotaInDim S20000 32 0
def b72 (j : ℕ) (s : State F) : Arr F S_ .f32 :=
  constant S_ .f32 0x3EE66666#32
def b73 (j : ℕ) (s : State F) : Arr F S4x20000 .f32 :=
  broadcastInDim S4x20000 ![] bcast_S_S4x20000 ((b72 j s))
def b74 (j : ℕ) (s : State F) : Arr F S4x20000 .i1 :=
  cmpf .ole ((b70 j s)) ((b73 j s))
def b75 (j : ℕ) (s : State F) : Arr F S4x20000 .i1 :=
  andi (s.main_v29_6) ((b74 j s))
def b76 (j : ℕ) (s : State F) : Arr F S4x1 .i32 :=
  broadcastInDim S4x1 ![0] bcast_S4_S4x1_0 ((b8 j s))
def b77 (j : ℕ) (s : State F) : Arr F S1x20000 .i32 :=
  broadcastInDim S1x20000 ![1] bcast_S20000_S1x20000_1 ((b71 j s))
def b78 (j : ℕ) (s : State F) : Arr F S4x20000 .i32 :=
  broadcastInDim S4x20000 ![0, 1] bcast_S1x20000_S4x20000_0_1 ((b77 j s))
def b79 (j : ℕ) (s : State F) : Arr F S4x20000 .i32 :=
  broadcastInDim S4x20000 ![0, 1] bcast_S4x1_S4x20000_0_1 ((b76 j s))
def b80 (j : ℕ) (s : State F) : Arr F S4x20000 .i1 :=
  cmpi .ne ((b78 j s)) ((b79 j s))
def b81 (j : ℕ) (s : State F) : Arr F S4x20000 .i1 :=
  andi ((b75 j s)) ((b80 j s))
def b82 (j : ℕ) (s : State F) : Arr F S1x4 .i32 :=
  broadcastInDim S1x4 ![1] bcast_S4_S1x4_1 ((b8 j s))
def b83 (j : ℕ) (s : State F) : Arr F S_ .i32 :=
  constantI S_ 32 0#32
def b84 (j : ℕ) (s : State F) : Arr F S100x4 .i32 :=
  Host.dynamicUpdateSlice (s.main_v29_7) ((b82 j s)) (fun k => (((![(constantI S_ 32 (BitVec.ofNat 32 j) : Arr F S_ .i32), (b83 j s)] : Fin 2 → Arr F S_ .i32)) k (Shape.Idx.first h_S_)).toInt) updateFits_S100x4_S1x4
def b85 (j : ℕ) (s : State F) : Arr F S1x4 .i1 :=
  broadcastInDim S1x4 ![1] bcast_S4_S1x4_1 ((b16 j s))
def b86 (j : ℕ) (s : State F) : Arr F S_ .i32 :=
  constantI S_ 32 0#32
def b87 (j : ℕ) (s : State F) : Arr F S100x4 .i1 :=
  Host.dynamicUpdateSlice (s.main_v29_8) ((b85 j s)) (fun k => (((![(constantI S_ 32 (BitVec.ofNat 32 j) : Arr F S_ .i32), (b86 j s)] : Fin 2 → Arr F S_ .i32)) k (Shape.Idx.first h_S_)).toInt) updateFits_S100x4_S1x4

/-- The state @main hands the first trip, of the arguments it copies in or computes from. -/
def init (main_arg0 : Arr F S4x20000x117 .f32) : State F :=
  { main_v29_6 := A_main_v26 main_arg0, main_v29_7 := K_main_v27 (F := F), main_v29_8 := K_main_v28 (F := F), main_v29_0 := A_main_v24 main_arg0, main_v29_1 := A_main_v10 main_arg0, main_v29_2 := A_main_v13 main_arg0, main_v29_3 := A_main_v16 main_arg0, main_v29_4 := A_main_v19 main_arg0 }

/-- One trip. -/
def step (j : ℕ) (s : State F) : State F :=
  { main_v29_6 := b81 j s, main_v29_7 := b84 j s, main_v29_8 := b87 j s, main_v29_0 := s.main_v29_0, main_v29_1 := s.main_v29_1, main_v29_2 := s.main_v29_2, main_v29_3 := s.main_v29_3, main_v29_4 := s.main_v29_4 }
theorem step_main_v29_6 (j : ℕ) (s : State F) : (step j s).main_v29_6 = b81 j s := by unfold step; rfl
theorem step_main_v29_7 (j : ℕ) (s : State F) : (step j s).main_v29_7 = b84 j s := by unfold step; rfl
theorem step_main_v29_8 (j : ℕ) (s : State F) : (step j s).main_v29_8 = b87 j s := by unfold step; rfl

/-- The rows of the argument that the indices name, batch by batch. -/
abbrev rowsAt (x : Arr F S4x20000x117 .f32) (idx : Arr F S100x4 .i32) : Arr F S4x100x117 .f32 :=
  Host.gather gather_S4x20000x117_S4x100x2_S4x100x117_2_01_n_n_01_2_11117 x (concatenate S4x100x2 2 [⟨S4x100x1, (broadcastInDim S4x100x1 ![0, 1] bcast_S4x100_S4x100x1_0_1 (broadcastInDim S4x100 ![0, 1] bcast_S4x1_S4x100_0_1 (shapeCast _ (iotaInDim S4 32 0) shapeCasts_S4_S4x1)))⟩, ⟨S4x100x1, (broadcastInDim S4x100x1 ![0, 1] bcast_S4x100_S4x100x1_0_1 (transpose S4x100 [1, 0] idx transposes_S100x4_S4x100_1_0))⟩] concatenates_S4x100x1_S4x100x1_S4x100x2_d2)

/-- `main_v41`, which the operations after the loop make, of the loop's last state. -/
def R_main_v41 (s : State F) : Arr F S4x1 .i32 :=
  broadcastInDim S4x1 ![0] bcast_S4_S4x1_0 (Host.reduce IntOp.addi (extui 32 (transpose S4x100 [1, 0] (s.main_v29_8) transposes_S100x4_S4x100_1_0) natLt_1_32) (constantI S_ 32 0#32) reducesTo_S4x100_S4_d1 h_S_)

/-- `main_v52`, which the operations after the loop make, of the loop's last state and the arguments they read. -/
def R_main_v52 (s : State F) (main_arg0 : Arr F S4x20000x117 .f32) : Arr F S4x100 .f32 :=
  subf (shapeCast _ (extractStridedSlice S4x100x1 ![0, 0, 0] (rowsAt main_arg0 s.main_v29_7) slices_S4x100x117_S4x100x1_0_0_0) shapeCasts_S4x100x1_S4x100) (Host.divf (shapeCast _ (extractStridedSlice S4x100x1 ![0, 0, 2] (rowsAt main_arg0 s.main_v29_7) slices_S4x100x117_S4x100x1_0_0_2) shapeCasts_S4x100x1_S4x100) (broadcastInDim S4x100 ![] bcast_S_S4x100 (constant S_ .f32 0x40000000#32)))

/-- `main_v55`, which the operations after the loop make, of the loop's last state and the arguments they read. -/
def R_main_v55 (s : State F) (main_arg0 : Arr F S4x20000x117 .f32) : Arr F S4x100 .f32 :=
  subf (shapeCast _ (extractStridedSlice S4x100x1 ![0, 0, 1] (rowsAt main_arg0 s.main_v29_7) slices_S4x100x117_S4x100x1_0_0_1) shapeCasts_S4x100x1_S4x100) (Host.divf (shapeCast _ (extractStridedSlice S4x100x1 ![0, 0, 3] (rowsAt main_arg0 s.main_v29_7) slices_S4x100x117_S4x100x1_0_0_3) shapeCasts_S4x100x1_S4x100) (broadcastInDim S4x100 ![] bcast_S_S4x100 (constant S_ .f32 0x40000000#32)))

/-- `main_v58`, which the operations after the loop make, of the loop's last state and the arguments they read. -/
def R_main_v58 (s : State F) (main_arg0 : Arr F S4x20000x117 .f32) : Arr F S4x100 .f32 :=
  addf (shapeCast _ (extractStridedSlice S4x100x1 ![0, 0, 0] (rowsAt main_arg0 s.main_v29_7) slices_S4x100x117_S4x100x1_0_0_0) shapeCasts_S4x100x1_S4x100) (Host.divf (shapeCast _ (extractStridedSlice S4x100x1 ![0, 0, 2] (rowsAt main_arg0 s.main_v29_7) slices_S4x100x117_S4x100x1_0_0_2) shapeCasts_S4x100x1_S4x100) (broadcastInDim S4x100 ![] bcast_S_S4x100 (constant S_ .f32 0x40000000#32)))

/-- `main_v61`, which the operations after the loop make, of the loop's last state and the arguments they read. -/
def R_main_v61 (s : State F) (main_arg0 : Arr F S4x20000x117 .f32) : Arr F S4x100 .f32 :=
  addf (shapeCast _ (extractStridedSlice S4x100x1 ![0, 0, 1] (rowsAt main_arg0 s.main_v29_7) slices_S4x100x117_S4x100x1_0_0_1) shapeCasts_S4x100x1_S4x100) (Host.divf (shapeCast _ (extractStridedSlice S4x100x1 ![0, 0, 3] (rowsAt main_arg0 s.main_v29_7) slices_S4x100x117_S4x100x1_0_0_3) shapeCasts_S4x100x1_S4x100) (broadcastInDim S4x100 ![] bcast_S_S4x100 (constant S_ .f32 0x40000000#32)))

/-- `main_v67`, which the operations after the loop make, of the loop's last state and the arguments they read. -/
def R_main_v67 (s : State F) (main_arg0 : Arr F S4x20000x117 .f32) : Arr F S4x100 .f32 :=
  select (transpose S4x100 [1, 0] (s.main_v29_8) transposes_S100x4_S4x100_1_0) (mulf (shapeCast _ (extractStridedSlice S4x100x1 ![0, 0, 4] (rowsAt main_arg0 s.main_v29_7) slices_S4x100x117_S4x100x1_0_0_4) shapeCasts_S4x100x1_S4x100) (Host.reduce FloatOps.maximumf (extractStridedSlice S4x100x80 ![0, 0, 5] (rowsAt main_arg0 s.main_v29_7) slices_S4x100x117_S4x100x80_0_0_5) (constant S_ .f32 0xFF800000#32) reducesTo_S4x100x80_S4x100_d2 h_S_)) (broadcastInDim S4x100 ![] bcast_S_S4x100 (id (constant S_ .f32 0x00000000#32)))

/-- `main_v69`, which the operations after the loop make, of the loop's last state and the arguments they read. -/
def R_main_v69 (s : State F) (main_arg0 : Arr F S4x20000x117 .f32) : Arr F S4x100 .i32 :=
  (fun p => (Host.argReduce reducer_argmax_f32_i32 (extractStridedSlice S4x100x80 ![0, 0, 5] (rowsAt main_arg0 s.main_v29_7) slices_S4x100x117_S4x100x80_0_0_5) (iotaInDim S4x100x80 32 2) (constant S_ .f32 0xFF800000#32) (constantI S_ 32 0#32) reducesTo_S4x100x80_S4x100_d2 h_S_ p).2)

/-- `main_v70`, which the operations after the loop make, of the loop's last state and the arguments they read. -/
def R_main_v70 (s : State F) (main_arg0 : Arr F S4x20000x117 .f32) : Arr F S4x100x32 .f32 :=
  extractStridedSlice S4x100x32 ![0, 0, 85] (rowsAt main_arg0 s.main_v29_7) slices_S4x100x117_S4x100x32_0_0_85

end Cert.SelectRefIdeal.Step

end
-- ==== Proof.SelRefRun.lean ====
/-
  The reference selection program as a run: the host operations before its loop, the loop of one hundred trips, the
  host operations after it, and the statement that every execution ends with the buffers at the fold of those steps.
-/
module

public import proofs.«01_k».proof.Proof.SelRefStep
public import proofs.«01_k».proof.Proof.Gen.SelectRefIdeal
public import proofs.«01_k».proof.Proof.Gen.ReferenceIdeal.Run
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1872

noncomputable section

namespace Cert.SelectRefIdeal.Gen

open Idealize.ShloMosaic Idealize.ShloMosaic.TcCoe
open Cert.SelectRefIdeal.Step (Arr)
open Idealize.SL Idealize.SL.RA Idealize.SL.BI
open scoped Idealize.SL.BI
open Idealize.SL.BI.BIBase Idealize.SL.Sem

variable {F : FTy → Type} [FloatOps F]

/-! ## @main as segments and as a chain of items (Lib/Pipeline/Regions.lean `θ_run_regions_kit`, `Pipeline.chain`) -/

/-- 47 host operations of @main, in order. -/
abbrev hostOps0 : List (HloOp τ sig (Elt F)) :=
  ( StableHlo.unary main_arg0 main_v0 ((extractStridedSlice S4x20000x1 ![0, 0, 0] · slices_S4x20000x117_S4x20000x1_0_0_0) : Arr F S4x20000x117 .f32 → Arr F S4x20000x1 .f32)
  :: StableHlo.reshape main_v0 main_v1 (rfl : (.f32 : EltTy) = .f32) shapeCasts_S4x20000x1_S4x20000
  :: StableHlo.unary main_arg0 main_v2 ((extractStridedSlice S4x20000x1 ![0, 0, 1] · slices_S4x20000x117_S4x20000x1_0_0_1) : Arr F S4x20000x117 .f32 → Arr F S4x20000x1 .f32)
  :: StableHlo.reshape main_v2 main_v3 (rfl : (.f32 : EltTy) = .f32) shapeCasts_S4x20000x1_S4x20000
  :: StableHlo.unary main_arg0 main_v4 ((extractStridedSlice S4x20000x1 ![0, 0, 2] · slices_S4x20000x117_S4x20000x1_0_0_2) : Arr F S4x20000x117 .f32 → Arr F S4x20000x1 .f32)
  :: StableHlo.reshape main_v4 main_v5 (rfl : (.f32 : EltTy) = .f32) shapeCasts_S4x20000x1_S4x20000
  :: StableHlo.unary main_arg0 main_v6 ((extractStridedSlice S4x20000x1 ![0, 0, 3] · slices_S4x20000x117_S4x20000x1_0_0_3) : Arr F S4x20000x117 .f32 → Arr F S4x20000x1 .f32)
  :: StableHlo.reshape main_v6 main_v7 (rfl : (.f32 : EltTy) = .f32) shapeCasts_S4x20000x1_S4x20000
  :: StableHlo.nullary main_cst (constant S_ .f32 0x40000000#32)
  :: StableHlo.unary main_cst main_v8 (broadcastInDim S4x20000 ![] bcast_S_S4x20000 : Arr F S_ .f32 → Arr F S4x20000 .f32)
  :: StableHlo.binary main_v5 main_v8 main_v9 (Host.divf : Arr F S4x20000 .f32 → Arr F S4x20000 .f32 → Arr F S4x20000 .f32)
  :: StableHlo.binary main_v1 main_v9 main_v10 (subf : Arr F S4x20000 .f32 → Arr F S4x20000 .f32 → Arr F S4x20000 .f32)
  :: StableHlo.nullary main_cst_0 (constant S_ .f32 0x40000000#32)
  :: StableHlo.unary main_cst_0 main_v11 (broadcastInDim S4x20000 ![] bcast_S_S4x20000 : Arr F S_ .f32 → Arr F S4x20000 .f32)
  :: StableHlo.binary main_v7 main_v11 main_v12 (Host.divf : Arr F S4x20000 .f32 → Arr F S4x20000 .f32 → Arr F S4x20000 .f32)
  :: StableHlo.binary main_v3 main_v12 main_v13 (subf : Arr F S4x20000 .f32 → Arr F S4x20000 .f32 → Arr F S4x20000 .f32)
  :: StableHlo.nullary main_cst_1 (constant S_ .f32 0x40000000#32)
  :: StableHlo.unary main_cst_1 main_v14 (broadcastInDim S4x20000 ![] bcast_S_S4x20000 : Arr F S_ .f32 → Arr F S4x20000 .f32)
  :: StableHlo.binary main_v5 main_v14 main_v15 (Host.divf : Arr F S4x20000 .f32 → Arr F S4x20000 .f32 → Arr F S4x20000 .f32)
  :: StableHlo.binary main_v1 main_v15 main_v16 (addf : Arr F S4x20000 .f32 → Arr F S4x20000 .f32 → Arr F S4x20000 .f32)
  :: StableHlo.nullary main_cst_2 (constant S_ .f32 0x40000000#32)
  :: StableHlo.unary main_cst_2 main_v17 (broadcastInDim S4x20000 ![] bcast_S_S4x20000 : Arr F S_ .f32 → Arr F S4x20000 .f32)
  :: StableHlo.binary main_v7 main_v17 main_v18 (Host.divf : Arr F S4x20000 .f32 → Arr F S4x20000 .f32 → Arr F S4x20000 .f32)
  :: StableHlo.binary main_v3 main_v18 main_v19 (addf : Arr F S4x20000 .f32 → Arr F S4x20000 .f32 → Arr F S4x20000 .f32)
  :: StableHlo.unary main_arg0 main_v20 ((extractStridedSlice S4x20000x1 ![0, 0, 4] · slices_S4x20000x117_S4x20000x1_0_0_4) : Arr F S4x20000x117 .f32 → Arr F S4x20000x1 .f32)
  :: StableHlo.reshape main_v20 main_v21 (rfl : (.f32 : EltTy) = .f32) shapeCasts_S4x20000x1_S4x20000
  :: StableHlo.unary main_arg0 main_v22 ((extractStridedSlice S4x20000x80 ![0, 0, 5] · slices_S4x20000x117_S4x20000x80_0_0_5) : Arr F S4x20000x117 .f32 → Arr F S4x20000x80 .f32)
  :: StableHlo.nullary main_cst_3 (constant S_ .f32 0xFF800000#32)
  :: StableHlo.binary main_v22 main_cst_3 main_v23 ((fun x v => Host.reduce FloatOps.maximumf x v reducesTo_S4x20000x80_S4x20000_d2 h_S_) : Arr F S4x20000x80 .f32 → Arr F S_ .f32 → Arr F S4x20000 .f32)
  :: StableHlo.binary main_v21 main_v23 main_v24 (mulf : Arr F S4x20000 .f32 → Arr F S4x20000 .f32 → Arr F S4x20000 .f32)
  :: StableHlo.nullary main_cst_4 (constant S_ .f32 0x3E800000#32)
  :: StableHlo.unary main_cst_4 main_v25 (broadcastInDim S4x20000 ![] bcast_S_S4x20000 : Arr F S_ .f32 → Arr F S4x20000 .f32)
  :: StableHlo.binary main_v24 main_v25 main_v26 (cmpf .ogt : Arr F S4x20000 .f32 → Arr F S4x20000 .f32 → Arr F S4x20000 .i1)
  :: StableHlo.nullary main_c (constantI S_ 32 0#32)
  :: StableHlo.unary main_c main_v27 (broadcastInDim S100x4 ![] bcast_S_S100x4 : Arr F S_ .i32 → Arr F S100x4 .i32)
  :: StableHlo.nullary main_c_5 (constantI S_ 1 0#1)
  :: StableHlo.unary main_c_5 main_v28 (broadcastInDim S100x4 ![] bcast_S_S100x4 : Arr F S_ .i1 → Arr F S100x4 .i1)
  :: StableHlo.nullary main_c_6 (constantI S_ 32 0#32)
  :: StableHlo.unary main_v24 main_v29_0 id
  :: StableHlo.unary main_v10 main_v29_1 id
  :: StableHlo.unary main_v13 main_v29_2 id
  :: StableHlo.unary main_v16 main_v29_3 id
  :: StableHlo.unary main_v19 main_v29_4 id
  :: StableHlo.unary main_c_6 main_v29_5 id
  :: StableHlo.unary main_v26 main_v29_6 id
  :: StableHlo.unary main_v27 main_v29_7 id
  :: StableHlo.unary main_v28 main_v29_8 id
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 44 host operations of @main, in order. -/
abbrev hostOps0_1 : List (HloOp τ sig (Elt F)) :=
  ( StableHlo.unary main_v29_8 main_v30 ((transpose S4x100 [1, 0] · transposes_S100x4_S4x100_1_0) : Arr F S100x4 .i1 → Arr F S4x100 .i1)
  :: StableHlo.unary main_v29_7 main_v31 ((transpose S4x100 [1, 0] · transposes_S100x4_S4x100_1_0) : Arr F S100x4 .i32 → Arr F S4x100 .i32)
  :: StableHlo.nullary main_v32 (iotaInDim S4 32 0)
  :: StableHlo.reshape main_v32 main_v33 (rfl : (.i32 : EltTy) = .i32) shapeCasts_S4_S4x1
  :: StableHlo.unary main_v33 main_v34 (broadcastInDim S4x100 ![0, 1] bcast_S4x1_S4x100_0_1 : Arr F S4x1 .i32 → Arr F S4x100 .i32)
  :: StableHlo.unary main_v34 main_v35 (broadcastInDim S4x100x1 ![0, 1] bcast_S4x100_S4x100x1_0_1 : Arr F S4x100 .i32 → Arr F S4x100x1 .i32)
  :: StableHlo.unary main_v31 main_v36 (broadcastInDim S4x100x1 ![0, 1] bcast_S4x100_S4x100x1_0_1 : Arr F S4x100 .i32 → Arr F S4x100x1 .i32)
  :: StableHlo.binary main_v35 main_v36 main_v37 ((fun a b => concatenate S4x100x2 2 [⟨S4x100x1, a⟩, ⟨S4x100x1, b⟩] concatenates_S4x100x1_S4x100x1_S4x100x2_d2) : Arr F S4x100x1 .i32 → Arr F S4x100x1 .i32 → Arr F S4x100x2 .i32)
  :: StableHlo.binary main_arg0 main_v37 main_v38 ((fun x i => Host.gather gather_S4x20000x117_S4x100x2_S4x100x117_2_01_n_n_01_2_11117 x i) : Arr F S4x20000x117 .f32 → Arr F S4x100x2 .i32 → Arr F S4x100x117 .f32)
  :: StableHlo.unary main_v30 main_v39 ((extui 32 · natLt_1_32) : Arr F S4x100 .i1 → Arr F S4x100 .i32)
  :: StableHlo.nullary main_c_7 (constantI S_ 32 0#32)
  :: StableHlo.binary main_v39 main_c_7 main_v40 ((fun x v => Host.reduce IntOp.addi x v reducesTo_S4x100_S4_d1 h_S_) : Arr F S4x100 .i32 → Arr F S_ .i32 → Arr F S4 .i32)
  :: StableHlo.unary main_v40 main_v41 (broadcastInDim S4x1 ![0] bcast_S4_S4x1_0 : Arr F S4 .i32 → Arr F S4x1 .i32)
  :: StableHlo.unary main_v38 main_v42 ((extractStridedSlice S4x100x1 ![0, 0, 0] · slices_S4x100x117_S4x100x1_0_0_0) : Arr F S4x100x117 .f32 → Arr F S4x100x1 .f32)
  :: StableHlo.reshape main_v42 main_v43 (rfl : (.f32 : EltTy) = .f32) shapeCasts_S4x100x1_S4x100
  :: StableHlo.unary main_v38 main_v44 ((extractStridedSlice S4x100x1 ![0, 0, 1] · slices_S4x100x117_S4x100x1_0_0_1) : Arr F S4x100x117 .f32 → Arr F S4x100x1 .f32)
  :: StableHlo.reshape main_v44 main_v45 (rfl : (.f32 : EltTy) = .f32) shapeCasts_S4x100x1_S4x100
  :: StableHlo.unary main_v38 main_v46 ((extractStridedSlice S4x100x1 ![0, 0, 2] · slices_S4x100x117_S4x100x1_0_0_2) : Arr F S4x100x117 .f32 → Arr F S4x100x1 .f32)
  :: StableHlo.reshape main_v46 main_v47 (rfl : (.f32 : EltTy) = .f32) shapeCasts_S4x100x1_S4x100
  :: StableHlo.unary main_v38 main_v48 ((extractStridedSlice S4x100x1 ![0, 0, 3] · slices_S4x100x117_S4x100x1_0_0_3) : Arr F S4x100x117 .f32 → Arr F S4x100x1 .f32)
  :: StableHlo.reshape main_v48 main_v49 (rfl : (.f32 : EltTy) = .f32) shapeCasts_S4x100x1_S4x100
  :: StableHlo.nullary main_cst_8 (constant S_ .f32 0x40000000#32)
  :: StableHlo.unary main_cst_8 main_v50 (broadcastInDim S4x100 ![] bcast_S_S4x100 : Arr F S_ .f32 → Arr F S4x100 .f32)
  :: StableHlo.binary main_v47 main_v50 main_v51 (Host.divf : Arr F S4x100 .f32 → Arr F S4x100 .f32 → Arr F S4x100 .f32)
  :: StableHlo.binary main_v43 main_v51 main_v52 (subf : Arr F S4x100 .f32 → Arr F S4x100 .f32 → Arr F S4x100 .f32)
  :: StableHlo.nullary main_cst_9 (constant S_ .f32 0x40000000#32)
  :: StableHlo.unary main_cst_9 main_v53 (broadcastInDim S4x100 ![] bcast_S_S4x100 : Arr F S_ .f32 → Arr F S4x100 .f32)
  :: StableHlo.binary main_v49 main_v53 main_v54 (Host.divf : Arr F S4x100 .f32 → Arr F S4x100 .f32 → Arr F S4x100 .f32)
  :: StableHlo.binary main_v45 main_v54 main_v55 (subf : Arr F S4x100 .f32 → Arr F S4x100 .f32 → Arr F S4x100 .f32)
  :: StableHlo.nullary main_cst_10 (constant S_ .f32 0x40000000#32)
  :: StableHlo.unary main_cst_10 main_v56 (broadcastInDim S4x100 ![] bcast_S_S4x100 : Arr F S_ .f32 → Arr F S4x100 .f32)
  :: StableHlo.binary main_v47 main_v56 main_v57 (Host.divf : Arr F S4x100 .f32 → Arr F S4x100 .f32 → Arr F S4x100 .f32)
  :: StableHlo.binary main_v43 main_v57 main_v58 (addf : Arr F S4x100 .f32 → Arr F S4x100 .f32 → Arr F S4x100 .f32)
  :: StableHlo.nullary main_cst_11 (constant S_ .f32 0x40000000#32)
  :: StableHlo.unary main_cst_11 main_v59 (broadcastInDim S4x100 ![] bcast_S_S4x100 : Arr F S_ .f32 → Arr F S4x100 .f32)
  :: StableHlo.binary main_v49 main_v59 main_v60 (Host.divf : Arr F S4x100 .f32 → Arr F S4x100 .f32 → Arr F S4x100 .f32)
  :: StableHlo.binary main_v45 main_v60 main_v61 (addf : Arr F S4x100 .f32 → Arr F S4x100 .f32 → Arr F S4x100 .f32)
  :: StableHlo.unary main_v38 main_v62 ((extractStridedSlice S4x100x1 ![0, 0, 4] · slices_S4x100x117_S4x100x1_0_0_4) : Arr F S4x100x117 .f32 → Arr F S4x100x1 .f32)
  :: StableHlo.reshape main_v62 main_v63 (rfl : (.f32 : EltTy) = .f32) shapeCasts_S4x100x1_S4x100
  :: StableHlo.unary main_v38 main_v64 ((extractStridedSlice S4x100x80 ![0, 0, 5] · slices_S4x100x117_S4x100x80_0_0_5) : Arr F S4x100x117 .f32 → Arr F S4x100x80 .f32)
  :: StableHlo.nullary main_cst_12 (constant S_ .f32 0xFF800000#32)
  :: StableHlo.binary main_v64 main_cst_12 main_v65 ((fun x v => Host.reduce FloatOps.maximumf x v reducesTo_S4x100x80_S4x100_d2 h_S_) : Arr F S4x100x80 .f32 → Arr F S_ .f32 → Arr F S4x100 .f32)
  :: StableHlo.binary main_v63 main_v65 main_v66 (mulf : Arr F S4x100 .f32 → Arr F S4x100 .f32 → Arr F S4x100 .f32)
  :: StableHlo.nullary main_cst_13 (constant S_ .f32 0x00000000#32)
  :: [] )
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.nullary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.nullary_bufs_sub .., StableHlo.binary_bufs_sub .., StableHlo.binary_bufs_sub .., StableHlo.nullary_bufs_sub ..⟩
/-- 3 host operations of @_where_1 (main_call4), in order. -/
abbrev hostOps0_2 : List (HloOp τ sig (Elt F)) :=
  [ StableHlo.TRef.unary (.of main_cst_13 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S4x100, .f32⟩) (broadcastInDim S4x100 ![] bcast_S_S4x100),
    StableHlo.TRef.ternary (.of main_v30 : StableHlo.TRef sig ⟨S4x100, .i1⟩) (.of main_v66 : StableHlo.TRef sig ⟨S4x100, .f32⟩) (.of main_call4_v1 : StableHlo.TRef sig ⟨S4x100, .f32⟩) (.of main_v67 : StableHlo.TRef sig ⟨S4x100, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @main, in order. -/
abbrev hostOps0_3 : List (HloOp τ sig (Elt F)) :=
  [ StableHlo.unary main_v38 main_v68 ((extractStridedSlice S4x100x80 ![0, 0, 5] · slices_S4x100x117_S4x100x80_0_0_5) : Arr F S4x100x117 .f32 → Arr F S4x100x80 .f32) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  StableHlo.unary_bufs_sub ..
/-- 5 host operations of @argmax_2 (main_call5), in order. -/
abbrev hostOps0_4 : List (HloOp τ sig (Elt F)) :=
  [ StableHlo.TRef.nullary (.of main_call5_v0 : StableHlo.TRef sig ⟨S4x100x80, .i32⟩) (iotaInDim S4x100x80 32 2),
    StableHlo.TRef.nullary (.of main_call5_cst : StableHlo.TRef sig ⟨S_, .f32⟩) (constant S_ .f32 0xFF800000#32),
    StableHlo.TRef.nullary (.of main_call5_c : StableHlo.TRef sig ⟨S_, .i32⟩) (constantI S_ 32 0#32),
    StableHlo.TRef.quaternary (.of main_v68 : StableHlo.TRef sig ⟨S4x100x80, .f32⟩) (.of main_call5_v0 : StableHlo.TRef sig ⟨S4x100x80, .i32⟩) (.of main_call5_cst : StableHlo.TRef sig ⟨S_, .f32⟩) (.of main_call5_c : StableHlo.TRef sig ⟨S_, .i32⟩) (.of main_call5_v1_0 : StableHlo.TRef sig ⟨S4x100, .f32⟩) (fun x y u v j => (Host.argReduce reducer_argmax_f32_i32 x y u v reducesTo_S4x100x80_S4x100_d2 h_S_ j).1),
    StableHlo.TRef.quaternary (.of main_v68 : StableHlo.TRef sig ⟨S4x100x80, .f32⟩) (.of main_call5_v0 : StableHlo.TRef sig ⟨S4x100x80, .i32⟩) (.of main_call5_cst : StableHlo.TRef sig ⟨S_, .f32⟩) (.of main_call5_c : StableHlo.TRef sig ⟨S_, .i32⟩) (.of main_v69 : StableHlo.TRef sig ⟨S4x100, .i32⟩) (fun x y u v j => (Host.argReduce reducer_argmax_f32_i32 x y u v reducesTo_S4x100x80_S4x100_d2 h_S_ j).2) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of @main, in order. -/
abbrev hostOps0_5 : List (HloOp τ sig (Elt F)) :=
  [ StableHlo.unary main_v38 main_v70 ((extractStridedSlice S4x100x32 ![0, 0, 85] · slices_S4x100x117_S4x100x32_0_0_85) : Arr F S4x100x117 .f32 → Arr F S4x100x32 .f32) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  StableHlo.unary_bufs_sub ..
/-- 47 host operations of @main, window 0 (statements 1 … 60), in order. -/
abbrev main_part0_ops0 : List (HloOp τ sig (Elt F)) :=
  ( StableHlo.unary main_arg0 main_v0 ((extractStridedSlice S4x20000x1 ![0, 0, 0] · slices_S4x20000x117_S4x20000x1_0_0_0) : Arr F S4x20000x117 .f32 → Arr F S4x20000x1 .f32)
  :: StableHlo.reshape main_v0 main_v1 (rfl : (.f32 : EltTy) = .f32) shapeCasts_S4x20000x1_S4x20000
  :: StableHlo.unary main_arg0 main_v2 ((extractStridedSlice S4x20000x1 ![0, 0, 1] · slices_S4x20000x117_S4x20000x1_0_0_1) : Arr F S4x20000x117 .f32 → Arr F S4x20000x1 .f32)
  :: StableHlo.reshape main_v2 main_v3 (rfl : (.f32 : EltTy) = .f32) shapeCasts_S4x20000x1_S4x20000
  :: StableHlo.unary main_arg0 main_v4 ((extractStridedSlice S4x20000x1 ![0, 0, 2] · slices_S4x20000x117_S4x20000x1_0_0_2) : Arr F S4x20000x117 .f32 → Arr F S4x20000x1 .f32)
  :: StableHlo.reshape main_v4 main_v5 (rfl : (.f32 : EltTy) = .f32) shapeCasts_S4x20000x1_S4x20000
  :: StableHlo.unary main_arg0 main_v6 ((extractStridedSlice S4x20000x1 ![0, 0, 3] · slices_S4x20000x117_S4x20000x1_0_0_3) : Arr F S4x20000x117 .f32 → Arr F S4x20000x1 .f32)
  :: StableHlo.reshape main_v6 main_v7 (rfl : (.f32 : EltTy) = .f32) shapeCasts_S4x20000x1_S4x20000
  :: StableHlo.nullary main_cst (constant S_ .f32 0x40000000#32)
  :: StableHlo.unary main_cst main_v8 (broadcastInDim S4x20000 ![] bcast_S_S4x20000 : Arr F S_ .f32 → Arr F S4x20000 .f32)
  :: StableHlo.binary main_v5 main_v8 main_v9 (Host.divf : Arr F S4x20000 .f32 → Arr F S4x20000 .f32 → Arr F S4x20000 .f32)
  :: StableHlo.binary main_v1 main_v9 main_v10 (subf : Arr F S4x20000 .f32 → Arr F S4x20000 .f32 → Arr F S4x20000 .f32)
  :: StableHlo.nullary main_cst_0 (constant S_ .f32 0x40000000#32)
  :: StableHlo.unary main_cst_0 main_v11 (broadcastInDim S4x20000 ![] bcast_S_S4x20000 : Arr F S_ .f32 → Arr F S4x20000 .f32)
  :: StableHlo.binary main_v7 main_v11 main_v12 (Host.divf : Arr F S4x20000 .f32 → Arr F S4x20000 .f32 → Arr F S4x20000 .f32)
  :: StableHlo.binary main_v3 main_v12 main_v13 (subf : Arr F S4x20000 .f32 → Arr F S4x20000 .f32 → Arr F S4x20000 .f32)
  :: StableHlo.nullary main_cst_1 (constant S_ .f32 0x40000000#32)
  :: StableHlo.unary main_cst_1 main_v14 (broadcastInDim S4x20000 ![] bcast_S_S4x20000 : Arr F S_ .f32 → Arr F S4x20000 .f32)
  :: StableHlo.binary main_v5 main_v14 main_v15 (Host.divf : Arr F S4x20000 .f32 → Arr F S4x20000 .f32 → Arr F S4x20000 .f32)
  :: StableHlo.binary main_v1 main_v15 main_v16 (addf : Arr F S4x20000 .f32 → Arr F S4x20000 .f32 → Arr F S4x20000 .f32)
  :: StableHlo.nullary main_cst_2 (constant S_ .f32 0x40000000#32)
  :: StableHlo.unary main_cst_2 main_v17 (broadcastInDim S4x20000 ![] bcast_S_S4x20000 : Arr F S_ .f32 → Arr F S4x20000 .f32)
  :: StableHlo.binary main_v7 main_v17 main_v18 (Host.divf : Arr F S4x20000 .f32 → Arr F S4x20000 .f32 → Arr F S4x20000 .f32)
  :: StableHlo.binary main_v3 main_v18 main_v19 (addf : Arr F S4x20000 .f32 → Arr F S4x20000 .f32 → Arr F S4x20000 .f32)
  :: StableHlo.unary main_arg0 main_v20 ((extractStridedSlice S4x20000x1 ![0, 0, 4] · slices_S4x20000x117_S4x20000x1_0_0_4) : Arr F S4x20000x117 .f32 → Arr F S4x20000x1 .f32)
  :: StableHlo.reshape main_v20 main_v21 (rfl : (.f32 : EltTy) = .f32) shapeCasts_S4x20000x1_S4x20000
  :: StableHlo.unary main_arg0 main_v22 ((extractStridedSlice S4x20000x80 ![0, 0, 5] · slices_S4x20000x117_S4x20000x80_0_0_5) : Arr F S4x20000x117 .f32 → Arr F S4x20000x80 .f32)
  :: StableHlo.nullary main_cst_3 (constant S_ .f32 0xFF800000#32)
  :: StableHlo.binary main_v22 main_cst_3 main_v23 ((fun x v => Host.reduce FloatOps.maximumf x v reducesTo_S4x20000x80_S4x20000_d2 h_S_) : Arr F S4x20000x80 .f32 → Arr F S_ .f32 → Arr F S4x20000 .f32)
  :: StableHlo.binary main_v21 main_v23 main_v24 (mulf : Arr F S4x20000 .f32 → Arr F S4x20000 .f32 → Arr F S4x20000 .f32)
  :: StableHlo.nullary main_cst_4 (constant S_ .f32 0x3E800000#32)
  :: StableHlo.unary main_cst_4 main_v25 (broadcastInDim S4x20000 ![] bcast_S_S4x20000 : Arr F S_ .f32 → Arr F S4x20000 .f32)
  :: StableHlo.binary main_v24 main_v25 main_v26 (cmpf .ogt : Arr F S4x20000 .f32 → Arr F S4x20000 .f32 → Arr F S4x20000 .i1)
  :: StableHlo.nullary main_c (constantI S_ 32 0#32)
  :: StableHlo.unary main_c main_v27 (broadcastInDim S100x4 ![] bcast_S_S100x4 : Arr F S_ .i32 → Arr F S100x4 .i32)
  :: StableHlo.nullary main_c_5 (constantI S_ 1 0#1)
  :: StableHlo.unary main_c_5 main_v28 (broadcastInDim S100x4 ![] bcast_S_S100x4 : Arr F S_ .i1 → Arr F S100x4 .i1)
  :: StableHlo.nullary main_c_6 (constantI S_ 32 0#32)
  :: StableHlo.unary main_v24 main_v29_0 id
  :: StableHlo.unary main_v10 main_v29_1 id
  :: StableHlo.unary main_v13 main_v29_2 id
  :: StableHlo.unary main_v16 main_v29_3 id
  :: StableHlo.unary main_v19 main_v29_4 id
  :: StableHlo.unary main_c_6 main_v29_5 id
  :: StableHlo.unary main_v26 main_v29_6 id
  :: StableHlo.unary main_v27 main_v29_7 id
  :: StableHlo.unary main_v28 main_v29_8 id
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 12 host operations of @main, window 0 (statements 1 … 60), in order. -/
abbrev main_part0_ops1 : List (HloOp τ sig (Elt F)) :=
  [ StableHlo.unary main_v29_8 main_v30 ((transpose S4x100 [1, 0] · transposes_S100x4_S4x100_1_0) : Arr F S100x4 .i1 → Arr F S4x100 .i1),
    StableHlo.unary main_v29_7 main_v31 ((transpose S4x100 [1, 0] · transposes_S100x4_S4x100_1_0) : Arr F S100x4 .i32 → Arr F S4x100 .i32),
    StableHlo.nullary main_v32 (iotaInDim S4 32 0),
    StableHlo.reshape main_v32 main_v33 (rfl : (.i32 : EltTy) = .i32) shapeCasts_S4_S4x1,
    StableHlo.unary main_v33 main_v34 (broadcastInDim S4x100 ![0, 1] bcast_S4x1_S4x100_0_1 : Arr F S4x1 .i32 → Arr F S4x100 .i32),
    StableHlo.unary main_v34 main_v35 (broadcastInDim S4x100x1 ![0, 1] bcast_S4x100_S4x100x1_0_1 : Arr F S4x100 .i32 → Arr F S4x100x1 .i32),
    StableHlo.unary main_v31 main_v36 (broadcastInDim S4x100x1 ![0, 1] bcast_S4x100_S4x100x1_0_1 : Arr F S4x100 .i32 → Arr F S4x100x1 .i32),
    StableHlo.binary main_v35 main_v36 main_v37 ((fun a b => concatenate S4x100x2 2 [⟨S4x100x1, a⟩, ⟨S4x100x1, b⟩] concatenates_S4x100x1_S4x100x1_S4x100x2_d2) : Arr F S4x100x1 .i32 → Arr F S4x100x1 .i32 → Arr F S4x100x2 .i32),
    StableHlo.binary main_arg0 main_v37 main_v38 ((fun x i => Host.gather gather_S4x20000x117_S4x100x2_S4x100x117_2_01_n_n_01_2_11117 x i) : Arr F S4x20000x117 .f32 → Arr F S4x100x2 .i32 → Arr F S4x100x117 .f32),
    StableHlo.unary main_v30 main_v39 ((extui 32 · natLt_1_32) : Arr F S4x100 .i1 → Arr F S4x100 .i32),
    StableHlo.nullary main_c_7 (constantI S_ 32 0#32),
    StableHlo.binary main_v39 main_c_7 main_v40 ((fun x v => Host.reduce IntOp.addi x v reducesTo_S4x100_S4_d1 h_S_) : Arr F S4x100 .i32 → Arr F S_ .i32 → Arr F S4 .i32) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.nullary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- 32 host operations of @main, window 1 (statements 61 … 97), in order. -/
abbrev main_part1_ops0 : List (HloOp τ sig (Elt F)) :=
  [ StableHlo.unary main_v40 main_v41 (broadcastInDim S4x1 ![0] bcast_S4_S4x1_0 : Arr F S4 .i32 → Arr F S4x1 .i32),
    StableHlo.unary main_v38 main_v42 ((extractStridedSlice S4x100x1 ![0, 0, 0] · slices_S4x100x117_S4x100x1_0_0_0) : Arr F S4x100x117 .f32 → Arr F S4x100x1 .f32),
    StableHlo.reshape main_v42 main_v43 (rfl : (.f32 : EltTy) = .f32) shapeCasts_S4x100x1_S4x100,
    StableHlo.unary main_v38 main_v44 ((extractStridedSlice S4x100x1 ![0, 0, 1] · slices_S4x100x117_S4x100x1_0_0_1) : Arr F S4x100x117 .f32 → Arr F S4x100x1 .f32),
    StableHlo.reshape main_v44 main_v45 (rfl : (.f32 : EltTy) = .f32) shapeCasts_S4x100x1_S4x100,
    StableHlo.unary main_v38 main_v46 ((extractStridedSlice S4x100x1 ![0, 0, 2] · slices_S4x100x117_S4x100x1_0_0_2) : Arr F S4x100x117 .f32 → Arr F S4x100x1 .f32),
    StableHlo.reshape main_v46 main_v47 (rfl : (.f32 : EltTy) = .f32) shapeCasts_S4x100x1_S4x100,
    StableHlo.unary main_v38 main_v48 ((extractStridedSlice S4x100x1 ![0, 0, 3] · slices_S4x100x117_S4x100x1_0_0_3) : Arr F S4x100x117 .f32 → Arr F S4x100x1 .f32),
    StableHlo.reshape main_v48 main_v49 (rfl : (.f32 : EltTy) = .f32) shapeCasts_S4x100x1_S4x100,
    StableHlo.nullary main_cst_8 (constant S_ .f32 0x40000000#32),
    StableHlo.unary main_cst_8 main_v50 (broadcastInDim S4x100 ![] bcast_S_S4x100 : Arr F S_ .f32 → Arr F S4x100 .f32),
    StableHlo.binary main_v47 main_v50 main_v51 (Host.divf : Arr F S4x100 .f32 → Arr F S4x100 .f32 → Arr F S4x100 .f32),
    StableHlo.binary main_v43 main_v51 main_v52 (subf : Arr F S4x100 .f32 → Arr F S4x100 .f32 → Arr F S4x100 .f32),
    StableHlo.nullary main_cst_9 (constant S_ .f32 0x40000000#32),
    StableHlo.unary main_cst_9 main_v53 (broadcastInDim S4x100 ![] bcast_S_S4x100 : Arr F S_ .f32 → Arr F S4x100 .f32),
    StableHlo.binary main_v49 main_v53 main_v54 (Host.divf : Arr F S4x100 .f32 → Arr F S4x100 .f32 → Arr F S4x100 .f32),
    StableHlo.binary main_v45 main_v54 main_v55 (subf : Arr F S4x100 .f32 → Arr F S4x100 .f32 → Arr F S4x100 .f32),
    StableHlo.nullary main_cst_10 (constant S_ .f32 0x40000000#32),
    StableHlo.unary main_cst_10 main_v56 (broadcastInDim S4x100 ![] bcast_S_S4x100 : Arr F S_ .f32 → Arr F S4x100 .f32),
    StableHlo.binary main_v47 main_v56 main_v57 (Host.divf : Arr F S4x100 .f32 → Arr F S4x100 .f32 → Arr F S4x100 .f32),
    StableHlo.binary main_v43 main_v57 main_v58 (addf : Arr F S4x100 .f32 → Arr F S4x100 .f32 → Arr F S4x100 .f32),
    StableHlo.nullary main_cst_11 (constant S_ .f32 0x40000000#32),
    StableHlo.unary main_cst_11 main_v59 (broadcastInDim S4x100 ![] bcast_S_S4x100 : Arr F S_ .f32 → Arr F S4x100 .f32),
    StableHlo.binary main_v49 main_v59 main_v60 (Host.divf : Arr F S4x100 .f32 → Arr F S4x100 .f32 → Arr F S4x100 .f32),
    StableHlo.binary main_v45 main_v60 main_v61 (addf : Arr F S4x100 .f32 → Arr F S4x100 .f32 → Arr F S4x100 .f32),
    StableHlo.unary main_v38 main_v62 ((extractStridedSlice S4x100x1 ![0, 0, 4] · slices_S4x100x117_S4x100x1_0_0_4) : Arr F S4x100x117 .f32 → Arr F S4x100x1 .f32),
    StableHlo.reshape main_v62 main_v63 (rfl : (.f32 : EltTy) = .f32) shapeCasts_S4x100x1_S4x100,
    StableHlo.unary main_v38 main_v64 ((extractStridedSlice S4x100x80 ![0, 0, 5] · slices_S4x100x117_S4x100x80_0_0_5) : Arr F S4x100x117 .f32 → Arr F S4x100x80 .f32),
    StableHlo.nullary main_cst_12 (constant S_ .f32 0xFF800000#32),
    StableHlo.binary main_v64 main_cst_12 main_v65 ((fun x v => Host.reduce FloatOps.maximumf x v reducesTo_S4x100x80_S4x100_d2 h_S_) : Arr F S4x100x80 .f32 → Arr F S_ .f32 → Arr F S4x100 .f32),
    StableHlo.binary main_v63 main_v65 main_v66 (mulf : Arr F S4x100 .f32 → Arr F S4x100 .f32 → Arr F S4x100 .f32),
    StableHlo.nullary main_cst_13 (constant S_ .f32 0x00000000#32) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.nullary_bufs_sub .., StableHlo.binary_bufs_sub .., StableHlo.binary_bufs_sub .., StableHlo.nullary_bufs_sub ..⟩
/-- 3 host operations of @_where_1 (main_call4), window 1 (statements 61 … 97), in order. -/
abbrev main_part1_ops1 : List (HloOp τ sig (Elt F)) :=
  [ StableHlo.TRef.unary (.of main_cst_13 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S4x100, .f32⟩) (broadcastInDim S4x100 ![] bcast_S_S4x100),
    StableHlo.TRef.ternary (.of main_v30 : StableHlo.TRef sig ⟨S4x100, .i1⟩) (.of main_v66 : StableHlo.TRef sig ⟨S4x100, .f32⟩) (.of main_call4_v1 : StableHlo.TRef sig ⟨S4x100, .f32⟩) (.of main_v67 : StableHlo.TRef sig ⟨S4x100, .f32⟩) select ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @main, window 1 (statements 61 … 97), in order. -/
abbrev main_part1_ops2 : List (HloOp τ sig (Elt F)) :=
  [ StableHlo.unary main_v38 main_v68 ((extractStridedSlice S4x100x80 ![0, 0, 5] · slices_S4x100x117_S4x100x80_0_0_5) : Arr F S4x100x117 .f32 → Arr F S4x100x80 .f32) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  StableHlo.unary_bufs_sub ..
/-- 5 host operations of @argmax_2 (main_call5), window 1 (statements 61 … 97), in order. -/
abbrev main_part1_ops3 : List (HloOp τ sig (Elt F)) :=
  [ StableHlo.TRef.nullary (.of main_call5_v0 : StableHlo.TRef sig ⟨S4x100x80, .i32⟩) (iotaInDim S4x100x80 32 2),
    StableHlo.TRef.nullary (.of main_call5_cst : StableHlo.TRef sig ⟨S_, .f32⟩) (constant S_ .f32 0xFF800000#32),
    StableHlo.TRef.nullary (.of main_call5_c : StableHlo.TRef sig ⟨S_, .i32⟩) (constantI S_ 32 0#32),
    StableHlo.TRef.quaternary (.of main_v68 : StableHlo.TRef sig ⟨S4x100x80, .f32⟩) (.of main_call5_v0 : StableHlo.TRef sig ⟨S4x100x80, .i32⟩) (.of main_call5_cst : StableHlo.TRef sig ⟨S_, .f32⟩) (.of main_call5_c : StableHlo.TRef sig ⟨S_, .i32⟩) (.of main_call5_v1_0 : StableHlo.TRef sig ⟨S4x100, .f32⟩) (fun x y u v j => (Host.argReduce reducer_argmax_f32_i32 x y u v reducesTo_S4x100x80_S4x100_d2 h_S_ j).1),
    StableHlo.TRef.quaternary (.of main_v68 : StableHlo.TRef sig ⟨S4x100x80, .f32⟩) (.of main_call5_v0 : StableHlo.TRef sig ⟨S4x100x80, .i32⟩) (.of main_call5_cst : StableHlo.TRef sig ⟨S_, .f32⟩) (.of main_call5_c : StableHlo.TRef sig ⟨S_, .i32⟩) (.of main_v69 : StableHlo.TRef sig ⟨S4x100, .i32⟩) (fun x y u v j => (Host.argReduce reducer_argmax_f32_i32 x y u v reducesTo_S4x100x80_S4x100_d2 h_S_ j).2) ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of @main, window 1 (statements 61 … 97), in order. -/
abbrev main_part1_ops4 : List (HloOp τ sig (Elt F)) :=
  [ StableHlo.unary main_v38 main_v70 ((extractStridedSlice S4x100x32 ![0, 0, 85] · slices_S4x100x117_S4x100x32_0_0_85) : Arr F S4x100x117 .f32 → Arr F S4x100x32 .f32) ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  StableHlo.unary_bufs_sub ..
/-- The last window of `main` (`main_part1`, statements 61 … 97) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1, main_part1_ops0],
    .ops [main_part1_ops1],
    .ops [main_part1_ops2],
    .ops [main_part1_ops3],
    .ops [main_part1_ops4] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 1 host operation of host loop 0's body region, in order. -/
abbrev while0Ops0 : List (HloOp τ sig (Elt F)) :=
  [ StableHlo.nullary main_while0b_cst_22 (constant S_ .f32 0xFF800000#32) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  StableHlo.nullary_bufs_sub ..
/-- 3 host operations of @_where (main_while0b_call0), in order. -/
abbrev while0Ops0_1 : List (HloOp τ sig (Elt F)) :=
  [ StableHlo.TRef.unary (.of main_while0b_cst_22 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S4x20000, .f32⟩) (broadcastInDim S4x20000 ![] bcast_S_S4x20000),
    StableHlo.TRef.ternary (.of main_v29_6 : StableHlo.TRef sig ⟨S4x20000, .i1⟩) (.of main_v29_0 : StableHlo.TRef sig ⟨S4x20000, .f32⟩) (.of main_while0b_call0_v1 : StableHlo.TRef sig ⟨S4x20000, .f32⟩) (.of main_while0b_v71 : StableHlo.TRef sig ⟨S4x20000, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.ternary_bufs_sub ..⟩
/-- 5 host operations of @argmax (main_while0b_call1), in order. -/
abbrev while0Ops0_2 : List (HloOp τ sig (Elt F)) :=
  [ StableHlo.TRef.nullary (.of main_while0b_call1_v0 : StableHlo.TRef sig ⟨S4x20000, .i32⟩) (iotaInDim S4x20000 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v71 : StableHlo.TRef sig ⟨S4x20000, .f32⟩) (.of main_while0b_call1_v0 : StableHlo.TRef sig ⟨S4x20000, .i32⟩) (.of main_while0b_call1_cst : StableHlo.TRef sig ⟨S_, .f32⟩) (.of main_while0b_call1_c : StableHlo.TRef sig ⟨S_, .i32⟩) (.of main_while0b_call1_v1_0 : StableHlo.TRef sig ⟨S4, .f32⟩) (fun x y u v j => (Host.argReduce reducer_argmax_f32_i32 x y u v reducesTo_S4x20000_S4_d1 h_S_ j).1),
    StableHlo.TRef.quaternary (.of main_while0b_v71 : StableHlo.TRef sig ⟨S4x20000, .f32⟩) (.of main_while0b_call1_v0 : StableHlo.TRef sig ⟨S4x20000, .i32⟩) (.of main_while0b_call1_cst : StableHlo.TRef sig ⟨S_, .f32⟩) (.of main_while0b_call1_c : StableHlo.TRef sig ⟨S_, .i32⟩) (.of main_while0b_v72 : StableHlo.TRef sig ⟨S4, .i32⟩) (fun x y u v j => (Host.argReduce reducer_argmax_f32_i32 x y u v reducesTo_S4x20000_S4_d1 h_S_ j).2) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
set_option maxHeartbeats 40000000 in  -- a long stretch: its list (or the term over it) exceeds the default budget
/-- 73 host operations of host loop 0's body region, in order. -/
abbrev while0Ops0_3 : List (HloOp τ sig (Elt F)) :=
  ( StableHlo.nullary main_while0b_v73 (iotaInDim S4 32 0)
  :: StableHlo.unary main_while0b_v73 main_while0b_v74 (broadcastInDim S4x1 ![0] bcast_S4_S4x1_0 : Arr F S4 .i32 → Arr F S4x1 .i32)
  :: StableHlo.unary main_while0b_v72 main_while0b_v75 (broadcastInDim S4x1 ![0] bcast_S4_S4x1_0 : Arr F S4 .i32 → Arr F S4x1 .i32)
  :: StableHlo.binary main_while0b_v74 main_while0b_v75 main_while0b_v76 ((fun a b => concatenate S4x2 1 [⟨S4x1, a⟩, ⟨S4x1, b⟩] concatenates_S4x1_S4x1_S4x2_d1) : Arr F S4x1 .i32 → Arr F S4x1 .i32 → Arr F S4x2 .i32)
  :: StableHlo.binary main_while0b_v71 main_while0b_v76 main_while0b_v77 ((fun x i => Host.gather gather_S4x20000_S4x2_S4_n_01_n_n_01_1_11 x i) : Arr F S4x20000 .f32 → Arr F S4x2 .i32 → Arr F S4 .f32)
  :: StableHlo.nullary main_while0b_cst_23 (constant S_ .f32 0x3E800000#32)
  :: StableHlo.unary main_while0b_cst_23 main_while0b_v78 (broadcastInDim S4 ![] bcast_S_S4 : Arr F S_ .f32 → Arr F S4 .f32)
  :: StableHlo.binary main_while0b_v77 main_while0b_v78 main_while0b_v79 (cmpf .ogt : Arr F S4 .f32 → Arr F S4 .f32 → Arr F S4 .i1)
  :: StableHlo.nullary main_while0b_v80 (iotaInDim S4 32 0)
  :: StableHlo.unary main_while0b_v80 main_while0b_v81 (broadcastInDim S4x1 ![0] bcast_S4_S4x1_0 : Arr F S4 .i32 → Arr F S4x1 .i32)
  :: StableHlo.unary main_while0b_v72 main_while0b_v82 (broadcastInDim S4x1 ![0] bcast_S4_S4x1_0 : Arr F S4 .i32 → Arr F S4x1 .i32)
  :: StableHlo.binary main_while0b_v81 main_while0b_v82 main_while0b_v83 ((fun a b => concatenate S4x2 1 [⟨S4x1, a⟩, ⟨S4x1, b⟩] concatenates_S4x1_S4x1_S4x2_d1) : Arr F S4x1 .i32 → Arr F S4x1 .i32 → Arr F S4x2 .i32)
  :: StableHlo.binary main_v29_1 main_while0b_v83 main_while0b_v84 ((fun x i => Host.gather gather_S4x20000_S4x2_S4_n_01_n_n_01_1_11 x i) : Arr F S4x20000 .f32 → Arr F S4x2 .i32 → Arr F S4 .f32)
  :: StableHlo.unary main_while0b_v84 main_while0b_v85 (broadcastInDim S4x1 ![0] bcast_S4_S4x1_0 : Arr F S4 .f32 → Arr F S4x1 .f32)
  :: StableHlo.nullary main_while0b_v86 (iotaInDim S4 32 0)
  :: StableHlo.unary main_while0b_v86 main_while0b_v87 (broadcastInDim S4x1 ![0] bcast_S4_S4x1_0 : Arr F S4 .i32 → Arr F S4x1 .i32)
  :: StableHlo.unary main_while0b_v72 main_while0b_v88 (broadcastInDim S4x1 ![0] bcast_S4_S4x1_0 : Arr F S4 .i32 → Arr F S4x1 .i32)
  :: StableHlo.binary main_while0b_v87 main_while0b_v88 main_while0b_v89 ((fun a b => concatenate S4x2 1 [⟨S4x1, a⟩, ⟨S4x1, b⟩] concatenates_S4x1_S4x1_S4x2_d1) : Arr F S4x1 .i32 → Arr F S4x1 .i32 → Arr F S4x2 .i32)
  :: StableHlo.binary main_v29_2 main_while0b_v89 main_while0b_v90 ((fun x i => Host.gather gather_S4x20000_S4x2_S4_n_01_n_n_01_1_11 x i) : Arr F S4x20000 .f32 → Arr F S4x2 .i32 → Arr F S4 .f32)
  :: StableHlo.unary main_while0b_v90 main_while0b_v91 (broadcastInDim S4x1 ![0] bcast_S4_S4x1_0 : Arr F S4 .f32 → Arr F S4x1 .f32)
  :: StableHlo.nullary main_while0b_v92 (iotaInDim S4 32 0)
  :: StableHlo.unary main_while0b_v92 main_while0b_v93 (broadcastInDim S4x1 ![0] bcast_S4_S4x1_0 : Arr F S4 .i32 → Arr F S4x1 .i32)
  :: StableHlo.unary main_while0b_v72 main_while0b_v94 (broadcastInDim S4x1 ![0] bcast_S4_S4x1_0 : Arr F S4 .i32 → Arr F S4x1 .i32)
  :: StableHlo.binary main_while0b_v93 main_while0b_v94 main_while0b_v95 ((fun a b => concatenate S4x2 1 [⟨S4x1, a⟩, ⟨S4x1, b⟩] concatenates_S4x1_S4x1_S4x2_d1) : Arr F S4x1 .i32 → Arr F S4x1 .i32 → Arr F S4x2 .i32)
  :: StableHlo.binary main_v29_3 main_while0b_v95 main_while0b_v96 ((fun x i => Host.gather gather_S4x20000_S4x2_S4_n_01_n_n_01_1_11 x i) : Arr F S4x20000 .f32 → Arr F S4x2 .i32 → Arr F S4 .f32)
  :: StableHlo.unary main_while0b_v96 main_while0b_v97 (broadcastInDim S4x1 ![0] bcast_S4_S4x1_0 : Arr F S4 .f32 → Arr F S4x1 .f32)
  :: StableHlo.nullary main_while0b_v98 (iotaInDim S4 32 0)
  :: StableHlo.unary main_while0b_v98 main_while0b_v99 (broadcastInDim S4x1 ![0] bcast_S4_S4x1_0 : Arr F S4 .i32 → Arr F S4x1 .i32)
  :: StableHlo.unary main_while0b_v72 main_while0b_v100 (broadcastInDim S4x1 ![0] bcast_S4_S4x1_0 : Arr F S4 .i32 → Arr F S4x1 .i32)
  :: StableHlo.binary main_while0b_v99 main_while0b_v100 main_while0b_v101 ((fun a b => concatenate S4x2 1 [⟨S4x1, a⟩, ⟨S4x1, b⟩] concatenates_S4x1_S4x1_S4x2_d1) : Arr F S4x1 .i32 → Arr F S4x1 .i32 → Arr F S4x2 .i32)
  :: StableHlo.binary main_v29_4 main_while0b_v101 main_while0b_v102 ((fun x i => Host.gather gather_S4x20000_S4x2_S4_n_01_n_n_01_1_11 x i) : Arr F S4x20000 .f32 → Arr F S4x2 .i32 → Arr F S4 .f32)
  :: StableHlo.unary main_while0b_v102 main_while0b_v103 (broadcastInDim S4x1 ![0] bcast_S4_S4x1_0 : Arr F S4 .f32 → Arr F S4x1 .f32)
  :: StableHlo.unary main_while0b_v97 main_while0b_v104 (broadcastInDim S4x20000 ![0, 1] bcast_S4x1_S4x20000_0_1 : Arr F S4x1 .f32 → Arr F S4x20000 .f32)
  :: StableHlo.binary main_while0b_v104 main_v29_3 main_while0b_v105 (minimumf : Arr F S4x20000 .f32 → Arr F S4x20000 .f32 → Arr F S4x20000 .f32)
  :: StableHlo.unary main_while0b_v85 main_while0b_v106 (broadcastInDim S4x20000 ![0, 1] bcast_S4x1_S4x20000_0_1 : Arr F S4x1 .f32 → Arr F S4x20000 .f32)
  :: StableHlo.binary main_while0b_v106 main_v29_1 main_while0b_v107 (maximumf : Arr F S4x20000 .f32 → Arr F S4x20000 .f32 → Arr F S4x20000 .f32)
  :: StableHlo.binary main_while0b_v105 main_while0b_v107 main_while0b_v108 (subf : Arr F S4x20000 .f32 → Arr F S4x20000 .f32 → Arr F S4x20000 .f32)
  :: StableHlo.nullary main_while0b_cst_24 (constant S_ .f32 0x00000000#32)
  :: StableHlo.unary main_while0b_cst_24 main_while0b_v109 (broadcastInDim S4x20000 ![] bcast_S_S4x20000 : Arr F S_ .f32 → Arr F S4x20000 .f32)
  :: StableHlo.binary main_while0b_v108 main_while0b_v109 main_while0b_v110 (maximumf : Arr F S4x20000 .f32 → Arr F S4x20000 .f32 → Arr F S4x20000 .f32)
  :: StableHlo.unary main_while0b_v103 main_while0b_v111 (broadcastInDim S4x20000 ![0, 1] bcast_S4x1_S4x20000_0_1 : Arr F S4x1 .f32 → Arr F S4x20000 .f32)
  :: StableHlo.binary main_while0b_v111 main_v29_4 main_while0b_v112 (minimumf : Arr F S4x20000 .f32 → Arr F S4x20000 .f32 → Arr F S4x20000 .f32)
  :: StableHlo.unary main_while0b_v91 main_while0b_v113 (broadcastInDim S4x20000 ![0, 1] bcast_S4x1_S4x20000_0_1 : Arr F S4x1 .f32 → Arr F S4x20000 .f32)
  :: StableHlo.binary main_while0b_v113 main_v29_2 main_while0b_v114 (maximumf : Arr F S4x20000 .f32 → Arr F S4x20000 .f32 → Arr F S4x20000 .f32)
  :: StableHlo.binary main_while0b_v112 main_while0b_v114 main_while0b_v115 (subf : Arr F S4x20000 .f32 → Arr F S4x20000 .f32 → Arr F S4x20000 .f32)
  :: StableHlo.nullary main_while0b_cst_25 (constant S_ .f32 0x00000000#32)
  :: StableHlo.unary main_while0b_cst_25 main_while0b_v116 (broadcastInDim S4x20000 ![] bcast_S_S4x20000 : Arr F S_ .f32 → Arr F S4x20000 .f32)
  :: StableHlo.binary main_while0b_v115 main_while0b_v116 main_while0b_v117 (maximumf : Arr F S4x20000 .f32 → Arr F S4x20000 .f32 → Arr F S4x20000 .f32)
  :: StableHlo.binary main_while0b_v110 main_while0b_v117 main_while0b_v118 (mulf : Arr F S4x20000 .f32 → Arr F S4x20000 .f32 → Arr F S4x20000 .f32)
  :: StableHlo.binary main_while0b_v97 main_while0b_v85 main_while0b_v119 (subf : Arr F S4x1 .f32 → Arr F S4x1 .f32 → Arr F S4x1 .f32)
  :: StableHlo.binary main_while0b_v103 main_while0b_v91 main_while0b_v120 (subf : Arr F S4x1 .f32 → Arr F S4x1 .f32 → Arr F S4x1 .f32)
  :: StableHlo.binary main_while0b_v119 main_while0b_v120 main_while0b_v121 (mulf : Arr F S4x1 .f32 → Arr F S4x1 .f32 → Arr F S4x1 .f32)
  :: StableHlo.binary main_v29_3 main_v29_1 main_while0b_v122 (subf : Arr F S4x20000 .f32 → Arr F S4x20000 .f32 → Arr F S4x20000 .f32)
  :: StableHlo.binary main_v29_4 main_v29_2 main_while0b_v123 (subf : Arr F S4x20000 .f32 → Arr F S4x20000 .f32 → Arr F S4x20000 .f32)
  :: StableHlo.binary main_while0b_v122 main_while0b_v123 main_while0b_v124 (mulf : Arr F S4x20000 .f32 → Arr F S4x20000 .f32 → Arr F S4x20000 .f32)
  :: StableHlo.unary main_while0b_v121 main_while0b_v125 (broadcastInDim S4x20000 ![0, 1] bcast_S4x1_S4x20000_0_1 : Arr F S4x1 .f32 → Arr F S4x20000 .f32)
  :: StableHlo.binary main_while0b_v125 main_while0b_v124 main_while0b_v126 (addf : Arr F S4x20000 .f32 → Arr F S4x20000 .f32 → Arr F S4x20000 .f32)
  :: StableHlo.binary main_while0b_v126 main_while0b_v118 main_while0b_v127 (subf : Arr F S4x20000 .f32 → Arr F S4x20000 .f32 → Arr F S4x20000 .f32)
  :: StableHlo.nullary main_while0b_cst_26 (constant S_ .f32 0x3089705F#32)
  :: StableHlo.unary main_while0b_cst_26 main_while0b_v128 (broadcastInDim S4x20000 ![] bcast_S_S4x20000 : Arr F S_ .f32 → Arr F S4x20000 .f32)
  :: StableHlo.binary main_while0b_v127 main_while0b_v128 main_while0b_v129 (addf : Arr F S4x20000 .f32 → Arr F S4x20000 .f32 → Arr F S4x20000 .f32)
  :: StableHlo.binary main_while0b_v118 main_while0b_v129 main_while0b_v130 (Host.divf : Arr F S4x20000 .f32 → Arr F S4x20000 .f32 → Arr F S4x20000 .f32)
  :: StableHlo.nullary main_while0b_v131 (iotaInDim S20000 32 0)
  :: StableHlo.nullary main_while0b_cst_27 (constant S_ .f32 0x3EE66666#32)
  :: StableHlo.unary main_while0b_cst_27 main_while0b_v132 (broadcastInDim S4x20000 ![] bcast_S_S4x20000 : Arr F S_ .f32 → Arr F S4x20000 .f32)
  :: StableHlo.binary main_while0b_v130 main_while0b_v132 main_while0b_v133 (cmpf .ole : Arr F S4x20000 .f32 → Arr F S4x20000 .f32 → Arr F S4x20000 .i1)
  :: StableHlo.binary main_v29_6 main_while0b_v133 main_while0b_v134 (andi : Arr F S4x20000 .i1 → Arr F S4x20000 .i1 → Arr F S4x20000 .i1)
  :: StableHlo.unary main_while0b_v72 main_while0b_v135 (broadcastInDim S4x1 ![0] bcast_S4_S4x1_0 : Arr F S4 .i32 → Arr F S4x1 .i32)
  :: StableHlo.unary main_while0b_v131 main_while0b_v136 (broadcastInDim S1x20000 ![1] bcast_S20000_S1x20000_1 : Arr F S20000 .i32 → Arr F S1x20000 .i32)
  :: StableHlo.unary main_while0b_v136 main_while0b_v137 (broadcastInDim S4x20000 ![0, 1] bcast_S1x20000_S4x20000_0_1 : Arr F S1x20000 .i32 → Arr F S4x20000 .i32)
  :: StableHlo.unary main_while0b_v135 main_while0b_v138 (broadcastInDim S4x20000 ![0, 1] bcast_S4x1_S4x20000_0_1 : Arr F S4x1 .i32 → Arr F S4x20000 .i32)
  :: StableHlo.binary main_while0b_v137 main_while0b_v138 main_while0b_v139 (cmpi .ne : Arr F S4x20000 .i32 → Arr F S4x20000 .i32 → Arr F S4x20000 .i1)
  :: StableHlo.binary main_while0b_v134 main_while0b_v139 main_while0b_v140 (andi : Arr F S4x20000 .i1 → Arr F S4x20000 .i1 → Arr F S4x20000 .i1)
  :: [] )
set_option maxHeartbeats 40000000 in  -- a long stretch: its list (or the term over it) exceeds the default budget
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub ..⟩
/-- 3 host operations of @dynamic_update_index_in_dim (main_while0b_call2), in order. -/
abbrev while0Ops0_4 : List (HloOp τ sig (Elt F)) :=
  [ StableHlo.TRef.unary (.of main_while0b_v72 : StableHlo.TRef sig ⟨S4, .i32⟩) (.of main_while0b_call2_v0 : StableHlo.TRef sig ⟨S1x4, .i32⟩) (broadcastInDim S1x4 ![1] bcast_S4_S1x4_1),
    StableHlo.TRef.nullary (.of main_while0b_call2_c : StableHlo.TRef sig ⟨S_, .i32⟩) (constantI S_ 32 0#32),
    StableHlo.TRef.binaryIndexed (.of main_v29_7 : StableHlo.TRef sig ⟨S100x4, .i32⟩) (.of main_while0b_call2_v0 : StableHlo.TRef sig ⟨S1x4, .i32⟩) ![(.of main_v29_5 : StableHlo.TRef sig ⟨S_, .i32⟩), (.of main_while0b_call2_c : StableHlo.TRef sig ⟨S_, .i32⟩)] (.of main_while0b_v141 : StableHlo.TRef sig ⟨S100x4, .i32⟩) (fun x u i => Host.dynamicUpdateSlice x u (fun k => (i k (Shape.Idx.first h_S_)).toInt) updateFits_S100x4_S1x4) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.binaryIndexed_bufs_sub ..⟩
/-- 3 host operations of @dynamic_update_index_in_dim_0 (main_while0b_call3), in order. -/
abbrev while0Ops0_5 : List (HloOp τ sig (Elt F)) :=
  [ StableHlo.TRef.unary (.of main_while0b_v79 : StableHlo.TRef sig ⟨S4, .i1⟩) (.of main_while0b_call3_v0 : StableHlo.TRef sig ⟨S1x4, .i1⟩) (broadcastInDim S1x4 ![1] bcast_S4_S1x4_1),
    StableHlo.TRef.nullary (.of main_while0b_call3_c : StableHlo.TRef sig ⟨S_, .i32⟩) (constantI S_ 32 0#32),
    StableHlo.TRef.binaryIndexed (.of main_v29_8 : StableHlo.TRef sig ⟨S100x4, .i1⟩) (.of main_while0b_call3_v0 : StableHlo.TRef sig ⟨S1x4, .i1⟩) ![(.of main_v29_5 : StableHlo.TRef sig ⟨S_, .i32⟩), (.of main_while0b_call3_c : StableHlo.TRef sig ⟨S_, .i32⟩)] (.of main_while0b_v142 : StableHlo.TRef sig ⟨S100x4, .i1⟩) (fun x u i => Host.dynamicUpdateSlice x u (fun k => (i k (Shape.Idx.first h_S_)).toInt) updateFits_S100x4_S1x4) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 0's body region, in order. -/
abbrev while0Ops0_6 : List (HloOp τ sig (Elt F)) :=
  [ StableHlo.nullary main_while0b_c_28 (constantI S_ 32 1#32),
    StableHlo.binary main_v29_5 main_while0b_c_28 main_while0b_v143 (addi : Arr F S_ .i32 → Arr F S_ .i32 → Arr F S_ .i32),
    StableHlo.unary main_while0b_v143 main_v29_5 id,
    StableHlo.unary main_while0b_v140 main_v29_6 id,
    StableHlo.unary main_while0b_v141 main_v29_7 id,
    StableHlo.unary main_while0b_v142 main_v29_8 id ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, Pipeline.chain_cons, StableHlo.chain_seq_cons]
  chain_rfl

end Cert.SelectRefIdeal.Gen

namespace Cert.SelectRefIdeal.Value

open Cert.SelectRefIdeal Cert.SelectRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_v5, main_v6, main_v7, main_cst, main_v8, main_v9, main_v10, main_cst_0, main_v11, main_v12, main_v13, main_cst_1, main_v14, main_v15, main_v16, main_cst_2, main_v17, main_v18, main_v19, main_v20, main_v21, main_v22, main_cst_3, main_v23, main_v24, main_cst_4, main_v25, main_v26, main_c, main_v27, main_c_5, main_v28, main_c_6, main_v29_0, main_v29_1, main_v29_2, main_v29_3, main_v29_4, main_v29_5, main_v29_6, main_v29_7, main_v29_8]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_cst_22]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_v1, main_while0b_v71]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call1_v0, main_while0b_call1_cst, main_while0b_call1_c, main_while0b_call1_v1_0, main_while0b_v72]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v73, main_while0b_v74, main_while0b_v75, main_while0b_v76, main_while0b_v77, main_while0b_cst_23, main_while0b_v78, main_while0b_v79, main_while0b_v80, main_while0b_v81, main_while0b_v82, main_while0b_v83, main_while0b_v84, main_while0b_v85, main_while0b_v86, main_while0b_v87, main_while0b_v88, main_while0b_v89, main_while0b_v90, main_while0b_v91, main_while0b_v92, main_while0b_v93, main_while0b_v94, main_while0b_v95, main_while0b_v96, main_while0b_v97, main_while0b_v98, main_while0b_v99, main_while0b_v100, main_while0b_v101, main_while0b_v102, main_while0b_v103, main_while0b_v104, main_while0b_v105, main_while0b_v106, main_while0b_v107, main_while0b_v108, main_while0b_cst_24, main_while0b_v109, main_while0b_v110, main_while0b_v111, main_while0b_v112, main_while0b_v113, main_while0b_v114, main_while0b_v115, main_while0b_cst_25, main_while0b_v116, main_while0b_v117, main_while0b_v118, main_while0b_v119, main_while0b_v120, main_while0b_v121, main_while0b_v122, main_while0b_v123, main_while0b_v124, main_while0b_v125, main_while0b_v126, main_while0b_v127, main_while0b_cst_26, main_while0b_v128, main_while0b_v129, main_while0b_v130, main_while0b_v131, main_while0b_cst_27, main_while0b_v132, main_while0b_v133, main_while0b_v134, main_while0b_v135, main_while0b_v136, main_while0b_v137, main_while0b_v138, main_while0b_v139, main_while0b_v140]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call2_v0, main_while0b_call2_c, main_while0b_v141]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call3_v0, main_while0b_call3_c, main_while0b_v142]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_c_28, main_while0b_v143, main_v29_5, main_v29_6, main_v29_7, main_v29_8]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_1` writes, in order. -/
abbrev hostOps0_1_W : List (Ref sig .tc) := [main_v30, main_v31, main_v32, main_v33, main_v34, main_v35, main_v36, main_v37, main_v38, main_v39, main_c_7, main_v40, main_v41, main_v42, main_v43, main_v44, main_v45, main_v46, main_v47, main_v48, main_v49, main_cst_8, main_v50, main_v51, main_v52, main_cst_9, main_v53, main_v54, main_v55, main_cst_10, main_v56, main_v57, main_v58, main_cst_11, main_v59, main_v60, main_v61, main_v62, main_v63, main_v64, main_cst_12, main_v65, main_v66, main_cst_13]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call4_v0, main_call4_v1, main_v67]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v68]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call5_v0, main_call5_cst, main_call5_c, main_call5_v1_0, main_v69]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_v70]
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_22 (constantI S_ 32 100#32),
    StableHlo.binary main_v29_5 main_while0c_c_22 main_while0c_v71 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6]
abbrev postI : List (List (HloOp τ sig (Elt F))) := [hostOps0_1, hostOps0_2, hostOps0_3, hostOps0_4, hostOps0_5]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.nil)))))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.nil)))))

/-- The reference each operation of `condOps` writes, in order. -/
abbrev condOps_W : List (Ref sig .tc) := [main_while0c_c_22, main_while0c_v71]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v29_5`) is written by one stretch of the body, `while0Ops0_6`: not by the condition, nor by the
    body's other stretches. -/
theorem ctr_cond (V : Valuation τ sig (Elt F)) : after condOps V (Proc.devRef .tc main_v29_5) = V (Proc.devRef .tc main_v29_5) :=
  after_of_writes_sub condOps V condOps_writes (by decide +kernel)
theorem ctr_while0Ops0 (V : Valuation τ sig (Elt F)) : after while0Ops0 V (Proc.devRef .tc main_v29_5) = V (Proc.devRef .tc main_v29_5) :=
  after_of_writes_sub while0Ops0 V while0Ops0_writes (by decide +kernel)
theorem ctr_while0Ops0_1 (V : Valuation τ sig (Elt F)) : after while0Ops0_1 V (Proc.devRef .tc main_v29_5) = V (Proc.devRef .tc main_v29_5) :=
  after_of_writes_sub while0Ops0_1 V while0Ops0_1_writes (by decide +kernel)
theorem ctr_while0Ops0_2 (V : Valuation τ sig (Elt F)) : after while0Ops0_2 V (Proc.devRef .tc main_v29_5) = V (Proc.devRef .tc main_v29_5) :=
  after_of_writes_sub while0Ops0_2 V while0Ops0_2_writes (by decide +kernel)
theorem ctr_while0Ops0_3 (V : Valuation τ sig (Elt F)) : after while0Ops0_3 V (Proc.devRef .tc main_v29_5) = V (Proc.devRef .tc main_v29_5) :=
  after_of_writes_sub while0Ops0_3 V while0Ops0_3_writes (by decide +kernel)
theorem ctr_while0Ops0_4 (V : Valuation τ sig (Elt F)) : after while0Ops0_4 V (Proc.devRef .tc main_v29_5) = V (Proc.devRef .tc main_v29_5) :=
  after_of_writes_sub while0Ops0_4 V while0Ops0_4_writes (by decide +kernel)
theorem ctr_while0Ops0_5 (V : Valuation τ sig (Elt F)) : after while0Ops0_5 V (Proc.devRef .tc main_v29_5) = V (Proc.devRef .tc main_v29_5) :=
  after_of_writes_sub while0Ops0_5 V while0Ops0_5_writes (by decide +kernel)

set_option maxRecDepth 100000 in
/-- `while0Ops0_6` leaves the counter one step on. -/
theorem ctr_step (X : Valuation τ sig (Elt F)) :
    after while0Ops0_6 X (Proc.devRef .tc main_v29_5) = addi (X (Proc.devRef .tc main_v29_5)) (constantI S_ 32 1#32) := by
  after_results
  rfl

/-- The counter is the loop's lower bound at the loop's entry: its last writer before the loop read back. -/
theorem ctr_entry (c : Dev nD) : entryContents preI m c (Proc.devRef .tc main_v29_5) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v29_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v29_5 HostLoop.idx0)
        (HloOp.result _ (atK m k c) main_while0c_c_22 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 100 m ρ (cond_spec m)

end Cert.SelectRefIdeal.Value

end
-- ==== Proof.SelRefTrip.lean ====
/-
  The reference selection program's loop, one trip at a time: the values a trip computes from any contents, the step, and
  each result as the step iterated.
-/
module

public import proofs.«01_k».proof.Proof.SelRefRun

@[expose] public section

set_option maxRecDepth 8192
set_option maxHeartbeats 2000000

noncomputable section

namespace Cert.SelectRefIdeal.Value

open Cert.SelectRefIdeal Cert.SelectRefIdeal.Gen
open Cert.SelectRefIdeal.Step (Arr rowsAt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
variable (m : (ℓ : Loc nD τ sig) → Buf (Elt F) ℓ) (ρ : Dev nD → PrngReg)

/-! ## One trip's values -/

/-- The function of the body's operation that writes `main_while0b_v76`, named. It packs its operands into a list of dependent pairs
    whose shapes a later argument's type mentions, so `simp` cannot rewrite an operand where it stands; applied by
    name, the operands are plain arguments, which the window lemmas below rewrite before the name unfolds. -/
def fn_main_while0b_v76 : Arr F S4x1 .i32 → Arr F S4x1 .i32 → Arr F S4x2 .i32 :=
  (fun a b => concatenate S4x2 1 [⟨S4x1, a⟩, ⟨S4x1, b⟩] concatenates_S4x1_S4x1_S4x2_d1)

/-- The function of the body's operation that writes `main_while0b_v83`, named. It packs its operands into a list of dependent pairs
    whose shapes a later argument's type mentions, so `simp` cannot rewrite an operand where it stands; applied by
    name, the operands are plain arguments, which the window lemmas below rewrite before the name unfolds. -/
def fn_main_while0b_v83 : Arr F S4x1 .i32 → Arr F S4x1 .i32 → Arr F S4x2 .i32 :=
  (fun a b => concatenate S4x2 1 [⟨S4x1, a⟩, ⟨S4x1, b⟩] concatenates_S4x1_S4x1_S4x2_d1)

/-- The function of the body's operation that writes `main_while0b_v89`, named. It packs its operands into a list of dependent pairs
    whose shapes a later argument's type mentions, so `simp` cannot rewrite an operand where it stands; applied by
    name, the operands are plain arguments, which the window lemmas below rewrite before the name unfolds. -/
def fn_main_while0b_v89 : Arr F S4x1 .i32 → Arr F S4x1 .i32 → Arr F S4x2 .i32 :=
  (fun a b => concatenate S4x2 1 [⟨S4x1, a⟩, ⟨S4x1, b⟩] concatenates_S4x1_S4x1_S4x2_d1)

/-- The function of the body's operation that writes `main_while0b_v95`, named. It packs its operands into a list of dependent pairs
    whose shapes a later argument's type mentions, so `simp` cannot rewrite an operand where it stands; applied by
    name, the operands are plain arguments, which the window lemmas below rewrite before the name unfolds. -/
def fn_main_while0b_v95 : Arr F S4x1 .i32 → Arr F S4x1 .i32 → Arr F S4x2 .i32 :=
  (fun a b => concatenate S4x2 1 [⟨S4x1, a⟩, ⟨S4x1, b⟩] concatenates_S4x1_S4x1_S4x2_d1)

/-- The function of the body's operation that writes `main_while0b_v101`, named. It packs its operands into a list of dependent pairs
    whose shapes a later argument's type mentions, so `simp` cannot rewrite an operand where it stands; applied by
    name, the operands are plain arguments, which the window lemmas below rewrite before the name unfolds. -/
def fn_main_while0b_v101 : Arr F S4x1 .i32 → Arr F S4x1 .i32 → Arr F S4x2 .i32 :=
  (fun a b => concatenate S4x2 1 [⟨S4x1, a⟩, ⟨S4x1, b⟩] concatenates_S4x1_S4x1_S4x2_d1)

/-- The body's operations 1 … 1 of 94. -/
abbrev trip_w0 : List (HloOp τ sig (Elt F)) :=
  [ StableHlo.nullary main_while0b_cst_22 (constant S_ .f32 0xFF800000#32) ]

/-- The body's operations 2 … 4 of 94. -/
abbrev trip_w1 : List (HloOp τ sig (Elt F)) :=
  [ StableHlo.TRef.unary (.of main_while0b_cst_22 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S4x20000, .f32⟩) (broadcastInDim S4x20000 ![] bcast_S_S4x20000),
    StableHlo.TRef.ternary (.of main_v29_6 : StableHlo.TRef sig ⟨S4x20000, .i1⟩) (.of main_v29_0 : StableHlo.TRef sig ⟨S4x20000, .f32⟩) (.of main_while0b_call0_v1 : StableHlo.TRef sig ⟨S4x20000, .f32⟩) (.of main_while0b_v71 : StableHlo.TRef sig ⟨S4x20000, .f32⟩) select ]

/-- The body's operations 5 … 9 of 94. -/
abbrev trip_w2 : List (HloOp τ sig (Elt F)) :=
  [ StableHlo.TRef.nullary (.of main_while0b_call1_v0 : StableHlo.TRef sig ⟨S4x20000, .i32⟩) (iotaInDim S4x20000 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v71 : StableHlo.TRef sig ⟨S4x20000, .f32⟩) (.of main_while0b_call1_v0 : StableHlo.TRef sig ⟨S4x20000, .i32⟩) (.of main_while0b_call1_cst : StableHlo.TRef sig ⟨S_, .f32⟩) (.of main_while0b_call1_c : StableHlo.TRef sig ⟨S_, .i32⟩) (.of main_while0b_call1_v1_0 : StableHlo.TRef sig ⟨S4, .f32⟩) (fun x y u v j => (Host.argReduce reducer_argmax_f32_i32 x y u v reducesTo_S4x20000_S4_d1 h_S_ j).1),
    StableHlo.TRef.quaternary (.of main_while0b_v71 : StableHlo.TRef sig ⟨S4x20000, .f32⟩) (.of main_while0b_call1_v0 : StableHlo.TRef sig ⟨S4x20000, .i32⟩) (.of main_while0b_call1_cst : StableHlo.TRef sig ⟨S_, .f32⟩) (.of main_while0b_call1_c : StableHlo.TRef sig ⟨S_, .i32⟩) (.of main_while0b_v72 : StableHlo.TRef sig ⟨S4, .i32⟩) (fun x y u v j => (Host.argReduce reducer_argmax_f32_i32 x y u v reducesTo_S4x20000_S4_d1 h_S_ j).2) ]

/-- The body's operations 10 … 33 of 94. -/
abbrev trip_w3 : List (HloOp τ sig (Elt F)) :=
  [ StableHlo.nullary main_while0b_v73 (iotaInDim S4 32 0),
    StableHlo.unary main_while0b_v73 main_while0b_v74 (broadcastInDim S4x1 ![0] bcast_S4_S4x1_0 : Arr F S4 .i32 → Arr F S4x1 .i32),
    StableHlo.unary main_while0b_v72 main_while0b_v75 (broadcastInDim S4x1 ![0] bcast_S4_S4x1_0 : Arr F S4 .i32 → Arr F S4x1 .i32),
    StableHlo.binary main_while0b_v74 main_while0b_v75 main_while0b_v76 (fn_main_while0b_v76 (F := F)),
    StableHlo.binary main_while0b_v71 main_while0b_v76 main_while0b_v77 ((fun x i => Host.gather gather_S4x20000_S4x2_S4_n_01_n_n_01_1_11 x i) : Arr F S4x20000 .f32 → Arr F S4x2 .i32 → Arr F S4 .f32),
    StableHlo.nullary main_while0b_cst_23 (constant S_ .f32 0x3E800000#32),
    StableHlo.unary main_while0b_cst_23 main_while0b_v78 (broadcastInDim S4 ![] bcast_S_S4 : Arr F S_ .f32 → Arr F S4 .f32),
    StableHlo.binary main_while0b_v77 main_while0b_v78 main_while0b_v79 (cmpf .ogt : Arr F S4 .f32 → Arr F S4 .f32 → Arr F S4 .i1),
    StableHlo.nullary main_while0b_v80 (iotaInDim S4 32 0),
    StableHlo.unary main_while0b_v80 main_while0b_v81 (broadcastInDim S4x1 ![0] bcast_S4_S4x1_0 : Arr F S4 .i32 → Arr F S4x1 .i32),
    StableHlo.unary main_while0b_v72 main_while0b_v82 (broadcastInDim S4x1 ![0] bcast_S4_S4x1_0 : Arr F S4 .i32 → Arr F S4x1 .i32),
    StableHlo.binary main_while0b_v81 main_while0b_v82 main_while0b_v83 (fn_main_while0b_v83 (F := F)),
    StableHlo.binary main_v29_1 main_while0b_v83 main_while0b_v84 ((fun x i => Host.gather gather_S4x20000_S4x2_S4_n_01_n_n_01_1_11 x i) : Arr F S4x20000 .f32 → Arr F S4x2 .i32 → Arr F S4 .f32),
    StableHlo.unary main_while0b_v84 main_while0b_v85 (broadcastInDim S4x1 ![0] bcast_S4_S4x1_0 : Arr F S4 .f32 → Arr F S4x1 .f32),
    StableHlo.nullary main_while0b_v86 (iotaInDim S4 32 0),
    StableHlo.unary main_while0b_v86 main_while0b_v87 (broadcastInDim S4x1 ![0] bcast_S4_S4x1_0 : Arr F S4 .i32 → Arr F S4x1 .i32),
    StableHlo.unary main_while0b_v72 main_while0b_v88 (broadcastInDim S4x1 ![0] bcast_S4_S4x1_0 : Arr F S4 .i32 → Arr F S4x1 .i32),
    StableHlo.binary main_while0b_v87 main_while0b_v88 main_while0b_v89 (fn_main_while0b_v89 (F := F)),
    StableHlo.binary main_v29_2 main_while0b_v89 main_while0b_v90 ((fun x i => Host.gather gather_S4x20000_S4x2_S4_n_01_n_n_01_1_11 x i) : Arr F S4x20000 .f32 → Arr F S4x2 .i32 → Arr F S4 .f32),
    StableHlo.unary main_while0b_v90 main_while0b_v91 (broadcastInDim S4x1 ![0] bcast_S4_S4x1_0 : Arr F S4 .f32 → Arr F S4x1 .f32),
    StableHlo.nullary main_while0b_v92 (iotaInDim S4 32 0),
    StableHlo.unary main_while0b_v92 main_while0b_v93 (broadcastInDim S4x1 ![0] bcast_S4_S4x1_0 : Arr F S4 .i32 → Arr F S4x1 .i32),
    StableHlo.unary main_while0b_v72 main_while0b_v94 (broadcastInDim S4x1 ![0] bcast_S4_S4x1_0 : Arr F S4 .i32 → Arr F S4x1 .i32),
    StableHlo.binary main_while0b_v93 main_while0b_v94 main_while0b_v95 (fn_main_while0b_v95 (F := F)) ]

/-- The body's operations 34 … 57 of 94. -/
abbrev trip_w4 : List (HloOp τ sig (Elt F)) :=
  [ StableHlo.binary main_v29_3 main_while0b_v95 main_while0b_v96 ((fun x i => Host.gather gather_S4x20000_S4x2_S4_n_01_n_n_01_1_11 x i) : Arr F S4x20000 .f32 → Arr F S4x2 .i32 → Arr F S4 .f32),
    StableHlo.unary main_while0b_v96 main_while0b_v97 (broadcastInDim S4x1 ![0] bcast_S4_S4x1_0 : Arr F S4 .f32 → Arr F S4x1 .f32),
    StableHlo.nullary main_while0b_v98 (iotaInDim S4 32 0),
    StableHlo.unary main_while0b_v98 main_while0b_v99 (broadcastInDim S4x1 ![0] bcast_S4_S4x1_0 : Arr F S4 .i32 → Arr F S4x1 .i32),
    StableHlo.unary main_while0b_v72 main_while0b_v100 (broadcastInDim S4x1 ![0] bcast_S4_S4x1_0 : Arr F S4 .i32 → Arr F S4x1 .i32),
    StableHlo.binary main_while0b_v99 main_while0b_v100 main_while0b_v101 (fn_main_while0b_v101 (F := F)),
    StableHlo.binary main_v29_4 main_while0b_v101 main_while0b_v102 ((fun x i => Host.gather gather_S4x20000_S4x2_S4_n_01_n_n_01_1_11 x i) : Arr F S4x20000 .f32 → Arr F S4x2 .i32 → Arr F S4 .f32),
    StableHlo.unary main_while0b_v102 main_while0b_v103 (broadcastInDim S4x1 ![0] bcast_S4_S4x1_0 : Arr F S4 .f32 → Arr F S4x1 .f32),
    StableHlo.unary main_while0b_v97 main_while0b_v104 (broadcastInDim S4x20000 ![0, 1] bcast_S4x1_S4x20000_0_1 : Arr F S4x1 .f32 → Arr F S4x20000 .f32),
    StableHlo.binary main_while0b_v104 main_v29_3 main_while0b_v105 (minimumf : Arr F S4x20000 .f32 → Arr F S4x20000 .f32 → Arr F S4x20000 .f32),
    StableHlo.unary main_while0b_v85 main_while0b_v106 (broadcastInDim S4x20000 ![0, 1] bcast_S4x1_S4x20000_0_1 : Arr F S4x1 .f32 → Arr F S4x20000 .f32),
    StableHlo.binary main_while0b_v106 main_v29_1 main_while0b_v107 (maximumf : Arr F S4x20000 .f32 → Arr F S4x20000 .f32 → Arr F S4x20000 .f32),
    StableHlo.binary main_while0b_v105 main_while0b_v107 main_while0b_v108 (subf : Arr F S4x20000 .f32 → Arr F S4x20000 .f32 → Arr F S4x20000 .f32),
    StableHlo.nullary main_while0b_cst_24 (constant S_ .f32 0x00000000#32),
    StableHlo.unary main_while0b_cst_24 main_while0b_v109 (broadcastInDim S4x20000 ![] bcast_S_S4x20000 : Arr F S_ .f32 → Arr F S4x20000 .f32),
    StableHlo.binary main_while0b_v108 main_while0b_v109 main_while0b_v110 (maximumf : Arr F S4x20000 .f32 → Arr F S4x20000 .f32 → Arr F S4x20000 .f32),
    StableHlo.unary main_while0b_v103 main_while0b_v111 (broadcastInDim S4x20000 ![0, 1] bcast_S4x1_S4x20000_0_1 : Arr F S4x1 .f32 → Arr F S4x20000 .f32),
    StableHlo.binary main_while0b_v111 main_v29_4 main_while0b_v112 (minimumf : Arr F S4x20000 .f32 → Arr F S4x20000 .f32 → Arr F S4x20000 .f32),
    StableHlo.unary main_while0b_v91 main_while0b_v113 (broadcastInDim S4x20000 ![0, 1] bcast_S4x1_S4x20000_0_1 : Arr F S4x1 .f32 → Arr F S4x20000 .f32),
    StableHlo.binary main_while0b_v113 main_v29_2 main_while0b_v114 (maximumf : Arr F S4x20000 .f32 → Arr F S4x20000 .f32 → Arr F S4x20000 .f32),
    StableHlo.binary main_while0b_v112 main_while0b_v114 main_while0b_v115 (subf : Arr F S4x20000 .f32 → Arr F S4x20000 .f32 → Arr F S4x20000 .f32),
    StableHlo.nullary main_while0b_cst_25 (constant S_ .f32 0x00000000#32),
    StableHlo.unary main_while0b_cst_25 main_while0b_v116 (broadcastInDim S4x20000 ![] bcast_S_S4x20000 : Arr F S_ .f32 → Arr F S4x20000 .f32),
    StableHlo.binary main_while0b_v115 main_while0b_v116 main_while0b_v117 (maximumf : Arr F S4x20000 .f32 → Arr F S4x20000 .f32 → Arr F S4x20000 .f32) ]

/-- The body's operations 58 … 81 of 94. -/
abbrev trip_w5 : List (HloOp τ sig (Elt F)) :=
  [ StableHlo.binary main_while0b_v110 main_while0b_v117 main_while0b_v118 (mulf : Arr F S4x20000 .f32 → Arr F S4x20000 .f32 → Arr F S4x20000 .f32),
    StableHlo.binary main_while0b_v97 main_while0b_v85 main_while0b_v119 (subf : Arr F S4x1 .f32 → Arr F S4x1 .f32 → Arr F S4x1 .f32),
    StableHlo.binary main_while0b_v103 main_while0b_v91 main_while0b_v120 (subf : Arr F S4x1 .f32 → Arr F S4x1 .f32 → Arr F S4x1 .f32),
    StableHlo.binary main_while0b_v119 main_while0b_v120 main_while0b_v121 (mulf : Arr F S4x1 .f32 → Arr F S4x1 .f32 → Arr F S4x1 .f32),
    StableHlo.binary main_v29_3 main_v29_1 main_while0b_v122 (subf : Arr F S4x20000 .f32 → Arr F S4x20000 .f32 → Arr F S4x20000 .f32),
    StableHlo.binary main_v29_4 main_v29_2 main_while0b_v123 (subf : Arr F S4x20000 .f32 → Arr F S4x20000 .f32 → Arr F S4x20000 .f32),
    StableHlo.binary main_while0b_v122 main_while0b_v123 main_while0b_v124 (mulf : Arr F S4x20000 .f32 → Arr F S4x20000 .f32 → Arr F S4x20000 .f32),
    StableHlo.unary main_while0b_v121 main_while0b_v125 (broadcastInDim S4x20000 ![0, 1] bcast_S4x1_S4x20000_0_1 : Arr F S4x1 .f32 → Arr F S4x20000 .f32),
    StableHlo.binary main_while0b_v125 main_while0b_v124 main_while0b_v126 (addf : Arr F S4x20000 .f32 → Arr F S4x20000 .f32 → Arr F S4x20000 .f32),
    StableHlo.binary main_while0b_v126 main_while0b_v118 main_while0b_v127 (subf : Arr F S4x20000 .f32 → Arr F S4x20000 .f32 → Arr F S4x20000 .f32),
    StableHlo.nullary main_while0b_cst_26 (constant S_ .f32 0x3089705F#32),
    StableHlo.unary main_while0b_cst_26 main_while0b_v128 (broadcastInDim S4x20000 ![] bcast_S_S4x20000 : Arr F S_ .f32 → Arr F S4x20000 .f32),
    StableHlo.binary main_while0b_v127 main_while0b_v128 main_while0b_v129 (addf : Arr F S4x20000 .f32 → Arr F S4x20000 .f32 → Arr F S4x20000 .f32),
    StableHlo.binary main_while0b_v118 main_while0b_v129 main_while0b_v130 (Host.divf : Arr F S4x20000 .f32 → Arr F S4x20000 .f32 → Arr F S4x20000 .f32),
    StableHlo.nullary main_while0b_v131 (iotaInDim S20000 32 0),
    StableHlo.nullary main_while0b_cst_27 (constant S_ .f32 0x3EE66666#32),
    StableHlo.unary main_while0b_cst_27 main_while0b_v132 (broadcastInDim S4x20000 ![] bcast_S_S4x20000 : Arr F S_ .f32 → Arr F S4x20000 .f32),
    StableHlo.binary main_while0b_v130 main_while0b_v132 main_while0b_v133 (cmpf .ole : Arr F S4x20000 .f32 → Arr F S4x20000 .f32 → Arr F S4x20000 .i1),
    StableHlo.binary main_v29_6 main_while0b_v133 main_while0b_v134 (andi : Arr F S4x20000 .i1 → Arr F S4x20000 .i1 → Arr F S4x20000 .i1),
    StableHlo.unary main_while0b_v72 main_while0b_v135 (broadcastInDim S4x1 ![0] bcast_S4_S4x1_0 : Arr F S4 .i32 → Arr F S4x1 .i32),
    StableHlo.unary main_while0b_v131 main_while0b_v136 (broadcastInDim S1x20000 ![1] bcast_S20000_S1x20000_1 : Arr F S20000 .i32 → Arr F S1x20000 .i32),
    StableHlo.unary main_while0b_v136 main_while0b_v137 (broadcastInDim S4x20000 ![0, 1] bcast_S1x20000_S4x20000_0_1 : Arr F S1x20000 .i32 → Arr F S4x20000 .i32),
    StableHlo.unary main_while0b_v135 main_while0b_v138 (broadcastInDim S4x20000 ![0, 1] bcast_S4x1_S4x20000_0_1 : Arr F S4x1 .i32 → Arr F S4x20000 .i32),
    StableHlo.binary main_while0b_v137 main_while0b_v138 main_while0b_v139 (cmpi .ne : Arr F S4x20000 .i32 → Arr F S4x20000 .i32 → Arr F S4x20000 .i1) ]

/-- The body's operations 82 … 82 of 94. -/
abbrev trip_w6 : List (HloOp τ sig (Elt F)) :=
  [ StableHlo.binary main_while0b_v134 main_while0b_v139 main_while0b_v140 (andi : Arr F S4x20000 .i1 → Arr F S4x20000 .i1 → Arr F S4x20000 .i1) ]

/-- The body's operations 83 … 85 of 94. -/
abbrev trip_w7 : List (HloOp τ sig (Elt F)) :=
  [ StableHlo.TRef.unary (.of main_while0b_v72 : StableHlo.TRef sig ⟨S4, .i32⟩) (.of main_while0b_call2_v0 : StableHlo.TRef sig ⟨S1x4, .i32⟩) (broadcastInDim S1x4 ![1] bcast_S4_S1x4_1),
    StableHlo.TRef.nullary (.of main_while0b_call2_c : StableHlo.TRef sig ⟨S_, .i32⟩) (constantI S_ 32 0#32),
    StableHlo.TRef.binaryIndexed (.of main_v29_7 : StableHlo.TRef sig ⟨S100x4, .i32⟩) (.of main_while0b_call2_v0 : StableHlo.TRef sig ⟨S1x4, .i32⟩) ![(.of main_v29_5 : StableHlo.TRef sig ⟨S_, .i32⟩), (.of main_while0b_call2_c : StableHlo.TRef sig ⟨S_, .i32⟩)] (.of main_while0b_v141 : StableHlo.TRef sig ⟨S100x4, .i32⟩) (fun x u i => Host.dynamicUpdateSlice x u (fun k => (i k (Shape.Idx.first h_S_)).toInt) updateFits_S100x4_S1x4) ]

/-- The body's operations 86 … 88 of 94. -/
abbrev trip_w8 : List (HloOp τ sig (Elt F)) :=
  [ StableHlo.TRef.unary (.of main_while0b_v79 : StableHlo.TRef sig ⟨S4, .i1⟩) (.of main_while0b_call3_v0 : StableHlo.TRef sig ⟨S1x4, .i1⟩) (broadcastInDim S1x4 ![1] bcast_S4_S1x4_1),
    StableHlo.TRef.nullary (.of main_while0b_call3_c : StableHlo.TRef sig ⟨S_, .i32⟩) (constantI S_ 32 0#32),
    StableHlo.TRef.binaryIndexed (.of main_v29_8 : StableHlo.TRef sig ⟨S100x4, .i1⟩) (.of main_while0b_call3_v0 : StableHlo.TRef sig ⟨S1x4, .i1⟩) ![(.of main_v29_5 : StableHlo.TRef sig ⟨S_, .i32⟩), (.of main_while0b_call3_c : StableHlo.TRef sig ⟨S_, .i32⟩)] (.of main_while0b_v142 : StableHlo.TRef sig ⟨S100x4, .i1⟩) (fun x u i => Host.dynamicUpdateSlice x u (fun k => (i k (Shape.Idx.first h_S_)).toInt) updateFits_S100x4_S1x4) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 ++ (trip_w4 ++ (trip_w5 ++ (trip_w6))) := rfl
set_option maxRecDepth 5000 in
/-- `while0Ops0_4` is its windows in order. -/
theorem while0Ops0_4_cut : (while0Ops0_4 : List (HloOp τ sig (Elt F))) = trip_w7 := rfl
set_option maxRecDepth 5000 in
/-- `while0Ops0_5` is its windows in order. -/
theorem while0Ops0_5_cut : (while0Ops0_5 : List (HloOp τ sig (Elt F))) = trip_w8 := rfl

variable (V0 : Valuation τ sig (Elt F))

/-- `main_while0b_v71`'s composed term of the carried buffers (named: it is used 3 times). -/
def res_main_while0b_v71 : (Proc.devRef .tc main_while0b_v71 : DevRef τ sig).ty.Contents (Elt F) :=
  select (V0 (Proc.devRef .tc main_v29_6)) (V0 (Proc.devRef .tc main_v29_0)) (broadcastInDim S4x20000 ![] bcast_S_S4x20000 (id (constant S_ .f32 0xFF800000#32)))

/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S4x20000 32 1

/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

/-- `main_while0b_v72`'s composed term of the carried buffers (named: it is used 7 times). -/
def res_main_while0b_v72 : (Proc.devRef .tc main_while0b_v72 : DevRef τ sig).ty.Contents (Elt F) :=
  (fun j => (Host.argReduce reducer_argmax_f32_i32 (res_main_while0b_v71 V0) (res_main_while0b_call1_v0 V0) (res_main_while0b_call1_cst V0) (res_main_while0b_call1_c V0) reducesTo_S4x20000_S4_d1 h_S_ j).2)

/-- `main_while0b_v85`'s composed term of the carried buffers (named: it is used 2 times). -/
def res_main_while0b_v85 : (Proc.devRef .tc main_while0b_v85 : DevRef τ sig).ty.Contents (Elt F) :=
  broadcastInDim S4x1 ![0] bcast_S4_S4x1_0 (Host.gather gather_S4x20000_S4x2_S4_n_01_n_n_01_1_11 (V0 (Proc.devRef .tc main_v29_1)) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1))

/-- `main_while0b_v91`'s composed term of the carried buffers (named: it is used 2 times). -/
def res_main_while0b_v91 : (Proc.devRef .tc main_while0b_v91 : DevRef τ sig).ty.Contents (Elt F) :=
  broadcastInDim S4x1 ![0] bcast_S4_S4x1_0 (Host.gather gather_S4x20000_S4x2_S4_n_01_n_n_01_1_11 (V0 (Proc.devRef .tc main_v29_2)) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1))

/-- `main_while0b_v97`'s composed term of the carried buffers (named: it is used 2 times). -/
def res_main_while0b_v97 : (Proc.devRef .tc main_while0b_v97 : DevRef τ sig).ty.Contents (Elt F) :=
  broadcastInDim S4x1 ![0] bcast_S4_S4x1_0 (Host.gather gather_S4x20000_S4x2_S4_n_01_n_n_01_1_11 (V0 (Proc.devRef .tc main_v29_3)) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1))

/-- `main_while0b_v103`'s composed term of the carried buffers (named: it is used 2 times). -/
def res_main_while0b_v103 : (Proc.devRef .tc main_while0b_v103 : DevRef τ sig).ty.Contents (Elt F) :=
  broadcastInDim S4x1 ![0] bcast_S4_S4x1_0 (Host.gather gather_S4x20000_S4x2_S4_n_01_n_n_01_1_11 (V0 (Proc.devRef .tc main_v29_4)) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1))

/-- `main_while0b_v118`'s composed term of the carried buffers (named: it is used 2 times). -/
def res_main_while0b_v118 : (Proc.devRef .tc main_while0b_v118 : DevRef τ sig).ty.Contents (Elt F) :=
  mulf (maximumf (subf (minimumf (broadcastInDim S4x20000 ![0, 1] bcast_S4x1_S4x20000_0_1 (res_main_while0b_v97 V0)) (V0 (Proc.devRef .tc main_v29_3))) (maximumf (broadcastInDim S4x20000 ![0, 1] bcast_S4x1_S4x20000_0_1 (res_main_while0b_v85 V0)) (V0 (Proc.devRef .tc main_v29_1)))) (broadcastInDim S4x20000 ![] bcast_S_S4x20000 (constant S_ .f32 0x00000000#32))) (maximumf (subf (minimumf (broadcastInDim S4x20000 ![0, 1] bcast_S4x1_S4x20000_0_1 (res_main_while0b_v103 V0)) (V0 (Proc.devRef .tc main_v29_4))) (maximumf (broadcastInDim S4x20000 ![0, 1] bcast_S4x1_S4x20000_0_1 (res_main_while0b_v91 V0)) (V0 (Proc.devRef .tc main_v29_2)))) (broadcastInDim S4x20000 ![] bcast_S_S4x20000 (constant S_ .f32 0x00000000#32)))

/-- The device's buffer contents before the body's first window. -/
def val0 : Valuation τ sig (Elt F) := V0
theorem val0_main_v29_6 : val0 V0 (no_index (Proc.devRef .tc main_v29_6)) = V0 (Proc.devRef .tc main_v29_6) := rfl
theorem val0_main_v29_0 : val0 V0 (no_index (Proc.devRef .tc main_v29_0)) = V0 (Proc.devRef .tc main_v29_0) := rfl
theorem val0_main_v29_1 : val0 V0 (no_index (Proc.devRef .tc main_v29_1)) = V0 (Proc.devRef .tc main_v29_1) := rfl
theorem val0_main_v29_2 : val0 V0 (no_index (Proc.devRef .tc main_v29_2)) = V0 (Proc.devRef .tc main_v29_2) := rfl
theorem val0_main_v29_3 : val0 V0 (no_index (Proc.devRef .tc main_v29_3)) = V0 (Proc.devRef .tc main_v29_3) := rfl
theorem val0_main_v29_4 : val0 V0 (no_index (Proc.devRef .tc main_v29_4)) = V0 (Proc.devRef .tc main_v29_4) := rfl
theorem val0_main_v29_7 : val0 V0 (no_index (Proc.devRef .tc main_v29_7)) = V0 (Proc.devRef .tc main_v29_7) := rfl
theorem val0_main_v29_5 : val0 V0 (no_index (Proc.devRef .tc main_v29_5)) = V0 (Proc.devRef .tc main_v29_5) := rfl
theorem val0_main_v29_8 : val0 V0 (no_index (Proc.devRef .tc main_v29_8)) = V0 (Proc.devRef .tc main_v29_8) := rfl

/-- The device's buffer contents after the body's first 1 window. -/
def val1 : Valuation τ sig (Elt F) := after trip_w0 (val0 V0)
/-- The buffers that window `trip_w0`'s operations write. -/
abbrev trip_w0_W : List (Ref sig .tc) := [main_while0b_cst_22]
theorem trip_w0_writes : (trip_w0 : List (HloOp τ sig (Elt F))).Forall fun op => op.writes ⊆ (trip_w0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `trip_w0` does not write keeps its contents through it. -/
theorem val1_keep (r : Ref sig .tc) (h : r ∉ trip_w0_W) :
    val1 V0 (Proc.devRef .tc r) = val0 V0 (Proc.devRef .tc r) :=
  after_of_writes_sub trip_w0 _ trip_w0_writes h
theorem val1_main_v29_6 : val1 V0 (no_index (Proc.devRef .tc main_v29_6)) = V0 (Proc.devRef .tc main_v29_6) :=
  (val1_keep V0 main_v29_6 (by decide)).trans (val0_main_v29_6 V0)
theorem val1_main_v29_0 : val1 V0 (no_index (Proc.devRef .tc main_v29_0)) = V0 (Proc.devRef .tc main_v29_0) :=
  (val1_keep V0 main_v29_0 (by decide)).trans (val0_main_v29_0 V0)
theorem val1_main_v29_1 : val1 V0 (no_index (Proc.devRef .tc main_v29_1)) = V0 (Proc.devRef .tc main_v29_1) :=
  (val1_keep V0 main_v29_1 (by decide)).trans (val0_main_v29_1 V0)
theorem val1_main_v29_2 : val1 V0 (no_index (Proc.devRef .tc main_v29_2)) = V0 (Proc.devRef .tc main_v29_2) :=
  (val1_keep V0 main_v29_2 (by decide)).trans (val0_main_v29_2 V0)
theorem val1_main_v29_3 : val1 V0 (no_index (Proc.devRef .tc main_v29_3)) = V0 (Proc.devRef .tc main_v29_3) :=
  (val1_keep V0 main_v29_3 (by decide)).trans (val0_main_v29_3 V0)
theorem val1_main_v29_4 : val1 V0 (no_index (Proc.devRef .tc main_v29_4)) = V0 (Proc.devRef .tc main_v29_4) :=
  (val1_keep V0 main_v29_4 (by decide)).trans (val0_main_v29_4 V0)
theorem val1_main_v29_7 : val1 V0 (no_index (Proc.devRef .tc main_v29_7)) = V0 (Proc.devRef .tc main_v29_7) :=
  (val1_keep V0 main_v29_7 (by decide)).trans (val0_main_v29_7 V0)
theorem val1_main_v29_5 : val1 V0 (no_index (Proc.devRef .tc main_v29_5)) = V0 (Proc.devRef .tc main_v29_5) :=
  (val1_keep V0 main_v29_5 (by decide)).trans (val0_main_v29_5 V0)
theorem val1_main_v29_8 : val1 V0 (no_index (Proc.devRef .tc main_v29_8)) = V0 (Proc.devRef .tc main_v29_8) :=
  (val1_keep V0 main_v29_8 (by decide)).trans (val0_main_v29_8 V0)
theorem val1_main_while0b_cst_22 : val1 V0 (no_index (Proc.devRef .tc main_while0b_cst_22)) = constant S_ .f32 0xFF800000#32 := by
  unfold val1
  simp only [trip_w0]
  after_results_entrywise [cast_eq]

/-- The device's buffer contents after the body's first 2 windows. -/
def val2 : Valuation τ sig (Elt F) := after trip_w1 (val1 V0)
/-- The buffers that window `trip_w1`'s operations write. -/
abbrev trip_w1_W : List (Ref sig .tc) := [main_while0b_call0_v0, main_while0b_call0_v1, main_while0b_v71]
theorem trip_w1_writes : (trip_w1 : List (HloOp τ sig (Elt F))).Forall fun op => op.writes ⊆ (trip_w1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `trip_w1` does not write keeps its contents through it. -/
theorem val2_keep (r : Ref sig .tc) (h : r ∉ trip_w1_W) :
    val2 V0 (Proc.devRef .tc r) = val1 V0 (Proc.devRef .tc r) :=
  after_of_writes_sub trip_w1 _ trip_w1_writes h
theorem val2_main_v29_6 : val2 V0 (no_index (Proc.devRef .tc main_v29_6)) = V0 (Proc.devRef .tc main_v29_6) :=
  (val2_keep V0 main_v29_6 (by decide)).trans (val1_main_v29_6 V0)
theorem val2_main_v29_0 : val2 V0 (no_index (Proc.devRef .tc main_v29_0)) = V0 (Proc.devRef .tc main_v29_0) :=
  (val2_keep V0 main_v29_0 (by decide)).trans (val1_main_v29_0 V0)
theorem val2_main_v29_1 : val2 V0 (no_index (Proc.devRef .tc main_v29_1)) = V0 (Proc.devRef .tc main_v29_1) :=
  (val2_keep V0 main_v29_1 (by decide)).trans (val1_main_v29_1 V0)
theorem val2_main_v29_2 : val2 V0 (no_index (Proc.devRef .tc main_v29_2)) = V0 (Proc.devRef .tc main_v29_2) :=
  (val2_keep V0 main_v29_2 (by decide)).trans (val1_main_v29_2 V0)
theorem val2_main_v29_3 : val2 V0 (no_index (Proc.devRef .tc main_v29_3)) = V0 (Proc.devRef .tc main_v29_3) :=
  (val2_keep V0 main_v29_3 (by decide)).trans (val1_main_v29_3 V0)
theorem val2_main_v29_4 : val2 V0 (no_index (Proc.devRef .tc main_v29_4)) = V0 (Proc.devRef .tc main_v29_4) :=
  (val2_keep V0 main_v29_4 (by decide)).trans (val1_main_v29_4 V0)
theorem val2_main_v29_7 : val2 V0 (no_index (Proc.devRef .tc main_v29_7)) = V0 (Proc.devRef .tc main_v29_7) :=
  (val2_keep V0 main_v29_7 (by decide)).trans (val1_main_v29_7 V0)
theorem val2_main_v29_5 : val2 V0 (no_index (Proc.devRef .tc main_v29_5)) = V0 (Proc.devRef .tc main_v29_5) :=
  (val2_keep V0 main_v29_5 (by decide)).trans (val1_main_v29_5 V0)
theorem val2_main_v29_8 : val2 V0 (no_index (Proc.devRef .tc main_v29_8)) = V0 (Proc.devRef .tc main_v29_8) :=
  (val2_keep V0 main_v29_8 (by decide)).trans (val1_main_v29_8 V0)
theorem val2_main_while0b_v71 : val2 V0 (no_index (Proc.devRef .tc main_while0b_v71)) = res_main_while0b_v71 V0 := by
  unfold val2
  simp only [trip_w1]
  after_results_entrywise [val1_main_while0b_cst_22, val1_main_v29_0, val1_main_v29_6, res_main_while0b_v71, cast_eq]

/-- The device's buffer contents after the body's first 3 windows. -/
def val3 : Valuation τ sig (Elt F) := after trip_w2 (val2 V0)
/-- The buffers that window `trip_w2`'s operations write. -/
abbrev trip_w2_W : List (Ref sig .tc) := [main_while0b_call1_v0, main_while0b_call1_cst, main_while0b_call1_c, main_while0b_call1_v1_0, main_while0b_v72]
theorem trip_w2_writes : (trip_w2 : List (HloOp τ sig (Elt F))).Forall fun op => op.writes ⊆ (trip_w2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `trip_w2` does not write keeps its contents through it. -/
theorem val3_keep (r : Ref sig .tc) (h : r ∉ trip_w2_W) :
    val3 V0 (Proc.devRef .tc r) = val2 V0 (Proc.devRef .tc r) :=
  after_of_writes_sub trip_w2 _ trip_w2_writes h
theorem val3_main_v29_6 : val3 V0 (no_index (Proc.devRef .tc main_v29_6)) = V0 (Proc.devRef .tc main_v29_6) :=
  (val3_keep V0 main_v29_6 (by decide)).trans (val2_main_v29_6 V0)
theorem val3_main_v29_0 : val3 V0 (no_index (Proc.devRef .tc main_v29_0)) = V0 (Proc.devRef .tc main_v29_0) :=
  (val3_keep V0 main_v29_0 (by decide)).trans (val2_main_v29_0 V0)
theorem val3_main_v29_1 : val3 V0 (no_index (Proc.devRef .tc main_v29_1)) = V0 (Proc.devRef .tc main_v29_1) :=
  (val3_keep V0 main_v29_1 (by decide)).trans (val2_main_v29_1 V0)
theorem val3_main_v29_2 : val3 V0 (no_index (Proc.devRef .tc main_v29_2)) = V0 (Proc.devRef .tc main_v29_2) :=
  (val3_keep V0 main_v29_2 (by decide)).trans (val2_main_v29_2 V0)
theorem val3_main_v29_3 : val3 V0 (no_index (Proc.devRef .tc main_v29_3)) = V0 (Proc.devRef .tc main_v29_3) :=
  (val3_keep V0 main_v29_3 (by decide)).trans (val2_main_v29_3 V0)
theorem val3_main_v29_4 : val3 V0 (no_index (Proc.devRef .tc main_v29_4)) = V0 (Proc.devRef .tc main_v29_4) :=
  (val3_keep V0 main_v29_4 (by decide)).trans (val2_main_v29_4 V0)
theorem val3_main_v29_7 : val3 V0 (no_index (Proc.devRef .tc main_v29_7)) = V0 (Proc.devRef .tc main_v29_7) :=
  (val3_keep V0 main_v29_7 (by decide)).trans (val2_main_v29_7 V0)
theorem val3_main_v29_5 : val3 V0 (no_index (Proc.devRef .tc main_v29_5)) = V0 (Proc.devRef .tc main_v29_5) :=
  (val3_keep V0 main_v29_5 (by decide)).trans (val2_main_v29_5 V0)
theorem val3_main_v29_8 : val3 V0 (no_index (Proc.devRef .tc main_v29_8)) = V0 (Proc.devRef .tc main_v29_8) :=
  (val3_keep V0 main_v29_8 (by decide)).trans (val2_main_v29_8 V0)
theorem val3_main_while0b_v71 : val3 V0 (no_index (Proc.devRef .tc main_while0b_v71)) = res_main_while0b_v71 V0 :=
  (val3_keep V0 main_while0b_v71 (by decide)).trans (val2_main_while0b_v71 V0)
theorem val3_main_while0b_v72 : val3 V0 (no_index (Proc.devRef .tc main_while0b_v72)) = res_main_while0b_v72 V0 := by
  unfold val3
  simp only [trip_w2]
  after_results_entrywise [val2_main_while0b_v71, res_main_while0b_call1_v0, res_main_while0b_call1_cst, res_main_while0b_call1_c, res_main_while0b_v72, cast_eq]

/-- The device's buffer contents after the body's first 4 windows. -/
def val4 : Valuation τ sig (Elt F) := after trip_w3 (val3 V0)
/-- The buffers that window `trip_w3`'s operations write. -/
abbrev trip_w3_W : List (Ref sig .tc) := [main_while0b_v73, main_while0b_v74, main_while0b_v75, main_while0b_v76, main_while0b_v77, main_while0b_cst_23, main_while0b_v78, main_while0b_v79, main_while0b_v80, main_while0b_v81, main_while0b_v82, main_while0b_v83, main_while0b_v84, main_while0b_v85, main_while0b_v86, main_while0b_v87, main_while0b_v88, main_while0b_v89, main_while0b_v90, main_while0b_v91, main_while0b_v92, main_while0b_v93, main_while0b_v94, main_while0b_v95]
theorem trip_w3_writes : (trip_w3 : List (HloOp τ sig (Elt F))).Forall fun op => op.writes ⊆ (trip_w3_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `trip_w3` does not write keeps its contents through it. -/
theorem val4_keep (r : Ref sig .tc) (h : r ∉ trip_w3_W) :
    val4 V0 (Proc.devRef .tc r) = val3 V0 (Proc.devRef .tc r) :=
  after_of_writes_sub trip_w3 _ trip_w3_writes h
theorem val4_main_v29_6 : val4 V0 (no_index (Proc.devRef .tc main_v29_6)) = V0 (Proc.devRef .tc main_v29_6) :=
  (val4_keep V0 main_v29_6 (by decide)).trans (val3_main_v29_6 V0)
theorem val4_main_v29_0 : val4 V0 (no_index (Proc.devRef .tc main_v29_0)) = V0 (Proc.devRef .tc main_v29_0) :=
  (val4_keep V0 main_v29_0 (by decide)).trans (val3_main_v29_0 V0)
theorem val4_main_v29_1 : val4 V0 (no_index (Proc.devRef .tc main_v29_1)) = V0 (Proc.devRef .tc main_v29_1) :=
  (val4_keep V0 main_v29_1 (by decide)).trans (val3_main_v29_1 V0)
theorem val4_main_v29_2 : val4 V0 (no_index (Proc.devRef .tc main_v29_2)) = V0 (Proc.devRef .tc main_v29_2) :=
  (val4_keep V0 main_v29_2 (by decide)).trans (val3_main_v29_2 V0)
theorem val4_main_v29_3 : val4 V0 (no_index (Proc.devRef .tc main_v29_3)) = V0 (Proc.devRef .tc main_v29_3) :=
  (val4_keep V0 main_v29_3 (by decide)).trans (val3_main_v29_3 V0)
theorem val4_main_v29_4 : val4 V0 (no_index (Proc.devRef .tc main_v29_4)) = V0 (Proc.devRef .tc main_v29_4) :=
  (val4_keep V0 main_v29_4 (by decide)).trans (val3_main_v29_4 V0)
theorem val4_main_v29_7 : val4 V0 (no_index (Proc.devRef .tc main_v29_7)) = V0 (Proc.devRef .tc main_v29_7) :=
  (val4_keep V0 main_v29_7 (by decide)).trans (val3_main_v29_7 V0)
theorem val4_main_v29_5 : val4 V0 (no_index (Proc.devRef .tc main_v29_5)) = V0 (Proc.devRef .tc main_v29_5) :=
  (val4_keep V0 main_v29_5 (by decide)).trans (val3_main_v29_5 V0)
theorem val4_main_v29_8 : val4 V0 (no_index (Proc.devRef .tc main_v29_8)) = V0 (Proc.devRef .tc main_v29_8) :=
  (val4_keep V0 main_v29_8 (by decide)).trans (val3_main_v29_8 V0)
theorem val4_main_while0b_v72 : val4 V0 (no_index (Proc.devRef .tc main_while0b_v72)) = res_main_while0b_v72 V0 :=
  (val4_keep V0 main_while0b_v72 (by decide)).trans (val3_main_while0b_v72 V0)
theorem val4_main_while0b_v79 : val4 V0 (no_index (Proc.devRef .tc main_while0b_v79)) = cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)) := by
  unfold val4
  simp only [trip_w3]
  after_results_entrywise [val3_main_while0b_v72, val3_main_while0b_v71, cast_eq]
theorem val4_main_while0b_v85 : val4 V0 (no_index (Proc.devRef .tc main_while0b_v85)) = res_main_while0b_v85 V0 := by
  unfold val4
  simp only [trip_w3]
  after_results_entrywise [val3_main_while0b_v72, val3_main_v29_1, res_main_while0b_v85, cast_eq]
theorem val4_main_while0b_v91 : val4 V0 (no_index (Proc.devRef .tc main_while0b_v91)) = res_main_while0b_v91 V0 := by
  unfold val4
  simp only [trip_w3]
  after_results_entrywise [val3_main_while0b_v72, val3_main_v29_2, res_main_while0b_v91, cast_eq]
theorem val4_main_while0b_v95 : val4 V0 (no_index (Proc.devRef .tc main_while0b_v95)) = concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1 := by
  unfold val4
  simp only [trip_w3]
  after_results_entrywise [val3_main_while0b_v72, cast_eq]

/-- The device's buffer contents after the body's first 5 windows. -/
def val5 : Valuation τ sig (Elt F) := after trip_w4 (val4 V0)
/-- The buffers that window `trip_w4`'s operations write. -/
abbrev trip_w4_W : List (Ref sig .tc) := [main_while0b_v96, main_while0b_v97, main_while0b_v98, main_while0b_v99, main_while0b_v100, main_while0b_v101, main_while0b_v102, main_while0b_v103, main_while0b_v104, main_while0b_v105, main_while0b_v106, main_while0b_v107, main_while0b_v108, main_while0b_cst_24, main_while0b_v109, main_while0b_v110, main_while0b_v111, main_while0b_v112, main_while0b_v113, main_while0b_v114, main_while0b_v115, main_while0b_cst_25, main_while0b_v116, main_while0b_v117]
theorem trip_w4_writes : (trip_w4 : List (HloOp τ sig (Elt F))).Forall fun op => op.writes ⊆ (trip_w4_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `trip_w4` does not write keeps its contents through it. -/
theorem val5_keep (r : Ref sig .tc) (h : r ∉ trip_w4_W) :
    val5 V0 (Proc.devRef .tc r) = val4 V0 (Proc.devRef .tc r) :=
  after_of_writes_sub trip_w4 _ trip_w4_writes h
theorem val5_main_v29_6 : val5 V0 (no_index (Proc.devRef .tc main_v29_6)) = V0 (Proc.devRef .tc main_v29_6) :=
  (val5_keep V0 main_v29_6 (by decide)).trans (val4_main_v29_6 V0)
theorem val5_main_v29_0 : val5 V0 (no_index (Proc.devRef .tc main_v29_0)) = V0 (Proc.devRef .tc main_v29_0) :=
  (val5_keep V0 main_v29_0 (by decide)).trans (val4_main_v29_0 V0)
theorem val5_main_v29_1 : val5 V0 (no_index (Proc.devRef .tc main_v29_1)) = V0 (Proc.devRef .tc main_v29_1) :=
  (val5_keep V0 main_v29_1 (by decide)).trans (val4_main_v29_1 V0)
theorem val5_main_v29_2 : val5 V0 (no_index (Proc.devRef .tc main_v29_2)) = V0 (Proc.devRef .tc main_v29_2) :=
  (val5_keep V0 main_v29_2 (by decide)).trans (val4_main_v29_2 V0)
theorem val5_main_v29_3 : val5 V0 (no_index (Proc.devRef .tc main_v29_3)) = V0 (Proc.devRef .tc main_v29_3) :=
  (val5_keep V0 main_v29_3 (by decide)).trans (val4_main_v29_3 V0)
theorem val5_main_v29_4 : val5 V0 (no_index (Proc.devRef .tc main_v29_4)) = V0 (Proc.devRef .tc main_v29_4) :=
  (val5_keep V0 main_v29_4 (by decide)).trans (val4_main_v29_4 V0)
theorem val5_main_v29_7 : val5 V0 (no_index (Proc.devRef .tc main_v29_7)) = V0 (Proc.devRef .tc main_v29_7) :=
  (val5_keep V0 main_v29_7 (by decide)).trans (val4_main_v29_7 V0)
theorem val5_main_v29_5 : val5 V0 (no_index (Proc.devRef .tc main_v29_5)) = V0 (Proc.devRef .tc main_v29_5) :=
  (val5_keep V0 main_v29_5 (by decide)).trans (val4_main_v29_5 V0)
theorem val5_main_v29_8 : val5 V0 (no_index (Proc.devRef .tc main_v29_8)) = V0 (Proc.devRef .tc main_v29_8) :=
  (val5_keep V0 main_v29_8 (by decide)).trans (val4_main_v29_8 V0)
theorem val5_main_while0b_v72 : val5 V0 (no_index (Proc.devRef .tc main_while0b_v72)) = res_main_while0b_v72 V0 :=
  (val5_keep V0 main_while0b_v72 (by decide)).trans (val4_main_while0b_v72 V0)
theorem val5_main_while0b_v79 : val5 V0 (no_index (Proc.devRef .tc main_while0b_v79)) = cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)) :=
  (val5_keep V0 main_while0b_v79 (by decide)).trans (val4_main_while0b_v79 V0)
theorem val5_main_while0b_v85 : val5 V0 (no_index (Proc.devRef .tc main_while0b_v85)) = res_main_while0b_v85 V0 :=
  (val5_keep V0 main_while0b_v85 (by decide)).trans (val4_main_while0b_v85 V0)
theorem val5_main_while0b_v91 : val5 V0 (no_index (Proc.devRef .tc main_while0b_v91)) = res_main_while0b_v91 V0 :=
  (val5_keep V0 main_while0b_v91 (by decide)).trans (val4_main_while0b_v91 V0)
theorem val5_main_while0b_v97 : val5 V0 (no_index (Proc.devRef .tc main_while0b_v97)) = res_main_while0b_v97 V0 := by
  unfold val5
  simp only [trip_w4]
  after_results_entrywise [val4_main_while0b_v95, val4_main_v29_3, res_main_while0b_v97, cast_eq]
theorem val5_main_while0b_v103 : val5 V0 (no_index (Proc.devRef .tc main_while0b_v103)) = res_main_while0b_v103 V0 := by
  unfold val5
  simp only [trip_w4]
  after_results_entrywise [val4_main_while0b_v72, val4_main_v29_4, res_main_while0b_v103, cast_eq]
theorem val5_main_while0b_v110 : val5 V0 (no_index (Proc.devRef .tc main_while0b_v110)) = maximumf (subf (minimumf (broadcastInDim S4x20000 ![0, 1] bcast_S4x1_S4x20000_0_1 (res_main_while0b_v97 V0)) (V0 (Proc.devRef .tc main_v29_3))) (maximumf (broadcastInDim S4x20000 ![0, 1] bcast_S4x1_S4x20000_0_1 (res_main_while0b_v85 V0)) (V0 (Proc.devRef .tc main_v29_1)))) (broadcastInDim S4x20000 ![] bcast_S_S4x20000 (constant S_ .f32 0x00000000#32)) := by
  unfold val5
  simp only [trip_w4]
  after_results_entrywise [val4_main_v29_1, val4_main_while0b_v85, val4_main_v29_3, val4_main_while0b_v95, res_main_while0b_v97, cast_eq]
theorem val5_main_while0b_v117 : val5 V0 (no_index (Proc.devRef .tc main_while0b_v117)) = maximumf (subf (minimumf (broadcastInDim S4x20000 ![0, 1] bcast_S4x1_S4x20000_0_1 (res_main_while0b_v103 V0)) (V0 (Proc.devRef .tc main_v29_4))) (maximumf (broadcastInDim S4x20000 ![0, 1] bcast_S4x1_S4x20000_0_1 (res_main_while0b_v91 V0)) (V0 (Proc.devRef .tc main_v29_2)))) (broadcastInDim S4x20000 ![] bcast_S_S4x20000 (constant S_ .f32 0x00000000#32)) := by
  unfold val5
  simp only [trip_w4]
  after_results_entrywise [val4_main_v29_2, val4_main_while0b_v91, val4_main_v29_4, val4_main_while0b_v72, res_main_while0b_v103, cast_eq]

/-- The device's buffer contents after the body's first 6 windows. -/
def val6 : Valuation τ sig (Elt F) := after trip_w5 (val5 V0)
/-- The buffers that window `trip_w5`'s operations write. -/
abbrev trip_w5_W : List (Ref sig .tc) := [main_while0b_v118, main_while0b_v119, main_while0b_v120, main_while0b_v121, main_while0b_v122, main_while0b_v123, main_while0b_v124, main_while0b_v125, main_while0b_v126, main_while0b_v127, main_while0b_cst_26, main_while0b_v128, main_while0b_v129, main_while0b_v130, main_while0b_v131, main_while0b_cst_27, main_while0b_v132, main_while0b_v133, main_while0b_v134, main_while0b_v135, main_while0b_v136, main_while0b_v137, main_while0b_v138, main_while0b_v139]
theorem trip_w5_writes : (trip_w5 : List (HloOp τ sig (Elt F))).Forall fun op => op.writes ⊆ (trip_w5_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `trip_w5` does not write keeps its contents through it. -/
theorem val6_keep (r : Ref sig .tc) (h : r ∉ trip_w5_W) :
    val6 V0 (Proc.devRef .tc r) = val5 V0 (Proc.devRef .tc r) :=
  after_of_writes_sub trip_w5 _ trip_w5_writes h
theorem val6_main_v29_6 : val6 V0 (no_index (Proc.devRef .tc main_v29_6)) = V0 (Proc.devRef .tc main_v29_6) :=
  (val6_keep V0 main_v29_6 (by decide)).trans (val5_main_v29_6 V0)
theorem val6_main_v29_0 : val6 V0 (no_index (Proc.devRef .tc main_v29_0)) = V0 (Proc.devRef .tc main_v29_0) :=
  (val6_keep V0 main_v29_0 (by decide)).trans (val5_main_v29_0 V0)
theorem val6_main_v29_1 : val6 V0 (no_index (Proc.devRef .tc main_v29_1)) = V0 (Proc.devRef .tc main_v29_1) :=
  (val6_keep V0 main_v29_1 (by decide)).trans (val5_main_v29_1 V0)
theorem val6_main_v29_2 : val6 V0 (no_index (Proc.devRef .tc main_v29_2)) = V0 (Proc.devRef .tc main_v29_2) :=
  (val6_keep V0 main_v29_2 (by decide)).trans (val5_main_v29_2 V0)
theorem val6_main_v29_3 : val6 V0 (no_index (Proc.devRef .tc main_v29_3)) = V0 (Proc.devRef .tc main_v29_3) :=
  (val6_keep V0 main_v29_3 (by decide)).trans (val5_main_v29_3 V0)
theorem val6_main_v29_4 : val6 V0 (no_index (Proc.devRef .tc main_v29_4)) = V0 (Proc.devRef .tc main_v29_4) :=
  (val6_keep V0 main_v29_4 (by decide)).trans (val5_main_v29_4 V0)
theorem val6_main_v29_7 : val6 V0 (no_index (Proc.devRef .tc main_v29_7)) = V0 (Proc.devRef .tc main_v29_7) :=
  (val6_keep V0 main_v29_7 (by decide)).trans (val5_main_v29_7 V0)
theorem val6_main_v29_5 : val6 V0 (no_index (Proc.devRef .tc main_v29_5)) = V0 (Proc.devRef .tc main_v29_5) :=
  (val6_keep V0 main_v29_5 (by decide)).trans (val5_main_v29_5 V0)
theorem val6_main_v29_8 : val6 V0 (no_index (Proc.devRef .tc main_v29_8)) = V0 (Proc.devRef .tc main_v29_8) :=
  (val6_keep V0 main_v29_8 (by decide)).trans (val5_main_v29_8 V0)
theorem val6_main_while0b_v72 : val6 V0 (no_index (Proc.devRef .tc main_while0b_v72)) = res_main_while0b_v72 V0 :=
  (val6_keep V0 main_while0b_v72 (by decide)).trans (val5_main_while0b_v72 V0)
theorem val6_main_while0b_v79 : val6 V0 (no_index (Proc.devRef .tc main_while0b_v79)) = cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)) :=
  (val6_keep V0 main_while0b_v79 (by decide)).trans (val5_main_while0b_v79 V0)
theorem val6_main_while0b_v134 : val6 V0 (no_index (Proc.devRef .tc main_while0b_v134)) = andi (V0 (Proc.devRef .tc main_v29_6)) (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32))) := by
  unfold val6
  simp only [trip_w5]
  after_results_entrywise [val5_main_v29_2, val5_main_v29_4, val5_main_v29_1, val5_main_v29_3, val5_main_while0b_v91, val5_main_while0b_v103, val5_main_while0b_v85, val5_main_while0b_v97, val5_main_while0b_v117, val5_main_while0b_v110, val5_main_v29_6, res_main_while0b_v118, cast_eq]
theorem val6_main_while0b_v139 : val6 V0 (no_index (Proc.devRef .tc main_while0b_v139)) = cmpi .ne (broadcastInDim S4x20000 ![0, 1] bcast_S1x20000_S4x20000_0_1 (broadcastInDim S1x20000 ![1] bcast_S20000_S1x20000_1 (iotaInDim S20000 32 0))) (broadcastInDim S4x20000 ![0, 1] bcast_S4x1_S4x20000_0_1 (broadcastInDim S4x1 ![0] bcast_S4_S4x1_0 (res_main_while0b_v72 V0))) := by
  unfold val6
  simp only [trip_w5]
  after_results_entrywise [val5_main_while0b_v72, cast_eq]

/-- The device's buffer contents after the body's first 7 windows. -/
def val7 : Valuation τ sig (Elt F) := after trip_w6 (val6 V0)
/-- The buffers that window `trip_w6`'s operations write. -/
abbrev trip_w6_W : List (Ref sig .tc) := [main_while0b_v140]
theorem trip_w6_writes : (trip_w6 : List (HloOp τ sig (Elt F))).Forall fun op => op.writes ⊆ (trip_w6_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `trip_w6` does not write keeps its contents through it. -/
theorem val7_keep (r : Ref sig .tc) (h : r ∉ trip_w6_W) :
    val7 V0 (Proc.devRef .tc r) = val6 V0 (Proc.devRef .tc r) :=
  after_of_writes_sub trip_w6 _ trip_w6_writes h
theorem val7_main_v29_6 : val7 V0 (no_index (Proc.devRef .tc main_v29_6)) = V0 (Proc.devRef .tc main_v29_6) :=
  (val7_keep V0 main_v29_6 (by decide)).trans (val6_main_v29_6 V0)
theorem val7_main_v29_0 : val7 V0 (no_index (Proc.devRef .tc main_v29_0)) = V0 (Proc.devRef .tc main_v29_0) :=
  (val7_keep V0 main_v29_0 (by decide)).trans (val6_main_v29_0 V0)
theorem val7_main_v29_1 : val7 V0 (no_index (Proc.devRef .tc main_v29_1)) = V0 (Proc.devRef .tc main_v29_1) :=
  (val7_keep V0 main_v29_1 (by decide)).trans (val6_main_v29_1 V0)
theorem val7_main_v29_2 : val7 V0 (no_index (Proc.devRef .tc main_v29_2)) = V0 (Proc.devRef .tc main_v29_2) :=
  (val7_keep V0 main_v29_2 (by decide)).trans (val6_main_v29_2 V0)
theorem val7_main_v29_3 : val7 V0 (no_index (Proc.devRef .tc main_v29_3)) = V0 (Proc.devRef .tc main_v29_3) :=
  (val7_keep V0 main_v29_3 (by decide)).trans (val6_main_v29_3 V0)
theorem val7_main_v29_4 : val7 V0 (no_index (Proc.devRef .tc main_v29_4)) = V0 (Proc.devRef .tc main_v29_4) :=
  (val7_keep V0 main_v29_4 (by decide)).trans (val6_main_v29_4 V0)
theorem val7_main_v29_7 : val7 V0 (no_index (Proc.devRef .tc main_v29_7)) = V0 (Proc.devRef .tc main_v29_7) :=
  (val7_keep V0 main_v29_7 (by decide)).trans (val6_main_v29_7 V0)
theorem val7_main_v29_5 : val7 V0 (no_index (Proc.devRef .tc main_v29_5)) = V0 (Proc.devRef .tc main_v29_5) :=
  (val7_keep V0 main_v29_5 (by decide)).trans (val6_main_v29_5 V0)
theorem val7_main_v29_8 : val7 V0 (no_index (Proc.devRef .tc main_v29_8)) = V0 (Proc.devRef .tc main_v29_8) :=
  (val7_keep V0 main_v29_8 (by decide)).trans (val6_main_v29_8 V0)
theorem val7_main_while0b_v72 : val7 V0 (no_index (Proc.devRef .tc main_while0b_v72)) = res_main_while0b_v72 V0 :=
  (val7_keep V0 main_while0b_v72 (by decide)).trans (val6_main_while0b_v72 V0)
theorem val7_main_while0b_v79 : val7 V0 (no_index (Proc.devRef .tc main_while0b_v79)) = cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)) :=
  (val7_keep V0 main_while0b_v79 (by decide)).trans (val6_main_while0b_v79 V0)
theorem val7_main_while0b_v140 : val7 V0 (no_index (Proc.devRef .tc main_while0b_v140)) = andi (andi (V0 (Proc.devRef .tc main_v29_6)) (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32)))) (cmpi .ne (broadcastInDim S4x20000 ![0, 1] bcast_S1x20000_S4x20000_0_1 (broadcastInDim S1x20000 ![1] bcast_S20000_S1x20000_1 (iotaInDim S20000 32 0))) (broadcastInDim S4x20000 ![0, 1] bcast_S4x1_S4x20000_0_1 (broadcastInDim S4x1 ![0] bcast_S4_S4x1_0 (res_main_while0b_v72 V0)))) := by
  unfold val7
  simp only [trip_w6]
  after_results_entrywise [val6_main_while0b_v139, val6_main_while0b_v134, cast_eq]

/-- The device's buffer contents after the body's first 8 windows. -/
def val8 : Valuation τ sig (Elt F) := after trip_w7 (val7 V0)
/-- The buffers that window `trip_w7`'s operations write. -/
abbrev trip_w7_W : List (Ref sig .tc) := [main_while0b_call2_v0, main_while0b_call2_c, main_while0b_v141]
theorem trip_w7_writes : (trip_w7 : List (HloOp τ sig (Elt F))).Forall fun op => op.writes ⊆ (trip_w7_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `trip_w7` does not write keeps its contents through it. -/
theorem val8_keep (r : Ref sig .tc) (h : r ∉ trip_w7_W) :
    val8 V0 (Proc.devRef .tc r) = val7 V0 (Proc.devRef .tc r) :=
  after_of_writes_sub trip_w7 _ trip_w7_writes h
theorem val8_main_v29_6 : val8 V0 (no_index (Proc.devRef .tc main_v29_6)) = V0 (Proc.devRef .tc main_v29_6) :=
  (val8_keep V0 main_v29_6 (by decide)).trans (val7_main_v29_6 V0)
theorem val8_main_v29_0 : val8 V0 (no_index (Proc.devRef .tc main_v29_0)) = V0 (Proc.devRef .tc main_v29_0) :=
  (val8_keep V0 main_v29_0 (by decide)).trans (val7_main_v29_0 V0)
theorem val8_main_v29_1 : val8 V0 (no_index (Proc.devRef .tc main_v29_1)) = V0 (Proc.devRef .tc main_v29_1) :=
  (val8_keep V0 main_v29_1 (by decide)).trans (val7_main_v29_1 V0)
theorem val8_main_v29_2 : val8 V0 (no_index (Proc.devRef .tc main_v29_2)) = V0 (Proc.devRef .tc main_v29_2) :=
  (val8_keep V0 main_v29_2 (by decide)).trans (val7_main_v29_2 V0)
theorem val8_main_v29_3 : val8 V0 (no_index (Proc.devRef .tc main_v29_3)) = V0 (Proc.devRef .tc main_v29_3) :=
  (val8_keep V0 main_v29_3 (by decide)).trans (val7_main_v29_3 V0)
theorem val8_main_v29_4 : val8 V0 (no_index (Proc.devRef .tc main_v29_4)) = V0 (Proc.devRef .tc main_v29_4) :=
  (val8_keep V0 main_v29_4 (by decide)).trans (val7_main_v29_4 V0)
theorem val8_main_v29_7 : val8 V0 (no_index (Proc.devRef .tc main_v29_7)) = V0 (Proc.devRef .tc main_v29_7) :=
  (val8_keep V0 main_v29_7 (by decide)).trans (val7_main_v29_7 V0)
theorem val8_main_v29_5 : val8 V0 (no_index (Proc.devRef .tc main_v29_5)) = V0 (Proc.devRef .tc main_v29_5) :=
  (val8_keep V0 main_v29_5 (by decide)).trans (val7_main_v29_5 V0)
theorem val8_main_v29_8 : val8 V0 (no_index (Proc.devRef .tc main_v29_8)) = V0 (Proc.devRef .tc main_v29_8) :=
  (val8_keep V0 main_v29_8 (by decide)).trans (val7_main_v29_8 V0)
theorem val8_main_while0b_v79 : val8 V0 (no_index (Proc.devRef .tc main_while0b_v79)) = cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)) :=
  (val8_keep V0 main_while0b_v79 (by decide)).trans (val7_main_while0b_v79 V0)
theorem val8_main_while0b_v140 : val8 V0 (no_index (Proc.devRef .tc main_while0b_v140)) = andi (andi (V0 (Proc.devRef .tc main_v29_6)) (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32)))) (cmpi .ne (broadcastInDim S4x20000 ![0, 1] bcast_S1x20000_S4x20000_0_1 (broadcastInDim S1x20000 ![1] bcast_S20000_S1x20000_1 (iotaInDim S20000 32 0))) (broadcastInDim S4x20000 ![0, 1] bcast_S4x1_S4x20000_0_1 (broadcastInDim S4x1 ![0] bcast_S4_S4x1_0 (res_main_while0b_v72 V0)))) :=
  (val8_keep V0 main_while0b_v140 (by decide)).trans (val7_main_while0b_v140 V0)
theorem val8_main_while0b_v141 : val8 V0 (no_index (Proc.devRef .tc main_while0b_v141)) = Host.dynamicUpdateSlice (V0 (Proc.devRef .tc main_v29_7)) (broadcastInDim S1x4 ![1] bcast_S4_S1x4_1 (res_main_while0b_v72 V0)) (fun k => (((![V0 (Proc.devRef .tc main_v29_5), constantI S_ 32 0#32] : Fin 2 → Arr F S_ .i32)) k (Shape.Idx.first h_S_)).toInt) updateFits_S100x4_S1x4 := by
  unfold val8
  simp only [trip_w7]
  after_results_entrywise [val7_main_v29_5, val7_main_while0b_v72, val7_main_v29_7, cast_eq]

/-- The device's buffer contents after the body's first 9 windows. -/
def val9 : Valuation τ sig (Elt F) := after trip_w8 (val8 V0)
/-- The buffers that window `trip_w8`'s operations write. -/
abbrev trip_w8_W : List (Ref sig .tc) := [main_while0b_call3_v0, main_while0b_call3_c, main_while0b_v142]
theorem trip_w8_writes : (trip_w8 : List (HloOp τ sig (Elt F))).Forall fun op => op.writes ⊆ (trip_w8_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `trip_w8` does not write keeps its contents through it. -/
theorem val9_keep (r : Ref sig .tc) (h : r ∉ trip_w8_W) :
    val9 V0 (Proc.devRef .tc r) = val8 V0 (Proc.devRef .tc r) :=
  after_of_writes_sub trip_w8 _ trip_w8_writes h
theorem val9_main_v29_6 : val9 V0 (no_index (Proc.devRef .tc main_v29_6)) = V0 (Proc.devRef .tc main_v29_6) :=
  (val9_keep V0 main_v29_6 (by decide)).trans (val8_main_v29_6 V0)
theorem val9_main_v29_0 : val9 V0 (no_index (Proc.devRef .tc main_v29_0)) = V0 (Proc.devRef .tc main_v29_0) :=
  (val9_keep V0 main_v29_0 (by decide)).trans (val8_main_v29_0 V0)
theorem val9_main_v29_1 : val9 V0 (no_index (Proc.devRef .tc main_v29_1)) = V0 (Proc.devRef .tc main_v29_1) :=
  (val9_keep V0 main_v29_1 (by decide)).trans (val8_main_v29_1 V0)
theorem val9_main_v29_2 : val9 V0 (no_index (Proc.devRef .tc main_v29_2)) = V0 (Proc.devRef .tc main_v29_2) :=
  (val9_keep V0 main_v29_2 (by decide)).trans (val8_main_v29_2 V0)
theorem val9_main_v29_3 : val9 V0 (no_index (Proc.devRef .tc main_v29_3)) = V0 (Proc.devRef .tc main_v29_3) :=
  (val9_keep V0 main_v29_3 (by decide)).trans (val8_main_v29_3 V0)
theorem val9_main_v29_4 : val9 V0 (no_index (Proc.devRef .tc main_v29_4)) = V0 (Proc.devRef .tc main_v29_4) :=
  (val9_keep V0 main_v29_4 (by decide)).trans (val8_main_v29_4 V0)
theorem val9_main_v29_7 : val9 V0 (no_index (Proc.devRef .tc main_v29_7)) = V0 (Proc.devRef .tc main_v29_7) :=
  (val9_keep V0 main_v29_7 (by decide)).trans (val8_main_v29_7 V0)
theorem val9_main_v29_5 : val9 V0 (no_index (Proc.devRef .tc main_v29_5)) = V0 (Proc.devRef .tc main_v29_5) :=
  (val9_keep V0 main_v29_5 (by decide)).trans (val8_main_v29_5 V0)
theorem val9_main_v29_8 : val9 V0 (no_index (Proc.devRef .tc main_v29_8)) = V0 (Proc.devRef .tc main_v29_8) :=
  (val9_keep V0 main_v29_8 (by decide)).trans (val8_main_v29_8 V0)
theorem val9_main_while0b_v140 : val9 V0 (no_index (Proc.devRef .tc main_while0b_v140)) = andi (andi (V0 (Proc.devRef .tc main_v29_6)) (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32)))) (cmpi .ne (broadcastInDim S4x20000 ![0, 1] bcast_S1x20000_S4x20000_0_1 (broadcastInDim S1x20000 ![1] bcast_S20000_S1x20000_1 (iotaInDim S20000 32 0))) (broadcastInDim S4x20000 ![0, 1] bcast_S4x1_S4x20000_0_1 (broadcastInDim S4x1 ![0] bcast_S4_S4x1_0 (res_main_while0b_v72 V0)))) :=
  (val9_keep V0 main_while0b_v140 (by decide)).trans (val8_main_while0b_v140 V0)
theorem val9_main_while0b_v141 : val9 V0 (no_index (Proc.devRef .tc main_while0b_v141)) = Host.dynamicUpdateSlice (V0 (Proc.devRef .tc main_v29_7)) (broadcastInDim S1x4 ![1] bcast_S4_S1x4_1 (res_main_while0b_v72 V0)) (fun k => (((![V0 (Proc.devRef .tc main_v29_5), constantI S_ 32 0#32] : Fin 2 → Arr F S_ .i32)) k (Shape.Idx.first h_S_)).toInt) updateFits_S100x4_S1x4 :=
  (val9_keep V0 main_while0b_v141 (by decide)).trans (val8_main_while0b_v141 V0)
theorem val9_main_while0b_v142 : val9 V0 (no_index (Proc.devRef .tc main_while0b_v142)) = Host.dynamicUpdateSlice (V0 (Proc.devRef .tc main_v29_8)) (broadcastInDim S1x4 ![1] bcast_S4_S1x4_1 (cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)))) (fun k => (((![V0 (Proc.devRef .tc main_v29_5), constantI S_ 32 0#32] : Fin 2 → Arr F S_ .i32)) k (Shape.Idx.first h_S_)).toInt) updateFits_S100x4_S1x4 := by
  unfold val9
  simp only [trip_w8]
  after_results_entrywise [val8_main_v29_5, val8_main_while0b_v79, val8_main_v29_8, cast_eq]

/-- The body's stretches before `while0Ops0_6`, from any contents: their windows in order. -/
theorem trip_windows : after while0Ops0_5 (after while0Ops0_4 (after while0Ops0_3 (after while0Ops0_2 (after while0Ops0_1 (after while0Ops0 (V0)))))) = val9 V0 := by
  simp only [while0Ops0_cut, while0Ops0_1_cut, while0Ops0_2_cut, while0Ops0_3_cut, while0Ops0_4_cut, while0Ops0_5_cut, after_append]
  rfl

/-- `main_v29_0` after one trip's body, from any contents. -/
theorem trip_main_v29_0 : afterL bodyI V0 (no_index (Proc.devRef .tc main_v29_0)) = V0 (Proc.devRef .tc main_v29_0) := by
  simp only [bodyI, afterL_cons, afterL_nil, trip_windows]
  after_results
  all_goals (try simp only [val9_main_while0b_v140, val9_main_while0b_v141, val9_main_while0b_v142, val9_main_v29_0, val9_main_v29_1, val9_main_v29_2, val9_main_v29_3, val9_main_v29_4, val9_main_v29_5, val9_main_v29_6, val9_main_v29_7, val9_main_v29_8]) <;> rfl
/-- `main_v29_1` after one trip's body, from any contents. -/
theorem trip_main_v29_1 : afterL bodyI V0 (no_index (Proc.devRef .tc main_v29_1)) = V0 (Proc.devRef .tc main_v29_1) := by
  simp only [bodyI, afterL_cons, afterL_nil, trip_windows]
  after_results
  all_goals (try simp only [val9_main_while0b_v140, val9_main_while0b_v141, val9_main_while0b_v142, val9_main_v29_0, val9_main_v29_1, val9_main_v29_2, val9_main_v29_3, val9_main_v29_4, val9_main_v29_5, val9_main_v29_6, val9_main_v29_7, val9_main_v29_8]) <;> rfl
/-- `main_v29_2` after one trip's body, from any contents. -/
theorem trip_main_v29_2 : afterL bodyI V0 (no_index (Proc.devRef .tc main_v29_2)) = V0 (Proc.devRef .tc main_v29_2) := by
  simp only [bodyI, afterL_cons, afterL_nil, trip_windows]
  after_results
  all_goals (try simp only [val9_main_while0b_v140, val9_main_while0b_v141, val9_main_while0b_v142, val9_main_v29_0, val9_main_v29_1, val9_main_v29_2, val9_main_v29_3, val9_main_v29_4, val9_main_v29_5, val9_main_v29_6, val9_main_v29_7, val9_main_v29_8]) <;> rfl
/-- `main_v29_3` after one trip's body, from any contents. -/
theorem trip_main_v29_3 : afterL bodyI V0 (no_index (Proc.devRef .tc main_v29_3)) = V0 (Proc.devRef .tc main_v29_3) := by
  simp only [bodyI, afterL_cons, afterL_nil, trip_windows]
  after_results
  all_goals (try simp only [val9_main_while0b_v140, val9_main_while0b_v141, val9_main_while0b_v142, val9_main_v29_0, val9_main_v29_1, val9_main_v29_2, val9_main_v29_3, val9_main_v29_4, val9_main_v29_5, val9_main_v29_6, val9_main_v29_7, val9_main_v29_8]) <;> rfl
/-- `main_v29_4` after one trip's body, from any contents. -/
theorem trip_main_v29_4 : afterL bodyI V0 (no_index (Proc.devRef .tc main_v29_4)) = V0 (Proc.devRef .tc main_v29_4) := by
  simp only [bodyI, afterL_cons, afterL_nil, trip_windows]
  after_results
  all_goals (try simp only [val9_main_while0b_v140, val9_main_while0b_v141, val9_main_while0b_v142, val9_main_v29_0, val9_main_v29_1, val9_main_v29_2, val9_main_v29_3, val9_main_v29_4, val9_main_v29_5, val9_main_v29_6, val9_main_v29_7, val9_main_v29_8]) <;> rfl
/-- `main_v29_5` after one trip's body, from any contents. -/
theorem trip_main_v29_5 : afterL bodyI V0 (no_index (Proc.devRef .tc main_v29_5)) = id (addi (V0 (Proc.devRef .tc main_v29_5)) (constantI S_ 32 1#32)) := by
  simp only [bodyI, afterL_cons, afterL_nil, trip_windows]
  after_results
  all_goals (try simp only [val9_main_while0b_v140, val9_main_while0b_v141, val9_main_while0b_v142, val9_main_v29_0, val9_main_v29_1, val9_main_v29_2, val9_main_v29_3, val9_main_v29_4, val9_main_v29_5, val9_main_v29_6, val9_main_v29_7, val9_main_v29_8]) <;> rfl
/-- `main_v29_6` after one trip's body, from any contents. -/
theorem trip_main_v29_6 : afterL bodyI V0 (no_index (Proc.devRef .tc main_v29_6)) = id (andi (andi (V0 (Proc.devRef .tc main_v29_6)) (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32)))) (cmpi .ne (broadcastInDim S4x20000 ![0, 1] bcast_S1x20000_S4x20000_0_1 (broadcastInDim S1x20000 ![1] bcast_S20000_S1x20000_1 (iotaInDim S20000 32 0))) (broadcastInDim S4x20000 ![0, 1] bcast_S4x1_S4x20000_0_1 (broadcastInDim S4x1 ![0] bcast_S4_S4x1_0 (res_main_while0b_v72 V0))))) := by
  simp only [bodyI, afterL_cons, afterL_nil, trip_windows]
  after_results
  all_goals (try simp only [val9_main_while0b_v140, val9_main_while0b_v141, val9_main_while0b_v142, val9_main_v29_0, val9_main_v29_1, val9_main_v29_2, val9_main_v29_3, val9_main_v29_4, val9_main_v29_5, val9_main_v29_6, val9_main_v29_7, val9_main_v29_8]) <;> rfl
/-- `main_v29_7` after one trip's body, from any contents. -/
theorem trip_main_v29_7 : afterL bodyI V0 (no_index (Proc.devRef .tc main_v29_7)) = id (Host.dynamicUpdateSlice (V0 (Proc.devRef .tc main_v29_7)) (broadcastInDim S1x4 ![1] bcast_S4_S1x4_1 (res_main_while0b_v72 V0)) (fun k => (((![V0 (Proc.devRef .tc main_v29_5), constantI S_ 32 0#32] : Fin 2 → Arr F S_ .i32)) k (Shape.Idx.first h_S_)).toInt) updateFits_S100x4_S1x4) := by
  simp only [bodyI, afterL_cons, afterL_nil, trip_windows]
  after_results
  all_goals (try simp only [val9_main_while0b_v140, val9_main_while0b_v141, val9_main_while0b_v142, val9_main_v29_0, val9_main_v29_1, val9_main_v29_2, val9_main_v29_3, val9_main_v29_4, val9_main_v29_5, val9_main_v29_6, val9_main_v29_7, val9_main_v29_8]) <;> rfl
/-- `main_v29_8` after one trip's body, from any contents. -/
theorem trip_main_v29_8 : afterL bodyI V0 (no_index (Proc.devRef .tc main_v29_8)) = id (Host.dynamicUpdateSlice (V0 (Proc.devRef .tc main_v29_8)) (broadcastInDim S1x4 ![1] bcast_S4_S1x4_1 (cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)))) (fun k => (((![V0 (Proc.devRef .tc main_v29_5), constantI S_ 32 0#32] : Fin 2 → Arr F S_ .i32)) k (Shape.Idx.first h_S_)).toInt) updateFits_S100x4_S1x4) := by
  simp only [bodyI, afterL_cons, afterL_nil, trip_windows]
  after_results
  all_goals (try simp only [val9_main_while0b_v140, val9_main_while0b_v141, val9_main_while0b_v142, val9_main_v29_0, val9_main_v29_1, val9_main_v29_2, val9_main_v29_3, val9_main_v29_4, val9_main_v29_5, val9_main_v29_6, val9_main_v29_7, val9_main_v29_8]) <;> rfl

/-- The loop's carried buffers. -/
abbrev carriedRefs : List (Ref sig .tc) := [main_v29_0, main_v29_1, main_v29_2, main_v29_3, main_v29_4, main_v29_5, main_v29_6, main_v29_7, main_v29_8]
/-- Two contents agree on the carried buffers: all that one trip reads. -/
def Agree (V V' : Valuation τ sig (Elt F)) : Prop := ∀ j ∈ carriedRefs, V (Proc.devRef .tc j) = V' (Proc.devRef .tc j)

theorem res_main_while0b_v71_congr {V0 V0' : Valuation τ sig (Elt F)} (h : Agree V0 V0') : res_main_while0b_v71 V0 = res_main_while0b_v71 V0' := by
  unfold res_main_while0b_v71
  rw [h main_v29_6 (by decide), h main_v29_0 (by decide)]
theorem res_main_while0b_call1_v0_congr {V0 V0' : Valuation τ sig (Elt F)} (h : Agree V0 V0') : res_main_while0b_call1_v0 V0 = res_main_while0b_call1_v0 V0' := by
  unfold res_main_while0b_call1_v0
  rfl
theorem res_main_while0b_call1_cst_congr {V0 V0' : Valuation τ sig (Elt F)} (h : Agree V0 V0') : res_main_while0b_call1_cst V0 = res_main_while0b_call1_cst V0' := by
  unfold res_main_while0b_call1_cst
  rfl
theorem res_main_while0b_call1_c_congr {V0 V0' : Valuation τ sig (Elt F)} (h : Agree V0 V0') : res_main_while0b_call1_c V0 = res_main_while0b_call1_c V0' := by
  unfold res_main_while0b_call1_c
  rfl
theorem res_main_while0b_v72_congr {V0 V0' : Valuation τ sig (Elt F)} (h : Agree V0 V0') : res_main_while0b_v72 V0 = res_main_while0b_v72 V0' := by
  unfold res_main_while0b_v72
  rw [res_main_while0b_v71_congr h, res_main_while0b_call1_v0_congr h, res_main_while0b_call1_cst_congr h, res_main_while0b_call1_c_congr h]
theorem res_main_while0b_v85_congr {V0 V0' : Valuation τ sig (Elt F)} (h : Agree V0 V0') : res_main_while0b_v85 V0 = res_main_while0b_v85 V0' := by
  unfold res_main_while0b_v85
  rw [res_main_while0b_v72_congr h, h main_v29_1 (by decide)]
theorem res_main_while0b_v91_congr {V0 V0' : Valuation τ sig (Elt F)} (h : Agree V0 V0') : res_main_while0b_v91 V0 = res_main_while0b_v91 V0' := by
  unfold res_main_while0b_v91
  rw [res_main_while0b_v72_congr h, h main_v29_2 (by decide)]
theorem res_main_while0b_v97_congr {V0 V0' : Valuation τ sig (Elt F)} (h : Agree V0 V0') : res_main_while0b_v97 V0 = res_main_while0b_v97 V0' := by
  unfold res_main_while0b_v97
  rw [res_main_while0b_v72_congr h, h main_v29_3 (by decide)]
theorem res_main_while0b_v103_congr {V0 V0' : Valuation τ sig (Elt F)} (h : Agree V0 V0') : res_main_while0b_v103 V0 = res_main_while0b_v103 V0' := by
  unfold res_main_while0b_v103
  rw [res_main_while0b_v72_congr h, h main_v29_4 (by decide)]
theorem res_main_while0b_v118_congr {V0 V0' : Valuation τ sig (Elt F)} (h : Agree V0 V0') : res_main_while0b_v118 V0 = res_main_while0b_v118 V0' := by
  unfold res_main_while0b_v118
  rw [res_main_while0b_v97_congr h, res_main_while0b_v85_congr h, res_main_while0b_v103_congr h, res_main_while0b_v91_congr h, h main_v29_3 (by decide), h main_v29_1 (by decide), h main_v29_4 (by decide), h main_v29_2 (by decide)]

/-- `main_v29_5` after one trip, of the contents before it. -/
def step_main_v29_5 : (Proc.devRef .tc main_v29_5 : DevRef τ sig).ty.Contents (Elt F) :=
  id (addi (V0 (Proc.devRef .tc main_v29_5)) (constantI S_ 32 1#32))
theorem step_main_v29_5_congr {V0 V0' : Valuation τ sig (Elt F)} (h : Agree V0 V0') : step_main_v29_5 V0 = step_main_v29_5 V0' := by
  unfold step_main_v29_5
  rw [h main_v29_5 (by decide)]
/-- `main_v29_6` after one trip, of the contents before it. -/
def step_main_v29_6 : (Proc.devRef .tc main_v29_6 : DevRef τ sig).ty.Contents (Elt F) :=
  id (andi (andi (V0 (Proc.devRef .tc main_v29_6)) (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32)))) (cmpi .ne (broadcastInDim S4x20000 ![0, 1] bcast_S1x20000_S4x20000_0_1 (broadcastInDim S1x20000 ![1] bcast_S20000_S1x20000_1 (iotaInDim S20000 32 0))) (broadcastInDim S4x20000 ![0, 1] bcast_S4x1_S4x20000_0_1 (broadcastInDim S4x1 ![0] bcast_S4_S4x1_0 (res_main_while0b_v72 V0)))))
theorem step_main_v29_6_congr {V0 V0' : Valuation τ sig (Elt F)} (h : Agree V0 V0') : step_main_v29_6 V0 = step_main_v29_6 V0' := by
  unfold step_main_v29_6
  rw [res_main_while0b_v118_congr h, res_main_while0b_v97_congr h, res_main_while0b_v85_congr h, res_main_while0b_v103_congr h, res_main_while0b_v91_congr h, res_main_while0b_v72_congr h, h main_v29_6 (by decide), h main_v29_3 (by decide), h main_v29_1 (by decide), h main_v29_4 (by decide), h main_v29_2 (by decide)]
/-- `main_v29_7` after one trip, of the contents before it. -/
def step_main_v29_7 : (Proc.devRef .tc main_v29_7 : DevRef τ sig).ty.Contents (Elt F) :=
  id (Host.dynamicUpdateSlice (V0 (Proc.devRef .tc main_v29_7)) (broadcastInDim S1x4 ![1] bcast_S4_S1x4_1 (res_main_while0b_v72 V0)) (fun k => (((![V0 (Proc.devRef .tc main_v29_5), constantI S_ 32 0#32] : Fin 2 → Arr F S_ .i32)) k (Shape.Idx.first h_S_)).toInt) updateFits_S100x4_S1x4)
theorem step_main_v29_7_congr {V0 V0' : Valuation τ sig (Elt F)} (h : Agree V0 V0') : step_main_v29_7 V0 = step_main_v29_7 V0' := by
  unfold step_main_v29_7
  rw [res_main_while0b_v72_congr h, h main_v29_7 (by decide), h main_v29_5 (by decide)]
/-- `main_v29_8` after one trip, of the contents before it. -/
def step_main_v29_8 : (Proc.devRef .tc main_v29_8 : DevRef τ sig).ty.Contents (Elt F) :=
  id (Host.dynamicUpdateSlice (V0 (Proc.devRef .tc main_v29_8)) (broadcastInDim S1x4 ![1] bcast_S4_S1x4_1 (cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)))) (fun k => (((![V0 (Proc.devRef .tc main_v29_5), constantI S_ 32 0#32] : Fin 2 → Arr F S_ .i32)) k (Shape.Idx.first h_S_)).toInt) updateFits_S100x4_S1x4)
theorem step_main_v29_8_congr {V0 V0' : Valuation τ sig (Elt F)} (h : Agree V0 V0') : step_main_v29_8 V0 = step_main_v29_8 V0' := by
  unfold step_main_v29_8
  rw [res_main_while0b_v71_congr h, res_main_while0b_v72_congr h, h main_v29_8 (by decide), h main_v29_5 (by decide)]

/-- ONE TRIP on the carried buffers: the buffers the body writes step, everything else is as it was. -/
def STEP : Valuation τ sig (Elt F) :=
  Function.update (Function.update (Function.update (Function.update (V0) (Proc.devRef .tc main_v29_5) (step_main_v29_5 V0)) (Proc.devRef .tc main_v29_6) (step_main_v29_6 V0)) (Proc.devRef .tc main_v29_7) (step_main_v29_7 V0)) (Proc.devRef .tc main_v29_8) (step_main_v29_8 V0)

theorem STEP_main_v29_0 : STEP V0 (Proc.devRef .tc main_v29_0) = V0 (Proc.devRef .tc main_v29_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v29_1 : STEP V0 (Proc.devRef .tc main_v29_1) = V0 (Proc.devRef .tc main_v29_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v29_2 : STEP V0 (Proc.devRef .tc main_v29_2) = V0 (Proc.devRef .tc main_v29_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v29_3 : STEP V0 (Proc.devRef .tc main_v29_3) = V0 (Proc.devRef .tc main_v29_3) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v29_4 : STEP V0 (Proc.devRef .tc main_v29_4) = V0 (Proc.devRef .tc main_v29_4) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v29_5 : STEP V0 (Proc.devRef .tc main_v29_5) = step_main_v29_5 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v29_6 : STEP V0 (Proc.devRef .tc main_v29_6) = step_main_v29_6 V0 := by
  unfold STEP; rw [Function.update_of_ne (devRef_ne_of_ne (by decide))]; rw [Function.update_of_ne (devRef_ne_of_ne (by decide))]; rw [Function.update_self]
theorem STEP_main_v29_7 : STEP V0 (Proc.devRef .tc main_v29_7) = step_main_v29_7 V0 := by
  unfold STEP; rw [Function.update_of_ne (devRef_ne_of_ne (by decide))]; rw [Function.update_self]
theorem STEP_main_v29_8 : STEP V0 (Proc.devRef .tc main_v29_8) = step_main_v29_8 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v29_0 (after condOps X)).trans ((hc main_v29_0 (by decide)).trans (STEP_main_v29_0 X).symm)
  · exact (trip_main_v29_1 (after condOps X)).trans ((hc main_v29_1 (by decide)).trans (STEP_main_v29_1 X).symm)
  · exact (trip_main_v29_2 (after condOps X)).trans ((hc main_v29_2 (by decide)).trans (STEP_main_v29_2 X).symm)
  · exact (trip_main_v29_3 (after condOps X)).trans ((hc main_v29_3 (by decide)).trans (STEP_main_v29_3 X).symm)
  · exact (trip_main_v29_4 (after condOps X)).trans ((hc main_v29_4 (by decide)).trans (STEP_main_v29_4 X).symm)
  · exact (trip_main_v29_5 (after condOps X)).trans ((step_main_v29_5_congr hc).trans (STEP_main_v29_5 X).symm)
  · exact (trip_main_v29_6 (after condOps X)).trans ((step_main_v29_6_congr hc).trans (STEP_main_v29_6 X).symm)
  · exact (trip_main_v29_7 (after condOps X)).trans ((step_main_v29_7_congr hc).trans (STEP_main_v29_7 X).symm)
  · exact (trip_main_v29_8 (after condOps X)).trans ((step_main_v29_8_congr hc).trans (STEP_main_v29_8 X).symm)

/-- `STEP` reads the carried buffers only. -/
theorem STEP_congr {V V' : Valuation τ sig (Elt F)} (h : Agree V V') : Agree (STEP V) (STEP V') := by
  intro j hj
  fin_cases hj
  · rw [STEP_main_v29_0, STEP_main_v29_0]; exact h main_v29_0 (by decide)
  · rw [STEP_main_v29_1, STEP_main_v29_1]; exact h main_v29_1 (by decide)
  · rw [STEP_main_v29_2, STEP_main_v29_2]; exact h main_v29_2 (by decide)
  · rw [STEP_main_v29_3, STEP_main_v29_3]; exact h main_v29_3 (by decide)
  · rw [STEP_main_v29_4, STEP_main_v29_4]; exact h main_v29_4 (by decide)
  · rw [STEP_main_v29_5, STEP_main_v29_5]; exact step_main_v29_5_congr h
  · rw [STEP_main_v29_6, STEP_main_v29_6]; exact step_main_v29_6_congr h
  · rw [STEP_main_v29_7, STEP_main_v29_7]; exact step_main_v29_7_congr h
  · rw [STEP_main_v29_8, STEP_main_v29_8]; exact step_main_v29_8_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

/-! ## After the loop -/

/-- The operations after the loop do not write `main_arg0`. -/
theorem post_keeps_main_arg0 : afterL postI V0 (Proc.devRef .tc main_arg0) = V0 (Proc.devRef .tc main_arg0) := by
  simp only [postI, afterL_cons, afterL_nil]
  rw [keep_main_arg0_hostOps0_5, keep_main_arg0_hostOps0_4, keep_main_arg0_hostOps0_3, keep_main_arg0_hostOps0_2, keep_main_arg0_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `main_v41`, which the operations after the loop make, of the contents they start from. -/
def out_main_v41 : (Proc.devRef .tc main_v41 : DevRef τ sig).ty.Contents (Elt F) :=
  broadcastInDim S4x1 ![0] bcast_S4_S4x1_0 (Host.reduce IntOp.addi (extui 32 (transpose S4x100 [1, 0] (V0 (Proc.devRef .tc main_v29_8)) transposes_S100x4_S4x100_1_0) natLt_1_32) (constantI S_ 32 0#32) reducesTo_S4x100_S4_d1 h_S_)
theorem post_main_v41 : afterL postI V0 (no_index (Proc.devRef .tc main_v41)) = out_main_v41 V0 := by
  unfold out_main_v41
  simp only [postI, afterL_cons, afterL_nil, hostOps0_1, hostOps0_2, hostOps0_3, hostOps0_4, hostOps0_5]
  after_results_entrywise []
theorem out_main_v41_congr {V0 V0' : Valuation τ sig (Elt F)} (h : Agree V0 V0') : out_main_v41 V0 = out_main_v41 V0' := by
  unfold out_main_v41
  rw [h main_v29_8 (by decide)]
/-- `main_v52`, which the operations after the loop make, of the contents they start from. -/
def out_main_v52 : (Proc.devRef .tc main_v52 : DevRef τ sig).ty.Contents (Elt F) :=
  subf (shapeCast _ (extractStridedSlice S4x100x1 ![0, 0, 0] (rowsAt (V0 (Proc.devRef .tc main_arg0)) (V0 (Proc.devRef .tc main_v29_7))) slices_S4x100x117_S4x100x1_0_0_0) shapeCasts_S4x100x1_S4x100) (Host.divf (shapeCast _ (extractStridedSlice S4x100x1 ![0, 0, 2] (rowsAt (V0 (Proc.devRef .tc main_arg0)) (V0 (Proc.devRef .tc main_v29_7))) slices_S4x100x117_S4x100x1_0_0_2) shapeCasts_S4x100x1_S4x100) (broadcastInDim S4x100 ![] bcast_S_S4x100 (constant S_ .f32 0x40000000#32)))
theorem post_main_v52 : afterL postI V0 (no_index (Proc.devRef .tc main_v52)) = out_main_v52 V0 := by
  unfold out_main_v52 rowsAt
  simp only [postI, afterL_cons, afterL_nil, hostOps0_1, hostOps0_2, hostOps0_3, hostOps0_4, hostOps0_5]
  after_results_entrywise []
theorem out_main_v52_congr {V0 V0' : Valuation τ sig (Elt F)} (h : Agree V0 V0') (h_main_arg0 : V0 (Proc.devRef .tc main_arg0) = V0' (Proc.devRef .tc main_arg0)) : out_main_v52 V0 = out_main_v52 V0' := by
  unfold out_main_v52
  rw [h_main_arg0, h main_v29_7 (by decide)]
/-- `main_v55`, which the operations after the loop make, of the contents they start from. -/
def out_main_v55 : (Proc.devRef .tc main_v55 : DevRef τ sig).ty.Contents (Elt F) :=
  subf (shapeCast _ (extractStridedSlice S4x100x1 ![0, 0, 1] (rowsAt (V0 (Proc.devRef .tc main_arg0)) (V0 (Proc.devRef .tc main_v29_7))) slices_S4x100x117_S4x100x1_0_0_1) shapeCasts_S4x100x1_S4x100) (Host.divf (shapeCast _ (extractStridedSlice S4x100x1 ![0, 0, 3] (rowsAt (V0 (Proc.devRef .tc main_arg0)) (V0 (Proc.devRef .tc main_v29_7))) slices_S4x100x117_S4x100x1_0_0_3) shapeCasts_S4x100x1_S4x100) (broadcastInDim S4x100 ![] bcast_S_S4x100 (constant S_ .f32 0x40000000#32)))
theorem post_main_v55 : afterL postI V0 (no_index (Proc.devRef .tc main_v55)) = out_main_v55 V0 := by
  unfold out_main_v55 rowsAt
  simp only [postI, afterL_cons, afterL_nil, hostOps0_1, hostOps0_2, hostOps0_3, hostOps0_4, hostOps0_5]
  after_results_entrywise []
theorem out_main_v55_congr {V0 V0' : Valuation τ sig (Elt F)} (h : Agree V0 V0') (h_main_arg0 : V0 (Proc.devRef .tc main_arg0) = V0' (Proc.devRef .tc main_arg0)) : out_main_v55 V0 = out_main_v55 V0' := by
  unfold out_main_v55
  rw [h_main_arg0, h main_v29_7 (by decide)]
/-- `main_v58`, which the operations after the loop make, of the contents they start from. -/
def out_main_v58 : (Proc.devRef .tc main_v58 : DevRef τ sig).ty.Contents (Elt F) :=
  addf (shapeCast _ (extractStridedSlice S4x100x1 ![0, 0, 0] (rowsAt (V0 (Proc.devRef .tc main_arg0)) (V0 (Proc.devRef .tc main_v29_7))) slices_S4x100x117_S4x100x1_0_0_0) shapeCasts_S4x100x1_S4x100) (Host.divf (shapeCast _ (extractStridedSlice S4x100x1 ![0, 0, 2] (rowsAt (V0 (Proc.devRef .tc main_arg0)) (V0 (Proc.devRef .tc main_v29_7))) slices_S4x100x117_S4x100x1_0_0_2) shapeCasts_S4x100x1_S4x100) (broadcastInDim S4x100 ![] bcast_S_S4x100 (constant S_ .f32 0x40000000#32)))
theorem post_main_v58 : afterL postI V0 (no_index (Proc.devRef .tc main_v58)) = out_main_v58 V0 := by
  unfold out_main_v58 rowsAt
  simp only [postI, afterL_cons, afterL_nil, hostOps0_1, hostOps0_2, hostOps0_3, hostOps0_4, hostOps0_5]
  after_results_entrywise []
theorem out_main_v58_congr {V0 V0' : Valuation τ sig (Elt F)} (h : Agree V0 V0') (h_main_arg0 : V0 (Proc.devRef .tc main_arg0) = V0' (Proc.devRef .tc main_arg0)) : out_main_v58 V0 = out_main_v58 V0' := by
  unfold out_main_v58
  rw [h_main_arg0, h main_v29_7 (by decide)]
/-- `main_v61`, which the operations after the loop make, of the contents they start from. -/
def out_main_v61 : (Proc.devRef .tc main_v61 : DevRef τ sig).ty.Contents (Elt F) :=
  addf (shapeCast _ (extractStridedSlice S4x100x1 ![0, 0, 1] (rowsAt (V0 (Proc.devRef .tc main_arg0)) (V0 (Proc.devRef .tc main_v29_7))) slices_S4x100x117_S4x100x1_0_0_1) shapeCasts_S4x100x1_S4x100) (Host.divf (shapeCast _ (extractStridedSlice S4x100x1 ![0, 0, 3] (rowsAt (V0 (Proc.devRef .tc main_arg0)) (V0 (Proc.devRef .tc main_v29_7))) slices_S4x100x117_S4x100x1_0_0_3) shapeCasts_S4x100x1_S4x100) (broadcastInDim S4x100 ![] bcast_S_S4x100 (constant S_ .f32 0x40000000#32)))
theorem post_main_v61 : afterL postI V0 (no_index (Proc.devRef .tc main_v61)) = out_main_v61 V0 := by
  unfold out_main_v61 rowsAt
  simp only [postI, afterL_cons, afterL_nil, hostOps0_1, hostOps0_2, hostOps0_3, hostOps0_4, hostOps0_5]
  after_results_entrywise []
theorem out_main_v61_congr {V0 V0' : Valuation τ sig (Elt F)} (h : Agree V0 V0') (h_main_arg0 : V0 (Proc.devRef .tc main_arg0) = V0' (Proc.devRef .tc main_arg0)) : out_main_v61 V0 = out_main_v61 V0' := by
  unfold out_main_v61
  rw [h_main_arg0, h main_v29_7 (by decide)]
/-- `main_v67`, which the operations after the loop make, of the contents they start from. -/
def out_main_v67 : (Proc.devRef .tc main_v67 : DevRef τ sig).ty.Contents (Elt F) :=
  select (transpose S4x100 [1, 0] (V0 (Proc.devRef .tc main_v29_8)) transposes_S100x4_S4x100_1_0) (mulf (shapeCast _ (extractStridedSlice S4x100x1 ![0, 0, 4] (rowsAt (V0 (Proc.devRef .tc main_arg0)) (V0 (Proc.devRef .tc main_v29_7))) slices_S4x100x117_S4x100x1_0_0_4) shapeCasts_S4x100x1_S4x100) (Host.reduce FloatOps.maximumf (extractStridedSlice S4x100x80 ![0, 0, 5] (rowsAt (V0 (Proc.devRef .tc main_arg0)) (V0 (Proc.devRef .tc main_v29_7))) slices_S4x100x117_S4x100x80_0_0_5) (constant S_ .f32 0xFF800000#32) reducesTo_S4x100x80_S4x100_d2 h_S_)) (broadcastInDim S4x100 ![] bcast_S_S4x100 (id (constant S_ .f32 0x00000000#32)))
theorem post_main_v67 : afterL postI V0 (no_index (Proc.devRef .tc main_v67)) = out_main_v67 V0 := by
  unfold out_main_v67 rowsAt
  simp only [postI, afterL_cons, afterL_nil, hostOps0_1, hostOps0_2, hostOps0_3, hostOps0_4, hostOps0_5]
  after_results_entrywise []
theorem out_main_v67_congr {V0 V0' : Valuation τ sig (Elt F)} (h : Agree V0 V0') (h_main_arg0 : V0 (Proc.devRef .tc main_arg0) = V0' (Proc.devRef .tc main_arg0)) : out_main_v67 V0 = out_main_v67 V0' := by
  unfold out_main_v67
  rw [h main_v29_8 (by decide), h_main_arg0, h main_v29_7 (by decide)]
/-- `main_v69`, which the operations after the loop make, of the contents they start from. -/
def out_main_v69 : (Proc.devRef .tc main_v69 : DevRef τ sig).ty.Contents (Elt F) :=
  (fun j => (Host.argReduce reducer_argmax_f32_i32 (extractStridedSlice S4x100x80 ![0, 0, 5] (rowsAt (V0 (Proc.devRef .tc main_arg0)) (V0 (Proc.devRef .tc main_v29_7))) slices_S4x100x117_S4x100x80_0_0_5) (iotaInDim S4x100x80 32 2) (constant S_ .f32 0xFF800000#32) (constantI S_ 32 0#32) reducesTo_S4x100x80_S4x100_d2 h_S_ j).2)
theorem post_main_v69 : afterL postI V0 (no_index (Proc.devRef .tc main_v69)) = out_main_v69 V0 := by
  unfold out_main_v69 rowsAt
  simp only [postI, afterL_cons, afterL_nil, hostOps0_1, hostOps0_2, hostOps0_3, hostOps0_4, hostOps0_5]
  after_results_entrywise []
theorem out_main_v69_congr {V0 V0' : Valuation τ sig (Elt F)} (h : Agree V0 V0') (h_main_arg0 : V0 (Proc.devRef .tc main_arg0) = V0' (Proc.devRef .tc main_arg0)) : out_main_v69 V0 = out_main_v69 V0' := by
  unfold out_main_v69
  rw [h_main_arg0, h main_v29_7 (by decide)]
/-- `main_v70`, which the operations after the loop make, of the contents they start from. -/
def out_main_v70 : (Proc.devRef .tc main_v70 : DevRef τ sig).ty.Contents (Elt F) :=
  extractStridedSlice S4x100x32 ![0, 0, 85] (rowsAt (V0 (Proc.devRef .tc main_arg0)) (V0 (Proc.devRef .tc main_v29_7))) slices_S4x100x117_S4x100x32_0_0_85
theorem post_main_v70 : afterL postI V0 (no_index (Proc.devRef .tc main_v70)) = out_main_v70 V0 := by
  unfold out_main_v70 rowsAt
  simp only [postI, afterL_cons, afterL_nil, hostOps0_1, hostOps0_2, hostOps0_3, hostOps0_4, hostOps0_5]
  after_results_entrywise []
theorem out_main_v70_congr {V0 V0' : Valuation τ sig (Elt F)} (h : Agree V0 V0') (h_main_arg0 : V0 (Proc.devRef .tc main_arg0) = V0' (Proc.devRef .tc main_arg0)) : out_main_v70 V0 = out_main_v70 V0' := by
  unfold out_main_v70
  rw [h_main_arg0, h main_v29_7 (by decide)]
/-- THE RUN: on every device, for any float values, from any memory with zero counters, every weakly fair execution
    of @main terminates with each result at its component of `STEP` iterated 100 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v41) = out_main_v41 (STEP^[100] (entryContents preI m c))
      ∧ r.2.mem ((c.tc : Thread nD τ).loc main_v52) = out_main_v52 (STEP^[100] (entryContents preI m c))
      ∧ r.2.mem ((c.tc : Thread nD τ).loc main_v55) = out_main_v55 (STEP^[100] (entryContents preI m c))
      ∧ r.2.mem ((c.tc : Thread nD τ).loc main_v58) = out_main_v58 (STEP^[100] (entryContents preI m c))
      ∧ r.2.mem ((c.tc : Thread nD τ).loc main_v61) = out_main_v61 (STEP^[100] (entryContents preI m c))
      ∧ r.2.mem ((c.tc : Thread nD τ).loc main_v67) = out_main_v67 (STEP^[100] (entryContents preI m c))
      ∧ r.2.mem ((c.tc : Thread nD τ).loc main_v69) = out_main_v69 (STEP^[100] (entryContents preI m c))
      ∧ r.2.mem ((c.tc : Thread nD τ).loc main_v70) = out_main_v70 (STEP^[100] (entryContents preI m c))
      ∧ r.2.mem ((c.tc : Thread nD τ).loc main_arg0) = m ((c.tc : Thread nD τ).loc main_arg0) :=
  (θ_run defs _ _).mono (fun _ h c => ⟨(h c main_v41 rfl).trans ((post_main_v41 _).trans (out_main_v41_congr (fun j hj => (cond_keeps _ j hj).trans (atK_agree m c 100 j hj)))),
      (h c main_v52 rfl).trans ((post_main_v52 _).trans (out_main_v52_congr (fun j hj => (cond_keeps _ j hj).trans (atK_agree m c 100 j hj)) ((keep_main_arg0_condOps _).trans ((atK_main_arg0 m c 100).trans (iter_main_arg0 m c 100).symm)))),
      (h c main_v55 rfl).trans ((post_main_v55 _).trans (out_main_v55_congr (fun j hj => (cond_keeps _ j hj).trans (atK_agree m c 100 j hj)) ((keep_main_arg0_condOps _).trans ((atK_main_arg0 m c 100).trans (iter_main_arg0 m c 100).symm)))),
      (h c main_v58 rfl).trans ((post_main_v58 _).trans (out_main_v58_congr (fun j hj => (cond_keeps _ j hj).trans (atK_agree m c 100 j hj)) ((keep_main_arg0_condOps _).trans ((atK_main_arg0 m c 100).trans (iter_main_arg0 m c 100).symm)))),
      (h c main_v61 rfl).trans ((post_main_v61 _).trans (out_main_v61_congr (fun j hj => (cond_keeps _ j hj).trans (atK_agree m c 100 j hj)) ((keep_main_arg0_condOps _).trans ((atK_main_arg0 m c 100).trans (iter_main_arg0 m c 100).symm)))),
      (h c main_v67 rfl).trans ((post_main_v67 _).trans (out_main_v67_congr (fun j hj => (cond_keeps _ j hj).trans (atK_agree m c 100 j hj)) ((keep_main_arg0_condOps _).trans ((atK_main_arg0 m c 100).trans (iter_main_arg0 m c 100).symm)))),
      (h c main_v69 rfl).trans ((post_main_v69 _).trans (out_main_v69_congr (fun j hj => (cond_keeps _ j hj).trans (atK_agree m c 100 j hj)) ((keep_main_arg0_condOps _).trans ((atK_main_arg0 m c 100).trans (iter_main_arg0 m c 100).symm)))),
      (h c main_v70 rfl).trans ((post_main_v70 _).trans (out_main_v70_congr (fun j hj => (cond_keeps _ j hj).trans (atK_agree m c 100 j hj)) ((keep_main_arg0_condOps _).trans ((atK_main_arg0 m c 100).trans (iter_main_arg0 m c 100).symm)))),
      (h c main_arg0 rfl).trans ((post_keeps_main_arg0 _).trans ((keep_main_arg0_condOps _).trans (atK_main_arg0 m c 100)))⟩) (run_fold m ρ)

end Cert.SelectRefIdeal.Value

end
-- ==== Proof.SelRefStepRun.lean ====
/-
  The run of the reference selection program in terms of the plain step: each result is a field of the iterated step.
-/
module

public import proofs.«01_k».proof.Proof.SelRefTrip
public import proofs.«01_k».proof.Proof.SelRefStep

@[expose] public section

set_option maxRecDepth 8192

noncomputable section

namespace Cert.SelectRefIdeal.StepRun

open Idealize.ShloMosaic Idealize.ShloMosaic.TcCoe Idealize.SL.Sem Idealize.ShloMosaic.StableHlo
open Cert.SelectRefIdeal Cert.SelectRefIdeal.Gen Cert.SelectRefIdeal.Value
open Cert.SelectRefIdeal.Step (State Arr step init)

variable {F : FTy → Type} [FloatOps F]

variable (V0 : Valuation τ sig (Elt F)) (s : State F) (j : ℕ)

/-- The valuation holds the state, the set-up values and the trip's number. -/
structure Holds : Prop where
  f_6 : V0 (Proc.devRef .tc main_v29_6) = s.main_v29_6
  f_7 : V0 (Proc.devRef .tc main_v29_7) = s.main_v29_7
  f_8 : V0 (Proc.devRef .tc main_v29_8) = s.main_v29_8
  f_0 : V0 (Proc.devRef .tc main_v29_0) = s.main_v29_0
  f_1 : V0 (Proc.devRef .tc main_v29_1) = s.main_v29_1
  f_2 : V0 (Proc.devRef .tc main_v29_2) = s.main_v29_2
  f_3 : V0 (Proc.devRef .tc main_v29_3) = s.main_v29_3
  f_4 : V0 (Proc.devRef .tc main_v29_4) = s.main_v29_4
  n_5 : V0 (Proc.devRef .tc main_v29_5) = constantI S_ 32 (BitVec.ofNat 32 j)

variable {V0 s j}

variable (h : Holds V0 s j)
include h

theorem al_0 : (constant S_ .f32 0xFF800000#32 : Arr F S_ .f32) = Step.b0 j s := by
  unfold Step.b0
  rfl
theorem al_1 : (id (constant S_ .f32 0xFF800000#32) : Arr F S_ .f32) = Step.b1 j s := by
  unfold Step.b1
  rw [← al_0 h]
  try rfl
theorem al_2 : (broadcastInDim S4x20000 ![] bcast_S_S4x20000 (id (constant S_ .f32 0xFF800000#32)) : Arr F S4x20000 .f32) = Step.b2 j s := by
  unfold Step.b2
  rw [← al_1 h]
  try rfl
theorem al_3 : (res_main_while0b_v71 V0 : Arr F S4x20000 .f32) = Step.b3 j s := by
  unfold res_main_while0b_v71 Step.b3
  rw [← al_2 h, h.f_6, h.f_0]
  try rfl
theorem al_4 : (res_main_while0b_call1_v0 V0 : Arr F S4x20000 .i32) = Step.b4 j s := by
  unfold res_main_while0b_call1_v0 Step.b4
  rfl
theorem al_5 : (res_main_while0b_call1_cst V0 : Arr F S_ .f32) = Step.b5 j s := by
  unfold res_main_while0b_call1_cst Step.b5
  rfl
theorem al_6 : (res_main_while0b_call1_c V0 : Arr F S_ .i32) = Step.b6 j s := by
  unfold res_main_while0b_call1_c Step.b6
  rfl
theorem al_7 : ((fun j => (Host.argReduce reducer_argmax_f32_i32 (res_main_while0b_v71 V0) (res_main_while0b_call1_v0 V0) (res_main_while0b_call1_cst V0) (res_main_while0b_call1_c V0) reducesTo_S4x20000_S4_d1 h_S_ j).1) : Arr F S4 .f32) = Step.b7 j s := by
  unfold Step.b7
  rw [← al_3 h, ← al_4 h, ← al_5 h, ← al_6 h]
  try rfl
theorem al_8 : (res_main_while0b_v72 V0 : Arr F S4 .i32) = Step.b8 j s := by
  unfold res_main_while0b_v72 Step.b8
  rw [← al_3 h, ← al_4 h, ← al_5 h, ← al_6 h]
  try rfl
theorem al_9 : (iotaInDim S4 32 0 : Arr F S4 .i32) = Step.b9 j s := by
  unfold Step.b9
  rfl
theorem al_10 : (broadcastInDim S4x1 ![0] bcast_S4_S4x1_0 (iotaInDim S4 32 0) : Arr F S4x1 .i32) = Step.b10 j s := by
  unfold Step.b10
  rw [← al_9 h]
  try rfl
theorem al_11 : (broadcastInDim S4x1 ![0] bcast_S4_S4x1_0 (res_main_while0b_v72 V0) : Arr F S4x1 .i32) = Step.b11 j s := by
  unfold Step.b11
  rw [← al_8 h]
  try rfl
theorem al_12 : (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1 : Arr F S4x2 .i32) = Step.b12 j s := by
  unfold Step.b12
  rw [← al_10 h, ← al_11 h]
  try rfl
theorem al_13 : (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1) : Arr F S4 .f32) = Step.b13 j s := by
  unfold Step.b13
  rw [← al_3 h, ← al_12 h]
  try rfl
theorem al_14 : (constant S_ .f32 0x3E800000#32 : Arr F S_ .f32) = Step.b14 j s := by
  unfold Step.b14
  rfl
theorem al_15 : (broadcastInDim S4 ![] bcast_S_S4 (constant S_ .f32 0x3E800000#32) : Arr F S4 .f32) = Step.b15 j s := by
  unfold Step.b15
  rw [← al_14 h]
  try rfl
theorem al_16 : (cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)) : Arr F S4 .i1) = Step.b16 j s := by
  unfold Step.b16
  rw [← al_13 h, ← al_15 h]
  try rfl
theorem al_17 : (iotaInDim S4 32 0 : Arr F S4 .i32) = Step.b17 j s := by
  unfold Step.b17
  rfl
theorem al_18 : (broadcastInDim S4x1 ![0] bcast_S4_S4x1_0 (iotaInDim S4 32 0) : Arr F S4x1 .i32) = Step.b18 j s := by
  unfold Step.b18
  rw [← al_17 h]
  try rfl
theorem al_19 : (broadcastInDim S4x1 ![0] bcast_S4_S4x1_0 (res_main_while0b_v72 V0) : Arr F S4x1 .i32) = Step.b19 j s := by
  unfold Step.b19
  rw [← al_8 h]
  try rfl
theorem al_20 : (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1 : Arr F S4x2 .i32) = Step.b20 j s := by
  unfold Step.b20
  rw [← al_18 h, ← al_19 h]
  try rfl
theorem al_21 : (Host.gather gather_S4x20000_S4x2_S4_n_01_n_n_01_1_11 (V0 (Proc.devRef .tc main_v29_1)) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1) : Arr F S4 .f32) = Step.b21 j s := by
  unfold Step.b21
  rw [← al_20 h, h.f_1]
  try rfl
theorem al_22 : (res_main_while0b_v85 V0 : Arr F S4x1 .f32) = Step.b22 j s := by
  unfold res_main_while0b_v85 Step.b22
  rw [← al_21 h]
  try rfl
theorem al_23 : (iotaInDim S4 32 0 : Arr F S4 .i32) = Step.b23 j s := by
  unfold Step.b23
  rfl
theorem al_24 : (broadcastInDim S4x1 ![0] bcast_S4_S4x1_0 (iotaInDim S4 32 0) : Arr F S4x1 .i32) = Step.b24 j s := by
  unfold Step.b24
  rw [← al_23 h]
  try rfl
theorem al_25 : (broadcastInDim S4x1 ![0] bcast_S4_S4x1_0 (res_main_while0b_v72 V0) : Arr F S4x1 .i32) = Step.b25 j s := by
  unfold Step.b25
  rw [← al_8 h]
  try rfl
theorem al_26 : (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1 : Arr F S4x2 .i32) = Step.b26 j s := by
  unfold Step.b26
  rw [← al_24 h, ← al_25 h]
  try rfl
theorem al_27 : (Host.gather gather_S4x20000_S4x2_S4_n_01_n_n_01_1_11 (V0 (Proc.devRef .tc main_v29_2)) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1) : Arr F S4 .f32) = Step.b27 j s := by
  unfold Step.b27
  rw [← al_26 h, h.f_2]
  try rfl
theorem al_28 : (res_main_while0b_v91 V0 : Arr F S4x1 .f32) = Step.b28 j s := by
  unfold res_main_while0b_v91 Step.b28
  rw [← al_27 h]
  try rfl
theorem al_29 : (iotaInDim S4 32 0 : Arr F S4 .i32) = Step.b29 j s := by
  unfold Step.b29
  rfl
theorem al_30 : (broadcastInDim S4x1 ![0] bcast_S4_S4x1_0 (iotaInDim S4 32 0) : Arr F S4x1 .i32) = Step.b30 j s := by
  unfold Step.b30
  rw [← al_29 h]
  try rfl
theorem al_31 : (broadcastInDim S4x1 ![0] bcast_S4_S4x1_0 (res_main_while0b_v72 V0) : Arr F S4x1 .i32) = Step.b31 j s := by
  unfold Step.b31
  rw [← al_8 h]
  try rfl
theorem al_32 : (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1 : Arr F S4x2 .i32) = Step.b32 j s := by
  unfold Step.b32
  rw [← al_30 h, ← al_31 h]
  try rfl
theorem al_33 : (Host.gather gather_S4x20000_S4x2_S4_n_01_n_n_01_1_11 (V0 (Proc.devRef .tc main_v29_3)) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1) : Arr F S4 .f32) = Step.b33 j s := by
  unfold Step.b33
  rw [← al_32 h, h.f_3]
  try rfl
theorem al_34 : (res_main_while0b_v97 V0 : Arr F S4x1 .f32) = Step.b34 j s := by
  unfold res_main_while0b_v97 Step.b34
  rw [← al_33 h]
  try rfl
theorem al_35 : (iotaInDim S4 32 0 : Arr F S4 .i32) = Step.b35 j s := by
  unfold Step.b35
  rfl
theorem al_36 : (broadcastInDim S4x1 ![0] bcast_S4_S4x1_0 (iotaInDim S4 32 0) : Arr F S4x1 .i32) = Step.b36 j s := by
  unfold Step.b36
  rw [← al_35 h]
  try rfl
theorem al_37 : (broadcastInDim S4x1 ![0] bcast_S4_S4x1_0 (res_main_while0b_v72 V0) : Arr F S4x1 .i32) = Step.b37 j s := by
  unfold Step.b37
  rw [← al_8 h]
  try rfl
theorem al_38 : (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1 : Arr F S4x2 .i32) = Step.b38 j s := by
  unfold Step.b38
  rw [← al_36 h, ← al_37 h]
  try rfl
theorem al_39 : (Host.gather gather_S4x20000_S4x2_S4_n_01_n_n_01_1_11 (V0 (Proc.devRef .tc main_v29_4)) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1) : Arr F S4 .f32) = Step.b39 j s := by
  unfold Step.b39
  rw [← al_38 h, h.f_4]
  try rfl
theorem al_40 : (res_main_while0b_v103 V0 : Arr F S4x1 .f32) = Step.b40 j s := by
  unfold res_main_while0b_v103 Step.b40
  rw [← al_39 h]
  try rfl
theorem al_41 : (broadcastInDim S4x20000 ![0, 1] bcast_S4x1_S4x20000_0_1 (res_main_while0b_v97 V0) : Arr F S4x20000 .f32) = Step.b41 j s := by
  unfold Step.b41
  rw [← al_34 h]
  try rfl
theorem al_42 : (minimumf (broadcastInDim S4x20000 ![0, 1] bcast_S4x1_S4x20000_0_1 (res_main_while0b_v97 V0)) (V0 (Proc.devRef .tc main_v29_3)) : Arr F S4x20000 .f32) = Step.b42 j s := by
  unfold Step.b42
  rw [← al_41 h, h.f_3]
  try rfl
theorem al_43 : (broadcastInDim S4x20000 ![0, 1] bcast_S4x1_S4x20000_0_1 (res_main_while0b_v85 V0) : Arr F S4x20000 .f32) = Step.b43 j s := by
  unfold Step.b43
  rw [← al_22 h]
  try rfl
theorem al_44 : (maximumf (broadcastInDim S4x20000 ![0, 1] bcast_S4x1_S4x20000_0_1 (res_main_while0b_v85 V0)) (V0 (Proc.devRef .tc main_v29_1)) : Arr F S4x20000 .f32) = Step.b44 j s := by
  unfold Step.b44
  rw [← al_43 h, h.f_1]
  try rfl
theorem al_45 : (subf (minimumf (broadcastInDim S4x20000 ![0, 1] bcast_S4x1_S4x20000_0_1 (res_main_while0b_v97 V0)) (V0 (Proc.devRef .tc main_v29_3))) (maximumf (broadcastInDim S4x20000 ![0, 1] bcast_S4x1_S4x20000_0_1 (res_main_while0b_v85 V0)) (V0 (Proc.devRef .tc main_v29_1))) : Arr F S4x20000 .f32) = Step.b45 j s := by
  unfold Step.b45
  rw [← al_42 h, ← al_44 h]
  try rfl
theorem al_46 : (constant S_ .f32 0x00000000#32 : Arr F S_ .f32) = Step.b46 j s := by
  unfold Step.b46
  rfl
theorem al_47 : (broadcastInDim S4x20000 ![] bcast_S_S4x20000 (constant S_ .f32 0x00000000#32) : Arr F S4x20000 .f32) = Step.b47 j s := by
  unfold Step.b47
  rw [← al_46 h]
  try rfl
theorem al_48 : (maximumf (subf (minimumf (broadcastInDim S4x20000 ![0, 1] bcast_S4x1_S4x20000_0_1 (res_main_while0b_v97 V0)) (V0 (Proc.devRef .tc main_v29_3))) (maximumf (broadcastInDim S4x20000 ![0, 1] bcast_S4x1_S4x20000_0_1 (res_main_while0b_v85 V0)) (V0 (Proc.devRef .tc main_v29_1)))) (broadcastInDim S4x20000 ![] bcast_S_S4x20000 (constant S_ .f32 0x00000000#32)) : Arr F S4x20000 .f32) = Step.b48 j s := by
  unfold Step.b48
  rw [← al_45 h, ← al_47 h]
  try rfl
theorem al_49 : (broadcastInDim S4x20000 ![0, 1] bcast_S4x1_S4x20000_0_1 (res_main_while0b_v103 V0) : Arr F S4x20000 .f32) = Step.b49 j s := by
  unfold Step.b49
  rw [← al_40 h]
  try rfl
theorem al_50 : (minimumf (broadcastInDim S4x20000 ![0, 1] bcast_S4x1_S4x20000_0_1 (res_main_while0b_v103 V0)) (V0 (Proc.devRef .tc main_v29_4)) : Arr F S4x20000 .f32) = Step.b50 j s := by
  unfold Step.b50
  rw [← al_49 h, h.f_4]
  try rfl
theorem al_51 : (broadcastInDim S4x20000 ![0, 1] bcast_S4x1_S4x20000_0_1 (res_main_while0b_v91 V0) : Arr F S4x20000 .f32) = Step.b51 j s := by
  unfold Step.b51
  rw [← al_28 h]
  try rfl
theorem al_52 : (maximumf (broadcastInDim S4x20000 ![0, 1] bcast_S4x1_S4x20000_0_1 (res_main_while0b_v91 V0)) (V0 (Proc.devRef .tc main_v29_2)) : Arr F S4x20000 .f32) = Step.b52 j s := by
  unfold Step.b52
  rw [← al_51 h, h.f_2]
  try rfl
theorem al_53 : (subf (minimumf (broadcastInDim S4x20000 ![0, 1] bcast_S4x1_S4x20000_0_1 (res_main_while0b_v103 V0)) (V0 (Proc.devRef .tc main_v29_4))) (maximumf (broadcastInDim S4x20000 ![0, 1] bcast_S4x1_S4x20000_0_1 (res_main_while0b_v91 V0)) (V0 (Proc.devRef .tc main_v29_2))) : Arr F S4x20000 .f32) = Step.b53 j s := by
  unfold Step.b53
  rw [← al_50 h, ← al_52 h]
  try rfl
theorem al_54 : (constant S_ .f32 0x00000000#32 : Arr F S_ .f32) = Step.b54 j s := by
  unfold Step.b54
  rfl
theorem al_55 : (broadcastInDim S4x20000 ![] bcast_S_S4x20000 (constant S_ .f32 0x00000000#32) : Arr F S4x20000 .f32) = Step.b55 j s := by
  unfold Step.b55
  rw [← al_54 h]
  try rfl
theorem al_56 : (maximumf (subf (minimumf (broadcastInDim S4x20000 ![0, 1] bcast_S4x1_S4x20000_0_1 (res_main_while0b_v103 V0)) (V0 (Proc.devRef .tc main_v29_4))) (maximumf (broadcastInDim S4x20000 ![0, 1] bcast_S4x1_S4x20000_0_1 (res_main_while0b_v91 V0)) (V0 (Proc.devRef .tc main_v29_2)))) (broadcastInDim S4x20000 ![] bcast_S_S4x20000 (constant S_ .f32 0x00000000#32)) : Arr F S4x20000 .f32) = Step.b56 j s := by
  unfold Step.b56
  rw [← al_53 h, ← al_55 h]
  try rfl
theorem al_57 : (res_main_while0b_v118 V0 : Arr F S4x20000 .f32) = Step.b57 j s := by
  unfold res_main_while0b_v118 Step.b57
  rw [← al_48 h, ← al_56 h]
  try rfl
theorem al_58 : (subf (res_main_while0b_v97 V0) (res_main_while0b_v85 V0) : Arr F S4x1 .f32) = Step.b58 j s := by
  unfold Step.b58
  rw [← al_34 h, ← al_22 h]
  try rfl
theorem al_59 : (subf (res_main_while0b_v103 V0) (res_main_while0b_v91 V0) : Arr F S4x1 .f32) = Step.b59 j s := by
  unfold Step.b59
  rw [← al_40 h, ← al_28 h]
  try rfl
theorem al_60 : (mulf (subf (res_main_while0b_v97 V0) (res_main_while0b_v85 V0)) (subf (res_main_while0b_v103 V0) (res_main_while0b_v91 V0)) : Arr F S4x1 .f32) = Step.b60 j s := by
  unfold Step.b60
  rw [← al_58 h, ← al_59 h]
  try rfl
theorem al_61 : (subf (V0 (Proc.devRef .tc main_v29_3)) (V0 (Proc.devRef .tc main_v29_1)) : Arr F S4x20000 .f32) = Step.b61 j s := by
  unfold Step.b61
  rw [h.f_3, h.f_1]
  try rfl
theorem al_62 : (subf (V0 (Proc.devRef .tc main_v29_4)) (V0 (Proc.devRef .tc main_v29_2)) : Arr F S4x20000 .f32) = Step.b62 j s := by
  unfold Step.b62
  rw [h.f_4, h.f_2]
  try rfl
theorem al_63 : (mulf (subf (V0 (Proc.devRef .tc main_v29_3)) (V0 (Proc.devRef .tc main_v29_1))) (subf (V0 (Proc.devRef .tc main_v29_4)) (V0 (Proc.devRef .tc main_v29_2))) : Arr F S4x20000 .f32) = Step.b63 j s := by
  unfold Step.b63
  rw [← al_61 h, ← al_62 h]
  try rfl
theorem al_64 : (broadcastInDim S4x20000 ![0, 1] bcast_S4x1_S4x20000_0_1 (mulf (subf (res_main_while0b_v97 V0) (res_main_while0b_v85 V0)) (subf (res_main_while0b_v103 V0) (res_main_while0b_v91 V0))) : Arr F S4x20000 .f32) = Step.b64 j s := by
  unfold Step.b64
  rw [← al_60 h]
  try rfl
theorem al_65 : (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2)))) : Arr F S4x20000 .f32) = Step.b65 j s := by
  unfold Step.b65
  rw [← al_64 h, ← al_63 h]
  try rfl
theorem al_66 : (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0) : Arr F S4x20000 .f32) = Step.b66 j s := by
  unfold Step.b66
  rw [← al_65 h, ← al_57 h]
  try rfl
theorem al_67 : (constant S_ .f32 0x3089705F#32 : Arr F S_ .f32) = Step.b67 j s := by
  unfold Step.b67
  rfl
theorem al_68 : (broadcastInDim S4x20000 ![] bcast_S_S4x20000 (constant S_ .f32 0x3089705F#32) : Arr F S4x20000 .f32) = Step.b68 j s := by
  unfold Step.b68
  rw [← al_67 h]
  try rfl
theorem al_69 : (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)) : Arr F S4x20000 .f32) = Step.b69 j s := by
  unfold Step.b69
  rw [← al_66 h, ← al_68 h]
  try rfl
theorem al_70 : (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32))) : Arr F S4x20000 .f32) = Step.b70 j s := by
  unfold Step.b70
  rw [← al_57 h, ← al_69 h]
  try rfl
theorem al_71 : (iotaInDim S20000 32 0 : Arr F S20000 .i32) = Step.b71 j s := by
  unfold Step.b71
  rfl
theorem al_72 : (constant S_ .f32 0x3EE66666#32 : Arr F S_ .f32) = Step.b72 j s := by
  unfold Step.b72
  rfl
theorem al_73 : (broadcastInDim S4x20000 ![] bcast_S_S4x20000 (constant S_ .f32 0x3EE66666#32) : Arr F S4x20000 .f32) = Step.b73 j s := by
  unfold Step.b73
  rw [← al_72 h]
  try rfl
theorem al_74 : (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32)) : Arr F S4x20000 .i1) = Step.b74 j s := by
  unfold Step.b74
  rw [← al_70 h, ← al_73 h]
  try rfl
theorem al_75 : (andi (V0 (Proc.devRef .tc main_v29_6)) (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32))) : Arr F S4x20000 .i1) = Step.b75 j s := by
  unfold Step.b75
  rw [← al_74 h, h.f_6]
  try rfl
theorem al_76 : (broadcastInDim S4x1 ![0] bcast_S4_S4x1_0 (res_main_while0b_v72 V0) : Arr F S4x1 .i32) = Step.b76 j s := by
  unfold Step.b76
  rw [← al_8 h]
  try rfl
theorem al_77 : (broadcastInDim S1x20000 ![1] bcast_S20000_S1x20000_1 (iotaInDim S20000 32 0) : Arr F S1x20000 .i32) = Step.b77 j s := by
  unfold Step.b77
  rw [← al_71 h]
  try rfl
theorem al_78 : (broadcastInDim S4x20000 ![0, 1] bcast_S1x20000_S4x20000_0_1 (broadcastInDim S1x20000 ![1] bcast_S20000_S1x20000_1 (iotaInDim S20000 32 0)) : Arr F S4x20000 .i32) = Step.b78 j s := by
  unfold Step.b78
  rw [← al_77 h]
  try rfl
theorem al_79 : (broadcastInDim S4x20000 ![0, 1] bcast_S4x1_S4x20000_0_1 (broadcastInDim S4x1 ![0] bcast_S4_S4x1_0 (res_main_while0b_v72 V0)) : Arr F S4x20000 .i32) = Step.b79 j s := by
  unfold Step.b79
  rw [← al_76 h]
  try rfl
theorem al_80 : (cmpi .ne (broadcastInDim S4x20000 ![0, 1] bcast_S1x20000_S4x20000_0_1 (broadcastInDim S1x20000 ![1] bcast_S20000_S1x20000_1 (iotaInDim S20000 32 0))) (broadcastInDim S4x20000 ![0, 1] bcast_S4x1_S4x20000_0_1 (broadcastInDim S4x1 ![0] bcast_S4_S4x1_0 (res_main_while0b_v72 V0))) : Arr F S4x20000 .i1) = Step.b80 j s := by
  unfold Step.b80
  rw [← al_78 h, ← al_79 h]
  try rfl
theorem al_81 : (andi (andi (V0 (Proc.devRef .tc main_v29_6)) (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32)))) (cmpi .ne (broadcastInDim S4x20000 ![0, 1] bcast_S1x20000_S4x20000_0_1 (broadcastInDim S1x20000 ![1] bcast_S20000_S1x20000_1 (iotaInDim S20000 32 0))) (broadcastInDim S4x20000 ![0, 1] bcast_S4x1_S4x20000_0_1 (broadcastInDim S4x1 ![0] bcast_S4_S4x1_0 (res_main_while0b_v72 V0)))) : Arr F S4x20000 .i1) = Step.b81 j s := by
  unfold Step.b81
  rw [← al_75 h, ← al_80 h]
  try rfl
theorem al_82 : (broadcastInDim S1x4 ![1] bcast_S4_S1x4_1 (res_main_while0b_v72 V0) : Arr F S1x4 .i32) = Step.b82 j s := by
  unfold Step.b82
  rw [← al_8 h]
  try rfl
theorem al_83 : (constantI S_ 32 0#32 : Arr F S_ .i32) = Step.b83 j s := by
  unfold Step.b83
  rfl
theorem al_84 : (Host.dynamicUpdateSlice (V0 (Proc.devRef .tc main_v29_7)) (broadcastInDim S1x4 ![1] bcast_S4_S1x4_1 (res_main_while0b_v72 V0)) (fun k => (((![V0 (Proc.devRef .tc main_v29_5), constantI S_ 32 0#32] : Fin 2 → Arr F S_ .i32)) k (Shape.Idx.first h_S_)).toInt) updateFits_S100x4_S1x4 : Arr F S100x4 .i32) = Step.b84 j s := by
  unfold Step.b84
  rw [← al_82 h, ← al_83 h, h.f_7, h.n_5]
  try rfl
theorem al_85 : (broadcastInDim S1x4 ![1] bcast_S4_S1x4_1 (cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32))) : Arr F S1x4 .i1) = Step.b85 j s := by
  unfold Step.b85
  rw [← al_16 h]
  try rfl
theorem al_86 : (constantI S_ 32 0#32 : Arr F S_ .i32) = Step.b86 j s := by
  unfold Step.b86
  rfl
theorem al_87 : (Host.dynamicUpdateSlice (V0 (Proc.devRef .tc main_v29_8)) (broadcastInDim S1x4 ![1] bcast_S4_S1x4_1 (cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)))) (fun k => (((![V0 (Proc.devRef .tc main_v29_5), constantI S_ 32 0#32] : Fin 2 → Arr F S_ .i32)) k (Shape.Idx.first h_S_)).toInt) updateFits_S100x4_S1x4 : Arr F S100x4 .i1) = Step.b87 j s := by
  unfold Step.b87
  rw [← al_85 h, ← al_86 h, h.f_8, h.n_5]
  try rfl

/-! One trip's step of the carried values is `step`, field by field; a counter steps to the next number. -/

theorem step_6 : step_main_v29_6 V0 = (step j s).main_v29_6 := by
  unfold step_main_v29_6 Step.step
  show id (andi (andi (V0 (Proc.devRef .tc main_v29_6)) (cmpf .ole (Host.divf (res_main_while0b_v118 V0) (addf (subf (addf (broadcastInDim S4x20000 ![0, 1] bcast_S4x1_S4x20000_0_1 (mulf (subf (res_main_while0b_v97 V0) (res_main_while0b_v85 V0)) (subf (res_main_while0b_v103 V0) (res_main_while0b_v91 V0)))) (mulf (subf (V0 (Proc.devRef .tc main_v29_3)) (V0 (Proc.devRef .tc main_v29_1))) (subf (V0 (Proc.devRef .tc main_v29_4)) (V0 (Proc.devRef .tc main_v29_2))))) (res_main_while0b_v118 V0)) (broadcastInDim S4x20000 ![] bcast_S_S4x20000 (constant S_ .f32 0x3089705F#32)))) (broadcastInDim S4x20000 ![] bcast_S_S4x20000 (constant S_ .f32 0x3EE66666#32)))) (cmpi .ne (broadcastInDim S4x20000 ![0, 1] bcast_S1x20000_S4x20000_0_1 (broadcastInDim S1x20000 ![1] bcast_S20000_S1x20000_1 (iotaInDim S20000 32 0))) (broadcastInDim S4x20000 ![0, 1] bcast_S4x1_S4x20000_0_1 (broadcastInDim S4x1 ![0] bcast_S4_S4x1_0 (res_main_while0b_v72 V0))))) = _
  rw [al_81 h]
  try rfl
theorem step_7 : step_main_v29_7 V0 = (step j s).main_v29_7 := by
  unfold step_main_v29_7 Step.step
  show id (Host.dynamicUpdateSlice (V0 (Proc.devRef .tc main_v29_7)) (broadcastInDim S1x4 ![1] bcast_S4_S1x4_1 (res_main_while0b_v72 V0)) (fun k => (((![V0 (Proc.devRef .tc main_v29_5), constantI S_ 32 0#32] : Fin 2 → Arr F S_ .i32)) k (Shape.Idx.first h_S_)).toInt) updateFits_S100x4_S1x4) = _
  exact al_84 h
theorem step_8 : step_main_v29_8 V0 = (step j s).main_v29_8 := by
  unfold step_main_v29_8 Step.step
  show id (Host.dynamicUpdateSlice (V0 (Proc.devRef .tc main_v29_8)) (broadcastInDim S1x4 ![1] bcast_S4_S1x4_1 (cmpf .ogt (Host.gather gather_S4x20000_S4x2_S4_n_01_n_n_01_1_11 (res_main_while0b_v71 V0) (concatenate S4x2 1 [⟨S4x1, (broadcastInDim S4x1 ![0] bcast_S4_S4x1_0 (iotaInDim S4 32 0))⟩, ⟨S4x1, (broadcastInDim S4x1 ![0] bcast_S4_S4x1_0 (res_main_while0b_v72 V0))⟩] concatenates_S4x1_S4x1_S4x2_d1)) (broadcastInDim S4 ![] bcast_S_S4 (constant S_ .f32 0x3E800000#32)))) (fun k => (((![V0 (Proc.devRef .tc main_v29_5), constantI S_ 32 0#32] : Fin 2 → Arr F S_ .i32)) k (Shape.Idx.first h_S_)).toInt) updateFits_S100x4_S1x4) = _
  exact al_87 h
theorem step_5 : step_main_v29_5 V0 = constantI S_ 32 (BitVec.ofNat 32 (j + 1)) := by
  unfold step_main_v29_5
  rw [h.n_5]
  funext i
  show BitVec.ofNat 32 j + 1#32 = BitVec.ofNat 32 (j + 1)
  simp only [BitVec.ofNat_add]

omit h

theorem out_main_v41_holds (h : Holds V0 s j) : out_main_v41 V0 = Step.R_main_v41 s := by
  unfold out_main_v41 Step.R_main_v41
  rw [h.f_8]
  try rfl

theorem out_main_v52_holds (h : Holds V0 s j) {x_main_arg0 : Arr F S4x20000x117 .f32} (h_main_arg0 : V0 (Proc.devRef .tc main_arg0) = x_main_arg0) : out_main_v52 V0 = Step.R_main_v52 s x_main_arg0 := by
  unfold out_main_v52 Step.R_main_v52
  rw [h.f_7, h_main_arg0]
  try rfl

theorem out_main_v55_holds (h : Holds V0 s j) {x_main_arg0 : Arr F S4x20000x117 .f32} (h_main_arg0 : V0 (Proc.devRef .tc main_arg0) = x_main_arg0) : out_main_v55 V0 = Step.R_main_v55 s x_main_arg0 := by
  unfold out_main_v55 Step.R_main_v55
  rw [h.f_7, h_main_arg0]
  try rfl

theorem out_main_v58_holds (h : Holds V0 s j) {x_main_arg0 : Arr F S4x20000x117 .f32} (h_main_arg0 : V0 (Proc.devRef .tc main_arg0) = x_main_arg0) : out_main_v58 V0 = Step.R_main_v58 s x_main_arg0 := by
  unfold out_main_v58 Step.R_main_v58
  rw [h.f_7, h_main_arg0]
  try rfl

theorem out_main_v61_holds (h : Holds V0 s j) {x_main_arg0 : Arr F S4x20000x117 .f32} (h_main_arg0 : V0 (Proc.devRef .tc main_arg0) = x_main_arg0) : out_main_v61 V0 = Step.R_main_v61 s x_main_arg0 := by
  unfold out_main_v61 Step.R_main_v61
  rw [h.f_7, h_main_arg0]
  try rfl

theorem out_main_v67_holds (h : Holds V0 s j) {x_main_arg0 : Arr F S4x20000x117 .f32} (h_main_arg0 : V0 (Proc.devRef .tc main_arg0) = x_main_arg0) : out_main_v67 V0 = Step.R_main_v67 s x_main_arg0 := by
  unfold out_main_v67 Step.R_main_v67
  rw [h.f_8, h.f_7, h_main_arg0]
  try rfl

theorem out_main_v69_holds (h : Holds V0 s j) {x_main_arg0 : Arr F S4x20000x117 .f32} (h_main_arg0 : V0 (Proc.devRef .tc main_arg0) = x_main_arg0) : out_main_v69 V0 = Step.R_main_v69 s x_main_arg0 := by
  unfold out_main_v69 Step.R_main_v69
  rw [h.f_7, h_main_arg0]
  try rfl

theorem out_main_v70_holds (h : Holds V0 s j) {x_main_arg0 : Arr F S4x20000x117 .f32} (h_main_arg0 : V0 (Proc.devRef .tc main_arg0) = x_main_arg0) : out_main_v70 V0 = Step.R_main_v70 s x_main_arg0 := by
  unfold out_main_v70 Step.R_main_v70
  rw [h.f_7, h_main_arg0]
  try rfl

/-- One trip keeps the valuation holding: `step` of the state, the same set-up values, the next number. -/
theorem holds_step (h : Holds V0 s j) : Holds (STEP V0) (step j s) (j + 1) where
  f_6 := (STEP_main_v29_6 V0).trans (step_6 h)
  f_7 := (STEP_main_v29_7 V0).trans (step_7 h)
  f_8 := (STEP_main_v29_8 V0).trans (step_8 h)
  n_5 := (STEP_main_v29_5 V0).trans (step_5 h)
  f_0 := (STEP_main_v29_0 V0).trans h.f_0
  f_1 := (STEP_main_v29_1 V0).trans h.f_1
  f_2 := (STEP_main_v29_2 V0).trans h.f_2
  f_3 := (STEP_main_v29_3 V0).trans h.f_3
  f_4 := (STEP_main_v29_4 V0).trans h.f_4

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `SelectRefIdeal` terminates with each result at its field of state
    number 100 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v41) = Step.R_main_v41 (it c 100)
      ∧ r.2.mem ((c.tc : Thread nD τ).loc main_v52) = Step.R_main_v52 (it c 100) (m ((c.tc : Thread nD τ).loc main_arg0))
      ∧ r.2.mem ((c.tc : Thread nD τ).loc main_v55) = Step.R_main_v55 (it c 100) (m ((c.tc : Thread nD τ).loc main_arg0))
      ∧ r.2.mem ((c.tc : Thread nD τ).loc main_v58) = Step.R_main_v58 (it c 100) (m ((c.tc : Thread nD τ).loc main_arg0))
      ∧ r.2.mem ((c.tc : Thread nD τ).loc main_v61) = Step.R_main_v61 (it c 100) (m ((c.tc : Thread nD τ).loc main_arg0))
      ∧ r.2.mem ((c.tc : Thread nD τ).loc main_v67) = Step.R_main_v67 (it c 100) (m ((c.tc : Thread nD τ).loc main_arg0))
      ∧ r.2.mem ((c.tc : Thread nD τ).loc main_v69) = Step.R_main_v69 (it c 100) (m ((c.tc : Thread nD τ).loc main_arg0))
      ∧ r.2.mem ((c.tc : Thread nD τ).loc main_v70) = Step.R_main_v70 (it c 100) (m ((c.tc : Thread nD τ).loc main_arg0))
      ∧ r.2.mem ((c.tc : Thread nD τ).loc main_arg0) = m ((c.tc : Thread nD τ).loc main_arg0) :=
  (θ_run defs _ _).mono (fun _ h c =>
    have hk := holds_iter m c (it c) (h0 c) (hs c) 100
    ⟨(h c).1.trans (out_main_v41_holds hk), (h c).2.1.trans (out_main_v52_holds hk (iter_main_arg0 m c 100)), (h c).2.2.1.trans (out_main_v55_holds hk (iter_main_arg0 m c 100)), (h c).2.2.2.1.trans (out_main_v58_holds hk (iter_main_arg0 m c 100)), (h c).2.2.2.2.1.trans (out_main_v61_holds hk (iter_main_arg0 m c 100)), (h c).2.2.2.2.2.1.trans (out_main_v67_holds hk (iter_main_arg0 m c 100)), (h c).2.2.2.2.2.2.1.trans (out_main_v69_holds hk (iter_main_arg0 m c 100)), (h c).2.2.2.2.2.2.2.1.trans (out_main_v70_holds hk (iter_main_arg0 m c 100)), (h c).2.2.2.2.2.2.2.2⟩) (Value.run m ρ)

end Cert.SelectRefIdeal.StepRun

end
-- ==== Proof.SelLoop.lean ====
/-
  The selection kernel's rounds as a step iterated over plain arrays, and what the body leaves in each result as a
  function of the last step's arrays.
-/
module

public import proofs.«01_k».proof.Proof.SelBody
public import proofs.«01_k».proof.Proof.Gen.SelectIdeal.Frame
public import proofs.«01_k».proof.Proof.Gen.SelectIdeal.Skeleton
public import proofs.«01_k».proof.Proof.Gen.SelectIdeal.Loops
public import Idealize.ShloMosaic.Lib.VecWindow

@[expose] public section

set_option maxRecDepth 16384

noncomputable section

namespace Cert.SelectIdeal.Pick

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a round hands the next beside the active columns: the count, the indices, the corners, the scores, the classes. -/
abbrev Carry (F : FTy → Type) [FloatOps F] : Type :=
  FVec F S4 .f32 × IVec S4x100 32 × FVec F S4x100 .f32 × FVec F S4x100 .f32 × FVec F S4x100 .f32 × FVec F S4x100 .f32 × FVec F S4x100 .f32 × IVec S4x100 32

/-- One round's carried arrays, `a` the active columns. -/
def carryStep (v89 : Vec F S4x20480 .f32) (v90 : IVec S4x20480 32) (v102 v103 v104 v105 v106 : Vec F S4x20480 .f32) (v107 : Vec F S4x20480 .i32) (v108 : IVec S4x100 32) (cst_39 : F .f32) (kw : BitVec 32) (acc : Carry F) (a : Vec F S4x20480 .f32) : Carry F :=
  (k0_pay28 acc.1 (k0_pay6 v89 cst_39 a), k0_pay17 v108 acc.2.1 kw (k0_pay4 v89 v90 cst_39 a), k0_pay18 v108 acc.2.2.1 kw (k0_pay7 v89 v90 v102 cst_39 a),
    k0_pay19 v108 acc.2.2.2.1 kw (k0_pay8 v89 v90 v103 cst_39 a), k0_pay20 v108 acc.2.2.2.2.1 kw (k0_pay9 v89 v90 v104 cst_39 a),
    k0_pay21 v108 acc.2.2.2.2.2.1 kw (k0_pay10 v89 v90 v105 cst_39 a), k0_pay26 acc.2.2.2.2.2.2.1 (k0_pay3 v89 cst_39 a) (k0_pay6 v89 cst_39 a) (k0_pay16 v108 kw),
    k0_pay27 acc.2.2.2.2.2.2.2 (k0_pay11 v89 v90 v107 cst_39 a) (k0_pay16 v108 kw))

/-- One round's active columns. -/
def activeStep (v89 : Vec F S4x20480 .f32) (v90 : IVec S4x20480 32) (v102 v103 v104 v105 v106 : Vec F S4x20480 .f32) (v107 : Vec F S4x20480 .i32) (v108 : IVec S4x100 32) (cst_39 : F .f32) (a : Vec F S4x20480 .f32) : Vec F S4x20480 .f32 :=
  k0_pay15 v104 v105 v106 a (k0_pay5 v89 v90 cst_39 a) (k0_pay7 v89 v90 v102 cst_39 a) (k0_pay8 v89 v90 v103 cst_39 a) (k0_pay9 v89 v90 v104 cst_39 a)
    (k0_pay10 v89 v90 v105 cst_39 a) (k0_pay12 v89 v90 v102 cst_39 a) (k0_pay13 v89 v90 v103 cst_39 a) (k0_pay14 v89 v90 v104 cst_39 a)

/-- The carried arrays and the active columns after `n` rounds. -/
def iter (v89 : Vec F S4x20480 .f32) (v90 : IVec S4x20480 32) (v102 v103 v104 v105 v106 : Vec F S4x20480 .f32) (v107 : Vec F S4x20480 .i32) (v108 : IVec S4x100 32) (cst_39 : F .f32) (acc : Carry F) (a : Vec F S4x20480 .f32) : ℕ → Carry F × Vec F S4x20480 .f32
  | 0 => (acc, a)
  | n + 1 => (carryStep v89 v90 v102 v103 v104 v105 v106 v107 v108 cst_39 (BitVec.ofNat 32 n) (iter v89 v90 v102 v103 v104 v105 v106 v107 v108 cst_39 acc a n).1 (iter v89 v90 v102 v103 v104 v105 v106 v107 v108 cst_39 acc a n).2, activeStep v89 v90 v102 v103 v104 v105 v106 v107 v108 cst_39 (iter v89 v90 v102 v103 v104 v105 v106 v107 v108 cst_39 acc a n).2)

variable (c : Dev nD) (i : grid0.Coords) (arg1 : Memref sig .tc .vmem S4x2048x117 .f32) (harg1 : arg1.IsWhole) (arg2 : Memref sig .tc .vmem S4x1 .i32) (harg2 : arg2.IsWhole) (arg3 : Memref sig .tc .vmem S4x100 .f32) (harg3 : arg3.IsWhole) (arg4 : Memref sig .tc .vmem S4x100 .f32) (harg4 : arg4.IsWhole) (arg5 : Memref sig .tc .vmem S4x100 .f32) (harg5 : arg5.IsWhole) (arg6 : Memref sig .tc .vmem S4x100 .f32) (harg6 : arg6.IsWhole) (arg7 : Memref sig .tc .vmem S4x100 .f32) (harg7 : arg7.IsWhole) (arg8 : Memref sig .tc .vmem S4x100 .i32) (harg8 : arg8.IsWhole) (arg9 : Memref sig .tc .vmem S4x100x32 .f32) (harg9 : arg9.IsWhole) (arg10 : Memref sig .tc .vmem S4x20480 .f32) (harg10 : arg10.IsWhole) (arg11 : Memref sig .tc .vmem S4x20480 .f32) (harg11 : arg11.IsWhole) (arg12 : Memref sig .tc .vmem S4x20480 .f32) (harg12 : arg12.IsWhole) (arg13 : Memref sig .tc .vmem S4x20480 .f32) (harg13 : arg13.IsWhole) (arg14 : Memref sig .tc .vmem S4x20480 .f32) (harg14 : arg14.IsWhole) (arg15 : Memref sig .tc .vmem S4x20480 .f32) (harg15 : arg15.IsWhole) (arg16 : Memref sig .tc .vmem S4x20480 .i32) (harg16 : arg16.IsWhole) (arg17 : Memref sig .tc .vmem S4x32x20480 .f32) (harg17 : arg17.IsWhole) (arg18 : Memref sig .tc .vmem S4x20480 .f32) (harg18 : arg18.IsWhole) (arg19 : Memref sig .tc .vmem S4x100 .i32) (harg19 : arg19.IsWhole)

set_option maxHeartbeats 1000000 in
/-- One trip's carried arrays are the round's. -/
theorem trip_carry (k0_h1 : k0_cond1 i = 1#1)
    (v89 : Vec F S4x20480 .f32) (v90 : IVec S4x20480 32) (v102 v103 v104 v105 v106 : Vec F S4x20480 .f32) (v107 : Vec F S4x20480 .i32) (v108 : IVec S4x100 32) (cst_39 : F .f32) (k : Fin k0_t1_loop.trips) (acc : Carry F) (f) :
   (tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v89 v90 v102 v103 v104 v105 v106 v107 v108 cst_39 k acc f)
     = carryStep v89 v90 v102 v103 v104 v105 v106 v107 v108 cst_39 (BitVec.ofNat 32 k.val) acc (arg18.view.read (Elt F) f) := by
  have hk : trip_k0_t1.sl.arg20 k = BitVec.ofNat 32 k.val := by
    unfold trip_k0_t1.sl.arg20; simp [Scf.iv]
  unfold tripR_k0_t1
  unfold trip_k0_t1
  dsimp only
  simp only [trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r]
  rw [hk]
  have e : View.readAt (Elt F) arg18.view (Rect.unit (s := S4x20480) ![0, 0] S4x20480.size inb_S4x20480_S4x20480_0_0).toLoadRect f = arg18.view.read (Elt F) f := View.readAt_full ..
  refine Eq.trans ?_ (congrArg (carryStep v89 v90 v102 v103 v104 v105 v106 v107 v108 cst_39 (BitVec.ofNat 32 k.val) acc) e)
  rfl

set_option maxHeartbeats 1000000 in
/-- One trip leaves the round's active columns. -/
theorem trip_active (k0_h1 : k0_cond1 i = 1#1)
    (v89 : Vec F S4x20480 .f32) (v90 : IVec S4x20480 32) (v102 v103 v104 v105 v106 : Vec F S4x20480 .f32) (v107 : Vec F S4x20480 .i32) (v108 : IVec S4x100 32) (cst_39 : F .f32) (k : Fin k0_t1_loop.trips) (acc : Carry F) (f) (L) (g) :
   arg18.view.read (Elt F) (arg18.view.writes (Elt F) g (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v89 v90 v102 v103 v104 v105 v106 v107 v108 cst_39 k acc f ++ L))
     = activeStep v89 v90 v102 v103 v104 v105 v106 v107 v108 cst_39 (arg18.view.read (Elt F) f) := by
  unfold tripL_k0_t1
  unfold trip_k0_t1
  dsimp only
  simp only [trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r]
  have e : View.readAt (Elt F) arg18.view (Rect.unit (s := S4x20480) ![0, 0] S4x20480.size inb_S4x20480_S4x20480_0_0).toLoadRect f = arg18.view.read (Elt F) f := View.readAt_full ..
  refine Eq.trans ?_ (congrArg (activeStep v89 v90 v102 v103 v104 v105 v106 v107 v108 cst_39) e)
  exact View.read_writes_full ..

set_option maxHeartbeats 1000000 in
/-- The rounds' recursion is the iterated step. -/
theorem st_iter (k0_h1 : k0_cond1 i = 1#1)
    (v89 : Vec F S4x20480 .f32) (v90 : IVec S4x20480 32) (v102 v103 v104 v105 v106 : Vec F S4x20480 .f32) (v107 : Vec F S4x20480 .i32) (v108 : IVec S4x100 32) (cst_39 : F .f32) (G) (acc : Carry F) (n : ℕ) (hn : n ≤ k0_t1_loop.trips) :
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v89 v90 v102 v103 v104 v105 v106 v107 v108 cst_39 G acc n).1 = (iter v89 v90 v102 v103 v104 v105 v106 v107 v108 cst_39 acc (arg18.view.read (Elt F) G) n).1
      ∧ arg18.view.read (Elt F) (arg18.view.writes (Elt F) G (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v89 v90 v102 v103 v104 v105 v106 v107 v108 cst_39 G acc n).2)
        = (iter v89 v90 v102 v103 v104 v105 v106 v107 v108 cst_39 acc (arg18.view.read (Elt F) G) n).2 := by
  induction n with
  | zero => exact ⟨rfl, rfl⟩
  | succ n ih =>
    obtain ⟨h1, h2⟩ := ih (by omega)
    have e := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v89 v90 v102 v103 v104 v105 v106 v107 v108 cst_39 G acc ⟨n, by omega⟩
    dsimp only at e
    rw [e]
    dsimp only
    rw [trip_carry, trip_active, h1, h2]
    exact ⟨rfl, rfl⟩

end Cert.SelectIdeal.Pick

end
-- ==== Proof.SelOuts.lean ====
/-
  What the selection kernel's rounds leave in each result, as a function of the scratch arrays.
-/
module

public import proofs.«01_k».proof.Proof.SelLoop
public import proofs.«01_k».proof.Proof.Gen.SelectIdeal.Frame
public import proofs.«01_k».proof.Proof.Gen.SelectIdeal.Skeleton
public import proofs.«01_k».proof.Proof.Gen.SelectIdeal.Loops
public import Idealize.ShloMosaic.Lib.VecWindow

@[expose] public section

set_option maxRecDepth 16384

noncomputable section

namespace Cert.SelectIdeal.Pick

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The carried arrays and the active columns after the hundred rounds, from the scratch arrays. -/
def result (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) : Carry F × Vec F S4x20480 .f32 :=
  iter s0 (iota .tc S4x20480 32 [1] iota_S4x20480_d1_w32) s1 s2 s3 s4 s5 s6 (iota .tc S4x100 32 [1] iota_S4x100_d1_w32) (FloatOps.ofBits .f32 4286578688#32)
    (k0_pay25, k0_pay24, k0_pay23, k0_pay23, k0_pay23, k0_pay23, k0_pay23, k0_pay24) (k0_pay22 s0) 100

variable (c : Dev nD) (i : grid0.Coords) (arg1 : Memref sig .tc .vmem S4x2048x117 .f32) (harg1 : arg1.IsWhole) (arg2 : Memref sig .tc .vmem S4x1 .i32) (harg2 : arg2.IsWhole) (arg3 : Memref sig .tc .vmem S4x100 .f32) (harg3 : arg3.IsWhole) (arg4 : Memref sig .tc .vmem S4x100 .f32) (harg4 : arg4.IsWhole) (arg5 : Memref sig .tc .vmem S4x100 .f32) (harg5 : arg5.IsWhole) (arg6 : Memref sig .tc .vmem S4x100 .f32) (harg6 : arg6.IsWhole) (arg7 : Memref sig .tc .vmem S4x100 .f32) (harg7 : arg7.IsWhole) (arg8 : Memref sig .tc .vmem S4x100 .i32) (harg8 : arg8.IsWhole) (arg9 : Memref sig .tc .vmem S4x100x32 .f32) (harg9 : arg9.IsWhole) (arg10 : Memref sig .tc .vmem S4x20480 .f32) (harg10 : arg10.IsWhole) (arg11 : Memref sig .tc .vmem S4x20480 .f32) (harg11 : arg11.IsWhole) (arg12 : Memref sig .tc .vmem S4x20480 .f32) (harg12 : arg12.IsWhole) (arg13 : Memref sig .tc .vmem S4x20480 .f32) (harg13 : arg13.IsWhole) (arg14 : Memref sig .tc .vmem S4x20480 .f32) (harg14 : arg14.IsWhole) (arg15 : Memref sig .tc .vmem S4x20480 .f32) (harg15 : arg15.IsWhole) (arg16 : Memref sig .tc .vmem S4x20480 .i32) (harg16 : arg16.IsWhole) (arg17 : Memref sig .tc .vmem S4x32x20480 .f32) (harg17 : arg17.IsWhole) (arg18 : Memref sig .tc .vmem S4x20480 .f32) (harg18 : arg18.IsWhole) (arg19 : Memref sig .tc .vmem S4x100 .i32) (harg19 : arg19.IsWhole)

set_option maxHeartbeats 1000000 in
/-- What the rounds' recursion ends with. -/
theorem st_result (k0_h1 : k0_cond1 i = 1#1) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) :
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (View.readAt (Elt F) arg10.view (Rect.unit (s := S4x20480) ![0, 0] S4x20480.size inb_S4x20480_S4x20480_0_0).toLoadRect (harg10.unread s0)) roundsRun.sl.v90 (View.readAt (Elt F) arg11.view (Rect.unit (s := S4x20480) ![0, 0] S4x20480.size inb_S4x20480_S4x20480_0_0).toLoadRect (harg11.unread s1)) (View.readAt (Elt F) arg12.view (Rect.unit (s := S4x20480) ![0, 0] S4x20480.size inb_S4x20480_S4x20480_0_0).toLoadRect (harg12.unread s2)) (View.readAt (Elt F) arg13.view (Rect.unit (s := S4x20480) ![0, 0] S4x20480.size inb_S4x20480_S4x20480_0_0).toLoadRect (harg13.unread s3)) (View.readAt (Elt F) arg14.view (Rect.unit (s := S4x20480) ![0, 0] S4x20480.size inb_S4x20480_S4x20480_0_0).toLoadRect (harg14.unread s4)) (View.readAt (Elt F) arg15.view (Rect.unit (s := S4x20480) ![0, 0] S4x20480.size inb_S4x20480_S4x20480_0_0).toLoadRect (harg15.unread s5))
      (View.readAt (Elt F) arg16.view (Rect.unit (s := S4x20480) ![0, 0] S4x20480.size inb_S4x20480_S4x20480_0_0).toLoadRect (harg16.unread s6)) roundsRun.sl.v108 roundsRun.sl.cst_39 (arg18.view.writes (Elt F) arg18.view.junk (roundsRun.sl.T8_1 c arg10 harg10 s0))
      (k0_pay25, k0_pay24, k0_pay23, k0_pay23, k0_pay23, k0_pay23, k0_pay23, k0_pay24) (Scf.trips 0#32 (Scalar.addi 0#32 100#32) 1#32)).1 = (result s0 s1 s2 s3 s4 s5 s6).1 := by
  have e0 : View.readAt (Elt F) arg10.view (Rect.unit (s := S4x20480) ![0, 0] S4x20480.size inb_S4x20480_S4x20480_0_0).toLoadRect (harg10.unread s0) = s0 := (View.readAt_full ..).trans (harg10.read_unread s0)
  have e1 : View.readAt (Elt F) arg11.view (Rect.unit (s := S4x20480) ![0, 0] S4x20480.size inb_S4x20480_S4x20480_0_0).toLoadRect (harg11.unread s1) = s1 := (View.readAt_full ..).trans (harg11.read_unread s1)
  have e2 : View.readAt (Elt F) arg12.view (Rect.unit (s := S4x20480) ![0, 0] S4x20480.size inb_S4x20480_S4x20480_0_0).toLoadRect (harg12.unread s2) = s2 := (View.readAt_full ..).trans (harg12.read_unread s2)
  have e3 : View.readAt (Elt F) arg13.view (Rect.unit (s := S4x20480) ![0, 0] S4x20480.size inb_S4x20480_S4x20480_0_0).toLoadRect (harg13.unread s3) = s3 := (View.readAt_full ..).trans (harg13.read_unread s3)
  have e4 : View.readAt (Elt F) arg14.view (Rect.unit (s := S4x20480) ![0, 0] S4x20480.size inb_S4x20480_S4x20480_0_0).toLoadRect (harg14.unread s4) = s4 := (View.readAt_full ..).trans (harg14.read_unread s4)
  have e5 : View.readAt (Elt F) arg15.view (Rect.unit (s := S4x20480) ![0, 0] S4x20480.size inb_S4x20480_S4x20480_0_0).toLoadRect (harg15.unread s5) = s5 := (View.readAt_full ..).trans (harg15.read_unread s5)
  have e6 : View.readAt (Elt F) arg16.view (Rect.unit (s := S4x20480) ![0, 0] S4x20480.size inb_S4x20480_S4x20480_0_0).toLoadRect (harg16.unread s6) = s6 := (View.readAt_full ..).trans (harg16.read_unread s6)
  rw [e0, e1, e2, e3, e4, e5, e6]
  have hn : Scf.trips 0#32 (Scalar.addi 0#32 100#32) 1#32 = 100 := by decide
  have ht : k0_t1_loop.trips = 100 := by decide
  have eT : arg18.view.read (Elt F) (arg18.view.writes (Elt F) arg18.view.junk (roundsRun.sl.T8_1 c arg10 harg10 s0)) = k0_pay22 s0 :=
    (View.read_writes_full ..).trans (congrArg k0_pay22 e0)
  rw [hn]
  refine (st_iter c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 roundsRun.sl.v90 s1 s2 s3 s4 s5 s6 roundsRun.sl.v108 roundsRun.sl.cst_39 _ _ 100 (le_of_eq ht.symm)).1.trans ?_
  rw [eT]
  rfl

set_option maxHeartbeats 1000000 in
/-- The count result. -/
theorem out_count (k0_h1 : k0_cond1 i = 1#1) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32)
    (f18 : BufTy.Contents (Elt F) arg18.view.ty) (f19 : BufTy.Contents (Elt F) arg19.view.ty) (f : BufTy.Contents (Elt F) arg2.view.ty) :
    arg2.view.read (Elt F) (arg2.view.writes (Elt F) f (roundsRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6 s7 f18 f19).1) = (fun x : Carry F => k0_pay29 x.1) (result s0 s1 s2 s3 s4 s5 s6).1 := by
  unfold roundsRun
  dsimp only
  exact (View.read_writes_full ..).trans (congrArg (fun x : Carry F => k0_pay29 x.1) (st_result c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6))

set_option maxHeartbeats 1000000 in
/-- The left result. -/
theorem out_left (k0_h1 : k0_cond1 i = 1#1) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32)
    (f18 : BufTy.Contents (Elt F) arg18.view.ty) (f19 : BufTy.Contents (Elt F) arg19.view.ty) (f : BufTy.Contents (Elt F) arg3.view.ty) :
    arg3.view.read (Elt F) (arg3.view.writes (Elt F) f (roundsRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6 s7 f18 f19).2.1) = (fun x : Carry F => x.2.2.1) (result s0 s1 s2 s3 s4 s5 s6).1 := by
  unfold roundsRun
  dsimp only
  exact (View.read_writes_full ..).trans (congrArg (fun x : Carry F => x.2.2.1) (st_result c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6))

set_option maxHeartbeats 1000000 in
/-- The top result. -/
theorem out_top (k0_h1 : k0_cond1 i = 1#1) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32)
    (f18 : BufTy.Contents (Elt F) arg18.view.ty) (f19 : BufTy.Contents (Elt F) arg19.view.ty) (f : BufTy.Contents (Elt F) arg4.view.ty) :
    arg4.view.read (Elt F) (arg4.view.writes (Elt F) f (roundsRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6 s7 f18 f19).2.2.1) = (fun x : Carry F => x.2.2.2.1) (result s0 s1 s2 s3 s4 s5 s6).1 := by
  unfold roundsRun
  dsimp only
  exact (View.read_writes_full ..).trans (congrArg (fun x : Carry F => x.2.2.2.1) (st_result c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6))

set_option maxHeartbeats 1000000 in
/-- The right result. -/
theorem out_right (k0_h1 : k0_cond1 i = 1#1) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32)
    (f18 : BufTy.Contents (Elt F) arg18.view.ty) (f19 : BufTy.Contents (Elt F) arg19.view.ty) (f : BufTy.Contents (Elt F) arg5.view.ty) :
    arg5.view.read (Elt F) (arg5.view.writes (Elt F) f (roundsRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6 s7 f18 f19).2.2.2.1) = (fun x : Carry F => x.2.2.2.2.1) (result s0 s1 s2 s3 s4 s5 s6).1 := by
  unfold roundsRun
  dsimp only
  exact (View.read_writes_full ..).trans (congrArg (fun x : Carry F => x.2.2.2.2.1) (st_result c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6))

set_option maxHeartbeats 1000000 in
/-- The bottom result. -/
theorem out_bottom (k0_h1 : k0_cond1 i = 1#1) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32)
    (f18 : BufTy.Contents (Elt F) arg18.view.ty) (f19 : BufTy.Contents (Elt F) arg19.view.ty) (f : BufTy.Contents (Elt F) arg6.view.ty) :
    arg6.view.read (Elt F) (arg6.view.writes (Elt F) f (roundsRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6 s7 f18 f19).2.2.2.2.1) = (fun x : Carry F => x.2.2.2.2.2.1) (result s0 s1 s2 s3 s4 s5 s6).1 := by
  unfold roundsRun
  dsimp only
  exact (View.read_writes_full ..).trans (congrArg (fun x : Carry F => x.2.2.2.2.2.1) (st_result c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6))

set_option maxHeartbeats 1000000 in
/-- The score result. -/
theorem out_score (k0_h1 : k0_cond1 i = 1#1) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32)
    (f18 : BufTy.Contents (Elt F) arg18.view.ty) (f19 : BufTy.Contents (Elt F) arg19.view.ty) (f : BufTy.Contents (Elt F) arg7.view.ty) :
    arg7.view.read (Elt F) (arg7.view.writes (Elt F) f (roundsRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6 s7 f18 f19).2.2.2.2.2.1) = (fun x : Carry F => x.2.2.2.2.2.2.1) (result s0 s1 s2 s3 s4 s5 s6).1 := by
  unfold roundsRun
  dsimp only
  exact (View.read_writes_full ..).trans (congrArg (fun x : Carry F => x.2.2.2.2.2.2.1) (st_result c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6))

set_option maxHeartbeats 1000000 in
/-- The class result. -/
theorem out_class (k0_h1 : k0_cond1 i = 1#1) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32)
    (f18 : BufTy.Contents (Elt F) arg18.view.ty) (f19 : BufTy.Contents (Elt F) arg19.view.ty) (f : BufTy.Contents (Elt F) arg8.view.ty) :
    arg8.view.read (Elt F) (arg8.view.writes (Elt F) f (roundsRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6 s7 f18 f19).2.2.2.2.2.2.1) = (fun x : Carry F => x.2.2.2.2.2.2.2) (result s0 s1 s2 s3 s4 s5 s6).1 := by
  unfold roundsRun
  dsimp only
  exact (View.read_writes_full ..).trans (congrArg (fun x : Carry F => x.2.2.2.2.2.2.2) (st_result c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 s0 s1 s2 s3 s4 s5 s6))

end Cert.SelectIdeal.Pick

end
-- ==== Proof.SelTrack.lean ====
/-
  What the selection kernel's body leaves at one grid point: in each scratch array the old contents with the point's
  columns put over; at the last point also the seven results of the rounds over the filled scratch arrays.
-/
module

public import proofs.«01_k».proof.Proof.SelOuts
public import proofs.«01_k».proof.Proof.Gen.SelectIdeal.Frame
public import proofs.«01_k».proof.Proof.Gen.SelectIdeal.Skeleton
public import proofs.«01_k».proof.Proof.Gen.SelectIdeal.Loops
public import Idealize.ShloMosaic.Lib.VecWindow

@[expose] public section

set_option maxRecDepth 16384

noncomputable section

namespace Cert.SelectIdeal.Pick

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One store over known contents, read back. -/
theorem read_stored {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) {x : s.Idx → Elt F e} (hf : v.read (Elt F) f = x) :
    v.read (Elt F) (v.writes (Elt F) f [⟨Rect.unit off size inb, w⟩]) = VecWindow.put x off size w := by
  subst hf; exact View.read_writes_cons_put v f inb w [] rfl

/-- The score array once the point's columns are stored. -/
def fill0 (i : grid0.Coords) (s : Vec F S4x20480 .f32) (x : Vec F S4x2048x117 .f32) : Vec F S4x20480 .f32 :=
  VecWindow.put s (k0_off1 i) S4x2048.size (k0_pay54 (k0_pay48 x))

/-- The left array once the point's columns are stored. -/
def fill1 (i : grid0.Coords) (s : Vec F S4x20480 .f32) (x : Vec F S4x2048x117 .f32) : Vec F S4x20480 .f32 :=
  VecWindow.put s (k0_off1 i) S4x2048.size (k0_pay49 x)

/-- The top array once the point's columns are stored. -/
def fill2 (i : grid0.Coords) (s : Vec F S4x20480 .f32) (x : Vec F S4x2048x117 .f32) : Vec F S4x20480 .f32 :=
  VecWindow.put s (k0_off1 i) S4x2048.size (k0_pay51 (k0_pay50 x))

/-- The right array once the point's columns are stored. -/
def fill3 (i : grid0.Coords) (s : Vec F S4x20480 .f32) (x : Vec F S4x2048x117 .f32) : Vec F S4x20480 .f32 :=
  VecWindow.put s (k0_off1 i) S4x2048.size (k0_pay52 (k0_pay48 x))

/-- The bottom array once the point's columns are stored. -/
def fill4 (i : grid0.Coords) (s : Vec F S4x20480 .f32) (x : Vec F S4x2048x117 .f32) : Vec F S4x20480 .f32 :=
  VecWindow.put s (k0_off1 i) S4x2048.size (k0_pay53 (k0_pay48 x))

/-- The area array once the point's columns are stored. -/
def fill5 (i : grid0.Coords) (s : Vec F S4x20480 .f32) (x : Vec F S4x2048x117 .f32) : Vec F S4x20480 .f32 :=
  VecWindow.put s (k0_off1 i) S4x2048.size (k0_pay55 (k0_pay48 x))

/-- The class array once the point's columns are stored. -/
def fill6 (i : grid0.Coords) (s : Vec F S4x20480 .i32) (x : Vec F S4x2048x117 .f32) : Vec F S4x20480 .i32 :=
  VecWindow.put s (k0_off1 i) S4x2048.size (k0_pay56 (k0_pay48 x))

/-- The coefficient array once the point's columns are stored. -/
def fill7 (i : grid0.Coords) (s : Vec F S4x32x20480 .f32) (x : Vec F S4x2048x117 .f32) : Vec F S4x32x20480 .f32 :=
  VecWindow.put s (k0_off2 i) S4x32x2048.size (k0_pay57 (k0_pay48 x))

set_option maxHeartbeats 1000000 in
/-- At a point before the last: the scratch arrays with the point's columns stored. -/
theorem body_copy (c : Dev nD) (i : grid0.Coords) (arg1 : Memref sig .tc .vmem S4x2048x117 .f32) (harg1 : arg1.IsWhole) (arg2 : Memref sig .tc .vmem S4x1 .i32) (harg2 : arg2.IsWhole) (arg3 : Memref sig .tc .vmem S4x100 .f32) (harg3 : arg3.IsWhole) (arg4 : Memref sig .tc .vmem S4x100 .f32) (harg4 : arg4.IsWhole) (arg5 : Memref sig .tc .vmem S4x100 .f32) (harg5 : arg5.IsWhole) (arg6 : Memref sig .tc .vmem S4x100 .f32) (harg6 : arg6.IsWhole) (arg7 : Memref sig .tc .vmem S4x100 .f32) (harg7 : arg7.IsWhole) (arg8 : Memref sig .tc .vmem S4x100 .i32) (harg8 : arg8.IsWhole) (arg9 : Memref sig .tc .vmem S4x100x32 .f32) (harg9 : arg9.IsWhole) (arg10 : Memref sig .tc .vmem S4x20480 .f32) (harg10 : arg10.IsWhole) (arg11 : Memref sig .tc .vmem S4x20480 .f32) (harg11 : arg11.IsWhole) (arg12 : Memref sig .tc .vmem S4x20480 .f32) (harg12 : arg12.IsWhole) (arg13 : Memref sig .tc .vmem S4x20480 .f32) (harg13 : arg13.IsWhole) (arg14 : Memref sig .tc .vmem S4x20480 .f32) (harg14 : arg14.IsWhole) (arg15 : Memref sig .tc .vmem S4x20480 .f32) (harg15 : arg15.IsWhole) (arg16 : Memref sig .tc .vmem S4x20480 .i32) (harg16 : arg16.IsWhole) (arg17 : Memref sig .tc .vmem S4x32x20480 .f32) (harg17 : arg17.IsWhole) (arg18 : Memref sig .tc .vmem S4x20480 .f32) (harg18 : arg18.IsWhole) (arg19 : Memref sig .tc .vmem S4x100 .i32) (harg19 : arg19.IsWhole) (h : PLift (¬ k0_cond1 i = 1#1))
    (x : Vec F S4x2048x117 .f32) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32) (E : Set ℕ) (K : PUnit → sProp 𝕄) :
    iprop(owns (c : Thread nD τ) arg1 fullShare x ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5 ∗ owns (c : Thread nD τ) arg16 fullShare s6 ∗ owns (c : Thread nD τ) arg17 fullShare s7 ∗ (∃ d, owns (c : Thread nD τ) arg18 fullShare d) ∗ (∃ d, owns (c : Thread nD τ) arg19 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x ∗ owns (c : Thread nD τ) arg10 fullShare (fill0 i s0 x) ∗ owns (c : Thread nD τ) arg11 fullShare (fill1 i s1 x) ∗ owns (c : Thread nD τ) arg12 fullShare (fill2 i s2 x) ∗ owns (c : Thread nD τ) arg13 fullShare (fill3 i s3 x) ∗ owns (c : Thread nD τ) arg14 fullShare (fill4 i s4 x) ∗ owns (c : Thread nD τ) arg15 fullShare (fill5 i s5 x) ∗ owns (c : Thread nD τ) arg16 fullShare (fill6 i s6 x) ∗ owns (c : Thread nD τ) arg17 fullShare (fill7 i s7 x) ∗ (∃ d, owns (c : Thread nD τ) arg18 fullShare d) ∗ (∃ d, owns (c : Thread nD τ) arg19 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0__nms_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__nms_body_eq_skeleton]; unfold cc0__nms_body_skel
  simp only [k0_part10_eq_skeleton, k0_part11_eq_skeleton]
  unfold owns
  iintro ⟨⟨%gx, %hgx, X⟩, ⟨%g0, %hg0, S0⟩, ⟨%g1, %hg1, S1⟩, ⟨%g2, %hg2, S2⟩, ⟨%g3, %hg3, S3⟩, ⟨%g4, %hg4, S4⟩, ⟨%g5, %hg5, S5⟩, ⟨%g6, %hg6, S6⟩, ⟨%g7, %hg7, S7⟩, ⟨%s8, %g8, -, S8⟩, ⟨%s9, %g9, -, S9⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  have ex : View.readAt (Elt F) arg1.view (Rect.unit (s := S4x2048x117) ![0, 0, 0] S4x2048x117.size inb_S4x2048x117_S4x2048x117_0_0_0).toLoadRect gx = x := (View.readAt_full ..).trans hgx
  sl_exec
  rw [dif_neg h.down]
  sl_step
  iapply Hk
  isplitl [X]
  · iexists _; isplitr; swap; · iexact X
    ipureintro; exact hgx
  isplitl [S0]
  · iexists _; isplitr; swap; · iexact S0
    ipureintro; exact read_stored _ _ _ _ hg0
  isplitl [S1]
  · iexists _; isplitr; swap; · iexact S1
    ipureintro; exact read_stored _ _ _ _ hg1
  isplitl [S2]
  · iexists _; isplitr; swap; · iexact S2
    ipureintro; exact read_stored _ _ _ _ hg2
  isplitl [S3]
  · iexists _; isplitr; swap; · iexact S3
    ipureintro; exact read_stored _ _ _ _ hg3
  isplitl [S4]
  · iexists _; isplitr; swap; · iexact S4
    ipureintro; exact read_stored _ _ _ _ hg4
  isplitl [S5]
  · iexists _; isplitr; swap; · iexact S5
    ipureintro; exact read_stored _ _ _ _ hg5
  isplitl [S6]
  · iexists _; isplitr; swap; · iexact S6
    ipureintro; exact read_stored _ _ _ _ hg6
  isplitl [S7]
  · iexists _; isplitr; swap; · iexact S7
    ipureintro; exact read_stored _ _ _ _ hg7
  isplitl [S8]
  · iexists _, _; isplitr; swap; · iexact S8
    ipureintro; rfl
  isplitl [S9]
  · iexists _, _; isplitr; swap; · iexact S9
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

end Cert.SelectIdeal.Pick

end
-- ==== Proof.SelHold.lean ====
/-
  What the selection kernel's scratch arrays hold before each grid point: in the columns of every point passed, what
  the body made of the block fetched there.
-/
module

public import proofs.«01_k».proof.Proof.SelTrack
public import proofs.«01_k».proof.Proof.SelFrame
public import Idealize.ShloMosaic.Lib.ValueIdxCore

@[expose] public section

set_option maxRecDepth 16384

noncomputable section

namespace Cert.SelectIdeal.Pick

open Cert.SelectIdeal Cert.SelectIdeal.Gen
open Idealize.ShloMosaic Idealize.ShloMosaic.TcCoe Idealize.ShloMosaic.ValueIdx

variable {F : FTy → Type} [FloatOps F]
variable (m : (ℓ : Loc nD τ sig) → Buf (Elt F) ℓ)

/-- The point's column offset in the scratch rows. -/
theorem off1_coords : ∀ t : Fin cfg0.N, k0_off1 (grid0.coords t) = ![0, t.val * 2048] := by decide +kernel

/-- The point's column offset in the coefficient array. -/
theorem off2_coords : ∀ t : Fin cfg0.N, k0_off2 (grid0.coords t) = ![0, 0, t.val * 2048] := by decide +kernel

/-- The rounds run at the last point alone. -/
theorem cond1_coords : ∀ t : Fin cfg0.N, k0_cond1 (grid0.coords t) = 1#1 ↔ t.val = 9 := by decide +kernel

/-- A block of columns stored into a row array. -/
theorem put_cols {α : Type} (s : S4x20480.Idx → α) (off : Fin 2 → ℕ) (n : ℕ) (ho : off = ![0, n * 2048]) (w : S4x2048.Idx → α)
    (b : Fin 4) (u : ℕ) (q : Fin 2048) (h : u * 2048 + q.val < 20480) :
    VecWindow.put s off S4x2048.size w (ix2 b ⟨u * 2048 + q.val, h⟩) = if u = n then w (ix2 b q) else s (ix2 b ⟨u * 2048 + q.val, h⟩) := by
  subst ho
  unfold VecWindow.put
  by_cases e : u = n
  · subst e
    rw [if_pos rfl, dif_pos (by
      intro a
      match a with
      | ⟨0, _⟩ => exact ⟨Nat.zero_le _, by show b.val < 0 + 4; omega⟩
      | ⟨1, _⟩ => exact ⟨by show u * 2048 ≤ u * 2048 + q.val; omega, by show u * 2048 + q.val < u * 2048 + 2048; omega⟩)]
    refine congrArg w (funext fun a => Fin.ext ?_)
    match a with
    | ⟨0, _⟩ => show b.val - 0 = b.val; omega
    | ⟨1, _⟩ => show u * 2048 + q.val - u * 2048 = q.val; omega
  · rw [if_neg e, dif_neg]
    intro hh
    have h1 : n * 2048 ≤ u * 2048 + q.val ∧ u * 2048 + q.val < n * 2048 + 2048 := hh 1
    omega

/-- A block of columns stored into the coefficient array. -/
theorem put_planes {α : Type} (s : S4x32x20480.Idx → α) (off : Fin 3 → ℕ) (n : ℕ) (ho : off = ![0, 0, n * 2048]) (w : S4x32x2048.Idx → α)
    (b : Fin 4) (d : Fin 32) (u : ℕ) (q : Fin 2048) (h : u * 2048 + q.val < 20480) :
    VecWindow.put s off S4x32x2048.size w (ix3 b d ⟨u * 2048 + q.val, h⟩) = if u = n then w (ix3 b d q) else s (ix3 b d ⟨u * 2048 + q.val, h⟩) := by
  subst ho
  unfold VecWindow.put
  by_cases e : u = n
  · subst e
    rw [if_pos rfl, dif_pos (by
      intro a
      match a with
      | ⟨0, _⟩ => exact ⟨Nat.zero_le _, by show b.val < 0 + 4; omega⟩
      | ⟨1, _⟩ => exact ⟨Nat.zero_le _, by show d.val < 0 + 32; omega⟩
      | ⟨2, _⟩ => exact ⟨by show u * 2048 ≤ u * 2048 + q.val; omega, by show u * 2048 + q.val < u * 2048 + 2048; omega⟩)]
    refine congrArg w (funext fun a => Fin.ext ?_)
    match a with
    | ⟨0, _⟩ => show b.val - 0 = b.val; omega
    | ⟨1, _⟩ => show d.val - 0 = d.val; omega
    | ⟨2, _⟩ => show u * 2048 + q.val - u * 2048 = q.val; omega
  · rw [if_neg e, dif_neg]
    intro hh
    have h1 : n * 2048 ≤ u * 2048 + q.val ∧ u * 2048 + q.val < n * 2048 + 2048 := hh 2
    omega

/-- The scratch arrays hold, in the columns of every point below `n`, what the body makes of that point's block. -/
def Held (X : ℕ → Vec F S4x2048x117 .f32) (n : ℕ) (s0 s1 s2 s3 s4 s5 : Vec F S4x20480 .f32) (s6 : Vec F S4x20480 .i32) (s7 : Vec F S4x32x20480 .f32) : Prop :=
  ∀ u, u < n → ∀ (b : Fin 4) (q : Fin 2048) (h : u * 2048 + q.val < 20480),
    s0 (ix2 b ⟨u * 2048 + q.val, h⟩) = k0_pay54 (k0_pay48 (X u)) (ix2 b q)
    ∧ s1 (ix2 b ⟨u * 2048 + q.val, h⟩) = k0_pay49 (X u) (ix2 b q)
    ∧ s2 (ix2 b ⟨u * 2048 + q.val, h⟩) = k0_pay51 (k0_pay50 (X u)) (ix2 b q)
    ∧ s3 (ix2 b ⟨u * 2048 + q.val, h⟩) = k0_pay52 (k0_pay48 (X u)) (ix2 b q)
    ∧ s4 (ix2 b ⟨u * 2048 + q.val, h⟩) = k0_pay53 (k0_pay48 (X u)) (ix2 b q)
    ∧ s5 (ix2 b ⟨u * 2048 + q.val, h⟩) = k0_pay55 (k0_pay48 (X u)) (ix2 b q)
    ∧ s6 (ix2 b ⟨u * 2048 + q.val, h⟩) = k0_pay56 (k0_pay48 (X u)) (ix2 b q)
    ∧ ∀ d : Fin 32, s7 (ix3 b d ⟨u * 2048 + q.val, h⟩) = k0_pay57 (k0_pay48 (X u)) (ix3 b d q)

/-- The block fetched at a point: the argument's rows there, anything beyond the argument's end. -/
def Moved (c : Dev nD) (u : Fin cfg0.N) (x : Vec F S4x2048x117 .f32) : Prop :=
  ∃ d, x = (cfg0.win 0).fill (grid0.coords u) d (((cfg0.win 0).blk u).view.read (Elt F) (V m c (Pipeline.arrRef spec0 0)))

/-- The scratch arrays before point `n`. -/
def Track (c : Dev nD) (n : ℕ) (s0 s1 s2 s3 s4 s5 : Vec F S4x20480 .f32) (s6 : Vec F S4x20480 .i32) (s7 : Vec F S4x32x20480 .f32) : Prop :=
  ∃ X : ℕ → Vec F S4x2048x117 .f32, (∀ u : Fin cfg0.N, u.val < n → Moved m c u (X u.val)) ∧ Held X n s0 s1 s2 s3 s4 s5 s6 s7

theorem Track.zero (c : Dev nD) (s0 s1 s2 s3 s4 s5 : Vec F S4x20480 .f32) (s6 : Vec F S4x20480 .i32) (s7 : Vec F S4x32x20480 .f32) :
    Track m c 0 s0 s1 s2 s3 s4 s5 s6 s7 :=
  ⟨fun _ _ => FloatOps.ofBits .f32 0#32, fun u h => absurd h (Nat.not_lt_zero _), fun u h => absurd h (Nat.not_lt_zero _)⟩

variable {m}

/-- A point's stores carry the tracking to the next point. -/
theorem Track.next {c : Dev nD} {t : Fin cfg0.N} {s0 s1 s2 s3 s4 s5 : Vec F S4x20480 .f32} {s6 : Vec F S4x20480 .i32} {s7 : Vec F S4x32x20480 .f32}
    (h : Track m c t.val s0 s1 s2 s3 s4 s5 s6 s7) (x : Vec F S4x2048x117 .f32) (hx : Moved m c t x) :
    Track m c (t.val + 1) (fill0 (grid0.coords t) s0 x) (fill1 (grid0.coords t) s1 x) (fill2 (grid0.coords t) s2 x) (fill3 (grid0.coords t) s3 x)
      (fill4 (grid0.coords t) s4 x) (fill5 (grid0.coords t) s5 x) (fill6 (grid0.coords t) s6 x) (fill7 (grid0.coords t) s7 x) := by
  obtain ⟨X, hX, hH⟩ := h
  refine ⟨Function.update X t.val x, fun u hu => ?_, fun u hu b q hq => ?_⟩
  · by_cases e : u.val = t.val
    · have e' : u = t := Fin.ext e
      subst e'
      rw [Function.update_self]; exact hx
    · rw [Function.update_of_ne e]; exact hX u (by omega)
  · have o1 := off1_coords t
    have o2 := off2_coords t
    unfold fill0 fill1 fill2 fill3 fill4 fill5 fill6 fill7
    rw [put_cols _ _ _ o1, put_cols _ _ _ o1, put_cols _ _ _ o1, put_cols _ _ _ o1, put_cols _ _ _ o1, put_cols _ _ _ o1, put_cols _ _ _ o1]
    by_cases e : u = t.val
    · subst e
      simp only [if_pos rfl, Function.update_self]
      refine ⟨rfl, rfl, rfl, rfl, rfl, rfl, rfl, fun d => ?_⟩
      rw [put_planes _ _ _ o2, if_pos rfl]
    · simp only [if_neg e, Function.update_of_ne e]
      obtain ⟨h0, h1, h2, h3, h4, h5, h6, h7⟩ := hH u (by omega) b q hq
      refine ⟨h0, h1, h2, h3, h4, h5, h6, fun d => ?_⟩
      rw [put_planes _ _ _ o2, if_neg e]; exact h7 d

end Cert.SelectIdeal.Pick

end
-- ==== Proof.SelLast.lean ====
/-
  What the selection kernel's body leaves at the last grid point: the scratch arrays filled, and the results of the
  rounds over them.
-/
module

public import proofs.«01_k».proof.Proof.SelTrack
public import proofs.«01_k».proof.Proof.Gen.SelectIdeal.Frame
public import proofs.«01_k».proof.Proof.Gen.SelectIdeal.Skeleton
public import proofs.«01_k».proof.Proof.Gen.SelectIdeal.Loops
public import Idealize.ShloMosaic.Lib.VecWindow

@[expose] public section

set_option maxRecDepth 16384

noncomputable section

namespace Cert.SelectIdeal.Pick

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S4x2048x117 .f32) (harg1 : arg1.IsWhole) (arg2 : Memref sig .tc .vmem S4x1 .i32) (harg2 : arg2.IsWhole) (arg3 : Memref sig .tc .vmem S4x100 .f32) (harg3 : arg3.IsWhole) (arg4 : Memref sig .tc .vmem S4x100 .f32) (harg4 : arg4.IsWhole) (arg5 : Memref sig .tc .vmem S4x100 .f32) (harg5 : arg5.IsWhole) (arg6 : Memref sig .tc .vmem S4x100 .f32) (harg6 : arg6.IsWhole) (arg7 : Memref sig .tc .vmem S4x100 .f32) (harg7 : arg7.IsWhole) (arg8 : Memref sig .tc .vmem S4x100 .i32) (harg8 : arg8.IsWhole) (arg9 : Memref sig .tc .vmem S4x100x32 .f32) (harg9 : arg9.IsWhole) (arg10 : Memref sig .tc .vmem S4x20480 .f32) (harg10 : arg10.IsWhole) (arg11 : Memref sig .tc .vmem S4x20480 .f32) (harg11 : arg11.IsWhole) (arg12 : Memref sig .tc .vmem S4x20480 .f32) (harg12 : arg12.IsWhole) (arg13 : Memref sig .tc .vmem S4x20480 .f32) (harg13 : arg13.IsWhole) (arg14 : Memref sig .tc .vmem S4x20480 .f32) (harg14 : arg14.IsWhole) (arg15 : Memref sig .tc .vmem S4x20480 .f32) (harg15 : arg15.IsWhole) (arg16 : Memref sig .tc .vmem S4x20480 .i32) (harg16 : arg16.IsWhole) (arg17 : Memref sig .tc .vmem S4x32x20480 .f32) (harg17 : arg17.IsWhole) (arg18 : Memref sig .tc .vmem S4x20480 .f32) (harg18 : arg18.IsWhole) (arg19 : Memref sig .tc .vmem S4x100 .i32) (harg19 : arg19.IsWhole)

set_option maxHeartbeats 1000000 in
/-- The rounds from scratch arrays at known contents: their results. -/
theorem rounds_exact (h : k0_cond1 i = 1#1) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32) (E : Set ℕ) (K : PUnit → sProp 𝕄) :
    iprop(owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5 ∗ owns (c : Thread nD τ) arg16 fullShare s6 ∗ owns (c : Thread nD τ) arg17 fullShare s7 ∗ (∃ d, owns (c : Thread nD τ) arg18 fullShare d) ∗ (∃ d, owns (c : Thread nD τ) arg19 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5 ∗ owns (c : Thread nD τ) arg16 fullShare s6 ∗ owns (c : Thread nD τ) arg17 fullShare s7 ∗ (∃ d, owns (c : Thread nD τ) arg18 fullShare d) ∗ (∃ d, owns (c : Thread nD τ) arg19 fullShare d) ∗ owns (c : Thread nD τ) arg2 fullShare ((k0_pay29 (result s0 s1 s2 s3 s4 s5 s6).1.1)) ∗ owns (c : Thread nD τ) arg3 fullShare ((result s0 s1 s2 s3 s4 s5 s6).1.2.2.1) ∗ owns (c : Thread nD τ) arg4 fullShare ((result s0 s1 s2 s3 s4 s5 s6).1.2.2.2.1) ∗ owns (c : Thread nD τ) arg5 fullShare ((result s0 s1 s2 s3 s4 s5 s6).1.2.2.2.2.1) ∗ owns (c : Thread nD τ) arg6 fullShare ((result s0 s1 s2 s3 s4 s5 s6).1.2.2.2.2.2.1) ∗ owns (c : Thread nD τ) arg7 fullShare ((result s0 s1 s2 s3 s4 s5 s6).1.2.2.2.2.2.2.1) ∗ owns (c : Thread nD τ) arg8 fullShare ((result s0 s1 s2 s3 s4 s5 s6).1.2.2.2.2.2.2.2) ∗ (∃ z, ⌜∃ f18 f19 f, z = arg9.view.read (Elt F) (arg9.view.writes (Elt F) f (roundsRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19).2.2.2.2.2.2.2.1)⌝ ∗ owns (c : Thread nD τ) arg9 fullShare z)) -∗ K ⟨⟩))
      ⊢ wp frame (wpE (defs₀ (F := F)) Variants.none c none) E (rounds (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h) K := by
  iintro ⟨S0, S1, S2, S3, S4, S5, S6, S7, T8, T9, H2, H3, H4, H5, H6, H7, H8, H9, Hk⟩
  unfold owns
  icases T8 with ⟨%d18, %f18, -, T8⟩
  icases T9 with ⟨%d19, %f19, -, T9⟩
  iapply ((roundsRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19).2.2.2.2.2.2.2.2 E K)
  unfold owns
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [T8]; · iexact T8
  isplitl [T9]; · iexact T9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨S0, S1, S2, S3, S4, S5, S6, S7, ⟨%t8, T8⟩, ⟨%t9, T9⟩, ⟨%o2, H2⟩, ⟨%o3, H3⟩, ⟨%o4, H4⟩, ⟨%o5, H5⟩, ⟨%o6, H6⟩, ⟨%o7, H7⟩, ⟨%o8, H8⟩, ⟨%o9, H9⟩⟩
  iapply Hk
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [T8]
  · iexists _, _; isplitr; swap; · iexact T8
    ipureintro; rfl
  isplitl [T9]
  · iexists _, _; isplitr; swap; · iexact T9
    ipureintro; rfl
  isplitl [H2]
  · iexists _; isplitr; swap; · iexact H2
    ipureintro; exact out_count c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19 o2
  isplitl [H3]
  · iexists _; isplitr; swap; · iexact H3
    ipureintro; exact out_left c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19 o3
  isplitl [H4]
  · iexists _; isplitr; swap; · iexact H4
    ipureintro; exact out_top c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19 o4
  isplitl [H5]
  · iexists _; isplitr; swap; · iexact H5
    ipureintro; exact out_right c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19 o5
  isplitl [H6]
  · iexists _; isplitr; swap; · iexact H6
    ipureintro; exact out_bottom c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19 o6
  isplitl [H7]
  · iexists _; isplitr; swap; · iexact H7
    ipureintro; exact out_score c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19 o7
  isplitl [H8]
  · iexists _; isplitr; swap; · iexact H8
    ipureintro; exact out_class c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19 o8
  iexists _
  isplitr [H9]; swap
  · iexists _; isplitr; swap; · iexact H9
    ipureintro; rfl
  ipureintro; exact ⟨f18, f19, o9, rfl⟩

set_option maxHeartbeats 1000000 in
/-- The body at the last grid point, the rounds being given. -/
theorem body_tail (h : PLift (k0_cond1 i = 1#1))
    (x : Vec F S4x2048x117 .f32) (s0 : Vec F S4x20480 .f32) (s1 : Vec F S4x20480 .f32) (s2 : Vec F S4x20480 .f32) (s3 : Vec F S4x20480 .f32) (s4 : Vec F S4x20480 .f32) (s5 : Vec F S4x20480 .f32) (s6 : Vec F S4x20480 .i32) (s7 : Vec F S4x32x20480 .f32) (t0 : Vec F S4x20480 .f32) (t1 : Vec F S4x20480 .f32) (t2 : Vec F S4x20480 .f32) (t3 : Vec F S4x20480 .f32) (t4 : Vec F S4x20480 .f32) (t5 : Vec F S4x20480 .f32) (t6 : Vec F S4x20480 .i32) (t7 : Vec F S4x32x20480 .f32) (ht0 : fill0 i s0 x = t0) (ht1 : fill1 i s1 x = t1) (ht2 : fill2 i s2 x = t2) (ht3 : fill3 i s3 x = t3) (ht4 : fill4 i s4 x = t4) (ht5 : fill5 i s5 x = t5) (ht6 : fill6 i s6 x = t6) (ht7 : fill7 i s7 x = t7) (E : Set ℕ) (K : PUnit → sProp 𝕄)
    (P : sProp 𝕄) (hR : iprop(owns (c : Thread nD τ) arg10 fullShare t0 ∗ owns (c : Thread nD τ) arg11 fullShare t1 ∗ owns (c : Thread nD τ) arg12 fullShare t2 ∗ owns (c : Thread nD τ) arg13 fullShare t3 ∗ owns (c : Thread nD τ) arg14 fullShare t4 ∗ owns (c : Thread nD τ) arg15 fullShare t5 ∗ owns (c : Thread nD τ) arg16 fullShare t6 ∗ owns (c : Thread nD τ) arg17 fullShare t7 ∗ (∃ d, owns (c : Thread nD τ) arg18 fullShare d) ∗ (∃ d, owns (c : Thread nD τ) arg19 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (P -∗ K ⟨⟩))
      ⊢ wp frame (wpE (defs₀ (F := F)) Variants.none c none) E (rounds (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h.down) K) :
    iprop(owns (c : Thread nD τ) arg1 fullShare x ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare s5 ∗ owns (c : Thread nD τ) arg16 fullShare s6 ∗ owns (c : Thread nD τ) arg17 fullShare s7 ∗ (∃ d, owns (c : Thread nD τ) arg18 fullShare d) ∗ (∃ d, owns (c : Thread nD τ) arg19 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x ∗ P) -∗ K ⟨⟩))
      ⊢ wp frame (wpE (defs₀ (F := F)) Variants.none c none) E (cc0__nms_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__nms_body_eq_skeleton]; unfold cc0__nms_body_skel
  simp only [k0_part10_eq_skeleton, k0_part11_eq_skeleton]
  unfold owns
  iintro ⟨⟨%gx, %hgx, X⟩, ⟨%g0, %hg0, S0⟩, ⟨%g1, %hg1, S1⟩, ⟨%g2, %hg2, S2⟩, ⟨%g3, %hg3, S3⟩, ⟨%g4, %hg4, S4⟩, ⟨%g5, %hg5, S5⟩, ⟨%g6, %hg6, S6⟩, ⟨%g7, %hg7, S7⟩, ⟨%s8, %g8, -, S8⟩, ⟨%s9, %g9, -, S9⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  have ex : View.readAt (Elt F) arg1.view (Rect.unit (s := S4x2048x117) ![0, 0, 0] S4x2048x117.size inb_S4x2048x117_S4x2048x117_0_0_0).toLoadRect gx = x := (View.readAt_full ..).trans hgx
  sl_exec
  rw [dif_pos h.down]
  change Entails' _ (wp Idealize.ShloMosaic.frame (wpE (defs₀ (F := F)) Variants.none c none) E (rounds (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h.down) K)
  iapply hR
  unfold owns
  isplitl [S0]
  · iexists _; isplitr; swap; · iexact S0
    ipureintro; exact (show _ = fill0 i s0 x from read_stored _ _ _ _ hg0).trans ht0
  isplitl [S1]
  · iexists _; isplitr; swap; · iexact S1
    ipureintro; exact (show _ = fill1 i s1 x from read_stored _ _ _ _ hg1).trans ht1
  isplitl [S2]
  · iexists _; isplitr; swap; · iexact S2
    ipureintro; exact (show _ = fill2 i s2 x from read_stored _ _ _ _ hg2).trans ht2
  isplitl [S3]
  · iexists _; isplitr; swap; · iexact S3
    ipureintro; exact (show _ = fill3 i s3 x from read_stored _ _ _ _ hg3).trans ht3
  isplitl [S4]
  · iexists _; isplitr; swap; · iexact S4
    ipureintro; exact (show _ = fill4 i s4 x from read_stored _ _ _ _ hg4).trans ht4
  isplitl [S5]
  · iexists _; isplitr; swap; · iexact S5
    ipureintro; exact (show _ = fill5 i s5 x from read_stored _ _ _ _ hg5).trans ht5
  isplitl [S6]
  · iexists _; isplitr; swap; · iexact S6
    ipureintro; exact (show _ = fill6 i s6 x from read_stored _ _ _ _ hg6).trans ht6
  isplitl [S7]
  · iexists _; isplitr; swap; · iexact S7
    ipureintro; exact (show _ = fill7 i s7 x from read_stored _ _ _ _ hg7).trans ht7
  isplitl [S8]
  · iexists _, _; isplitr; swap; · iexact S8
    ipureintro; rfl
  isplitl [S9]
  · iexists _, _; isplitr; swap; · iexact S9
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iintro HH
  iapply Hk
  isplitl [X]
  · iexists _; isplitr; swap; · iexact X
    ipureintro; exact hgx
  iexact HH

end Cert.SelectIdeal.Pick

end
-- ==== Proof.SelMath.lean ====
/-
  The first largest entry of a row of extended reals: the kernel's two reductions (largest value, then least index that
  attains it) and the reference's arg-max fold both name it; sums over a one-hot row.
-/
module

public import proofs.«01_k».proof.Proof.SelRefStep
public import proofs.«01_k».proof.Proof.Gen.SelectIdeal.Frame
public import Idealize.ShloMosaic.Lib.Pipeline.Frame
public import Idealize.ShloMosaic.Lib.ValueIdxCore
public import Idealize.ShloMosaic.Lib.Pipeline.Value
public import Idealize.ShloMosaic.Lib.KernelVsHost

@[expose] public section

set_option maxRecDepth 16384

noncomputable section

namespace Cert.Proof.Sel

open Idealize.ShloMosaic Idealize.ShloMosaic.ValueIdx

/-- `j` is the first index at which the row `s` is largest. -/
def IsFirst {n : ℕ} (s : Fin n → EReal) (j : Fin n) : Prop := (∀ c, s c ≤ s j) ∧ ∀ c, c < j → s c < s j

theorem exists_first {n : ℕ} (s : Fin n → EReal) (hn : 0 < n) : ∃ j, IsFirst s j := by
  obtain ⟨m, -, hm⟩ := Finset.exists_max_image (Finset.univ : Finset (Fin n)) s ⟨⟨0, hn⟩, Finset.mem_univ _⟩
  have hne : (Finset.univ.filter fun c => s c = s m).Nonempty := ⟨m, by simp⟩
  refine ⟨(Finset.univ.filter fun c => s c = s m).min' hne, ?_⟩
  have hj := Finset.min'_mem _ hne
  have hs := (Finset.mem_filter.1 hj).2
  refine ⟨fun c => by rw [hs]; exact hm c (Finset.mem_univ _), fun c hc => ?_⟩
  rw [hs]
  refine lt_of_le_of_ne (hm c (Finset.mem_univ _)) fun e => ?_
  exact absurd (Finset.min'_le _ c (Finset.mem_filter.2 ⟨Finset.mem_univ _, e⟩)) (not_le.2 hc)

theorem IsFirst.unique {n : ℕ} {s : Fin n → EReal} {i j : Fin n} (hi : IsFirst s i) (hj : IsFirst s j) : i = j := by
  rcases lt_trichotomy i j with h | h | h
  · exact absurd (hj.2 i h) (not_lt.2 (hi.1 j))
  · exact h
  · exact absurd (hi.2 j h) (not_lt.2 (hj.1 i))

/-- A row continued by the least value has the same first largest entry. -/
theorem IsFirst.extend {n N : ℕ} {s : Fin n → EReal} {S : Fin N → EReal} {j : Fin n} {J : Fin N} (h : IsFirst s j) (hJ : J.val = j.val)
    (hin : ∀ (c : Fin N) (hc : c.val < n), S c = s ⟨c.val, hc⟩) (hout : ∀ c : Fin N, n ≤ c.val → S c = ⊥) : IsFirst S J := by
  have e : S J = s j := by rw [hin J (by rw [hJ]; exact j.isLt)]; exact congrArg s (Fin.ext hJ)
  refine ⟨fun c => ?_, fun c hc => ?_⟩
  · rw [e]
    by_cases hcn : c.val < n
    · rw [hin c hcn]; exact h.1 _
    · rw [hout c (by omega)]; exact bot_le
  · have hcj : c.val < j.val := by rw [← hJ]; exact hc
    rw [e, hin c (lt_trans hcj j.isLt)]
    exact h.2 _ hcj

/-- The fold of `max` is the largest entry. -/
theorem fold_max {n : ℕ} {s : Fin n → EReal} {j : Fin n} (h : IsFirst s j) : (Finset.univ : Finset (Fin n)).fold max (⊥ : EReal) s = s j :=
  le_antisymm (Finset.fold_max_le _ |>.2 ⟨bot_le, fun c _ => h.1 c⟩) (Finset.le_fold_max _ |>.2 (.inr ⟨j, Finset.mem_univ _, le_rfl⟩))

theorem minsi_cases (a b : BitVec 32) : (IntOp.minsi a b = a ∧ a.toInt ≤ b.toInt) ∨ (IntOp.minsi a b = b ∧ b.toInt ≤ a.toInt) := by
  unfold IntOp.minsi
  split
  · next h => left; refine ⟨rfl, ?_⟩; simp [BitVec.slt] at h; omega
  · next h => right; refine ⟨rfl, ?_⟩; simp [BitVec.slt] at h; omega

theorem or_one (x : BitVec 1) : 1#1 ||| x = 1#1 := by revert x; decide

/-- A fold of the signed minimum is below every entry and is the start or an entry. -/
theorem fold_minsi {n : ℕ} (S : Finset (Fin n)) (z : BitVec 32) (f : Fin n → BitVec 32) :
    (∀ c ∈ S, (S.fold IntOp.minsi z f).toInt ≤ (f c).toInt) ∧ (S.fold IntOp.minsi z f = z ∨ ∃ c ∈ S, S.fold IntOp.minsi z f = f c) := by
  induction S using Finset.induction_on with
  | empty => exact ⟨fun c h => absurd h (Finset.notMem_empty c), .inl rfl⟩
  | insert a S ha ih =>
    rw [Finset.fold_insert ha]
    obtain ⟨h1, h2⟩ := ih
    have hm := minsi_cases (f a) (S.fold IntOp.minsi z f)
    rcases hm with ⟨e, hle⟩ | ⟨e, hle⟩
    · rw [e]
      refine ⟨fun c hc => ?_, .inr ⟨a, Finset.mem_insert_self _ _, rfl⟩⟩
      rcases Finset.mem_insert.1 hc with rfl | hc
      · exact le_rfl
      · exact le_trans hle (h1 c hc)
    · rw [e]
      refine ⟨fun c hc => ?_, ?_⟩
      · rcases Finset.mem_insert.1 hc with rfl | hc
        · exact hle
        · exact h1 c hc
      · rcases h2 with h2 | ⟨c, hc, h2⟩
        · exact .inl h2
        · exact .inr ⟨c, Finset.mem_insert_of_mem hc, h2⟩

theorem toInt_ofNat {k : ℕ} (hk : k < 2 ^ 31) : (BitVec.ofNat 32 k).toInt = k := by
  rw [BitVec.toInt_ofNat']
  have : (2:ℕ) ^ 32 = 4294967296 := by norm_num
  norm_num at hk
  rw [Int.bmod_eq_of_le] <;> push_cast <;> omega

theorem ofNat_inj {j k : ℕ} (hj : j < 2 ^ 31) (hk : k < 2 ^ 31) : BitVec.ofNat 32 j = BitVec.ofNat 32 k ↔ j = k :=
  ⟨fun h => by have := congrArg BitVec.toInt h; rw [toInt_ofNat hj, toInt_ofNat hk] at this; exact_mod_cast this, fun h => by rw [h]⟩

/-- The least index that attains the largest entry is the first such. -/
theorem fold_first {n : ℕ} {s : Fin n → EReal} {j : Fin n} (h : IsFirst s j) (hn : n < 2 ^ 31) (f : Fin n → BitVec 32)
    (hf : ∀ c, f c = if s c = s j then BitVec.ofNat 32 c.val else BitVec.ofNat 32 n) :
    (Finset.univ : Finset (Fin n)).fold IntOp.minsi 2147483647#32 f = BitVec.ofNat 32 j.val := by
  obtain ⟨h1, h2⟩ := fold_minsi Finset.univ 2147483647#32 f
  have hj := h1 j (Finset.mem_univ _)
  have hjn := j.isLt
  rw [hf j, if_pos rfl, toInt_ofNat (by omega)] at hj
  rcases h2 with h2 | ⟨c, -, h2⟩
  · rw [h2] at hj
    have : (2147483647#32 : BitVec 32).toInt = 2147483647 := by decide
    omega
  · have hcn := c.isLt
    rw [h2] at hj ⊢
    rw [hf c] at hj ⊢
    by_cases e : s c = s j
    · rw [if_pos e] at hj ⊢
      rw [toInt_ofNat (by omega)] at hj
      have hcj : ¬ c < j := fun hlt => absurd e (ne_of_lt (h.2 c hlt))
      have : c.val = j.val := by
        have : ¬ c.val < j.val := hcj
        omega
      rw [this]
    · rw [if_neg e, toInt_ofNat hn] at hj
      omega

/-- A word sum over a one-hot row. -/
theorem fold_addi {n : ℕ} (j : Fin n) (v : Fin n → BitVec 32) (S : Finset (Fin n)) :
    S.fold IntOp.addi 0#32 (fun c => if c = j then v c else 0#32) = if j ∈ S then v j else 0#32 := by
  induction S using Finset.induction_on with
  | empty => simp
  | insert a S ha ih =>
    rw [Finset.fold_insert ha, ih]
    by_cases e : a = j
    · subst e
      rw [if_pos rfl, if_neg ha, if_pos (Finset.mem_insert_self _ _)]
      exact BitVec.add_zero _
    · rw [if_neg e]
      have : (j ∈ insert a S) ↔ j ∈ S := by rw [Finset.mem_insert]; exact ⟨fun h => h.resolve_left (fun h => e h.symm), .inr⟩
      simp only [this]
      exact BitVec.zero_add _

/-! ## The reference's arg-max -/

/-- The pair `e` is no better than `r`: smaller, or as large at no smaller an index. -/
def Below (e r : EReal × BitVec 32) : Prop := e.1 < r.1 ∨ (e.1 = r.1 ∧ r.2.toInt ≤ e.2.toInt)

theorem Below.refl (e : EReal × BitVec 32) : Below e e := .inr ⟨rfl, le_rfl⟩

theorem Below.trans {a b c : EReal × BitVec 32} (h : Below a b) (h' : Below b c) : Below a c := by
  rcases h with h | ⟨h, h2⟩ <;> rcases h' with h' | ⟨h', h2'⟩
  · exact .inl (h.trans h')
  · exact .inl (h' ▸ h)
  · exact .inl (h ▸ h')
  · exact .inr ⟨h.trans h', h2'.trans h2⟩

/-- The arg-max body returns the better of its two pairs. -/
theorem reducer_cases (a b : EReal × BitVec 32) :
    (Cert.SelectRefIdeal.reducer_argmax_f32_i32 (F := Ideal) a b = a ∧ Below b a)
      ∨ (Cert.SelectRefIdeal.reducer_argmax_f32_i32 (F := Ideal) a b = b ∧ Below a b) := by
  obtain ⟨a1, a2⟩ := a
  obtain ⟨b1, b2⟩ := b
  unfold Cert.SelectRefIdeal.reducer_argmax_f32_i32
  dsimp only [Below]
  simp only [Ideal.cmpf_def, Ideal.cmp, Scalar.select]
  rcases lt_trichotomy a1 b1 with h | h | h
  · right
    simp [IntOp.ori, IntOp.andi, IntOp.cmpi, h, not_lt.2 h.le, h.ne]
  · subst h
    by_cases hs : BitVec.slt a2 b2
    · left
      refine ⟨by simp [IntOp.ori, IntOp.andi, IntOp.cmpi, hs], .inr ⟨rfl, ?_⟩⟩
      simp [BitVec.slt] at hs; omega
    · right
      refine ⟨by simp [IntOp.ori, IntOp.andi, IntOp.cmpi, hs], .inr ⟨rfl, ?_⟩⟩
      simp [BitVec.slt] at hs; omega
  · left
    simp [IntOp.ori, IntOp.andi, IntOp.cmpi, h, or_one]

/-- A fold of the arg-max body: the start or an entry, and no entry nor the start is better. -/
theorem foldl_reducer {ι : Type} (l : List ι) (f : ι → EReal × BitVec 32) (z : EReal × BitVec 32) :
    Below z (l.foldl (fun r n => Cert.SelectRefIdeal.reducer_argmax_f32_i32 (F := Ideal) r (f n)) z)
      ∧ (∀ n ∈ l, Below (f n) (l.foldl (fun r n => Cert.SelectRefIdeal.reducer_argmax_f32_i32 (F := Ideal) r (f n)) z))
      ∧ (l.foldl (fun r n => Cert.SelectRefIdeal.reducer_argmax_f32_i32 (F := Ideal) r (f n)) z = z
          ∨ ∃ n ∈ l, l.foldl (fun r n => Cert.SelectRefIdeal.reducer_argmax_f32_i32 (F := Ideal) r (f n)) z = f n) := by
  induction l generalizing z with
  | nil => exact ⟨Below.refl _, fun n h => absurd h List.not_mem_nil, .inl rfl⟩
  | cons a l ih =>
    rw [List.foldl_cons]
    rcases reducer_cases z (f a) with ⟨e, h⟩ | ⟨e, h⟩
    · rw [e]
      obtain ⟨h1, h2, h3⟩ := ih z
      refine ⟨h1, fun n hn => ?_, h3.imp id fun ⟨n, hn, hh⟩ => ⟨n, List.mem_cons_of_mem _ hn, hh⟩⟩
      rcases List.mem_cons.1 hn with rfl | hn
      · exact h.trans h1
      · exact h2 n hn
    · rw [e]
      obtain ⟨h1, h2, h3⟩ := ih (f a)
      refine ⟨h.trans h1, fun n hn => ?_, .inr ?_⟩
      · rcases List.mem_cons.1 hn with rfl | hn
        · exact h1
        · exact h2 n hn
      · rcases h3 with h3 | ⟨n, hn, h3⟩
        · exact ⟨a, List.mem_cons_self, h3⟩
        · exact ⟨n, List.mem_cons_of_mem _ hn, h3⟩

/-- The reference's arg-max along one axis, started from the least value and index zero, is the first largest entry. -/
theorem argmax_row {s t u : Shape} {a : Fin s.rank} (h' : s.ReducesTo [a] t) (h : s.Reduces [a] t) (hu : 0 < u.numel)
    (x : s.Idx → EReal) (y : s.Idx → BitVec 32) (ix : u.Idx → EReal) (iy : u.Idx → BitVec 32) (p : t.Idx)
    (hix : ∀ q, ix q = ⊥) (hiy : ∀ q, iy q = 0#32) (hn : s.size a < 2 ^ 31)
    (hy : ∀ k : Fin (s.size a), y (h.lift p k) = BitVec.ofNat 32 k.val)
    (j : Fin (s.size a)) (hj : IsFirst (fun k => x (h.lift p k)) j) :
    Host.argReduce (F := Ideal) (φ := .f32) Cert.SelectRefIdeal.reducer_argmax_f32_i32 x y ix iy h' hu p = (x (h.lift p j), BitVec.ofNat 32 j.val) := by
  rw [Ideal.argReduce_eq_reduce2]
  unfold Host.reduce2
  rw [hix, hiy]
  obtain ⟨h1, h2, h3⟩ := foldl_reducer ((List.finRange s.numel).filter fun n => h'.drop (s.rowMajor.symm n) = p)
    (fun n => (x (s.rowMajor.symm n), y (s.rowMajor.symm n))) ((⊥ : EReal), 0#32)
  generalize List.foldl _ _ _ = r at h1 h2 h3 ⊢
  have hmem : ∀ k : Fin (s.size a), Below (x (h.lift p k), BitVec.ofNat 32 k.val) r := fun k => by
    have := h2 (s.rowMajor (h.lift p k)) (List.mem_filter.2 ⟨List.mem_finRange _, by
      rw [Equiv.symm_apply_apply, Shape.ReducesTo.drop_eq_drop h' h, h.drop_lift]; simp⟩)
    simp only [Equiv.symm_apply_apply, hy] at this
    exact this
  have hjn := j.isLt
  rcases h3 with h3 | ⟨n, hn', h3⟩
  · rw [h3] at hmem ⊢
    have hall : ∀ k, x (h.lift p k) = ⊥ := fun k => by
      rcases hmem k with hh | ⟨hh, -⟩
      · exact absurd hh (not_lt.2 bot_le)
      · exact hh
    have hj0 : j.val = 0 := by
      by_contra hne
      have := hj.2 ⟨0, by omega⟩ (by show 0 < j.val; omega)
      simp only [hall] at this
      exact absurd this (lt_irrefl _)
    rw [hall, hj0]
  · have hd := (List.mem_filter.1 hn').2
    have hd : h'.drop (s.rowMajor.symm n) = p := by simpa using hd
    rw [Shape.ReducesTo.drop_eq_drop h' h] at hd
    obtain ⟨k, hk⟩ : ∃ k, h.lift p k = s.rowMajor.symm n := ⟨_, by rw [← hd]; exact h.lift_drop _⟩
    have hkn := k.isLt
    simp only [← hk, hy] at h3
    rw [h3]
    have hb := hmem j
    rw [h3] at hb
    have hle : x (h.lift p k) ≤ x (h.lift p j) := hj.1 k
    rcases hb with hb | ⟨hb, hw⟩
    · exact absurd hb (not_lt.2 hle)
    · dsimp only at hb hw
      rw [toInt_ofNat (by omega), toInt_ofNat (by omega)] at hw
      have : k = j := by
        rcases lt_trichotomy k j with hlt | he | hgt
        · exact absurd (hj.2 k hlt) (by dsimp only; rw [hb]; exact lt_irrefl _)
        · exact he
        · exact absurd hgt (by show ¬ j.val < k.val; omega)
      rw [this]

end Cert.Proof.Sel

end
-- ==== Proof.SelCoef.lean ====
/-
  The coefficient result: every row's coefficients come from five products of one-hot rows with blocks of the coefficient
  array, which copy the column the row's index word names.
-/
module

public import proofs.«01_k».proof.Proof.SelOuts
public import proofs.«01_k».proof.Proof.SelMath

@[expose] public section

set_option maxRecDepth 16384

noncomputable section

namespace Cert.SelectIdeal.Pick

open Cert.SelectIdeal Cert.SelectIdeal.Gen
open Idealize.ShloMosaic Idealize.ShloMosaic.TcCoe Idealize.ShloMosaic.ValueIdx

/-- The one-hot rows of a block of columns: which of the columns from `o` on the index words name. -/
def hot (w : Vec Ideal S1x100 .i32) (o : BitVec 32) : FVec Ideal S100x4096 .f32 :=
  sitofp .f32 (extui 32 (cmpi .eq (addi (iota .tc S100x4096 32 [1] iota_S100x4096_d1_w32) (broadcast S100x4096 o))
    (broadcastTo S100x4096 (shapeCast S100x1 (shapeCast S100 w shapeCasts_S1x100_S100) shapeCasts_S100_S100x1) broadcasts_S100x1_S100x4096)) natLt_1_32)

/-- One block's product. -/
def part (w : Vec Ideal S1x100 .i32) (o : BitVec 32) (x : Vec Ideal S1x32x4096 .f32) : FVec Ideal S100x32 .f32 :=
  matmul dot_S100x4096_S32x4096_S100x32_1_1_0_0_n_n none (hot w o) (shapeCast S32x4096 x shapeCasts_S1x32x4096_S32x4096 : FVec Ideal S32x4096 .f32) (constant (F := Ideal) S100x32 .f32 0x00000000#32)

/-- The five blocks' products summed. -/
def taken (w : Vec Ideal S1x100 .i32) (x0 x1 x2 x3 x4 : Vec Ideal S1x32x4096 .f32) : FVec Ideal S1x100x32 .f32 :=
  shapeCast S1x100x32 (addf (addf (addf (addf (addf (broadcast S100x32 (Scalar.ofBits .f32 0x00000000#32 : Ideal .f32)) (part w 0#32 x0)) (part w 4096#32 x1)) (part w 8192#32 x2))
    (part w 12288#32 x3)) (part w 16384#32 x4)) shapeCasts_S100x32_S1x100x32

theorem row0_eq (w : Vec Ideal S1x100 .i32) (x0 x1 x2 x3 x4 : Vec Ideal S1x32x4096 .f32) :
    k0_pay35 (k0_pay34 (k0_pay31 (F := Ideal) w) (k0_pay32 w x0) (k0_pay33 (F := Ideal) w) x1 x2 x3 x4) = taken w x0 x1 x2 x3 x4 := rfl

theorem row1_eq (w : Vec Ideal S1x100 .i32) (x0 x1 x2 x3 x4 : Vec Ideal S1x32x4096 .f32) :
    k0_pay38 (k0_pay36 (F := Ideal) w) (k0_pay37 w x0 x1 x2) (iota .tc S100x4096 32 [1] iota_S100x4096_d1_w32) x3 x4 = taken w x0 x1 x2 x3 x4 := rfl

theorem row2_eq (w : Vec Ideal S1x100 .i32) (x0 x1 x2 x3 x4 : Vec Ideal S1x32x4096 .f32) :
    k0_pay44 (k0_pay42 (k0_pay39 (F := Ideal) w) k0_pay40 (k0_pay41 w x0) x1 x2 x3) (k0_pay43 (F := Ideal) (k0_pay39 (F := Ideal) w)) x4 = taken w x0 x1 x2 x3 x4 := rfl

theorem row3_eq (w : Vec Ideal S1x100 .i32) (x0 x1 x2 x3 x4 : Vec Ideal S1x32x4096 .f32) :
    k0_pay1 (k0_pay45 (F := Ideal) w) (k0_pay46 w x0 x1) (k0_pay47 (F := Ideal) w) x2 x3 x4 = taken w x0 x1 x2 x3 x4 := rfl

/-- The product of a row with a block: a sum over the block's columns. -/
theorem dot_block (a : FVec Ideal S100x4096 .f32) (b : FVec Ideal S32x4096 .f32) (r : Fin 100) (d : Fin 32) :
    matmul dot_S100x4096_S32x4096_S100x32_1_1_0_0_n_n none a b (constant (F := Ideal) S100x32 .f32 0x00000000#32) (ix2 r d)
      = ∑ q : Fin 4096, a (ix2 r q) * b (ix2 d q) := by
  refine (Ideal.matmul_constant_zero_apply _ _ _ _ _).trans ?_
  rw [← Equiv.sum_comp (contrEquiv1 dot_S100x4096_S32x4096_S100x32_1_1_0_0_n_n 4096 rfl rfl).symm]
  refine Finset.sum_congr rfl fun q _ => ?_
  have hq := contrEquiv1_symm_val dot_S100x4096_S32x4096_S100x32_1_1_0_0_n_n 4096 rfl rfl q
  congr 1
  · refine congrArg a (funext fun x => Fin.ext ?_)
    match x with
    | ⟨0, _⟩ => simp [DotDims.lhsIdx, dot_S100x4096_S32x4096_S100x32_1_1_0_0_n_n]; rfl
    | ⟨1, _⟩ => refine Eq.trans ?_ hq; simp [DotDims.lhsIdx, dot_S100x4096_S32x4096_S100x32_1_1_0_0_n_n]; rfl
  · refine congrArg b (funext fun x => Fin.ext ?_)
    match x with
    | ⟨0, _⟩ => simp [DotDims.rhsIdx, dot_S100x4096_S32x4096_S100x32_1_1_0_0_n_n]; rfl
    | ⟨1, _⟩ => refine Eq.trans ?_ hq; simp [DotDims.rhsIdx, dot_S100x4096_S32x4096_S100x32_1_1_0_0_n_n]; rfl

/-- A row's index words as a column. -/
theorem words_column (w : Vec Ideal S1x100 .i32) (r : Fin 100) :
    shapeCast S100x1 (shapeCast S100 w shapeCasts_S1x100_S100) shapeCasts_S100_S100x1 (ix2 r 0) = w (ix2 0 r) := by
  refine (shapeCast_apply _ _ (ix2 r 0) (ix1 r) (by
    rw [Shape.rowMajor_val_two, Shape.rowMajor_val_one]; show r.val = r.val * 1 + (0 : Fin 1).val; simp)).trans ?_
  exact shapeCast_apply _ _ (ix1 r) (ix2 0 r) (by
    rw [Shape.rowMajor_val_two, Shape.rowMajor_val_one]; show (0 : Fin 1).val * 100 + r.val = r.val; simp)

/-- The one-hot rows at an index. -/
theorem hot_apply (w : Vec Ideal S1x100 .i32) (o : ℕ) (ho : o ≤ 16384) (r : Fin 100) (q : Fin 4096) (j : Fin 20480) (hj : w (ix2 0 r) = BitVec.ofNat 32 j.val) :
    hot w (BitVec.ofNat 32 o) (ix2 r q) = if q.val + o = j.val then (1 : EReal) else 0 := by
  refine Eq.trans (b := ((((BitVec.ofBool (iota .tc S100x4096 32 [1] iota_S100x4096_d1_w32 (ix2 r q) + BitVec.ofNat 32 o
      == broadcastTo S100x4096 (shapeCast S100x1 (shapeCast S100 w shapeCasts_S1x100_S100) shapeCasts_S100_S100x1) broadcasts_S100x1_S100x4096 (ix2 r q))).setWidth 32).toInt : ℝ) : EReal)) rfl ?_
  have e : broadcastTo S100x4096 (shapeCast S100x1 (shapeCast S100 w shapeCasts_S1x100_S100) shapeCasts_S100_S100x1) broadcasts_S100x1_S100x4096 (ix2 r q)
      = BitVec.ofNat 32 j.val :=
    (broadcastTo_apply _ _ _ (ix2 r 0) (fun a => by match a with | ⟨0, _⟩ => rfl | ⟨1, _⟩ => rfl)).trans ((words_column w r).trans hj)
  rw [e, show iota .tc S100x4096 32 [1] iota_S100x4096_d1_w32 (ix2 r q) = BitVec.ofNat 32 q.val from iota_single_apply .., ← BitVec.ofNat_add]
  by_cases h : q.val + o = j.val
  · rw [if_pos h, h, beq_self_eq_true, show ((BitVec.ofBool true).setWidth 32).toInt = 1 from by decide]; norm_num
  · rw [if_neg h, beq_eq_false_iff_ne.2 (fun e => h ((Cert.Proof.Sel.ofNat_inj (by omega) (by omega)).1 e)), show ((BitVec.ofBool false).setWidth 32).toInt = 0 from by decide]; norm_num

/-- One block's product at an index. -/
theorem part_apply (w : Vec Ideal S1x100 .i32) (o : ℕ) (ho : o ≤ 16384) (x : Vec Ideal S1x32x4096 .f32) (r : Fin 100) (d : Fin 32) (j : Fin 20480)
    (hj : w (ix2 0 r) = BitVec.ofNat 32 j.val) :
    part w (BitVec.ofNat 32 o) x (ix2 r d) = if h : o ≤ j.val ∧ j.val < o + 4096 then x (ix3 0 d ⟨j.val - o, by omega⟩) else (0 : EReal) := by
  refine (dot_block _ _ r d).trans ?_
  have e : ∀ q : Fin 4096, shapeCast S32x4096 x shapeCasts_S1x32x4096_S32x4096 (ix2 d q) = x (ix3 0 d q) := fun q =>
    shapeCast_apply _ _ (ix2 d q) (ix3 0 d q) (by
      rw [Shape.rowMajor_val_two, Shape.rowMajor_val_three]
      show ((0 : Fin 1).val * 32 + d.val) * 4096 + q.val = d.val * 4096 + q.val; simp)
  have s : (∑ q : Fin 4096, hot w (BitVec.ofNat 32 o) (ix2 r q) * shapeCast S32x4096 x shapeCasts_S1x32x4096_S32x4096 (ix2 d q))
      = ∑ q : Fin 4096, (if q.val + o = j.val then (1 : EReal) else 0) * (x (ix3 0 d q) : EReal) :=
    Finset.sum_congr rfl fun q _ => congrArg₂ (fun u v : EReal => u * v) (hot_apply w o ho r q j hj) (e q)
  refine s.trans ?_
  by_cases h : o ≤ j.val ∧ j.val < o + 4096
  · rw [dif_pos h, Finset.sum_eq_single (⟨j.val - o, by omega⟩ : Fin 4096)]
    · rw [if_pos (show (j.val - o) + o = j.val by omega), one_mul]
    · intro q _ hq
      rw [if_neg (fun e => hq (Fin.ext (by show q.val = j.val - o; omega))), zero_mul]
    · exact fun hq => absurd (Finset.mem_univ _) hq
  · rw [dif_neg h]
    refine Finset.sum_eq_zero fun q _ => ?_
    rw [if_neg (fun e => h ⟨by omega, by omega⟩), zero_mul]

/-- The summed products copy the named column. -/
theorem taken_apply (w : Vec Ideal S1x100 .i32) (x0 x1 x2 x3 x4 : Vec Ideal S1x32x4096 .f32) (s : Fin 32 → Fin 20480 → EReal)
    (h0 : ∀ d (q : Fin 4096), x0 (ix3 0 d q) = s d ⟨0 + q.val, by omega⟩) (h1 : ∀ d (q : Fin 4096), x1 (ix3 0 d q) = s d ⟨4096 + q.val, by omega⟩)
    (h2 : ∀ d (q : Fin 4096), x2 (ix3 0 d q) = s d ⟨8192 + q.val, by omega⟩) (h3 : ∀ d (q : Fin 4096), x3 (ix3 0 d q) = s d ⟨12288 + q.val, by omega⟩)
    (h4 : ∀ d (q : Fin 4096), x4 (ix3 0 d q) = s d ⟨16384 + q.val, by omega⟩) (r : Fin 100) (d : Fin 32) (j : Fin 20480)
    (hj : w (ix2 0 r) = BitVec.ofNat 32 j.val) : taken w x0 x1 x2 x3 x4 (ix3 0 r d) = s d j := by
  have p := fun (o : ℕ) (ho : o ≤ 16384) (x : Vec Ideal S1x32x4096 .f32) (hx : ∀ d (q : Fin 4096), x (ix3 0 d q) = s d ⟨o + q.val, by omega⟩) =>
    (part_apply w o ho x r d j hj).trans (Eq.trans (b := if o ≤ j.val ∧ j.val < o + 4096 then s d j else (0 : EReal)) (by
      by_cases h : o ≤ j.val ∧ j.val < o + 4096
      · rw [dif_pos h, if_pos h, hx]; exact congrArg (s d) (Fin.ext (by show o + (j.val - o) = j.val; omega))
      · rw [dif_neg h, if_neg h]) rfl)
  unfold taken
  refine (shapeCast_apply _ _ (ix3 0 r d) (ix2 r d) (by
    rw [Shape.rowMajor_val_two, Shape.rowMajor_val_three]
    show r.val * 32 + d.val = ((0 : Fin 1).val * 100 + r.val) * 32 + d.val; simp)).trans ?_
  refine Eq.trans (b := ((((((FloatOps.ofBits .f32 0x00000000#32 : Ideal .f32) : EReal) + (part w 0#32 x0 (ix2 r d) : EReal)) + (part w 4096#32 x1 (ix2 r d) : EReal))
    + (part w 8192#32 x2 (ix2 r d) : EReal)) + (part w 12288#32 x3 (ix2 r d) : EReal)) + (part w 16384#32 x4 (ix2 r d) : EReal)) rfl ?_
  have z : ((FloatOps.ofBits .f32 0x00000000#32 : Ideal .f32) : EReal) = 0 := by rw [Ideal.ofBits_def]; simp [Ideal.ofBits, Ideal.ieee]
  have e0 := p 0 (by norm_num) x0 h0
  have e1 := p 4096 (by norm_num) x1 h1
  have e2 := p 8192 (by norm_num) x2 h2
  have e3 := p 12288 (by norm_num) x3 h3
  have e4 := p 16384 (by norm_num) x4 h4
  rw [z]
  refine (congrArg₂ (fun u v : EReal => u + v) (congrArg₂ (fun u v : EReal => u + v) (congrArg₂ (fun u v : EReal => u + v) (congrArg₂ (fun u v : EReal => u + v) (congrArg (fun v : EReal => 0 + v) e0) e1) e2) e3) e4).trans ?_
  have hlt := j.isLt
  by_cases c0 : j.val < 4096
  · rw [if_pos (by omega), if_neg (by omega), if_neg (by omega), if_neg (by omega), if_neg (by omega)]; simp
  by_cases c1 : j.val < 8192
  · rw [if_neg (by omega), if_pos (by omega), if_neg (by omega), if_neg (by omega), if_neg (by omega)]; simp
  by_cases c2 : j.val < 12288
  · rw [if_neg (by omega), if_neg (by omega), if_pos (by omega), if_neg (by omega), if_neg (by omega)]; simp
  by_cases c3 : j.val < 16384
  · rw [if_neg (by omega), if_neg (by omega), if_neg (by omega), if_pos (by omega), if_neg (by omega)]; simp
  · rw [if_neg (by omega), if_neg (by omega), if_neg (by omega), if_neg (by omega), if_pos (by omega)]; simp

/-- A block of the coefficient array, loaded. -/
theorem block_apply {sp : Space} (v : View sig .tc sp S4x32x20480 .f32) (f : v.ty.Contents (Elt Ideal)) (s7 : Vec Ideal S4x32x20480 .f32) (hf : v.read (Elt Ideal) f = s7)
    (b o : ℕ) (hb : b < 4) (ho : o ≤ 16384) (inb : ∀ a, (![b, 0, o] : Fin 3 → ℕ) a + S1x32x4096.size a ≤ S4x32x20480.size a) (d : Fin 32) (q : Fin 4096) :
    v.readAt (Elt Ideal) (Rect.unit (s := S4x32x20480) ![b, 0, o] S1x32x4096.size inb).toLoadRect f (ix3 0 d q) = s7 (ix3 ⟨b, hb⟩ d ⟨o + q.val, by omega⟩) := by
  subst hf
  refine congrArg (v.read (Elt Ideal) f) (funext fun a => Fin.ext ?_)
  match a with
  | ⟨0, _⟩ => show b + 1 * (0 : Fin 1).val = b; simp
  | ⟨1, _⟩ => show 0 + 1 * d.val = d.val; omega
  | ⟨2, _⟩ => show o + 1 * q.val = o + q.val; omega

/-- A row of the index words, loaded after the words were stored. -/
theorem word_row {sp : Space} (v : View sig .tc sp S4x100 .i32) (w : Vec Ideal S4x100 .i32) (b : ℕ) (hb : b < 4)
    (inb' : ∀ a, (![0, 0] : Fin 2 → ℕ) a + S4x100.size a ≤ S4x100.size a) (inb : ∀ a, (![b, 0] : Fin 2 → ℕ) a + S1x100.size a ≤ S4x100.size a) (r : Fin 100) :
    v.readCov (Val := Elt Ideal) [⟨Rect.unit (s := S4x100) ![0, 0] S4x100.size inb', w⟩] (Rect.unit (s := S4x100) ![b, 0] S1x100.size inb).toLoadRect (ix2 0 r) = w (ix2 ⟨b, hb⟩ r) := by
  have e := View.read_writes_full (Val := Elt Ideal) v v.junk inb' w []
  refine (congrArg (fun f : Vec Ideal S4x100 .i32 => f ((Rect.unit (s := S4x100) ![b, 0] S1x100.size inb).idx (ix2 0 r))) e).trans ?_
  refine congrArg w (funext fun a => Fin.ext ?_)
  match a with
  | ⟨0, _⟩ => show b + 1 * (0 : Fin 1).val = b; simp
  | ⟨1, _⟩ => show 0 + 1 * r.val = r.val; omega

/-- Four image slabs stored one after another, read back. -/
theorem slabs {sp : Space} (v : View sig .tc sp S4x100x32 .f32) (f : v.ty.Contents (Elt Ideal)) (y0 y1 y2 y3 : FVec Ideal S1x100x32 .f32)
    (i3 : ∀ a, (![3, 0, 0] : Fin 3 → ℕ) a + S1x100x32.size a ≤ S4x100x32.size a) (i2 : ∀ a, (![2, 0, 0] : Fin 3 → ℕ) a + S1x100x32.size a ≤ S4x100x32.size a)
    (i1 : ∀ a, (![1, 0, 0] : Fin 3 → ℕ) a + S1x100x32.size a ≤ S4x100x32.size a) (i0 : ∀ a, (![0, 0, 0] : Fin 3 → ℕ) a + S1x100x32.size a ≤ S4x100x32.size a)
    (b : Fin 4) (r : Fin 100) (d : Fin 32) (e : EReal) (h0 : b = 0 → y0 (ix3 0 r d) = e) (h1 : b = 1 → y1 (ix3 0 r d) = e) (h2 : b = 2 → y2 (ix3 0 r d) = e)
    (h3 : b = 3 → y3 (ix3 0 r d) = e) :
    v.read (Elt Ideal) (v.writes (Elt Ideal) f [⟨Rect.unit (s := S4x100x32) ![3, 0, 0] S1x100x32.size i3, y3⟩, ⟨Rect.unit (s := S4x100x32) ![2, 0, 0] S1x100x32.size i2, y2⟩,
      ⟨Rect.unit (s := S4x100x32) ![1, 0, 0] S1x100x32.size i1, y1⟩, ⟨Rect.unit (s := S4x100x32) ![0, 0, 0] S1x100x32.size i0, y0⟩]) (ix3 b r d) = e := by
  have inside : ∀ (k : Fin 4) (a : Fin 3), ((ix3 k r d : S4x100x32.Idx) a).val = (![k.val, 0, 0] : Fin 3 → ℕ) a + ((ix3 0 r d : S1x100x32.Idx) a).val := fun k a => by
    match a with
    | ⟨0, _⟩ => show k.val = k.val + (0 : Fin 1).val; simp
    | ⟨1, _⟩ => show r.val = 0 + r.val; omega
    | ⟨2, _⟩ => show d.val = 0 + d.val; omega
  obtain rfl | rfl | rfl | rfl : b = 0 ∨ b = 1 ∨ b = 2 ∨ b = 3 := (by decide : ∀ b : Fin 4, b = 0 ∨ b = 1 ∨ b = 2 ∨ b = 3) b
  · refine (View.read_writes_cons_unit_of_not_mem v f i3 y3 _ _ rfl 0 (.inl (by show 0 < 3; norm_num))).trans ?_
    refine (View.read_writes_cons_unit_of_not_mem v f i2 y2 _ _ rfl 0 (.inl (by show 0 < 2; norm_num))).trans ?_
    refine (View.read_writes_cons_unit_of_not_mem v f i1 y1 _ _ rfl 0 (.inl (by show 0 < 1; norm_num))).trans ?_
    exact (View.read_writes_cons_unit_of_mem v f i0 y0 _ _ (ix3 0 r d) rfl (inside 0)).trans (h0 rfl)
  · refine (View.read_writes_cons_unit_of_not_mem v f i3 y3 _ _ rfl 0 (.inl (by show 1 < 3; norm_num))).trans ?_
    refine (View.read_writes_cons_unit_of_not_mem v f i2 y2 _ _ rfl 0 (.inl (by show 1 < 2; norm_num))).trans ?_
    exact (View.read_writes_cons_unit_of_mem v f i1 y1 _ _ (ix3 0 r d) rfl (inside 1)).trans (h1 rfl)
  · refine (View.read_writes_cons_unit_of_not_mem v f i3 y3 _ _ rfl 0 (.inl (by show 2 < 3; norm_num))).trans ?_
    exact (View.read_writes_cons_unit_of_mem v f i2 y2 _ _ (ix3 0 r d) rfl (inside 2)).trans (h2 rfl)
  · exact (View.read_writes_cons_unit_of_mem v f i3 y3 _ _ (ix3 0 r d) rfl (inside 3)).trans (h3 rfl)

/-- A coefficient result that copies the columns the rounds' index words name. -/
def CoefAt (s0 s1 s2 s3 s4 s5 : Vec Ideal S4x20480 .f32) (s6 : Vec Ideal S4x20480 .i32) (s7 : Vec Ideal S4x32x20480 .f32)
    (X : Vec Ideal S4x100x32 .f32) : Prop :=
  ∀ (b : Fin 4) (r : Fin 100) (d : Fin 32) (j : Fin 20480),
    (result s0 s1 s2 s3 s4 s5 s6).1.2.1 (ix2 b r) = BitVec.ofNat 32 j.val → X (ix3 b r d) = s7 (ix3 b d j)

/-- The words the rounds kept are stored as they are. -/
theorem words_eq (w : Vec Ideal S4x100 .i32) : k0_pay30 w = w := by
  unfold k0_pay30; exact shapeCast_self _ _

set_option maxHeartbeats 1000000 in
/-- The stored coefficient result copies the named columns. -/
theorem coef_at {c : Dev nD} {i : grid0.Coords} {arg1 : Memref sig .tc .vmem S4x2048x117 .f32} {harg1 : arg1.IsWhole} {arg2 : Memref sig .tc .vmem S4x1 .i32} {harg2 : arg2.IsWhole} {arg3 : Memref sig .tc .vmem S4x100 .f32} {harg3 : arg3.IsWhole} {arg4 : Memref sig .tc .vmem S4x100 .f32} {harg4 : arg4.IsWhole} {arg5 : Memref sig .tc .vmem S4x100 .f32} {harg5 : arg5.IsWhole} {arg6 : Memref sig .tc .vmem S4x100 .f32} {harg6 : arg6.IsWhole} {arg7 : Memref sig .tc .vmem S4x100 .f32} {harg7 : arg7.IsWhole} {arg8 : Memref sig .tc .vmem S4x100 .i32} {harg8 : arg8.IsWhole} {arg9 : Memref sig .tc .vmem S4x100x32 .f32} {harg9 : arg9.IsWhole} {arg10 : Memref sig .tc .vmem S4x20480 .f32} {harg10 : arg10.IsWhole} {arg11 : Memref sig .tc .vmem S4x20480 .f32} {harg11 : arg11.IsWhole} {arg12 : Memref sig .tc .vmem S4x20480 .f32} {harg12 : arg12.IsWhole} {arg13 : Memref sig .tc .vmem S4x20480 .f32} {harg13 : arg13.IsWhole} {arg14 : Memref sig .tc .vmem S4x20480 .f32} {harg14 : arg14.IsWhole} {arg15 : Memref sig .tc .vmem S4x20480 .f32} {harg15 : arg15.IsWhole} {arg16 : Memref sig .tc .vmem S4x20480 .i32} {harg16 : arg16.IsWhole} {arg17 : Memref sig .tc .vmem S4x32x20480 .f32} {harg17 : arg17.IsWhole} {arg18 : Memref sig .tc .vmem S4x20480 .f32} {harg18 : arg18.IsWhole} {arg19 : Memref sig .tc .vmem S4x100 .i32} {harg19 : arg19.IsWhole} {h : k0_cond1 i = 1#1} {s0 s1 s2 s3 s4 s5 : Vec Ideal S4x20480 .f32} {s6 : Vec Ideal S4x20480 .i32} {s7 : Vec Ideal S4x32x20480 .f32} {z : Vec Ideal S4x100x32 .f32}
    (hz : ∃ f18 f19 f, z = arg9.view.read (Elt Ideal) (arg9.view.writes (Elt Ideal) f (roundsRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6 s7 f18 f19).2.2.2.2.2.2.2.1)) :
    CoefAt s0 s1 s2 s3 s4 s5 s6 s7 z := by
  obtain ⟨f18, f19, f, rfl⟩ := hz
  intro b r d j hj
  have hw := (congrArg (fun x : Carry Ideal => x.2.1 (ix2 b r)) (st_result c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h s0 s1 s2 s3 s4 s5 s6)).trans hj
  have pl := fun (b' o : ℕ) (hb : b' < 4) (ho : o ≤ 16384) (inb : ∀ a, (![b', 0, o] : Fin 3 → ℕ) a + S1x32x4096.size a ≤ S4x32x20480.size a) (d : Fin 32) (q : Fin 4096) =>
    block_apply arg17.view (harg17.unread s7) s7 (harg17.read_unread s7) b' o hb ho inb d q
  unfold roundsRun
  dsimp only
  refine slabs arg9.view f _ _ _ _ _ _ _ _ b r d _ (fun e => ?_) (fun e => ?_) (fun e => ?_) (fun e => ?_)
  · subst e
    refine (congrFun (row0_eq _ _ _ _ _ _) _).trans (taken_apply _ _ _ _ _ _ (fun d q => s7 (ix3 0 d q)) (fun d q => pl 0 0 (by norm_num) (by norm_num) _ d q) (fun d q => pl 0 4096 (by norm_num) (by norm_num) _ d q)
      (fun d q => pl 0 8192 (by norm_num) (by norm_num) _ d q) (fun d q => pl 0 12288 (by norm_num) (by norm_num) _ d q) (fun d q => pl 0 16384 (by norm_num) (by norm_num) _ d q) r d j ?_)
    exact (word_row arg19.view _ 0 (by norm_num) _ _ r).trans ((congrFun (words_eq _) _).trans hw)
  · subst e
    refine (congrFun (row1_eq _ _ _ _ _ _) _).trans (taken_apply _ _ _ _ _ _ (fun d q => s7 (ix3 1 d q)) (fun d q => pl 1 0 (by norm_num) (by norm_num) _ d q) (fun d q => pl 1 4096 (by norm_num) (by norm_num) _ d q)
      (fun d q => pl 1 8192 (by norm_num) (by norm_num) _ d q) (fun d q => pl 1 12288 (by norm_num) (by norm_num) _ d q) (fun d q => pl 1 16384 (by norm_num) (by norm_num) _ d q) r d j ?_)
    exact (word_row arg19.view _ 1 (by norm_num) _ _ r).trans ((congrFun (words_eq _) _).trans hw)
  · subst e
    refine (congrFun (row2_eq _ _ _ _ _ _) _).trans (taken_apply _ _ _ _ _ _ (fun d q => s7 (ix3 2 d q)) (fun d q => pl 2 0 (by norm_num) (by norm_num) _ d q) (fun d q => pl 2 4096 (by norm_num) (by norm_num) _ d q)
      (fun d q => pl 2 8192 (by norm_num) (by norm_num) _ d q) (fun d q => pl 2 12288 (by norm_num) (by norm_num) _ d q) (fun d q => pl 2 16384 (by norm_num) (by norm_num) _ d q) r d j ?_)
    exact (word_row arg19.view _ 2 (by norm_num) _ _ r).trans ((congrFun (words_eq _) _).trans hw)
  · subst e
    refine (congrFun (row3_eq _ _ _ _ _ _) _).trans (taken_apply _ _ _ _ _ _ (fun d q => s7 (ix3 3 d q)) (fun d q => pl 3 0 (by norm_num) (by norm_num) _ d q) (fun d q => pl 3 4096 (by norm_num) (by norm_num) _ d q)
      (fun d q => pl 3 8192 (by norm_num) (by norm_num) _ d q) (fun d q => pl 3 12288 (by norm_num) (by norm_num) _ d q) (fun d q => pl 3 16384 (by norm_num) (by norm_num) _ d q) r d j ?_)
    exact (word_row arg19.view _ 3 (by norm_num) _ _ r).trans ((congrFun (words_eq _) _).trans hw)

end Cert.SelectIdeal.Pick

end
-- ==== Proof.SelRun.lean ====
/-
  The selection kernel's run with the scratch arrays tracked from point to point: the results end as the rounds over
  the tracked rows leave them.
-/
module

public import proofs.«01_k».proof.Proof.SelHold
public import proofs.«01_k».proof.Proof.SelLast
public import proofs.«01_k».proof.Proof.SelCoef

@[expose] public section

set_option maxRecDepth 16384

noncomputable section

namespace Cert.SelectIdeal.Pick

open Cert.SelectIdeal Cert.SelectIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- What window `w`'s buffer holds after the last point: `W` of the tracked scratch arrays. -/
def Ends (c : Dev nD) (t : Fin cfg0.N) (W : Vec Ideal S4x20480 .f32 → Vec Ideal S4x20480 .f32 → Vec Ideal S4x20480 .f32 → Vec Ideal S4x20480 .f32 → Vec Ideal S4x20480 .f32 → Vec Ideal S4x20480 .f32 → Vec Ideal S4x20480 .i32 → Vec Ideal S4x32x20480 .f32 → Prop) : Prop :=
  t.val = 9 → ∃ s0 : Vec Ideal S4x20480 .f32, ∃ s1 : Vec Ideal S4x20480 .f32, ∃ s2 : Vec Ideal S4x20480 .f32, ∃ s3 : Vec Ideal S4x20480 .f32, ∃ s4 : Vec Ideal S4x20480 .f32, ∃ s5 : Vec Ideal S4x20480 .f32, ∃ s6 : Vec Ideal S4x20480 .i32, ∃ s7 : Vec Ideal S4x32x20480 .f32, Track m c 10 s0 s1 s2 s3 s4 s5 s6 s7 ∧ W s0 s1 s2 s3 s4 s5 s6 s7

/-- The count window after the last point. -/
def ends1 (c : Dev nD) (t : Fin cfg0.N) (X : Vec Ideal S4x1 .i32) : Prop :=
  Ends m c t fun s0 s1 s2 s3 s4 s5 s6 s7 => X = k0_pay29 (result s0 s1 s2 s3 s4 s5 s6).1.1

/-- The left window after the last point. -/
def ends2 (c : Dev nD) (t : Fin cfg0.N) (X : Vec Ideal S4x100 .f32) : Prop :=
  Ends m c t fun s0 s1 s2 s3 s4 s5 s6 s7 => X = (result s0 s1 s2 s3 s4 s5 s6).1.2.2.1

/-- The top window after the last point. -/
def ends3 (c : Dev nD) (t : Fin cfg0.N) (X : Vec Ideal S4x100 .f32) : Prop :=
  Ends m c t fun s0 s1 s2 s3 s4 s5 s6 s7 => X = (result s0 s1 s2 s3 s4 s5 s6).1.2.2.2.1

/-- The right window after the last point. -/
def ends4 (c : Dev nD) (t : Fin cfg0.N) (X : Vec Ideal S4x100 .f32) : Prop :=
  Ends m c t fun s0 s1 s2 s3 s4 s5 s6 s7 => X = (result s0 s1 s2 s3 s4 s5 s6).1.2.2.2.2.1

/-- The bottom window after the last point. -/
def ends5 (c : Dev nD) (t : Fin cfg0.N) (X : Vec Ideal S4x100 .f32) : Prop :=
  Ends m c t fun s0 s1 s2 s3 s4 s5 s6 s7 => X = (result s0 s1 s2 s3 s4 s5 s6).1.2.2.2.2.2.1

/-- The score window after the last point. -/
def ends6 (c : Dev nD) (t : Fin cfg0.N) (X : Vec Ideal S4x100 .f32) : Prop :=
  Ends m c t fun s0 s1 s2 s3 s4 s5 s6 s7 => X = (result s0 s1 s2 s3 s4 s5 s6).1.2.2.2.2.2.2.1

/-- The class window after the last point. -/
def ends7 (c : Dev nD) (t : Fin cfg0.N) (X : Vec Ideal S4x100 .i32) : Prop :=
  Ends m c t fun s0 s1 s2 s3 s4 s5 s6 s7 => X = (result s0 s1 s2 s3 s4 s5 s6).1.2.2.2.2.2.2.2

/-- The coefficient window after the last point. -/
def ends8 (c : Dev nD) (t : Fin cfg0.N) (X : Vec Ideal S4x100x32 .f32) : Prop :=
  Ends m c t fun s0 s1 s2 s3 s4 s5 s6 s7 => CoefAt s0 s1 s2 s3 s4 s5 s6 s7 X

/-- The scratch arrays before point `n`. -/
def Kept (c : Dev nD) (n : ℕ) : sProp 𝕄 :=
  iprop(((∃ s0 : Vec Ideal S4x20480 .f32, ∃ s1 : Vec Ideal S4x20480 .f32, ∃ s2 : Vec Ideal S4x20480 .f32, ∃ s3 : Vec Ideal S4x20480 .f32, ∃ s4 : Vec Ideal S4x20480 .f32, ∃ s5 : Vec Ideal S4x20480 .f32, ∃ s6 : Vec Ideal S4x20480 .i32, ∃ s7 : Vec Ideal S4x32x20480 .f32, ⌜Track m c n s0 s1 s2 s3 s4 s5 s6 s7⌝ ∗ owns (c : Thread nD τ) (Memref.whole cc0_scratch0) fullShare s0 ∗ owns (c : Thread nD τ) (Memref.whole cc0_scratch1) fullShare s1 ∗ owns (c : Thread nD τ) (Memref.whole cc0_scratch2) fullShare s2 ∗ owns (c : Thread nD τ) (Memref.whole cc0_scratch3) fullShare s3 ∗ owns (c : Thread nD τ) (Memref.whole cc0_scratch4) fullShare s4 ∗ owns (c : Thread nD τ) (Memref.whole cc0_scratch5) fullShare s5 ∗ owns (c : Thread nD τ) (Memref.whole cc0_scratch6) fullShare s6 ∗ owns (c : Thread nD τ) (Memref.whole cc0_scratch7) fullShare s7) ∗ (∃ d, owns (c : Thread nD τ) (Memref.whole cc0_scratch8) fullShare d) ∗ (∃ d, owns (c : Thread nD τ) (Memref.whole cc0_scratch9) fullShare d)) ∗ (∃ r, prngReg c r))

/-- The data on core `c`: the arrays as the launch finds them, the scratch arrays tracked, the results after the last
    point. -/
def tdat (c : Dev nD) : Pipeline.RDat τ (Elt Ideal) Unit ℕ (UR sig nD τ) ℕ cfg0 c where
  A w := V m c (Pipeline.arrRef spec0 w)
  after w := match w with
    | ⟨0, _⟩ => fun _ _ _ => True
    | ⟨1, _⟩ => fun t _ X => ends1 m c t X
    | ⟨2, _⟩ => fun t _ X => ends2 m c t X
    | ⟨3, _⟩ => fun t _ X => ends3 m c t X
    | ⟨4, _⟩ => fun t _ X => ends4 m c t X
    | ⟨5, _⟩ => fun t _ X => ends5 m c t X
    | ⟨6, _⟩ => fun t _ X => ends6 m c t X
    | ⟨7, _⟩ => fun t _ X => ends7 m c t X
    | ⟨8, _⟩ => fun t _ X => ends8 m c t X
  Φ t := Kept m c t.val
  q _ := fullShare
  owed _ := 0

set_option maxHeartbeats 1000000 in
/-- The body at a point before the last. -/
theorem sound_copy (c : Dev nD) (t : Fin cfg0.N) (ht : t.val ≠ 9) (y0 : Vec Ideal S4x2048x117 .f32) (y1 : Vec Ideal S4x1 .i32) (y2 : Vec Ideal S4x100 .f32) (y3 : Vec Ideal S4x100 .f32) (y4 : Vec Ideal S4x100 .f32) (y5 : Vec Ideal S4x100 .f32) (y6 : Vec Ideal S4x100 .f32) (y7 : Vec Ideal S4x100 .i32) (y8 : Vec Ideal S4x100x32 .f32) (hM : Moved m c t y0) :
    iprop(Kept m c t.val ∗ (tdat m c).owesAt () t.castSucc ∗ owns (c : Thread nD τ) (win0_0.stage (cfg0.slots t 0)) fullShare y0 ∗ owns (c : Thread nD τ) (win0_1.stage (cfg0.slots t 1)) fullShare y1 ∗ owns (c : Thread nD τ) (win0_2.stage (cfg0.slots t 2)) fullShare y2 ∗ owns (c : Thread nD τ) (win0_3.stage (cfg0.slots t 3)) fullShare y3 ∗ owns (c : Thread nD τ) (win0_4.stage (cfg0.slots t 4)) fullShare y4 ∗ owns (c : Thread nD τ) (win0_5.stage (cfg0.slots t 5)) fullShare y5 ∗ owns (c : Thread nD τ) (win0_6.stage (cfg0.slots t 6)) fullShare y6 ∗ owns (c : Thread nD τ) (win0_7.stage (cfg0.slots t 7)) fullShare y7 ∗ owns (c : Thread nD τ) (win0_8.stage (cfg0.slots t 8)) fullShare y8)
      ⊢ wp frame (wpE (defs₀ (F := Ideal)) Variants.none c none) Set.univ (bodyAt0 t) fun _ =>
        iprop(Kept m c (t.val + 1) ∗ (tdat m c).owesAt () t.succ ∗ (∃ X, ⌜True⌝ ∗ owns (c : Thread nD τ) (win0_0.stage (cfg0.slots t 0)) fullShare X) ∗ (∃ X, ⌜ends1 m c t X⌝ ∗ owns (c : Thread nD τ) (win0_1.stage (cfg0.slots t 1)) fullShare X) ∗ (∃ X, ⌜ends2 m c t X⌝ ∗ owns (c : Thread nD τ) (win0_2.stage (cfg0.slots t 2)) fullShare X) ∗ (∃ X, ⌜ends3 m c t X⌝ ∗ owns (c : Thread nD τ) (win0_3.stage (cfg0.slots t 3)) fullShare X) ∗ (∃ X, ⌜ends4 m c t X⌝ ∗ owns (c : Thread nD τ) (win0_4.stage (cfg0.slots t 4)) fullShare X) ∗ (∃ X, ⌜ends5 m c t X⌝ ∗ owns (c : Thread nD τ) (win0_5.stage (cfg0.slots t 5)) fullShare X) ∗ (∃ X, ⌜ends6 m c t X⌝ ∗ owns (c : Thread nD τ) (win0_6.stage (cfg0.slots t 6)) fullShare X) ∗ (∃ X, ⌜ends7 m c t X⌝ ∗ owns (c : Thread nD τ) (win0_7.stage (cfg0.slots t 7)) fullShare X) ∗ (∃ X, ⌜ends8 m c t X⌝ ∗ owns (c : Thread nD τ) (win0_8.stage (cfg0.slots t 8)) fullShare X)) := by
  rw [show (tdat m c).owesAt () t.succ = (tdat m c).owesAt () t.castSucc from rfl]
  unfold Kept
  iintro ⟨⟨⟨⟨%s0, %s1, %s2, %s3, %s4, %s5, %s6, %s7, %hT, S0, S1, S2, S3, S4, S5, S6, S7⟩, S8, S9⟩, Hg⟩, HO, H0, H1, H2, H3, H4, H5, H6, H7, H8⟩
  have hN := hT.next y0 hM
  have hc : PLift (¬ k0_cond1 (grid0.coords t) = 1#1) := ⟨fun e => ht ((cond1_coords t).1 e)⟩
  iapply (body_copy c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) hc y0 s0 s1 s2 s3 s4 s5 s6 s7 Set.univ _)
  isplitl [H0]; · iexact H0
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, S0, S1, S2, S3, S4, S5, S6, S7, S8, S9, ⟨%z1, H1⟩, ⟨%z2, H2⟩, ⟨%z3, H3⟩, ⟨%z4, H4⟩, ⟨%z5, H5⟩, ⟨%z6, H6⟩, ⟨%z7, H7⟩, ⟨%z8, H8⟩⟩
  isplitl [S0 S1 S2 S3 S4 S5 S6 S7 S8 S9 Hg]
  · isplitr [Hg]; swap; · iexact Hg
    isplitl [S0 S1 S2 S3 S4 S5 S6 S7]
    · iexists (fill0 (grid0.coords t) s0 y0); iexists (fill1 (grid0.coords t) s1 y0); iexists (fill2 (grid0.coords t) s2 y0); iexists (fill3 (grid0.coords t) s3 y0); iexists (fill4 (grid0.coords t) s4 y0); iexists (fill5 (grid0.coords t) s5 y0); iexists (fill6 (grid0.coords t) s6 y0); iexists (fill7 (grid0.coords t) s7 y0)
      isplitr; · ipureintro; exact hN
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [S8]; · iexact S8
    iexact S9
  isplitl [HO]; · iexact HO
  isplitl [H0]
  · iexists y0; isplitr; · ipureintro; trivial
    iexact H0
  isplitl [H1]
  · iexists z1; isplitr; · ipureintro; exact fun e => absurd e ht
    iexact H1
  isplitl [H2]
  · iexists z2; isplitr; · ipureintro; exact fun e => absurd e ht
    iexact H2
  isplitl [H3]
  · iexists z3; isplitr; · ipureintro; exact fun e => absurd e ht
    iexact H3
  isplitl [H4]
  · iexists z4; isplitr; · ipureintro; exact fun e => absurd e ht
    iexact H4
  isplitl [H5]
  · iexists z5; isplitr; · ipureintro; exact fun e => absurd e ht
    iexact H5
  isplitl [H6]
  · iexists z6; isplitr; · ipureintro; exact fun e => absurd e ht
    iexact H6
  isplitl [H7]
  · iexists z7; isplitr; · ipureintro; exact fun e => absurd e ht
    iexact H7
  iexists z8; isplitr; · ipureintro; exact fun e => absurd e ht
  iexact H8

set_option maxHeartbeats 1000000 in
/-- The last point's body. -/
theorem sound_last (c : Dev nD) (t : Fin cfg0.N) (ht : t.val = 9) (y0 : Vec Ideal S4x2048x117 .f32) (y1 : Vec Ideal S4x1 .i32) (y2 : Vec Ideal S4x100 .f32) (y3 : Vec Ideal S4x100 .f32) (y4 : Vec Ideal S4x100 .f32) (y5 : Vec Ideal S4x100 .f32) (y6 : Vec Ideal S4x100 .f32) (y7 : Vec Ideal S4x100 .i32) (y8 : Vec Ideal S4x100x32 .f32) (hM : Moved m c t y0) :
    iprop(Kept m c t.val ∗ (tdat m c).owesAt () t.castSucc ∗ owns (c : Thread nD τ) (win0_0.stage (cfg0.slots t 0)) fullShare y0 ∗ owns (c : Thread nD τ) (win0_1.stage (cfg0.slots t 1)) fullShare y1 ∗ owns (c : Thread nD τ) (win0_2.stage (cfg0.slots t 2)) fullShare y2 ∗ owns (c : Thread nD τ) (win0_3.stage (cfg0.slots t 3)) fullShare y3 ∗ owns (c : Thread nD τ) (win0_4.stage (cfg0.slots t 4)) fullShare y4 ∗ owns (c : Thread nD τ) (win0_5.stage (cfg0.slots t 5)) fullShare y5 ∗ owns (c : Thread nD τ) (win0_6.stage (cfg0.slots t 6)) fullShare y6 ∗ owns (c : Thread nD τ) (win0_7.stage (cfg0.slots t 7)) fullShare y7 ∗ owns (c : Thread nD τ) (win0_8.stage (cfg0.slots t 8)) fullShare y8)
      ⊢ wp frame (wpE (defs₀ (F := Ideal)) Variants.none c none) Set.univ (bodyAt0 t) fun _ =>
        iprop(Kept m c (t.val + 1) ∗ (tdat m c).owesAt () t.succ ∗ (∃ X, ⌜True⌝ ∗ owns (c : Thread nD τ) (win0_0.stage (cfg0.slots t 0)) fullShare X) ∗ (∃ X, ⌜ends1 m c t X⌝ ∗ owns (c : Thread nD τ) (win0_1.stage (cfg0.slots t 1)) fullShare X) ∗ (∃ X, ⌜ends2 m c t X⌝ ∗ owns (c : Thread nD τ) (win0_2.stage (cfg0.slots t 2)) fullShare X) ∗ (∃ X, ⌜ends3 m c t X⌝ ∗ owns (c : Thread nD τ) (win0_3.stage (cfg0.slots t 3)) fullShare X) ∗ (∃ X, ⌜ends4 m c t X⌝ ∗ owns (c : Thread nD τ) (win0_4.stage (cfg0.slots t 4)) fullShare X) ∗ (∃ X, ⌜ends5 m c t X⌝ ∗ owns (c : Thread nD τ) (win0_5.stage (cfg0.slots t 5)) fullShare X) ∗ (∃ X, ⌜ends6 m c t X⌝ ∗ owns (c : Thread nD τ) (win0_6.stage (cfg0.slots t 6)) fullShare X) ∗ (∃ X, ⌜ends7 m c t X⌝ ∗ owns (c : Thread nD τ) (win0_7.stage (cfg0.slots t 7)) fullShare X) ∗ (∃ X, ⌜ends8 m c t X⌝ ∗ owns (c : Thread nD τ) (win0_8.stage (cfg0.slots t 8)) fullShare X)) := by
  rw [show (tdat m c).owesAt () t.succ = (tdat m c).owesAt () t.castSucc from rfl]
  unfold Kept
  iintro ⟨⟨⟨⟨%s0, %s1, %s2, %s3, %s4, %s5, %s6, %s7, %hT, S0, S1, S2, S3, S4, S5, S6, S7⟩, S8, S9⟩, Hg⟩, HO, H0, H1, H2, H3, H4, H5, H6, H7, H8⟩
  have hN := hT.next y0 hM
  rw [ht] at hN
  have hc : PLift (k0_cond1 (grid0.coords t) = 1#1) := ⟨(cond1_coords t).2 ht⟩
  iapply (body_tail c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) hc y0 s0 s1 s2 s3 s4 s5 s6 s7 (fill0 (grid0.coords t) s0 y0) (fill1 (grid0.coords t) s1 y0) (fill2 (grid0.coords t) s2 y0) (fill3 (grid0.coords t) s3 y0) (fill4 (grid0.coords t) s4 y0) (fill5 (grid0.coords t) s5 y0) (fill6 (grid0.coords t) s6 y0) (fill7 (grid0.coords t) s7 y0) rfl rfl rfl rfl rfl rfl rfl rfl Set.univ _ _ (rounds_exact c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) hc.down (fill0 (grid0.coords t) s0 y0) (fill1 (grid0.coords t) s1 y0) (fill2 (grid0.coords t) s2 y0) (fill3 (grid0.coords t) s3 y0) (fill4 (grid0.coords t) s4 y0) (fill5 (grid0.coords t) s5 y0) (fill6 (grid0.coords t) s6 y0) (fill7 (grid0.coords t) s7 y0) Set.univ _))
  isplitl [H0]; · iexact H0
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, S0, S1, S2, S3, S4, S5, S6, S7, S8, S9, H1, H2, H3, H4, H5, H6, H7, ⟨%z8, %hz, H8⟩⟩
  isplitl [S0 S1 S2 S3 S4 S5 S6 S7 S8 S9 Hg]
  · isplitr [Hg]; swap; · iexact Hg
    isplitl [S0 S1 S2 S3 S4 S5 S6 S7]
    · iexists (fill0 (grid0.coords t) s0 y0); iexists (fill1 (grid0.coords t) s1 y0); iexists (fill2 (grid0.coords t) s2 y0); iexists (fill3 (grid0.coords t) s3 y0); iexists (fill4 (grid0.coords t) s4 y0); iexists (fill5 (grid0.coords t) s5 y0); iexists (fill6 (grid0.coords t) s6 y0); iexists (fill7 (grid0.coords t) s7 y0)
      isplitr; · ipureintro; rw [ht]; exact hN
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [S8]; · iexact S8
    iexact S9
  isplitl [HO]; · iexact HO
  isplitl [H0]
  · iexists y0; isplitr; · ipureintro; trivial
    iexact H0
  isplitl [H1]
  · iexists (k0_pay29 (result (fill0 (grid0.coords t) s0 y0) (fill1 (grid0.coords t) s1 y0) (fill2 (grid0.coords t) s2 y0) (fill3 (grid0.coords t) s3 y0) (fill4 (grid0.coords t) s4 y0) (fill5 (grid0.coords t) s5 y0) (fill6 (grid0.coords t) s6 y0)).1.1); isplitr; · ipureintro; exact fun _ => ⟨_, _, _, _, _, _, _, _, hN, rfl⟩
    iexact H1
  isplitl [H2]
  · iexists ((result (fill0 (grid0.coords t) s0 y0) (fill1 (grid0.coords t) s1 y0) (fill2 (grid0.coords t) s2 y0) (fill3 (grid0.coords t) s3 y0) (fill4 (grid0.coords t) s4 y0) (fill5 (grid0.coords t) s5 y0) (fill6 (grid0.coords t) s6 y0)).1.2.2.1); isplitr; · ipureintro; exact fun _ => ⟨_, _, _, _, _, _, _, _, hN, rfl⟩
    iexact H2
  isplitl [H3]
  · iexists ((result (fill0 (grid0.coords t) s0 y0) (fill1 (grid0.coords t) s1 y0) (fill2 (grid0.coords t) s2 y0) (fill3 (grid0.coords t) s3 y0) (fill4 (grid0.coords t) s4 y0) (fill5 (grid0.coords t) s5 y0) (fill6 (grid0.coords t) s6 y0)).1.2.2.2.1); isplitr; · ipureintro; exact fun _ => ⟨_, _, _, _, _, _, _, _, hN, rfl⟩
    iexact H3
  isplitl [H4]
  · iexists ((result (fill0 (grid0.coords t) s0 y0) (fill1 (grid0.coords t) s1 y0) (fill2 (grid0.coords t) s2 y0) (fill3 (grid0.coords t) s3 y0) (fill4 (grid0.coords t) s4 y0) (fill5 (grid0.coords t) s5 y0) (fill6 (grid0.coords t) s6 y0)).1.2.2.2.2.1); isplitr; · ipureintro; exact fun _ => ⟨_, _, _, _, _, _, _, _, hN, rfl⟩
    iexact H4
  isplitl [H5]
  · iexists ((result (fill0 (grid0.coords t) s0 y0) (fill1 (grid0.coords t) s1 y0) (fill2 (grid0.coords t) s2 y0) (fill3 (grid0.coords t) s3 y0) (fill4 (grid0.coords t) s4 y0) (fill5 (grid0.coords t) s5 y0) (fill6 (grid0.coords t) s6 y0)).1.2.2.2.2.2.1); isplitr; · ipureintro; exact fun _ => ⟨_, _, _, _, _, _, _, _, hN, rfl⟩
    iexact H5
  isplitl [H6]
  · iexists ((result (fill0 (grid0.coords t) s0 y0) (fill1 (grid0.coords t) s1 y0) (fill2 (grid0.coords t) s2 y0) (fill3 (grid0.coords t) s3 y0) (fill4 (grid0.coords t) s4 y0) (fill5 (grid0.coords t) s5 y0) (fill6 (grid0.coords t) s6 y0)).1.2.2.2.2.2.2.1); isplitr; · ipureintro; exact fun _ => ⟨_, _, _, _, _, _, _, _, hN, rfl⟩
    iexact H6
  isplitl [H7]
  · iexists ((result (fill0 (grid0.coords t) s0 y0) (fill1 (grid0.coords t) s1 y0) (fill2 (grid0.coords t) s2 y0) (fill3 (grid0.coords t) s3 y0) (fill4 (grid0.coords t) s4 y0) (fill5 (grid0.coords t) s5 y0) (fill6 (grid0.coords t) s6 y0)).1.2.2.2.2.2.2.2); isplitr; · ipureintro; exact fun _ => ⟨_, _, _, _, _, _, _, _, hN, rfl⟩
    iexact H7
  iexists z8; isplitr; · ipureintro; exact fun _ => ⟨_, _, _, _, _, _, _, _, hN, coef_at hz⟩
  iexact H8

/-- Window 0 moves at every point. -/
theorem fetch0 : ∀ t : Fin cfg0.N, (cfg0.win 0).fetch t = true := by decide +kernel

/-- The pipeline's obligation of the body. -/
theorem tracked (c : Dev nD) : (tdat m c).BodyObligation (defs₀ (F := Ideal)) Variants.none () Set.univ := fun t Y hY => by
  rw [bigSep_W0, bigSep_W0, defs₀_row]
  have hM : Moved m c t (Y 0) := ((tdat m c).finds_of_fetch (fetch0 t) (Y 0)).1 (hY 0)
  by_cases ht : t.val = 9
  · exact sound_last m c t ht (Y 0) (Y 1) (Y 2) (Y 3) (Y 4) (Y 5) (Y 6) (Y 7) (Y 8) hM
  · exact sound_copy m c t ht (Y 0) (Y 1) (Y 2) (Y 3) (Y 4) (Y 5) (Y 6) (Y 7) (Y 8) hM

/-- The tracking is entered at the first point. -/
theorem enter (c : Dev nD) : (Pipeline.ΦA spec0 c : sProp 𝕄) ⊢ (tdat m c).Φ 0 := by
  rw [show (tdat m c).Φ 0 = Kept m c 0 from rfl, Phi_eq]
  unfold Kept
  iintro ⟨⟨⟨%s0, S0⟩, ⟨%s1, S1⟩, ⟨%s2, S2⟩, ⟨%s3, S3⟩, ⟨%s4, S4⟩, ⟨%s5, S5⟩, ⟨%s6, S6⟩, ⟨%s7, S7⟩, S8, S9⟩, Hg⟩
  isplitr [Hg]; swap; · iexact Hg
  isplitl [S0 S1 S2 S3 S4 S5 S6 S7]
  · iexists s0; iexists s1; iexists s2; iexists s3; iexists s4; iexists s5; iexists s6; iexists s7
    isplitr; · ipureintro; exact Track.zero m c _ _ _ _ _ _ _ _
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [S8]; · iexact S8
  iexact S9

/-- The tracking is forgotten after the last point. -/
theorem leave (c : Dev nD) : (tdat m c).Φ (Fin.last cfg0.N) ⊢ (Pipeline.ΦA spec0 c : sProp 𝕄) := by
  rw [show (tdat m c).Φ (Fin.last cfg0.N) = Kept m c cfg0.N from rfl, Phi_eq]
  unfold Kept
  iintro ⟨⟨⟨%s0, %s1, %s2, %s3, %s4, %s5, %s6, %s7, %hT, S0, S1, S2, S3, S4, S5, S6, S7⟩, S8, S9⟩, Hg⟩
  isplitr [Hg]; swap; · iexact Hg
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexact S8
  iexact S9

set_option backward.isDefEq.respectTransparency.types false in
/-- The run: the pipeline's arrays as the data says, every counter at zero. -/
theorem run_tracked : θ_run defs (onTc (τ := τ) (main (F := Ideal))) (s₀ m ρ)
    (fun r => Pipeline.RDat.FramePost (cfgs 0) (fun c => tdat m c) (V m) r ∧ r.2.sem = fun _ => 0) :=
  Pipeline.RDat.θ_run_frame_track (Q' := _) cfgs (0 : Fin 1) launch0 defs₀ Variants.none (fun c => tdat m c) m ρ main
    (hbody := tracked m) (hshare := fun c => Pipeline.RDat.share_full (tdat m c) fun _ => rfl)
    (howed := fun _ _ => rfl) (V := V m) (hmain := hmain m Variants.none) (hA := fun _ _ => rfl) (hin := enter m) (hout := leave m)

end Cert.SelectIdeal.Pick

end
-- ==== Proof.SelRefVal.lean ====
/-
  One trip of the reference selection, read at an index over the extended reals: with the first largest entry of every
  masked row named, the gathered corners, the overlap of each box with the chosen one and the next active flags.
-/
module

public import proofs.«01_k».proof.Proof.SelMath
public import proofs.«01_k».proof.Proof.MaskRef

@[expose] public section

set_option maxRecDepth 16384

noncomputable section

namespace Cert.Proof.Sel

open Idealize.ShloMosaic Idealize.ShloMosaic.ValueIdx

/-- The overlap of two boxes, intersection over union with the small constant in the denominator. -/
def iou (lj tj rj bj l t r b : EReal) : EReal :=
  Ideal.div (max (min rj r - max lj l) 0 * max (min bj b - max tj t) 0)
    ((((rj - lj) * (bj - tj) + (r - l) * (b - t)) - max (min rj r - max lj l) 0 * max (min bj b - max tj t) 0)
      + (FloatOps.ofBits .f32 0x3089705F#32 : Ideal .f32))

theorem word_bot : (FloatOps.ofBits .f32 0xFF800000#32 : Ideal .f32) = (⊥ : EReal) := by
  rw [Ideal.ofBits_def]; simp [Ideal.ofBits, Ideal.ieee]

theorem zero_word : (FloatOps.ofBits .f32 0x00000000#32 : Ideal .f32) = (0 : EReal) := by
  rw [Cert.Proof.Mask.word_zero]; rfl

section Ref
open Cert.SelectRefIdeal Cert.SelectRefIdeal.Facts₀ Cert.SelectRefIdeal.Facts Cert.SelectRefIdeal.Step

/-- The gathered element of each batch row. -/
theorem gather_row {α : Type} (x : S4x20000.Idx → α) (idx : IVec S4x2 32) (b : Fin 4) (n0 : Fin 4) (n1 : Fin 20000)
    (h0 : idx (ix2 b 0) = BitVec.ofNat 32 n0) (h1 : idx (ix2 b 1) = BitVec.ofNat 32 n1) :
    Host.gather gather_S4x20000_S4x2_S4_n_01_n_n_01_1_11 x idx (ix1 b) = x (ix2 n0 n1) := by
  unfold Host.gather
  congr 1
  have hsi : ∀ (k : Fin gather_S4x20000_S4x2_S4_n_01_n_n_01_1_11.startIndexMap.length) (k' : Fin 2), k.val = k'.val → gather_S4x20000_S4x2_S4_n_01_n_n_01_1_11.siIdx (ix1 b) k = ix2 b k' := by
    intro k k' e
    funext a; refine Fin.ext ?_
    match a with
    | ⟨0, _⟩ => rfl
    | ⟨1, _⟩ => exact e
  have hoff : ∀ a : Fin 2, a ∈ gather_S4x20000_S4x2_S4_n_01_n_n_01_1_11.collapsedSliceDims → gather_S4x20000_S4x2_S4_n_01_n_n_01_1_11.offCoord (ix1 b) a = 0 := fun a ha =>
    GatherDims.offCoord_eq_zero _ _ _ (fun h => ((GatherDims.mem_sKept _ _).mp h).1 ha)
  funext a; refine Fin.ext ?_
  show gather_S4x20000_S4x2_S4_n_01_n_n_01_1_11.start (ix1 b) idx a + gather_S4x20000_S4x2_S4_n_01_n_n_01_1_11.batchCoord (ix1 b) a + gather_S4x20000_S4x2_S4_n_01_n_n_01_1_11.offCoord (ix1 b) a = _
  rw [GatherDims.batchCoord_eq_zero _ _ _ List.not_mem_nil, Nat.add_zero]
  match a with
  | ⟨0, _⟩ =>
    have e : gather_S4x20000_S4x2_S4_n_01_n_n_01_1_11.start (ix1 b) idx 0 = min (idx (ix2 b 0)).toInt.toNat (4 - 1) := by
      unfold GatherDims.start
      rw [dif_pos (show (0 : Fin 2) ∈ gather_S4x20000_S4x2_S4_n_01_n_n_01_1_11.startIndexMap by decide)]
      exact congrArg (fun j => min (idx j).toInt.toNat (4 - 1)) (hsi _ 0 (by decide))
    show gather_S4x20000_S4x2_S4_n_01_n_n_01_1_11.start (ix1 b) idx 0 + gather_S4x20000_S4x2_S4_n_01_n_n_01_1_11.offCoord (ix1 b) 0 = n0.val
    rw [hoff 0 (by decide), e, h0, toInt_ofNat (by omega)]
    omega
  | ⟨1, _⟩ =>
    have e : gather_S4x20000_S4x2_S4_n_01_n_n_01_1_11.start (ix1 b) idx 1 = min (idx (ix2 b 1)).toInt.toNat (20000 - 1) := by
      unfold GatherDims.start
      rw [dif_pos (show (1 : Fin 2) ∈ gather_S4x20000_S4x2_S4_n_01_n_n_01_1_11.startIndexMap by decide)]
      exact congrArg (fun j => min (idx j).toInt.toNat (20000 - 1)) (hsi _ 1 (by decide))
    show gather_S4x20000_S4x2_S4_n_01_n_n_01_1_11.start (ix1 b) idx 1 + gather_S4x20000_S4x2_S4_n_01_n_n_01_1_11.offCoord (ix1 b) 1 = n1.val
    rw [hoff 1 (by decide), e, h1, toInt_ofNat (by omega)]
    omega

/-- Two index columns side by side. -/
theorem concat2 (u0 u1 : IVec S4x1 32) (h : Shape.Concatenates (([⟨S4x1, u0⟩, ⟨S4x1, u1⟩] : List ((s : Shape) × (s.Idx → BitVec 32))).map (·.1)) S4x2 1)
    (b : Fin 4) : concatenate S4x2 1 [⟨S4x1, u0⟩, ⟨S4x1, u1⟩] h (ix2 b 0) = u0 (ix2 b 0)
      ∧ concatenate S4x2 1 [⟨S4x1, u0⟩, ⟨S4x1, u1⟩] h (ix2 b 1) = u1 (ix2 b 0) := by
  have off : ∀ (k : Fin 2) (a : Fin 2), a.cast (rfl : S4x1.rank = S4x2.rank) ≠ (1 : Fin 2) →
      ((ix2 b (0 : Fin 1) : S4x1.Idx) a).val = ((ix2 b k : S4x2.Idx) (a.cast rfl)).val := by
    intro k a ha
    match a with
    | ⟨0, _⟩ => rfl
    | ⟨1, _⟩ => exact absurd rfl ha
  exact ⟨concatenate_apply_piece 1 _ h _ 0 (by simp) S4x1 u0 rfl rfl 0 (by rfl) _ (off 0) (by rfl),
    concatenate_apply_piece 1 _ h _ 1 (by simp) S4x1 u1 rfl rfl 1 (by rfl) _ (off 1) (by rfl)⟩

variable (k : ℕ) (s : State Ideal) (J : Fin 4 → Fin 20000)

/-- The chosen index of every batch row. -/
theorem chosen (hJ : ∀ b, IsFirst (fun c => b3 k s (ix2 b c)) (J b)) (b : Fin 4) :
    b8 k s (ix1 b) = BitVec.ofNat 32 (J b).val := by
  have hr : S4x20000.Reduces [1] S4 := by decide
  have hl : ∀ c : Fin 20000, hr.lift (ix1 b) c = ix2 b c := fun c => by
    funext a; match a with | ⟨0, _⟩ => rfl | ⟨1, _⟩ => rfl
  have := argmax_row reducesTo_S4x20000_S4_d1 hr h_S_ (b3 k s) (b4 k s) (b5 k s) (b6 k s) (ix1 b) (fun _ => word_bot) (fun _ => rfl) (by decide)
    (fun c => (congrArg (b4 k s) (hl c)).trans rfl) (J b) (by
      have e : (fun c => b3 k s (hr.lift (ix1 b) c)) = fun c : Fin 20000 => b3 k s (ix2 b c) := funext fun c => congrArg (b3 k s) (hl c)
      exact (congrArg (fun f => IsFirst f (J b)) e).mpr (hJ b))
  exact congrArg Prod.snd this

/-- A gather at the chosen indices. -/
theorem gather_chosen {α : Type} (hJ : ∀ b, IsFirst (fun c => b3 k s (ix2 b c)) (J b)) (x : S4x20000.Idx → α) (b : Fin 4) :
    Host.gather gather_S4x20000_S4x2_S4_n_01_n_n_01_1_11 x (b12 k s) (ix1 b) = x (ix2 b (J b)) := by
  obtain ⟨h0, h1⟩ := concat2 (b10 k s) (b11 k s) concatenates_S4x1_S4x1_S4x2_d1 b
  refine gather_row x _ b b (J b) (h0.trans ?_) (h1.trans ?_)
  · rfl
  · exact (congrArg (b8 k s) (by funext a; match a with | ⟨0, _⟩ => rfl)).trans (chosen k s J hJ b)

/-- Whether the chosen box counts. -/
theorem valid_ref (hJ : ∀ b, IsFirst (fun c => b3 k s (ix2 b c)) (J b)) (b : Fin 4) :
    b16 k s (ix1 b) = Ideal.cmp .ogt (b3 k s (ix2 b (J b))) (FloatOps.ofBits .f32 0x3E800000#32 : Ideal .f32) := by
  show Ideal.cmp .ogt (Host.gather gather_S4x20000_S4x2_S4_n_01_n_n_01_1_11 (b3 k s) (b12 k s) (ix1 b)) _ = _
  rw [gather_chosen k s J hJ]; rfl

/-- A column spread along the rows. -/
theorem spread_row {α : Type} (x : S4x1.Idx → α) (b : Fin 4) (c : Fin 20000) :
    broadcastInDim S4x20000 ![0, 1] bcast_S4x1_S4x20000_0_1 x (ix2 b c) = x (ix2 b 0) :=
  congrArg x (by funext a; match a with | ⟨0, _⟩ => rfl | ⟨1, _⟩ => rfl)

/-- A vector as a column. -/
theorem as_column {α : Type} (x : S4.Idx → α) (b : Fin 4) :
    broadcastInDim S4x1 ![0] bcast_S4_S4x1_0 x (ix2 b 0) = x (ix1 b) :=
  congrArg x (by funext a; match a with | ⟨0, _⟩ => rfl)

/-- A corner of the chosen box. -/
theorem corner (hJ : ∀ b, IsFirst (fun c => b3 k s (ix2 b c)) (J b)) (b : Fin 4) :
    b22 k s (ix2 b 0) = s.main_v29_1 (ix2 b (J b)) ∧ b28 k s (ix2 b 0) = s.main_v29_2 (ix2 b (J b))
      ∧ b34 k s (ix2 b 0) = s.main_v29_3 (ix2 b (J b)) ∧ b40 k s (ix2 b 0) = s.main_v29_4 (ix2 b (J b)) := by
  refine ⟨?_, ?_, ?_, ?_⟩
  · unfold b22; rw [as_column]; exact gather_chosen k s J hJ _ b
  · unfold b28; rw [as_column]; exact gather_chosen k s J hJ _ b
  · unfold b34; rw [as_column]; exact gather_chosen k s J hJ _ b
  · unfold b40; rw [as_column]; exact gather_chosen k s J hJ _ b

/-- The overlap area with the chosen box. -/
theorem inter_ref (hJ : ∀ b, IsFirst (fun c => b3 k s (ix2 b c)) (J b)) (b : Fin 4) (c : Fin 20000) :
    b57 k s (ix2 b c) = max (min (s.main_v29_3 (ix2 b (J b))) (s.main_v29_3 (ix2 b c)) - max (s.main_v29_1 (ix2 b (J b))) (s.main_v29_1 (ix2 b c))) 0
      * max (min (s.main_v29_4 (ix2 b (J b))) (s.main_v29_4 (ix2 b c)) - max (s.main_v29_2 (ix2 b (J b))) (s.main_v29_2 (ix2 b c))) 0 := by
  obtain ⟨g1, g2, g3, g4⟩ := corner k s J hJ b
  have e41 : b41 k s (ix2 b c) = s.main_v29_3 (ix2 b (J b)) := by unfold b41; rw [spread_row]; exact g3
  have e43 : b43 k s (ix2 b c) = s.main_v29_1 (ix2 b (J b)) := by unfold b43; rw [spread_row]; exact g1
  have e49 : b49 k s (ix2 b c) = s.main_v29_4 (ix2 b (J b)) := by unfold b49; rw [spread_row]; exact g4
  have e51 : b51 k s (ix2 b c) = s.main_v29_2 (ix2 b (J b)) := by unfold b51; rw [spread_row]; exact g2
  have e : b57 k s (ix2 b c) = max (min (b41 k s (ix2 b c)) (s.main_v29_3 (ix2 b c)) - max (b43 k s (ix2 b c)) (s.main_v29_1 (ix2 b c))) (FloatOps.ofBits .f32 0x00000000#32 : Ideal .f32)
    * max (min (b49 k s (ix2 b c)) (s.main_v29_4 (ix2 b c)) - max (b51 k s (ix2 b c)) (s.main_v29_2 (ix2 b c))) (FloatOps.ofBits .f32 0x00000000#32 : Ideal .f32) := by
    unfold b57 b48 b56 b45 b53 b42 b44 b50 b52 b47 b55 b46 b54
    rfl
  rw [e, e41, e43, e49, e51, zero_word]

/-- The next active flags. -/
theorem active_ref (hJ : ∀ b, IsFirst (fun c => b3 k s (ix2 b c)) (J b)) (b : Fin 4) (c : Fin 20000) :
    b81 k s (ix2 b c) = IntOp.andi (IntOp.andi (s.main_v29_6 (ix2 b c))
      (Ideal.cmp .ole (iou (s.main_v29_1 (ix2 b (J b))) (s.main_v29_2 (ix2 b (J b))) (s.main_v29_3 (ix2 b (J b))) (s.main_v29_4 (ix2 b (J b)))
        (s.main_v29_1 (ix2 b c)) (s.main_v29_2 (ix2 b c)) (s.main_v29_3 (ix2 b c)) (s.main_v29_4 (ix2 b c)))
        (FloatOps.ofBits .f32 0x3EE66666#32 : Ideal .f32))) (IntOp.cmpi .ne (BitVec.ofNat 32 c.val) (BitVec.ofNat 32 (J b).val)) := by
  obtain ⟨g1, g2, g3, g4⟩ := corner k s J hJ b
  have e64 : b64 k s (ix2 b c) = (s.main_v29_3 (ix2 b (J b)) - s.main_v29_1 (ix2 b (J b))) * (s.main_v29_4 (ix2 b (J b)) - s.main_v29_2 (ix2 b (J b))) := by
    unfold b64; rw [spread_row]
    rw [← g1, ← g2, ← g3, ← g4]; unfold b60 b58 b59; rfl
  have e57 := inter_ref k s J hJ b c
  have e79 : b79 k s (ix2 b c) = BitVec.ofNat 32 (J b).val := by
    unfold b79 b76; rw [spread_row, as_column]; exact chosen k s J hJ b
  have e78 : b78 k s (ix2 b c) = BitVec.ofNat 32 c.val := by
    unfold b78 b77 b71; rfl
  have e : b81 k s (ix2 b c) = IntOp.andi (IntOp.andi (s.main_v29_6 (ix2 b c)) (Ideal.cmp .ole (Ideal.div (b57 k s (ix2 b c)) (((b64 k s (ix2 b c)
    + (s.main_v29_3 (ix2 b c) - s.main_v29_1 (ix2 b c)) * (s.main_v29_4 (ix2 b c) - s.main_v29_2 (ix2 b c))) - b57 k s (ix2 b c))
      + (FloatOps.ofBits .f32 0x3089705F#32 : Ideal .f32))) (FloatOps.ofBits .f32 0x3EE66666#32 : Ideal .f32))) (IntOp.cmpi .ne (b78 k s (ix2 b c)) (b79 k s (ix2 b c))) := by
    unfold b81 b75 b74 b70 b69 b66 b65 b63 b61 b62 b80 b73 b72 b68 b67
    rfl
  rw [e, e57, e64, e78, e79]
  rfl

/-- A row written into the table of rows. -/
theorem row_update {α : Type} (x : S100x4.Idx → α) (u : S1x4.Idx → α) (hk : k < 100) (z : (⟨S_, .i32⟩ : BufTy).Contents (Elt Ideal)) (hz : ∀ q, z q = 0#32)
    (r : Fin 100) (b : Fin 4) :
    Host.dynamicUpdateSlice x u (fun q => (((![(constantI S_ 32 (BitVec.ofNat 32 k) : (⟨S_, .i32⟩ : BufTy).Contents (Elt Ideal)), z] :
      Fin 2 → (⟨S_, .i32⟩ : BufTy).Contents (Elt Ideal))) q (Shape.Idx.first h_S_)).toInt) updateFits_S100x4_S1x4 (ix2 r b)
      = if r.val = k then u (ix2 0 b) else x (ix2 r b) := by
  have h0 : ((BitVec.ofNat 32 k).toInt) = (k : ℤ) := toInt_ofNat (by omega)
  unfold Host.dynamicUpdateSlice updateSlice
  have a0 : (min (max ((BitVec.ofNat 32 k).toInt) 0) ((100 - 1 : ℕ) : ℤ)).toNat = k := by rw [h0]; omega
  have a1 : (min (max ((z (Shape.Idx.first h_S_)).toInt) 0) ((4 - 4 : ℕ) : ℤ)).toNat = 0 := by rw [hz]; rfl
  by_cases hr : r.val = k
  · rw [if_pos hr]
    split
    · congr 1
      funext a; refine Fin.ext ?_
      match a with
      | ⟨0, _⟩ => show r.val - (min (max ((BitVec.ofNat 32 k).toInt) 0) ((100 - 1 : ℕ) : ℤ)).toNat = 0; rw [a0]; omega
      | ⟨1, _⟩ => show b.val - (min (max ((z (Shape.Idx.first h_S_)).toInt) 0) ((4 - 4 : ℕ) : ℤ)).toNat = b.val; rw [a1]; omega
    · rename_i hn
      refine absurd ?_ hn
      intro a
      match a with
      | ⟨0, _⟩ =>
        show (min (max ((BitVec.ofNat 32 k).toInt) 0) ((100 - 1 : ℕ) : ℤ)).toNat ≤ r.val ∧ r.val < (min (max ((BitVec.ofNat 32 k).toInt) 0) ((100 - 1 : ℕ) : ℤ)).toNat + 1
        rw [a0]; omega
      | ⟨1, _⟩ =>
        show (min (max ((z (Shape.Idx.first h_S_)).toInt) 0) ((4 - 4 : ℕ) : ℤ)).toNat ≤ b.val ∧ b.val < (min (max ((z (Shape.Idx.first h_S_)).toInt) 0) ((4 - 4 : ℕ) : ℤ)).toNat + 4
        rw [a1]; omega
  · rw [if_neg hr]
    split
    · rename_i hin
      have q : (min (max ((BitVec.ofNat 32 k).toInt) 0) ((100 - 1 : ℕ) : ℤ)).toNat ≤ r.val ∧ r.val < (min (max ((BitVec.ofNat 32 k).toInt) 0) ((100 - 1 : ℕ) : ℤ)).toNat + 1 := hin 0
      rw [a0] at q; omega
    · rfl

end Ref

end Cert.Proof.Sel

end
-- ==== Proof.SelStep.lean ====
/-
  One round of the selection kernel, read at an index over the extended reals: with the first largest entry of every
  masked row named, the values taken from it and the next active columns.
-/
module

public import proofs.«01_k».proof.Proof.SelMath
public import proofs.«01_k».proof.Proof.SelRefVal
public import proofs.«01_k».proof.Proof.Gen.SelectIdeal.Skeleton

@[expose] public section

set_option maxRecDepth 16384

noncomputable section

namespace Cert.Proof.Sel

open Idealize.ShloMosaic Idealize.ShloMosaic.ValueIdx Cert.SelectIdeal Cert.SelectIdeal.Gen

theorem word_one' : (FloatOps.ofBits .f32 0x3F800000#32 : Ideal .f32) = (1 : EReal) := by
  rw [Cert.Proof.Mask.word_one]; rfl

theorem lift_row (b : Fin 4) (c : Fin 20480) : reduces_S4x20480_S4.lift (ix1 b) c = ix2 b c := by
  funext a; match a with | ⟨0, _⟩ => rfl | ⟨1, _⟩ => rfl

/-- A vector as a column. -/
theorem cast_column {α : Type} (x : S4.Idx → α) (h : S4.ShapeCasts S4x1) (b : Fin 4) : shapeCast S4x1 x h (ix2 b 0) = x (ix1 b) :=
  shapeCast_apply _ _ (ix2 b 0) (ix1 b) (by
    rw [Shape.rowMajor_val_two, Shape.rowMajor_val_one]; show b.val = b.val * 1 + (0 : Fin 1).val; simp)

/-- A column as a vector. -/
theorem uncast_column {α : Type} (x : S4x1.Idx → α) (h : S4x1.ShapeCasts S4) (b : Fin 4) : shapeCast S4 x h (ix1 b) = x (ix2 b 0) :=
  shapeCast_apply _ _ (ix1 b) (ix2 b 0) (by
    rw [Shape.rowMajor_val_two, Shape.rowMajor_val_one]; show b.val * 1 + (0 : Fin 1).val = b.val; simp)

/-- A column spread along the scratch rows. -/
theorem spread_wide {α : Type} (x : S4x1.Idx → α) (b : Fin 4) (c : Fin 20480) : broadcastTo S4x20480 x broadcasts_S4x1_S4x20480 (ix2 b c) = x (ix2 b 0) :=
  broadcastTo_apply _ _ _ _ (fun a => by match a with | ⟨0, _⟩ => rfl | ⟨1, _⟩ => rfl)

/-- A column spread along the result rows. -/
theorem spread_out {α : Type} (x : S4x1.Idx → α) (b : Fin 4) (r : Fin 100) : broadcastTo S4x100 x broadcasts_S4x1_S4x100 (ix2 b r) = x (ix2 b 0) :=
  broadcastTo_apply _ _ _ _ (fun a => by match a with | ⟨0, _⟩ => rfl | ⟨1, _⟩ => rfl)

theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

variable (v89 : Vec Ideal S4x20480 .f32) (v90 : IVec S4x20480 32) (cst : Ideal .f32) (a : Vec Ideal S4x20480 .f32) (J : Fin 4 → Fin 20480)

/-- The masked scores at an index. -/
theorem masked_apply (i : S4x20480.Idx) : k0_pay2 v89 cst a i = if (0 : EReal) < a i then v89 i else cst := by
  refine Eq.trans (b := Scalar.select (BitVec.ofBool (decide ((FloatOps.ofBits .f32 0x00000000#32 : Ideal .f32) < a i))) (v89 i) cst) rfl ?_
  rw [zero_word, select_ofBool]

/-- The largest masked score of each row. -/
theorem first_value (hJ : ∀ b, IsFirst (fun c => k0_pay2 v89 cst a (ix2 b c)) (J b)) (b : Fin 4) :
    k0_pay3 v89 cst a (ix2 b 0) = k0_pay2 v89 cst a (ix2 b (J b)) := by
  unfold k0_pay3
  refine (cast_column _ shapeCasts_S4_S4x1 b).trans ?_
  refine (Ideal.multiReduction_maximumf_single _ _ reduces_S4x20480_S4 _ _ _).trans ?_
  rw [word_bot]
  have e : (k0_pay2 v89 cst a ∘ reduces_S4x20480_S4.lift (ix1 b)) = fun c : Fin 20480 => k0_pay2 v89 cst a (ix2 b c) :=
    funext fun c => congrArg (k0_pay2 v89 cst a) (lift_row b c)
  exact (congrArg (Finset.univ.fold max (⊥ : EReal)) e).trans (fold_max (hJ b))

/-- The first column of the largest masked score of each row. -/
theorem first_index (hv : ∀ b c, v90 (ix2 b c) = BitVec.ofNat 32 c.val) (hJ : ∀ b, IsFirst (fun c => k0_pay2 v89 cst a (ix2 b c)) (J b)) (b : Fin 4) :
    k0_pay4 v89 v90 cst a (ix2 b 0) = BitVec.ofNat 32 (J b).val := by
  unfold k0_pay4
  refine (cast_column _ shapeCasts_S4_S4x1 b).trans ?_
  refine (multiReductionI_eq_fold .minsi _ _ reduces_S4x20480_S4 rfl (ix1 b)).trans ?_
  refine (Shape.Reduces.fold_filter_drop_single reduces_S4x20480_S4 IntOp.minsi _ _ (ix1 b)).trans ?_
  refine fold_first (hJ b) (by norm_num) _ fun c => ?_
  refine Eq.trans (b := Scalar.select (BitVec.ofBool (decide (k0_pay2 v89 cst a (ix2 b c) = broadcastTo S4x20480 (k0_pay3 v89 cst a) broadcasts_S4x1_S4x20480 (ix2 b c))))
    (v90 (ix2 b c)) 20480#32) ?_ ?_
  · show select _ _ _ (reduces_S4x20480_S4.lift (ix1 b) c) = _
    rw [lift_row]; rfl
  · rw [select_ofBool, spread_wide, first_value v89 cst a J hJ, hv]

/-- The mark of the chosen column. -/
theorem mark_apply (hv : ∀ b c, v90 (ix2 b c) = BitVec.ofNat 32 c.val) (hJ : ∀ b, IsFirst (fun c => k0_pay2 v89 cst a (ix2 b c)) (J b)) (b : Fin 4) (c : Fin 20480) :
    k0_pay5 v89 v90 cst a (ix2 b c) = BitVec.ofBool (decide (c = J b)) := by
  refine Eq.trans (b := IntOp.cmpi .eq (v90 (ix2 b c)) (broadcastTo S4x20480 (k0_pay4 v89 v90 cst a) broadcasts_S4x1_S4x20480 (ix2 b c))) rfl ?_
  rw [spread_wide, first_index v89 v90 cst a J hv hJ, hv]
  show BitVec.ofBool (BitVec.ofNat 32 c.val == BitVec.ofNat 32 (J b).val) = _
  congr 1
  rw [beq_eq_decide, decide_eq_decide, ofNat_inj (by omega) (by omega)]
  exact ⟨fun h => Fin.ext h, fun h => by rw [h]⟩

/-- The entry of an array in the chosen column, as the marked sum takes it. -/
theorem marked_sum (hv : ∀ b c, v90 (ix2 b c) = BitVec.ofNat 32 c.val) (hJ : ∀ b, IsFirst (fun c => k0_pay2 v89 cst a (ix2 b c)) (J b))
    (x : Vec Ideal S4x20480 .f32) (b : Fin 4) :
    shapeCast S4x1 (multiReduction .add [1] S4 (select (k0_pay5 v89 v90 cst a) x (broadcast S4x20480 (Scalar.ofBits .f32 0x00000000#32 : Ideal .f32))) 0x00000000#32 reduces_S4x20480_S4 (.inl rfl) rfl : FVec Ideal S4 .f32)
      shapeCasts_S4_S4x1 (ix2 b 0) = x (ix2 b (J b)) := by
  refine (cast_column _ shapeCasts_S4_S4x1 b).trans ?_
  refine (Ideal.multiReduction_add_single _ _ reduces_S4x20480_S4 _ _ _).trans ?_
  have e : ∀ c : Fin 20480, select (k0_pay5 v89 v90 cst a) x (broadcast S4x20480 (Scalar.ofBits .f32 0x00000000#32 : Ideal .f32)) (reduces_S4x20480_S4.lift (ix1 b) c)
      = if c = J b then x (ix2 b (J b)) else (0 : EReal) := fun c => by
    rw [lift_row]
    show Scalar.select (k0_pay5 v89 v90 cst a (ix2 b c)) (x (ix2 b c)) (FloatOps.ofBits .f32 0x00000000#32 : Ideal .f32) = _
    rw [mark_apply v89 v90 cst a J hv hJ, select_ofBool, zero_word]
    by_cases h : c = J b
    · rw [if_pos h, if_pos h, h]
    · rw [if_neg h, if_neg h]
  refine (Finset.sum_congr rfl fun c _ => e c).trans ?_
  exact (Finset.sum_ite_eq' (Finset.univ : Finset (Fin 20480)) (J b) fun _ => x (ix2 b (J b))).trans (if_pos (Finset.mem_univ _))

theorem taken7 (hv : ∀ b c, v90 (ix2 b c) = BitVec.ofNat 32 c.val) (hJ : ∀ b, IsFirst (fun c => k0_pay2 v89 cst a (ix2 b c)) (J b)) (x : Vec Ideal S4x20480 .f32) (b : Fin 4) :
    k0_pay7 v89 v90 x cst a (ix2 b 0) = x (ix2 b (J b)) := marked_sum v89 v90 cst a J hv hJ x b
theorem taken8 (hv : ∀ b c, v90 (ix2 b c) = BitVec.ofNat 32 c.val) (hJ : ∀ b, IsFirst (fun c => k0_pay2 v89 cst a (ix2 b c)) (J b)) (x : Vec Ideal S4x20480 .f32) (b : Fin 4) :
    k0_pay8 v89 v90 x cst a (ix2 b 0) = x (ix2 b (J b)) := marked_sum v89 v90 cst a J hv hJ x b
theorem taken9 (hv : ∀ b c, v90 (ix2 b c) = BitVec.ofNat 32 c.val) (hJ : ∀ b, IsFirst (fun c => k0_pay2 v89 cst a (ix2 b c)) (J b)) (x : Vec Ideal S4x20480 .f32) (b : Fin 4) :
    k0_pay9 v89 v90 x cst a (ix2 b 0) = x (ix2 b (J b)) := marked_sum v89 v90 cst a J hv hJ x b
theorem taken10 (hv : ∀ b c, v90 (ix2 b c) = BitVec.ofNat 32 c.val) (hJ : ∀ b, IsFirst (fun c => k0_pay2 v89 cst a (ix2 b c)) (J b)) (x : Vec Ideal S4x20480 .f32) (b : Fin 4) :
    k0_pay10 v89 v90 x cst a (ix2 b 0) = x (ix2 b (J b)) := marked_sum v89 v90 cst a J hv hJ x b

/-- The class word in the chosen column. -/
theorem taken_word (hv : ∀ b c, v90 (ix2 b c) = BitVec.ofNat 32 c.val) (hJ : ∀ b, IsFirst (fun c => k0_pay2 v89 cst a (ix2 b c)) (J b)) (x : Vec Ideal S4x20480 .i32) (b : Fin 4) :
    k0_pay11 v89 v90 x cst a (ix2 b 0) = x (ix2 b (J b)) := by
  unfold k0_pay11
  refine (cast_column _ shapeCasts_S4_S4x1 b).trans ?_
  refine (multiReductionI_eq_fold .add _ _ reduces_S4x20480_S4 rfl (ix1 b)).trans ?_
  refine (Shape.Reduces.fold_filter_drop_single reduces_S4x20480_S4 IntOp.addi _ _ (ix1 b)).trans ?_
  have q := fun c => mark_apply v89 v90 cst a J hv hJ b c
  revert q
  generalize k0_pay5 v89 v90 cst a = P
  intro q
  have e1 : ∀ c : Fin 20480, Scalar.select (P (ix2 b c)) (x (ix2 b c)) 0#32 = if c = J b then x (ix2 b c) else 0#32 := fun c => by rw [q, select_ofBool]
  have e : (select P x (broadcast S4x20480 0#32) ∘ reduces_S4x20480_S4.lift (ix1 b)) = fun c : Fin 20480 => if c = J b then x (ix2 b c) else 0#32 :=
    funext fun c => (congrArg (select P x (broadcast S4x20480 0#32)) (lift_row b c)).trans
      (Eq.trans (b := Scalar.select (P (ix2 b c)) (x (ix2 b c)) 0#32) rfl (e1 c))
  refine (congrArg (Finset.univ.fold IntOp.addi 0#32) e).trans ?_
  exact (fold_addi (J b) (fun c => x (ix2 b c)) Finset.univ).trans (if_pos (Finset.mem_univ _))

/-- Whether the chosen box counts. -/
theorem valid_apply (hJ : ∀ b, IsFirst (fun c => k0_pay2 v89 cst a (ix2 b c)) (J b)) (b : Fin 4) :
    k0_pay6 v89 cst a (ix2 b 0) = Ideal.cmp .ogt (k0_pay2 v89 cst a (ix2 b (J b))) (FloatOps.ofBits .f32 0x3E800000#32 : Ideal .f32) := by
  rw [← first_value v89 cst a J hJ]
  unfold k0_pay6
  generalize k0_pay3 v89 cst a = P
  rfl

/-- The next active columns, as a bit. -/
theorem active_apply (hv : ∀ b c, v90 (ix2 b c) = BitVec.ofNat 32 c.val) (hJ : ∀ b, IsFirst (fun c => k0_pay2 v89 cst a (ix2 b c)) (J b))
    (x1 y1 x2 y2 ar : Vec Ideal S4x20480 .f32) (har : ∀ i, ar i = (x2 i - x1 i) * (y2 i - y1 i)) (b : Fin 4) (c : Fin 20480) :
    k0_pay15 x2 y2 ar a (k0_pay5 v89 v90 cst a) (k0_pay7 v89 v90 x1 cst a) (k0_pay8 v89 v90 y1 cst a) (k0_pay9 v89 v90 x2 cst a) (k0_pay10 v89 v90 y2 cst a)
        (k0_pay12 v89 v90 x1 cst a) (k0_pay13 v89 v90 y1 cst a) (k0_pay14 v89 v90 x2 cst a) (ix2 b c)
      = Scalar.select (IntOp.andi (IntOp.andi (Ideal.cmp .ogt (a (ix2 b c)) (0 : EReal))
          (Ideal.cmp .ole (iou (x1 (ix2 b (J b))) (y1 (ix2 b (J b))) (x2 (ix2 b (J b))) (y2 (ix2 b (J b))) (x1 (ix2 b c)) (y1 (ix2 b c)) (x2 (ix2 b c)) (y2 (ix2 b c)))
            (FloatOps.ofBits .f32 0x3EE66666#32 : Ideal .f32))) (IntOp.xori (BitVec.ofBool (decide (c = J b))) 1#1)) (1 : EReal) (0 : EReal) := by
  have p1 := taken7 v89 v90 cst a J hv hJ x1 b
  have p2 := taken8 v89 v90 cst a J hv hJ y1 b
  have p3 := taken9 v89 v90 cst a J hv hJ x2 b
  have p4 := taken10 v89 v90 cst a J hv hJ y2 b
  have q12 : k0_pay12 v89 v90 x1 cst a (ix2 b c) = max (x1 (ix2 b (J b))) (x1 (ix2 b c)) := by
    refine Eq.trans (b := max (broadcastTo S4x20480 (k0_pay7 v89 v90 x1 cst a) broadcasts_S4x1_S4x20480 (ix2 b c) : EReal) (x1 (ix2 b c))) rfl ?_
    rw [spread_wide, p1]
  have q13 : k0_pay13 v89 v90 y1 cst a (ix2 b c) = max (y1 (ix2 b (J b))) (y1 (ix2 b c)) := by
    refine Eq.trans (b := max (broadcastTo S4x20480 (k0_pay8 v89 v90 y1 cst a) broadcasts_S4x1_S4x20480 (ix2 b c) : EReal) (y1 (ix2 b c))) rfl ?_
    rw [spread_wide, p2]
  have q14 : k0_pay14 v89 v90 x2 cst a (ix2 b c) = x2 (ix2 b (J b)) := by
    refine Eq.trans (b := broadcastTo S4x20480 (k0_pay9 v89 v90 x2 cst a) broadcasts_S4x1_S4x20480 (ix2 b c)) rfl ?_
    rw [spread_wide, p3]
  have q5 := mark_apply v89 v90 cst a J hv hJ b c
  revert p1 p2 p3 p4 q12 q13 q14 q5
  generalize k0_pay7 v89 v90 x1 cst a = P7
  generalize k0_pay8 v89 v90 y1 cst a = P8
  generalize k0_pay9 v89 v90 x2 cst a = P9
  generalize k0_pay10 v89 v90 y2 cst a = P10
  generalize k0_pay12 v89 v90 x1 cst a = P12
  generalize k0_pay13 v89 v90 y1 cst a = P13
  generalize k0_pay14 v89 v90 x2 cst a = P14
  generalize k0_pay5 v89 v90 cst a = P5
  intro p1 p2 p3 p4 q12 q13 q14 q5
  unfold k0_pay15
  rw [shapeCast_self]
  refine Eq.trans (b := Scalar.select (IntOp.andi (IntOp.andi (Ideal.cmp .ogt (a (ix2 b c)) (FloatOps.ofBits .f32 0x00000000#32 : Ideal .f32))
    (Ideal.cmp .ole (Ideal.div (max (FloatOps.ofBits .f32 0x00000000#32 : Ideal .f32) (min (P14 (ix2 b c)) (x2 (ix2 b c)) - P12 (ix2 b c)) * max (FloatOps.ofBits .f32 0x00000000#32 : Ideal .f32) (min (broadcastTo S4x20480 P10 broadcasts_S4x1_S4x20480 (ix2 b c)) (y2 (ix2 b c)) - P13 (ix2 b c)))
      (((broadcastTo S4x20480 (mulf (subf P9 P7) (subf P10 P8)) broadcasts_S4x1_S4x20480 (ix2 b c) + ar (ix2 b c))
        - max (FloatOps.ofBits .f32 0x00000000#32 : Ideal .f32) (min (P14 (ix2 b c)) (x2 (ix2 b c)) - P12 (ix2 b c)) * max (FloatOps.ofBits .f32 0x00000000#32 : Ideal .f32) (min (broadcastTo S4x20480 P10 broadcasts_S4x1_S4x20480 (ix2 b c)) (y2 (ix2 b c)) - P13 (ix2 b c)))
        + (FloatOps.ofBits .f32 0x3089705F#32 : Ideal .f32))) (FloatOps.ofBits .f32 0x3EE66666#32 : Ideal .f32)))
      (IntOp.xori (P5 (ix2 b c)) 1#1)) (FloatOps.ofBits .f32 0x3F800000#32 : Ideal .f32) (FloatOps.ofBits .f32 0x00000000#32 : Ideal .f32)) rfl ?_
  rw [spread_wide, spread_wide, show mulf (subf P9 P7) (subf P10 P8) (ix2 b (0 : Fin 1)) = (P9 (ix2 b 0) - P7 (ix2 b 0)) * (P10 (ix2 b 0) - P8 (ix2 b 0)) from rfl,
    p1, p2, p3, p4, q12, q13, q14, q5, har, zero_word, word_one', max_comm (0 : EReal), max_comm (0 : EReal)]
  rfl

/-- A table of rows with one row replaced. -/
theorem row_select {α : Type} (v108 : IVec S4x100 32) (hr : ∀ b r, v108 (ix2 b r) = BitVec.ofNat 32 r.val) (k : ℕ) (hk : k < 100) (x : S4x1.Idx → α) (y : S4x100.Idx → α) (b : Fin 4) (r : Fin 100) :
    select (k0_pay16 v108 (BitVec.ofNat 32 k)) (broadcastTo S4x100 (shapeCast S4x1 x shapeCasts_S4x1_S4x1) broadcasts_S4x1_S4x100) y (ix2 b r)
      = if r.val = k then x (ix2 b 0) else y (ix2 b r) := by
  refine Eq.trans (b := Scalar.select (IntOp.cmpi .eq (v108 (ix2 b r)) (BitVec.ofNat 32 k)) (broadcastTo S4x100 (shapeCast S4x1 x shapeCasts_S4x1_S4x1) broadcasts_S4x1_S4x100 (ix2 b r)) (y (ix2 b r))) rfl ?_
  rw [spread_out, shapeCast_self, hr]
  have e : IntOp.cmpi .eq (BitVec.ofNat 32 r.val) (BitVec.ofNat 32 k) = BitVec.ofBool (decide (r.val = k)) := by
    show BitVec.ofBool (BitVec.ofNat 32 r.val == BitVec.ofNat 32 k) = _
    congr 1
    rw [beq_eq_decide, decide_eq_decide, ofNat_inj (by omega) (by omega)]
  rw [e, select_ofBool]

/-- The running count. -/
theorem count_apply (x : FVec Ideal S4 .f32) (v : IVec S4x1 1) (b : Fin 4) :
    k0_pay28 x v (ix1 b) = x (ix1 b) + ((((v (ix2 b 0)).setWidth 32).toInt : ℝ) : EReal) := by
  refine Eq.trans (b := x (ix1 b) + ((((shapeCast S4 v shapeCasts_S4x1_S4 (ix1 b)).setWidth 32).toInt : ℝ) : EReal)) rfl ?_
  rw [uncast_column]

end Cert.Proof.Sel

end
-- ==== Proof.SelFill.lean ====
/-
  What the selection kernel makes of a fetched block, column by column: the corners, the score, the area, the class and
  the coefficients of one prior, from its row of the argument.
-/
module

public import proofs.«01_k».proof.Proof.SelStep

@[expose] public section

set_option maxRecDepth 16384

noncomputable section

namespace Cert.Proof.Sel

open Idealize.ShloMosaic Idealize.ShloMosaic.ValueIdx Cert.SelectIdeal Cert.SelectIdeal.Gen

/-- A centre less half an extent. -/
def low (R : Fin 117 → EReal) (p s : Fin 117) : EReal := R p - Ideal.div (R s) (FloatOps.ofBits .f32 0x40000000#32 : Ideal .f32)
/-- A centre plus half an extent. -/
def high (R : Fin 117 → EReal) (p s : Fin 117) : EReal := R p + Ideal.div (R s) (FloatOps.ofBits .f32 0x40000000#32 : Ideal .f32)
/-- The class scores. -/
def scores (R : Fin 117 → EReal) (p : Fin 80) : EReal := R ⟨5 + p.val, by omega⟩
/-- The objectness times the largest class score. -/
def score (R : Fin 117 → EReal) : EReal := R 4 * Finset.univ.fold max (⊥ : EReal) (scores R)

theorem column (o : ℕ) (x : S4x2048x117.Idx → EReal) (h : S4x2048x117.Slices ![0, 0, o] S4x2048x1) (b : Fin 4) (q : Fin 2048) (k : Fin 117) (hk : k.val = o) :
    extractStridedSlice S4x2048x1 ![0, 0, o] x h (ix3 b q 0) = x (ix3 b q k) :=
  extractStridedSlice_apply _ _ _ _ _ fun a => by
    match a with
    | ⟨0, _⟩ => show b.val = 0 + b.val; omega
    | ⟨1, _⟩ => show q.val = 0 + q.val; omega
    | ⟨2, _⟩ => show k.val = o + 0; omega

theorem class_columns (x : S4x2048x117.Idx → EReal) (b : Fin 4) (q : Fin 2048) (p : Fin 80) :
    extractStridedSlice S4x2048x80 ![0, 0, 5] x slices_S4x2048x117_o0_0_5_S4x2048x80 (ix3 b q p) = scores (fun k => x (ix3 b q k)) p :=
  extractStridedSlice_apply _ _ _ _ _ fun a => by
    match a with
    | ⟨0, _⟩ => show b.val = 0 + b.val; omega
    | ⟨1, _⟩ => show q.val = 0 + q.val; omega
    | ⟨2, _⟩ => rfl

theorem rest_columns (x : S4x2048x117.Idx → EReal) (b : Fin 4) (q : Fin 2048) (d : Fin 32) :
    extractStridedSlice S4x2048x32 ![0, 0, 85] x slices_S4x2048x117_o0_0_85_S4x2048x32 (ix3 b q d) = x (ix3 b q ⟨85 + d.val, by omega⟩) :=
  extractStridedSlice_apply _ _ _ _ _ fun a => by
    match a with
    | ⟨0, _⟩ => show b.val = 0 + b.val; omega
    | ⟨1, _⟩ => show q.val = 0 + q.val; omega
    | ⟨2, _⟩ => rfl

theorem cast_plane {α : Type} (x : S4x2048.Idx → α) (h : S4x2048.ShapeCasts S4x2048x1) (b : Fin 4) (q : Fin 2048) :
    shapeCast S4x2048x1 x h (ix3 b q 0) = x (ix2 b q) :=
  shapeCast_apply _ _ (ix3 b q 0) (ix2 b q) (by
    rw [Shape.rowMajor_val_three, Shape.rowMajor_val_two]; show b.val * 2048 + q.val = (b.val * 2048 + q.val) * 1 + (0 : Fin 1).val; simp)

theorem lift_class (b : Fin 4) (q : Fin 2048) (p : Fin 80) : reduces_S4x2048x80_S4x2048.lift (ix2 b q) p = ix3 b q p := by
  funext a; match a with | ⟨0, _⟩ => rfl | ⟨1, _⟩ => rfl | ⟨2, _⟩ => rfl

theorem spread_class {α : Type} (x : S4x2048x1.Idx → α) (b : Fin 4) (q : Fin 2048) (p : Fin 80) :
    broadcastTo S4x2048x80 x broadcasts_S4x2048x1_S4x2048x80 (ix3 b q p) = x (ix3 b q 0) :=
  broadcastTo_apply _ _ _ _ (fun a => by match a with | ⟨0, _⟩ => rfl | ⟨1, _⟩ => rfl | ⟨2, _⟩ => rfl)

/-- The largest class score of every prior of a block. -/
def bestOf (x : Vec Ideal S4x2048x117 .f32) : FVec Ideal S4x2048x1 .f32 :=
  shapeCast S4x2048x1 (multiReduction .maximumf [2] S4x2048 (extractStridedSlice S4x2048x80 ![0, 0, 5] x slices_S4x2048x117_o0_0_5_S4x2048x80 : FVec Ideal S4x2048x80 .f32)
    0xFF800000#32 reduces_S4x2048x80_S4x2048 (.inl rfl) rfl : FVec Ideal S4x2048 .f32) shapeCasts_S4x2048_S4x2048x1

theorem bestOf_apply (x : Vec Ideal S4x2048x117 .f32) (b : Fin 4) (q : Fin 2048) :
    bestOf x (ix3 b q 0) = Finset.univ.fold max (⊥ : EReal) (scores fun k => x (ix3 b q k)) := by
  unfold bestOf
  refine (cast_plane _ shapeCasts_S4x2048_S4x2048x1 b q).trans ?_
  refine (Ideal.multiReduction_maximumf_single _ _ reduces_S4x2048x80_S4x2048 _ _ _).trans ?_
  rw [word_bot]
  exact congrArg (Finset.univ.fold max (⊥ : EReal)) (funext fun p : Fin 80 => (congrArg _ (lift_class b q p)).trans (class_columns x b q p))

/-- The class of every prior of a block. -/
def classOf (x : Vec Ideal S4x2048x117 .f32) : IVec S4x2048x1 32 :=
  shapeCast S4x2048x1 (multiReductionI .minsi [2] S4x2048
    (select (cmpf .oeq (extractStridedSlice S4x2048x80 ![0, 0, 5] x slices_S4x2048x117_o0_0_5_S4x2048x80 : FVec Ideal S4x2048x80 .f32)
        (broadcastTo S4x2048x80 (bestOf x) broadcasts_S4x2048x1_S4x2048x80 : FVec Ideal S4x2048x80 .f32))
      (iota .tc S4x2048x80 32 [2] iota_S4x2048x80_d2_w32) (broadcast S4x2048x80 80#32))
    2147483647#32 reduces_S4x2048x80_S4x2048 rfl) shapeCasts_S4x2048_S4x2048x1

theorem classOf_apply (x : Vec Ideal S4x2048x117 .f32) (b : Fin 4) (q : Fin 2048) (j : Fin 80) (hj : IsFirst (scores fun k => x (ix3 b q k)) j) :
    classOf x (ix3 b q 0) = BitVec.ofNat 32 j.val := by
  unfold classOf
  refine (cast_plane _ shapeCasts_S4x2048_S4x2048x1 b q).trans ?_
  refine (multiReductionI_eq_fold .minsi _ _ reduces_S4x2048x80_S4x2048 rfl (ix2 b q)).trans ?_
  refine (Shape.Reduces.fold_filter_drop_single reduces_S4x2048x80_S4x2048 IntOp.minsi _ _ (ix2 b q)).trans ?_
  refine fold_first hj (by norm_num) _ fun p => ?_
  refine Eq.trans (b := Scalar.select (BitVec.ofBool (decide (extractStridedSlice S4x2048x80 ![0, 0, 5] x slices_S4x2048x117_o0_0_5_S4x2048x80 (ix3 b q p)
      = broadcastTo S4x2048x80 (bestOf x) broadcasts_S4x2048x1_S4x2048x80 (ix3 b q p)))) (iota .tc S4x2048x80 32 [2] iota_S4x2048x80_d2_w32 (ix3 b q p)) 80#32) ?_ ?_
  · show select _ _ _ (reduces_S4x2048x80_S4x2048.lift (ix2 b q) p) = _
    rw [lift_class]; rfl
  · rw [select_ofBool, spread_class, bestOf_apply, class_columns, iota_single_apply, fold_max hj]

/-- A small word through a float and back. -/
theorem word_back (n : ℕ) (hn : n < 2 ^ 31) : Ideal.fptosi 32 ((((BitVec.ofNat 32 n).toInt : ℝ) : EReal)) = BitVec.ofNat 32 n := by
  rw [toInt_ofNat hn]
  unfold Ideal.fptosi
  rw [Ideal.toIntClamped_coe]
  have e : ⌊(((n : ℤ) : ℝ))⌋ = (n : ℤ) := Int.floor_intCast _
  have h0 : (0 : ℝ) ≤ ((n : ℤ) : ℝ) := by exact_mod_cast Int.natCast_nonneg n
  rw [if_pos h0, e]
  refine (congrArg (BitVec.ofInt 32) ?_).trans (BitVec.ofInt_natCast 32 n)
  norm_num at hn ⊢
  omega

/-- Nine pieces side by side, read at a column. -/
theorem nine (u0 u1 u2 u3 u4 u5 u6 u7 : S4x2048x1.Idx → EReal) (u8 : S4x2048x32.Idx → EReal)
    (h : Shape.Concatenates ([(⟨S4x2048x1, u0⟩ : (s : Shape) × (s.Idx → EReal)), ⟨S4x2048x1, u1⟩, ⟨S4x2048x1, u2⟩, ⟨S4x2048x1, u3⟩, ⟨S4x2048x1, u4⟩, ⟨S4x2048x1, u5⟩, ⟨S4x2048x1, u6⟩, ⟨S4x2048x1, u7⟩, ⟨S4x2048x32, u8⟩].map (·.1)) S4x2048x40 2)
    (b : Fin 4) (q : Fin 2048) (A : S4x2048x40.Idx → EReal)
    (hA : A = concatenate S4x2048x40 2 [⟨S4x2048x1, u0⟩, ⟨S4x2048x1, u1⟩, ⟨S4x2048x1, u2⟩, ⟨S4x2048x1, u3⟩, ⟨S4x2048x1, u4⟩, ⟨S4x2048x1, u5⟩, ⟨S4x2048x1, u6⟩, ⟨S4x2048x1, u7⟩, ⟨S4x2048x32, u8⟩] h) :
    A (ix3 b q 0) = u0 (ix3 b q 0) ∧ A (ix3 b q 1) = u1 (ix3 b q 0) ∧ A (ix3 b q 2) = u2 (ix3 b q 0) ∧ A (ix3 b q 3) = u3 (ix3 b q 0)
      ∧ A (ix3 b q 4) = u4 (ix3 b q 0) ∧ A (ix3 b q 5) = u5 (ix3 b q 0) ∧ A (ix3 b q 6) = u6 (ix3 b q 0)
      ∧ ∀ d : Fin 32, A (ix3 b q ⟨8 + d.val, by omega⟩) = u8 (ix3 b q d) := by
  subst hA
  have off : ∀ (k : Fin 40) (w : Fin 3) (hw : w ≠ (2 : Fin 3)), ((ix3 b q (0 : Fin 1) : S4x2048x1.Idx) w).val = ((ix3 b q k : S4x2048x40.Idx) w).val := by
    intro k w hw
    match w with
    | ⟨0, _⟩ => rfl
    | ⟨1, _⟩ => rfl
    | ⟨2, _⟩ => exact absurd rfl hw
  refine ⟨concatenate_apply_piece 2 _ h _ 0 (by simp) S4x2048x1 u0 rfl rfl 0 (by rfl) _ (off 0) (by rfl),
    concatenate_apply_piece 2 _ h _ 1 (by simp) S4x2048x1 u1 rfl rfl 1 (by rfl) _ (off 1) (by rfl),
    concatenate_apply_piece 2 _ h _ 2 (by simp) S4x2048x1 u2 rfl rfl 2 (by rfl) _ (off 2) (by rfl),
    concatenate_apply_piece 2 _ h _ 3 (by simp) S4x2048x1 u3 rfl rfl 3 (by rfl) _ (off 3) (by rfl),
    concatenate_apply_piece 2 _ h _ 4 (by simp) S4x2048x1 u4 rfl rfl 4 (by rfl) _ (off 4) (by rfl),
    concatenate_apply_piece 2 _ h _ 5 (by simp) S4x2048x1 u5 rfl rfl 5 (by rfl) _ (off 5) (by rfl),
    concatenate_apply_piece 2 _ h _ 6 (by simp) S4x2048x1 u6 rfl rfl 6 (by rfl) _ (off 6) (by rfl), fun d =>
    concatenate_apply_piece 2 _ h _ 8 (by simp) S4x2048x32 u8 rfl rfl 8 (by rfl) _ (fun w hw => ?_) (by rfl)⟩
  match w with
  | ⟨0, _⟩ => rfl
  | ⟨1, _⟩ => rfl
  | ⟨2, _⟩ => exact absurd rfl hw

theorem swap (A : S4x2048x40.Idx → EReal) (b : Fin 4) (k : Fin 40) (q : Fin 2048) :
    transpose S4x40x2048 [0, 2, 1] A transposes_S4x2048x40_p0_2_1_S4x40x2048 (ix3 b k q) = A (ix3 b q k) :=
  transpose_apply _ _ _ _ _ (fun w => by
    match w with
    | ⟨0, _⟩ => rfl
    | ⟨1, _⟩ => rfl
    | ⟨2, _⟩ => rfl)

/-- Column `o` of a block as a piece. -/
abbrev piece (x : Vec Ideal S4x2048x117 .f32) (o : ℕ) (h : S4x2048x117.Slices ![0, 0, o] S4x2048x1) : FVec Ideal S4x2048x1 .f32 := extractStridedSlice S4x2048x1 ![0, 0, o] x h

/-- A piece halved. -/
abbrev halved (v : FVec Ideal S4x2048x1 .f32) : FVec Ideal S4x2048x1 .f32 := divf v (broadcast S4x2048x1 (Scalar.ofBits .f32 0x40000000#32 : Ideal .f32))

/-- The nine pieces of a block's table, side by side. -/
def pieces (x : Vec Ideal S4x2048x117 .f32) : FVec Ideal S4x2048x40 .f32 :=
  concatenate S4x2048x40 2 [⟨S4x2048x1, subf (piece x 0 slices_S4x2048x117_o0_0_0_S4x2048x1) (halved (piece x 2 slices_S4x2048x117_o0_0_2_S4x2048x1))⟩,
      ⟨S4x2048x1, subf (piece x 1 slices_S4x2048x117_o0_0_1_S4x2048x1) (halved (piece x 3 slices_S4x2048x117_o0_0_3_S4x2048x1))⟩,
      ⟨S4x2048x1, addf (piece x 0 slices_S4x2048x117_o0_0_0_S4x2048x1) (halved (piece x 2 slices_S4x2048x117_o0_0_2_S4x2048x1))⟩,
      ⟨S4x2048x1, addf (piece x 1 slices_S4x2048x117_o0_0_1_S4x2048x1) (halved (piece x 3 slices_S4x2048x117_o0_0_3_S4x2048x1))⟩,
      ⟨S4x2048x1, mulf (piece x 4 slices_S4x2048x117_o0_0_4_S4x2048x1) (bestOf x)⟩,
      ⟨S4x2048x1, mulf (subf (addf (piece x 0 slices_S4x2048x117_o0_0_0_S4x2048x1) (halved (piece x 2 slices_S4x2048x117_o0_0_2_S4x2048x1))) (subf (piece x 0 slices_S4x2048x117_o0_0_0_S4x2048x1) (halved (piece x 2 slices_S4x2048x117_o0_0_2_S4x2048x1))))
        (subf (addf (piece x 1 slices_S4x2048x117_o0_0_1_S4x2048x1) (halved (piece x 3 slices_S4x2048x117_o0_0_3_S4x2048x1))) (subf (piece x 1 slices_S4x2048x117_o0_0_1_S4x2048x1) (halved (piece x 3 slices_S4x2048x117_o0_0_3_S4x2048x1))))⟩,
      ⟨S4x2048x1, (sitofp .f32 (classOf x) : FVec Ideal S4x2048x1 .f32)⟩, ⟨S4x2048x1, broadcast S4x2048x1 (Scalar.ofBits .f32 0x00000000#32 : Ideal .f32)⟩,
      ⟨S4x2048x32, (extractStridedSlice S4x2048x32 ![0, 0, 85] x slices_S4x2048x117_o0_0_85_S4x2048x32 : FVec Ideal S4x2048x32 .f32)⟩] concatenates_S4x2048x1_S4x2048x1_S4x2048x1_S4x2048x1_S4x2048x1_S4x2048x1_S4x2048x1_S4x2048x1_S4x2048x32_S4x2048x40_d2

theorem pieces_eq (x : Vec Ideal S4x2048x117 .f32) : k0_pay48 x = transpose S4x40x2048 [0, 2, 1] (pieces x) transposes_S4x2048x40_p0_2_1_S4x40x2048 := by
  unfold k0_pay48 pieces bestOf classOf; rfl

/-- The block's table, entry by entry. -/
theorem table (x : Vec Ideal S4x2048x117 .f32) (b : Fin 4) (q : Fin 2048) (R : Fin 117 → EReal) (hR : ∀ k, x (ix3 b q k) = R k) :
    k0_pay48 x (ix3 b 0 q) = low R 0 2 ∧ k0_pay48 x (ix3 b 1 q) = low R 1 3 ∧ k0_pay48 x (ix3 b 2 q) = high R 0 2 ∧ k0_pay48 x (ix3 b 3 q) = high R 1 3
      ∧ k0_pay48 x (ix3 b 4 q) = score R ∧ k0_pay48 x (ix3 b 5 q) = (high R 0 2 - low R 0 2) * (high R 1 3 - low R 1 3)
      ∧ (∀ j, IsFirst (scores R) j → k0_pay48 x (ix3 b 6 q) = ((((BitVec.ofNat 32 j.val).toInt : ℝ)) : EReal))
      ∧ ∀ d : Fin 32, k0_pay48 x (ix3 b ⟨8 + d.val, by omega⟩ q) = R ⟨85 + d.val, by omega⟩ := by
  obtain rfl : (fun k => x (ix3 b q k)) = R := funext hR
  have c0 := column 0 x slices_S4x2048x117_o0_0_0_S4x2048x1 b q 0 rfl
  have c1 := column 1 x slices_S4x2048x117_o0_0_1_S4x2048x1 b q 1 rfl
  have c2 := column 2 x slices_S4x2048x117_o0_0_2_S4x2048x1 b q 2 rfl
  have c3 := column 3 x slices_S4x2048x117_o0_0_3_S4x2048x1 b q 3 rfl
  have c4 := column 4 x slices_S4x2048x117_o0_0_4_S4x2048x1 b q 4 rfl
  have cb := bestOf_apply x b q
  have ck := classOf_apply x b q
  have cr := rest_columns x b q
  have e : ∀ k : Fin 40, k0_pay48 x (ix3 b k q) = pieces x (ix3 b q k) := fun k => (congrFun (pieces_eq x) _).trans (swap (pieces x) b k q)
  obtain ⟨n0, n1, n2, n3, n4, n5, n6, n8⟩ := nine _ _ _ _ _ _ _ _ _ concatenates_S4x2048x1_S4x2048x1_S4x2048x1_S4x2048x1_S4x2048x1_S4x2048x1_S4x2048x1_S4x2048x1_S4x2048x32_S4x2048x40_d2 b q (pieces x) rfl
  refine ⟨(e 0).trans (n0.trans ?_), (e 1).trans (n1.trans ?_), (e 2).trans (n2.trans ?_), (e 3).trans (n3.trans ?_), (e 4).trans (n4.trans ?_), (e 5).trans (n5.trans ?_),
    fun j hj => (e 6).trans (n6.trans ?_), fun d => (e _).trans ((n8 d).trans (cr d))⟩
  · exact congrArg₂ (fun u v : EReal => u - Ideal.div v (FloatOps.ofBits .f32 0x40000000#32 : Ideal .f32)) c0 c2
  · exact congrArg₂ (fun u v : EReal => u - Ideal.div v (FloatOps.ofBits .f32 0x40000000#32 : Ideal .f32)) c1 c3
  · exact congrArg₂ (fun u v : EReal => u + Ideal.div v (FloatOps.ofBits .f32 0x40000000#32 : Ideal .f32)) c0 c2
  · exact congrArg₂ (fun u v : EReal => u + Ideal.div v (FloatOps.ofBits .f32 0x40000000#32 : Ideal .f32)) c1 c3
  · exact congrArg₂ (fun u v : EReal => u * v) c4 cb
  · refine congrArg₂ (fun u v : EReal => u * v) ?_ ?_
    · exact congrArg₂ (fun u v : EReal => (u + Ideal.div v (FloatOps.ofBits .f32 0x40000000#32 : Ideal .f32)) - (u - Ideal.div v (FloatOps.ofBits .f32 0x40000000#32 : Ideal .f32))) c0 c2
    · exact congrArg₂ (fun u v : EReal => (u + Ideal.div v (FloatOps.ofBits .f32 0x40000000#32 : Ideal .f32)) - (u - Ideal.div v (FloatOps.ofBits .f32 0x40000000#32 : Ideal .f32))) c1 c3
  · exact congrArg (fun w : BitVec 32 => (((w.toInt : ℝ)) : EReal)) (ck j hj)

theorem plane {α : Type} (o : ℕ) (v : S4x40x2048.Idx → α) (h : S4x40x2048.Slices ![0, o, 0] S4x1x2048) (b : Fin 4) (q : Fin 2048) (k : Fin 40) (hk : k.val = o) :
    shapeCast S4x2048 (extractStridedSlice S4x1x2048 ![0, o, 0] v h) shapeCasts_S4x1x2048_S4x2048 (ix2 b q) = v (ix3 b k q) := by
  refine (shapeCast_apply _ _ (ix2 b q) (ix3 b 0 q) (by
    rw [Shape.rowMajor_val_three, Shape.rowMajor_val_two]; show (b.val * 1 + (0 : Fin 1).val) * 2048 + q.val = b.val * 2048 + q.val; simp)).trans ?_
  exact extractStridedSlice_apply _ _ _ _ _ fun a => by
    match a with
    | ⟨0, _⟩ => show b.val = 0 + b.val; omega
    | ⟨1, _⟩ => show k.val = o + 0; omega
    | ⟨2, _⟩ => show q.val = 0 + q.val; omega

/-- What the body stores in a prior's column. -/
theorem stored (x : Vec Ideal S4x2048x117 .f32) (b : Fin 4) (q : Fin 2048) (R : Fin 117 → EReal) (hR : ∀ k, x (ix3 b q k) = R k) :
    k0_pay54 (k0_pay48 x) (ix2 b q) = score R ∧ k0_pay49 x (ix2 b q) = low R 0 2 ∧ k0_pay51 (k0_pay50 x) (ix2 b q) = low R 1 3
      ∧ k0_pay52 (k0_pay48 x) (ix2 b q) = high R 0 2 ∧ k0_pay53 (k0_pay48 x) (ix2 b q) = high R 1 3
      ∧ k0_pay55 (k0_pay48 x) (ix2 b q) = (high R 0 2 - low R 0 2) * (high R 1 3 - low R 1 3)
      ∧ (∀ j, IsFirst (scores R) j → k0_pay56 (k0_pay48 x) (ix2 b q) = BitVec.ofNat 32 j.val)
      ∧ ∀ d : Fin 32, k0_pay57 (k0_pay48 x) (ix3 b d q) = R ⟨85 + d.val, by omega⟩ := by
  obtain ⟨t0, t1, t2, t3, t4, t5, t6, t8⟩ := table x b q R hR
  unfold k0_pay49 k0_pay50
  revert t0 t1 t2 t3 t4 t5 t6 t8
  generalize k0_pay48 x = T
  intro t0 t1 t2 t3 t4 t5 t6 t8
  unfold k0_pay54 k0_pay51 k0_pay52 k0_pay53 k0_pay55 k0_pay56 k0_pay57
  simp only [shapeCast_self]
  refine ⟨(plane 4 T _ b q 4 rfl).trans t4, (plane 0 T _ b q 0 rfl).trans t0, (plane 1 T _ b q 1 rfl).trans t1, (plane 2 T _ b q 2 rfl).trans t2,
    (plane 3 T _ b q 3 rfl).trans t3, (plane 5 T _ b q 5 rfl).trans t5, fun j hj => ?_, fun d => (extractStridedSlice_apply _ _ _ _ (ix3 b ⟨8 + d.val, by omega⟩ q) fun a => ?_).trans (t8 d)⟩
  · refine Eq.trans (b := Ideal.fptosi 32 (shapeCast S4x2048 (extractStridedSlice S4x1x2048 ![0, 6, 0] T slices_S4x40x2048_o0_6_0_S4x1x2048) shapeCasts_S4x1x2048_S4x2048 (ix2 b q))) rfl ?_
    rw [plane 6 T _ b q 6 rfl, t6 j hj, word_back _ (by omega)]
  · match a with
    | ⟨0, _⟩ => show b.val = 0 + b.val; omega
    | ⟨1, _⟩ => rfl
    | ⟨2, _⟩ => show q.val = 0 + q.val; omega

end Cert.Proof.Sel

end
-- ==== Proof.SelRefOut.lean ====
/-
  The reference selection before and after its rounds, read at an index: the corners and scores of every prior, and the
  results as the picked priors' rows give them.
-/
module

public import proofs.«01_k».proof.Proof.SelFill

@[expose] public section

set_option maxRecDepth 16384

noncomputable section

namespace Cert.Proof.Sel

open Idealize.ShloMosaic Idealize.ShloMosaic.ValueIdx
open Cert.SelectRefIdeal Cert.SelectRefIdeal.Facts₀ Cert.SelectRefIdeal.Facts Cert.SelectRefIdeal.Step

variable (x : (⟨S4x20000x117, .f32⟩ : BufTy).Contents (Elt Ideal))

/-- One prior's row of the argument. -/
def priorRow (x : (⟨S4x20000x117, .f32⟩ : BufTy).Contents (Elt Ideal)) (b : Fin 4) (j : Fin 20000) : Fin 117 → EReal := fun k => x (ix3 b j k)

theorem prior_column (o : ℕ) (h : S4x20000x117.Slices ![0, 0, o] S4x20000x1) (b : Fin 4) (j : Fin 20000) (k : Fin 117) (hk : k.val = o) :
    shapeCast S4x20000 (extractStridedSlice S4x20000x1 ![0, 0, o] x h) shapeCasts_S4x20000x1_S4x20000 (ix2 b j) = priorRow x b j k := by
  refine (shapeCast_apply _ _ (ix2 b j) (ix3 b j 0) (by
    rw [Shape.rowMajor_val_three, Shape.rowMajor_val_two]; show (b.val * 20000 + j.val) * 1 + (0 : Fin 1).val = b.val * 20000 + j.val; simp)).trans ?_
  exact extractStridedSlice_apply _ _ _ _ _ fun a => by
    match a with
    | ⟨0, _⟩ => show b.val = 0 + b.val; omega
    | ⟨1, _⟩ => show j.val = 0 + j.val; omega
    | ⟨2, _⟩ => show k.val = o + 0; omega

/-- The corners before the rounds. -/
theorem corners_init (b : Fin 4) (j : Fin 20000) :
    A_main_v10 x (ix2 b j) = low (priorRow x b j) 0 2 ∧ A_main_v13 x (ix2 b j) = low (priorRow x b j) 1 3
      ∧ A_main_v16 x (ix2 b j) = high (priorRow x b j) 0 2 ∧ A_main_v19 x (ix2 b j) = high (priorRow x b j) 1 3 := by
  have c0 : A_main_v1 x (ix2 b j) = priorRow x b j 0 := prior_column x 0 slices_S4x20000x117_S4x20000x1_0_0_0 b j 0 rfl
  have c1 : A_main_v3 x (ix2 b j) = priorRow x b j 1 := prior_column x 1 slices_S4x20000x117_S4x20000x1_0_0_1 b j 1 rfl
  have c2 : A_main_v5 x (ix2 b j) = priorRow x b j 2 := prior_column x 2 slices_S4x20000x117_S4x20000x1_0_0_2 b j 2 rfl
  have c3 : A_main_v7 x (ix2 b j) = priorRow x b j 3 := prior_column x 3 slices_S4x20000x117_S4x20000x1_0_0_3 b j 3 rfl
  refine ⟨?_, ?_, ?_, ?_⟩
  · exact congrArg₂ (fun u v : EReal => u - Ideal.div v (FloatOps.ofBits .f32 0x40000000#32 : Ideal .f32)) c0 c2
  · exact congrArg₂ (fun u v : EReal => u - Ideal.div v (FloatOps.ofBits .f32 0x40000000#32 : Ideal .f32)) c1 c3
  · exact congrArg₂ (fun u v : EReal => u + Ideal.div v (FloatOps.ofBits .f32 0x40000000#32 : Ideal .f32)) c0 c2
  · exact congrArg₂ (fun u v : EReal => u + Ideal.div v (FloatOps.ofBits .f32 0x40000000#32 : Ideal .f32)) c1 c3

/-- The scores before the rounds. -/
theorem score_init (b : Fin 4) (j : Fin 20000) : A_main_v24 x (ix2 b j) = score (priorRow x b j) := by
  have c4 : A_main_v21 x (ix2 b j) = priorRow x b j 4 := prior_column x 4 slices_S4x20000x117_S4x20000x1_0_0_4 b j 4 rfl
  have hr : S4x20000x80.Reduces [2] S4x20000 := by decide
  have hl : ∀ p : Fin 80, hr.lift (ix2 b j) p = ix3 b j p := fun p => by
    funext a; match a with | ⟨0, _⟩ => rfl | ⟨1, _⟩ => rfl | ⟨2, _⟩ => rfl
  have hs : ∀ p : Fin 80, A_main_v22 x (ix3 b j p) = scores (priorRow x b j) p := fun p =>
    extractStridedSlice_apply _ _ _ _ _ fun a => by
      match a with
      | ⟨0, _⟩ => show b.val = 0 + b.val; omega
      | ⟨1, _⟩ => show j.val = 0 + j.val; omega
      | ⟨2, _⟩ => rfl
  have cb : A_main_v23 x (ix2 b j) = Finset.univ.fold max (⊥ : EReal) (scores (priorRow x b j)) := by
    unfold A_main_v23
    refine (Host.reduce_eq_fold_single FloatOps.maximumf _ _ reducesTo_S4x20000x80_S4x20000_d2 hr h_S_ (ix2 b j)).trans ?_
    refine Eq.trans (b := Finset.univ.fold max (FloatOps.ofBits .f32 0xFF800000#32 : Ideal .f32) (fun p : Fin 80 => A_main_v22 x (hr.lift (ix2 b j) p))) rfl ?_
    rw [word_bot]
    exact congrArg (Finset.univ.fold max (⊥ : EReal)) (funext fun p => (congrArg _ (hl p)).trans (hs p))
  exact congrArg₂ (fun u v : EReal => u * v) c4 cb

/-- The active priors before the rounds. -/
theorem active_init (b : Fin 4) (j : Fin 20000) :
    A_main_v26 x (ix2 b j) = Ideal.cmp .ogt (score (priorRow x b j)) (FloatOps.ofBits .f32 0x3E800000#32 : Ideal .f32) := by
  rw [← score_init]; rfl

/-- The gathered row of each result row. -/
theorem gather_prior (idx : IVec S4x100x2 32) (b : Fin 4) (r : Fin 100) (k : Fin 117) (n1 : Fin 20000)
    (h0 : idx (ix3 b r 0) = BitVec.ofNat 32 b) (h1 : idx (ix3 b r 1) = BitVec.ofNat 32 n1) :
    Host.gather gather_S4x20000x117_S4x100x2_S4x100x117_2_01_n_n_01_2_11117 x idx (ix3 b r k) = priorRow x b n1 k := by
  unfold Host.gather priorRow
  congr 1
  have hsi : ∀ (w : Fin gather_S4x20000x117_S4x100x2_S4x100x117_2_01_n_n_01_2_11117.startIndexMap.length) (w' : Fin 2), w.val = w'.val → gather_S4x20000x117_S4x100x2_S4x100x117_2_01_n_n_01_2_11117.siIdx (ix3 b r k) w = ix3 b r w' := by
    intro w w' e
    funext a; refine Fin.ext ?_
    match a with
    | ⟨0, _⟩ => rfl
    | ⟨1, _⟩ => rfl
    | ⟨2, _⟩ => exact e
  have hoff : ∀ a : Fin 3, a ∈ gather_S4x20000x117_S4x100x2_S4x100x117_2_01_n_n_01_2_11117.collapsedSliceDims → gather_S4x20000x117_S4x100x2_S4x100x117_2_01_n_n_01_2_11117.offCoord (ix3 b r k) a = 0 := fun a ha =>
    GatherDims.offCoord_eq_zero _ _ _ (fun h => ((GatherDims.mem_sKept _ _).mp h).1 ha)
  funext a; refine Fin.ext ?_
  show gather_S4x20000x117_S4x100x2_S4x100x117_2_01_n_n_01_2_11117.start (ix3 b r k) idx a + gather_S4x20000x117_S4x100x2_S4x100x117_2_01_n_n_01_2_11117.batchCoord (ix3 b r k) a + gather_S4x20000x117_S4x100x2_S4x100x117_2_01_n_n_01_2_11117.offCoord (ix3 b r k) a = _
  rw [GatherDims.batchCoord_eq_zero _ _ _ List.not_mem_nil, Nat.add_zero]
  match a with
  | ⟨0, _⟩ =>
    have e : gather_S4x20000x117_S4x100x2_S4x100x117_2_01_n_n_01_2_11117.start (ix3 b r k) idx 0 = min (idx (ix3 b r 0)).toInt.toNat (4 - 1) := by
      unfold GatherDims.start
      rw [dif_pos (show (0 : Fin 3) ∈ gather_S4x20000x117_S4x100x2_S4x100x117_2_01_n_n_01_2_11117.startIndexMap by decide)]
      exact congrArg (fun j => min (idx j).toInt.toNat (4 - 1)) (hsi _ 0 (by decide))
    show gather_S4x20000x117_S4x100x2_S4x100x117_2_01_n_n_01_2_11117.start (ix3 b r k) idx 0 + gather_S4x20000x117_S4x100x2_S4x100x117_2_01_n_n_01_2_11117.offCoord (ix3 b r k) 0 = b.val
    rw [hoff 0 (by decide), e, h0, toInt_ofNat (by omega)]
    omega
  | ⟨1, _⟩ =>
    have e : gather_S4x20000x117_S4x100x2_S4x100x117_2_01_n_n_01_2_11117.start (ix3 b r k) idx 1 = min (idx (ix3 b r 1)).toInt.toNat (20000 - 1) := by
      unfold GatherDims.start
      rw [dif_pos (show (1 : Fin 3) ∈ gather_S4x20000x117_S4x100x2_S4x100x117_2_01_n_n_01_2_11117.startIndexMap by decide)]
      exact congrArg (fun j => min (idx j).toInt.toNat (20000 - 1)) (hsi _ 1 (by decide))
    show gather_S4x20000x117_S4x100x2_S4x100x117_2_01_n_n_01_2_11117.start (ix3 b r k) idx 1 + gather_S4x20000x117_S4x100x2_S4x100x117_2_01_n_n_01_2_11117.offCoord (ix3 b r k) 1 = n1.val
    rw [hoff 1 (by decide), e, h1, toInt_ofNat (by omega)]
    omega
  | ⟨2, _⟩ =>
    have e : gather_S4x20000x117_S4x100x2_S4x100x117_2_01_n_n_01_2_11117.start (ix3 b r k) idx 2 = 0 := by
      unfold GatherDims.start
      rw [dif_neg (show (2 : Fin 3) ∉ gather_S4x20000x117_S4x100x2_S4x100x117_2_01_n_n_01_2_11117.startIndexMap by decide)]
    show gather_S4x20000x117_S4x100x2_S4x100x117_2_01_n_n_01_2_11117.start (ix3 b r k) idx 2 + gather_S4x20000x117_S4x100x2_S4x100x117_2_01_n_n_01_2_11117.offCoord (ix3 b r k) 2 = k.val
    rw [e, Nat.zero_add]
    rfl

/-- The picked rows of the argument. -/
def picked (s : State Ideal) : S4x100x117.Idx → EReal :=
  Host.gather gather_S4x20000x117_S4x100x2_S4x100x117_2_01_n_n_01_2_11117 x (concatenate S4x100x2 2 [⟨S4x100x1, (broadcastInDim S4x100x1 ![0, 1] bcast_S4x100_S4x100x1_0_1 (broadcastInDim S4x100 ![0, 1] bcast_S4x1_S4x100_0_1 (shapeCast S4x1 (iotaInDim S4 32 0) shapeCasts_S4_S4x1)))⟩, ⟨S4x100x1, (broadcastInDim S4x100x1 ![0, 1] bcast_S4x100_S4x100x1_0_1 (transpose S4x100 [1, 0] (s.main_v29_7) transposes_S100x4_S4x100_1_0))⟩] concatenates_S4x100x1_S4x100x1_S4x100x2_d2)

theorem two_planes (u0 u1 : IVec S4x100x1 32) (h : Shape.Concatenates (([⟨S4x100x1, u0⟩, ⟨S4x100x1, u1⟩] : List ((s : Shape) × (s.Idx → BitVec 32))).map (·.1)) S4x100x2 2)
    (b : Fin 4) (r : Fin 100) : concatenate S4x100x2 2 [⟨S4x100x1, u0⟩, ⟨S4x100x1, u1⟩] h (ix3 b r 0) = u0 (ix3 b r 0)
      ∧ concatenate S4x100x2 2 [⟨S4x100x1, u0⟩, ⟨S4x100x1, u1⟩] h (ix3 b r 1) = u1 (ix3 b r 0) := by
  have off : ∀ (k : Fin 2) (a : Fin 3), a.cast (rfl : S4x100x1.rank = S4x100x2.rank) ≠ (2 : Fin 3) →
      ((ix3 b r (0 : Fin 1) : S4x100x1.Idx) a).val = ((ix3 b r k : S4x100x2.Idx) (a.cast rfl)).val := by
    intro k a ha
    match a with
    | ⟨0, _⟩ => rfl
    | ⟨1, _⟩ => rfl
    | ⟨2, _⟩ => exact absurd rfl ha
  exact ⟨concatenate_apply_piece 2 _ h _ 0 (by simp) S4x100x1 u0 rfl rfl 0 (by rfl) _ (off 0) (by rfl),
    concatenate_apply_piece 2 _ h _ 1 (by simp) S4x100x1 u1 rfl rfl 1 (by rfl) _ (off 1) (by rfl)⟩

/-- A table of rows turned. -/
theorem turned {α : Type} (y : S100x4.Idx → α) (b : Fin 4) (r : Fin 100) :
    transpose S4x100 [1, 0] y transposes_S100x4_S4x100_1_0 (ix2 b r) = y (ix2 r b) :=
  transpose_apply _ _ _ _ _ (fun w => by match w with | ⟨0, _⟩ => rfl | ⟨1, _⟩ => rfl)

theorem unit_last {α : Type} (y : S4x100.Idx → α) (b : Fin 4) (r : Fin 100) :
    broadcastInDim S4x100x1 ![0, 1] bcast_S4x100_S4x100x1_0_1 y (ix3 b r 0) = y (ix2 b r) :=
  congrArg y (by funext a; match a with | ⟨0, _⟩ => rfl | ⟨1, _⟩ => rfl)

variable (s : State Ideal) (I : Fin 4 → Fin 100 → Fin 20000)

theorem picked_apply (hI : ∀ b r, s.main_v29_7 (ix2 r b) = BitVec.ofNat 32 (I b r).val) (b : Fin 4) (r : Fin 100) (k : Fin 117) :
    picked x s (ix3 b r k) = priorRow x b (I b r) k := by
  unfold picked
  obtain ⟨h0, h1⟩ := two_planes (broadcastInDim S4x100x1 ![0, 1] bcast_S4x100_S4x100x1_0_1 (broadcastInDim S4x100 ![0, 1] bcast_S4x1_S4x100_0_1 (shapeCast S4x1 (iotaInDim S4 32 0) shapeCasts_S4_S4x1)))
    (broadcastInDim S4x100x1 ![0, 1] bcast_S4x100_S4x100x1_0_1 (transpose S4x100 [1, 0] (s.main_v29_7) transposes_S100x4_S4x100_1_0)) concatenates_S4x100x1_S4x100x1_S4x100x2_d2 b r
  refine gather_prior x _ b r k (I b r) (h0.trans ?_) (h1.trans ?_)
  · rw [unit_last]
    refine (congrArg (shapeCast S4x1 (iotaInDim S4 32 0) shapeCasts_S4_S4x1) (?_ : _ = ix2 b 0)).trans ?_
    · funext a; match a with | ⟨0, _⟩ => rfl | ⟨1, _⟩ => rfl
    · exact (shapeCast_apply _ _ (ix2 b 0) (ix1 b) (by
        rw [Shape.rowMajor_val_two, Shape.rowMajor_val_one]; show b.val = b.val * 1 + (0 : Fin 1).val; simp)).trans rfl
  · rw [unit_last, turned, hI]

theorem picked_column (o : ℕ) (A : S4x100x117.Idx → EReal) (h : S4x100x117.Slices ![0, 0, o] S4x100x1) (b : Fin 4) (r : Fin 100) (k : Fin 117) (hk : k.val = o) :
    shapeCast S4x100 (extractStridedSlice S4x100x1 ![0, 0, o] A h) shapeCasts_S4x100x1_S4x100 (ix2 b r) = A (ix3 b r k) := by
  refine (shapeCast_apply _ _ (ix2 b r) (ix3 b r 0) (by
    rw [Shape.rowMajor_val_three, Shape.rowMajor_val_two]; show (b.val * 100 + r.val) * 1 + (0 : Fin 1).val = b.val * 100 + r.val; simp)).trans ?_
  exact extractStridedSlice_apply _ _ _ _ _ fun a => by
    match a with
    | ⟨0, _⟩ => show b.val = 0 + b.val; omega
    | ⟨1, _⟩ => show r.val = 0 + r.val; omega
    | ⟨2, _⟩ => show k.val = o + 0; omega

/-- The corners of the picked boxes. -/
theorem corners_out (hI : ∀ b r, s.main_v29_7 (ix2 r b) = BitVec.ofNat 32 (I b r).val) (b : Fin 4) (r : Fin 100) :
    R_main_v52 s x (ix2 b r) = low (priorRow x b (I b r)) 0 2 ∧ R_main_v55 s x (ix2 b r) = low (priorRow x b (I b r)) 1 3
      ∧ R_main_v58 s x (ix2 b r) = high (priorRow x b (I b r)) 0 2 ∧ R_main_v61 s x (ix2 b r) = high (priorRow x b (I b r)) 1 3 := by
  have c := fun (o : ℕ) (h : S4x100x117.Slices ![0, 0, o] S4x100x1) (k : Fin 117) (hk : k.val = o) =>
    (picked_column o (picked x s) h b r k hk).trans (picked_apply x s I hI b r k)
  have c0 := c 0 slices_S4x100x117_S4x100x1_0_0_0 0 rfl
  have c1 := c 1 slices_S4x100x117_S4x100x1_0_0_1 1 rfl
  have c2 := c 2 slices_S4x100x117_S4x100x1_0_0_2 2 rfl
  have c3 := c 3 slices_S4x100x117_S4x100x1_0_0_3 3 rfl
  refine ⟨?_, ?_, ?_, ?_⟩
  · exact congrArg₂ (fun u v : EReal => u - Ideal.div v (FloatOps.ofBits .f32 0x40000000#32 : Ideal .f32)) c0 c2
  · exact congrArg₂ (fun u v : EReal => u - Ideal.div v (FloatOps.ofBits .f32 0x40000000#32 : Ideal .f32)) c1 c3
  · exact congrArg₂ (fun u v : EReal => u + Ideal.div v (FloatOps.ofBits .f32 0x40000000#32 : Ideal .f32)) c0 c2
  · exact congrArg₂ (fun u v : EReal => u + Ideal.div v (FloatOps.ofBits .f32 0x40000000#32 : Ideal .f32)) c1 c3

theorem picked_classes (A : S4x100x117.Idx → EReal) (b : Fin 4) (r : Fin 100) (p : Fin 80) :
    extractStridedSlice S4x100x80 ![0, 0, 5] A slices_S4x100x117_S4x100x80_0_0_5 (ix3 b r p) = A (ix3 b r ⟨5 + p.val, by omega⟩) :=
  extractStridedSlice_apply _ _ _ _ _ fun a => by
    match a with
    | ⟨0, _⟩ => show b.val = 0 + b.val; omega
    | ⟨1, _⟩ => show r.val = 0 + r.val; omega
    | ⟨2, _⟩ => rfl

theorem reduces_classes : S4x100x80.Reduces [2] S4x100 := by decide

theorem lift_classes (b : Fin 4) (r : Fin 100) (p : Fin 80) : reduces_classes.lift (ix2 b r) p = ix3 b r p := by
  funext a; match a with | ⟨0, _⟩ => rfl | ⟨1, _⟩ => rfl | ⟨2, _⟩ => rfl

theorem best_out (A : S4x100x117.Idx → EReal) (b : Fin 4) (r : Fin 100) (R : Fin 117 → EReal) (hA : ∀ k, A (ix3 b r k) = R k) :
    Host.reduce (FloatOps.maximumf (F := Ideal) (φ := .f32)) (extractStridedSlice S4x100x80 ![0, 0, 5] A slices_S4x100x117_S4x100x80_0_0_5) (constant S_ .f32 0xFF800000#32 : FVec Ideal S_ .f32) reducesTo_S4x100x80_S4x100_d2 h_S_ (ix2 b r)
      = Finset.univ.fold max (⊥ : EReal) (scores R) := by
  refine (Host.reduce_eq_fold_single FloatOps.maximumf _ _ reducesTo_S4x100x80_S4x100_d2 reduces_classes h_S_ (ix2 b r)).trans ?_
  refine Eq.trans (b := Finset.univ.fold max (FloatOps.ofBits .f32 0xFF800000#32 : Ideal .f32) (fun p : Fin 80 => extractStridedSlice S4x100x80 ![0, 0, 5] A slices_S4x100x117_S4x100x80_0_0_5 (reduces_classes.lift (ix2 b r) p))) rfl ?_
  rw [word_bot]
  exact congrArg (Finset.univ.fold max (⊥ : EReal)) (funext fun p => (congrArg _ (lift_classes b r p)).trans ((picked_classes A b r p).trans (hA _)))

/-- The scores of the picked boxes. -/
theorem score_out (hI : ∀ b r, s.main_v29_7 (ix2 r b) = BitVec.ofNat 32 (I b r).val) (b : Fin 4) (r : Fin 100) :
    R_main_v67 s x (ix2 b r) = Scalar.select (s.main_v29_8 (ix2 r b)) (score (priorRow x b (I b r))) (0 : EReal) := by
  have c4 := (picked_column 4 (picked x s) slices_S4x100x117_S4x100x1_0_0_4 b r 4 rfl).trans (picked_apply x s I hI b r 4)
  have cb := best_out (picked x s) b r (priorRow x b (I b r)) (picked_apply x s I hI b r)
  have e : R_main_v67 s x (ix2 b r) = Scalar.select (transpose S4x100 [1, 0] s.main_v29_8 transposes_S100x4_S4x100_1_0 (ix2 b r))
      ((shapeCast S4x100 (extractStridedSlice S4x100x1 ![0, 0, 4] (picked x s) slices_S4x100x117_S4x100x1_0_0_4) shapeCasts_S4x100x1_S4x100 (ix2 b r) : EReal)
        * Host.reduce (FloatOps.maximumf (F := Ideal) (φ := .f32)) (extractStridedSlice S4x100x80 ![0, 0, 5] (picked x s) slices_S4x100x117_S4x100x80_0_0_5) (constant S_ .f32 0xFF800000#32 : FVec Ideal S_ .f32) reducesTo_S4x100x80_S4x100_d2 h_S_ (ix2 b r))
      (FloatOps.ofBits .f32 0x00000000#32 : Ideal .f32) := by
    unfold picked; rfl
  rw [e, c4, cb, turned, zero_word]
  rfl

/-- The classes of the picked boxes. -/
theorem class_out (hI : ∀ b r, s.main_v29_7 (ix2 r b) = BitVec.ofNat 32 (I b r).val) (b : Fin 4) (r : Fin 100) (j : Fin 80)
    (hj : IsFirst (scores (priorRow x b (I b r))) j) : R_main_v69 s x (ix2 b r) = BitVec.ofNat 32 j.val := by
  have hs : ∀ p : Fin 80, extractStridedSlice S4x100x80 ![0, 0, 5] (picked x s) slices_S4x100x117_S4x100x80_0_0_5 (ix3 b r p) = scores (priorRow x b (I b r)) p := fun p =>
    (picked_classes _ b r p).trans (picked_apply x s I hI b r _)
  have := argmax_row reducesTo_S4x100x80_S4x100_d2 reduces_classes h_S_ (extractStridedSlice S4x100x80 ![0, 0, 5] (picked x s) slices_S4x100x117_S4x100x80_0_0_5) (iotaInDim S4x100x80 32 2)
    (constant S_ .f32 0xFF800000#32 : FVec Ideal S_ .f32) (constantI S_ 32 0#32) (ix2 b r) (fun _ => word_bot) (fun _ => rfl) (by decide)
    (fun c => (congrArg (iotaInDim S4x100x80 32 2) (lift_classes b r c)).trans rfl) j (by
      have e : (fun c => extractStridedSlice S4x100x80 ![0, 0, 5] (picked x s) slices_S4x100x117_S4x100x80_0_0_5 (reduces_classes.lift (ix2 b r) c)) = scores (priorRow x b (I b r)) :=
        funext fun c => (congrArg _ (lift_classes b r c)).trans (hs c)
      exact (congrArg (fun f => IsFirst f j) e).mpr hj)
  exact congrArg Prod.snd this

/-- The coefficients of the picked boxes. -/
theorem coef_out (hI : ∀ b r, s.main_v29_7 (ix2 r b) = BitVec.ofNat 32 (I b r).val) (b : Fin 4) (r : Fin 100) (d : Fin 32) :
    R_main_v70 s x (ix3 b r d) = priorRow x b (I b r) ⟨85 + d.val, by omega⟩ := by
  refine (extractStridedSlice_apply _ _ _ _ (ix3 b r ⟨85 + d.val, by omega⟩) fun a => ?_).trans (picked_apply x s I hI b r _)
  match a with
  | ⟨0, _⟩ => show b.val = 0 + b.val; omega
  | ⟨1, _⟩ => show r.val = 0 + r.val; omega
  | ⟨2, _⟩ => rfl

/-- How many of the first `k` rows are marked. -/
def marked (v : Fin 100 → BitVec 1) (k : ℕ) : ℕ := (Finset.univ.filter fun r : Fin 100 => r.val < k ∧ v r = 1#1).card

theorem fold_marks (v : Fin 100 → BitVec 1) (T : Finset (Fin 100)) :
    T.fold IntOp.addi 0#32 (fun r => (v r).setWidth 32) = BitVec.ofNat 32 (T.filter fun r => v r = 1#1).card := by
  induction T using Finset.induction_on with
  | empty => rfl
  | insert a T ha ih =>
    rw [Finset.fold_insert ha, ih, Finset.filter_insert]
    by_cases h : v a = 1#1
    · rw [if_pos h, Finset.card_insert_of_notMem (fun hh => ha (Finset.mem_filter.1 hh).1), h]
      show (1#32 : BitVec 32) + _ = _
      rw [BitVec.ofNat_add, BitVec.add_comm]
    · rw [if_neg h]
      have h0 : v a = 0#1 := by revert h; generalize v a = w; revert w; decide
      rw [h0]
      show (0#32 : BitVec 32) + _ = _
      rw [BitVec.zero_add]

/-- The count. -/
theorem count_out (b : Fin 4) : R_main_v41 s (ix2 b 0) = BitVec.ofNat 32 (marked (fun r => s.main_v29_8 (ix2 r b)) 100) := by
  have hr : S4x100.Reduces [1] S4 := by decide
  have hl : ∀ r : Fin 100, hr.lift (ix1 b) r = ix2 b r := fun r => by
    funext a; match a with | ⟨0, _⟩ => rfl | ⟨1, _⟩ => rfl
  unfold R_main_v41
  rw [as_column]
  refine (Host.reduce_eq_fold_single IntOp.addi _ _ reducesTo_S4x100_S4_d1 hr h_S_ (ix1 b)).trans ?_
  refine Eq.trans (b := Finset.univ.fold IntOp.addi 0#32 (fun r : Fin 100 => (transpose S4x100 [1, 0] s.main_v29_8 transposes_S100x4_S4x100_1_0 (hr.lift (ix1 b) r)).setWidth 32)) rfl ?_
  have e : (fun r : Fin 100 => (transpose S4x100 [1, 0] s.main_v29_8 transposes_S100x4_S4x100_1_0 (hr.lift (ix1 b) r)).setWidth 32) = fun r => (s.main_v29_8 (ix2 r b)).setWidth 32 :=
    funext fun r => congrArg (BitVec.setWidth 32) ((congrArg _ (hl r)).trans (turned _ b r))
  refine (congrArg (Finset.univ.fold IntOp.addi 0#32) e).trans ((fold_marks (fun r => s.main_v29_8 (ix2 r b)) Finset.univ).trans ?_)
  unfold marked
  congr 2
  ext r
  simp only [Finset.mem_filter, Finset.mem_univ, true_and, r.isLt]

end Cert.Proof.Sel

end
-- ==== Proof.SelRounds.lean ====
/-
  The kernel's rounds and the reference's rounds agree: after equally many rounds the same priors are active and the same
  priors have been picked, in the same order.
-/
module

public import proofs.«01_k».proof.Proof.SelStep
public import proofs.«01_k».proof.Proof.SelOuts
public import proofs.«01_k».proof.Proof.SelRefOut

@[expose] public section

set_option maxRecDepth 16384

noncomputable section

namespace Cert.Proof.Sel

open Idealize.ShloMosaic Idealize.ShloMosaic.ValueIdx Cert.SelectIdeal Cert.SelectIdeal.Gen Cert.SelectIdeal.Pick
open Cert.SelectRefIdeal.Step (State step step_main_v29_6 step_main_v29_7 step_main_v29_8)

/-- A prior's column of the scratch arrays. -/
def up (j : Fin 20000) : Fin 20480 := ⟨j.val, by omega⟩

theorem columns_at (b : Fin 4) (c : Fin 20480) : iota .tc S4x20480 32 [1] iota_S4x20480_d1_w32 (ix2 b c) = BitVec.ofNat 32 c.val :=
  iota_single_apply ..

theorem rows_at (b : Fin 4) (r : Fin 100) : iota .tc S4x100 32 [1] iota_S4x100_d1_w32 (ix2 b r) = BitVec.ofNat 32 r.val :=
  iota_single_apply ..

variable (s0 s1 s2 s3 s4 s5 : Vec Ideal S4x20480 .f32) (s6 : Vec Ideal S4x20480 .i32)

/-- Row `r` of image `b` is prior `j` on both sides. -/
structure RowIs (K : Carry Ideal) (T : State Ideal) (b : Fin 4) (r : Fin 100) (j : Fin 20000) : Prop where
  here : K.2.1 (ix2 b r) = BitVec.ofNat 32 j.val
  there : T.main_v29_7 (ix2 r b) = BitVec.ofNat 32 j.val
  left : K.2.2.1 (ix2 b r) = s1 (ix2 b (up j))
  top : K.2.2.2.1 (ix2 b r) = s2 (ix2 b (up j))
  right : K.2.2.2.2.1 (ix2 b r) = s3 (ix2 b (up j))
  bottom : K.2.2.2.2.2.1 (ix2 b r) = s4 (ix2 b (up j))
  best : K.2.2.2.2.2.2.1 (ix2 b r) = Scalar.select (T.main_v29_8 (ix2 r b)) (s0 (ix2 b (up j))) (0 : EReal)
  kind : K.2.2.2.2.2.2.2 (ix2 b r) = s6 (ix2 b (up j))

/-- After `n` rounds the two sides agree. -/
structure Agree (K : Carry Ideal) (a : Vec Ideal S4x20480 .f32) (T : State Ideal) (n : ℕ) : Prop where
  inside : ∀ b (c : Fin 20000), a (ix2 b (up c)) = Scalar.select (T.main_v29_6 (ix2 b c)) (1 : EReal) (0 : EReal)
  outside : ∀ b (c : Fin 20480), 20000 ≤ c.val → a (ix2 b c) = (0 : EReal)
  rows : ∀ b (r : Fin 100), r.val < n → ∃ j, RowIs s0 s1 s2 s3 s4 s6 K T b r j
  count : ∀ b, K.1 (ix1 b) = ((marked (fun r => T.main_v29_8 (ix2 r b)) n : ℝ) : EReal)

/-- The scratch arrays hold the reference's scores and corners. -/
structure Same (T : State Ideal) : Prop where
  score : ∀ b c, s0 (ix2 b (up c)) = T.main_v29_0 (ix2 b c)
  left : ∀ b c, s1 (ix2 b (up c)) = T.main_v29_1 (ix2 b c)
  top : ∀ b c, s2 (ix2 b (up c)) = T.main_v29_2 (ix2 b c)
  right : ∀ b c, s3 (ix2 b (up c)) = T.main_v29_3 (ix2 b c)
  bottom : ∀ b c, s4 (ix2 b (up c)) = T.main_v29_4 (ix2 b c)

theorem bit_cases (v : BitVec 1) : v = 1#1 ∨ v = 0#1 := by revert v; decide

theorem select_one {α : Type} (x y : α) : Scalar.select 1#1 x y = x := rfl
theorem select_none {α : Type} (x y : α) : Scalar.select 0#1 x y = y := rfl

theorem select_pos (v : BitVec 1) (x y : EReal) : (if (0 : EReal) < Scalar.select v (1 : EReal) (0 : EReal) then x else y) = Scalar.select v x y := by
  rcases bit_cases v with h | h <;> subst h
  · rw [select_one, select_one, if_pos zero_lt_one]
  · rw [select_none, select_none, if_neg (lt_irrefl _)]

theorem bit_pos (v : BitVec 1) : Ideal.cmp .ogt (Scalar.select v (1 : EReal) (0 : EReal)) (0 : EReal) = v := by
  rcases bit_cases v with h | h <;> subst h
  · rw [select_one]; exact congrArg BitVec.ofBool (decide_eq_true zero_lt_one)
  · rw [select_none]; exact congrArg BitVec.ofBool (decide_eq_false (lt_irrefl _))

theorem other_column (c J : Fin 20000) : IntOp.xori (BitVec.ofBool (decide (up c = up J))) 1#1 = IntOp.cmpi .ne (BitVec.ofNat 32 c.val) (BitVec.ofNat 32 J.val) := by
  have e : (up c = up J) ↔ BitVec.ofNat 32 c.val = BitVec.ofNat 32 J.val := by
    rw [ofNat_inj (by omega) (by omega)]; exact ⟨fun h => (Fin.ext_iff.1 h : (up c).val = (up J).val), fun h => Fin.ext h⟩
  show _ = BitVec.ofBool (BitVec.ofNat 32 c.val != BitVec.ofNat 32 J.val)
  by_cases h : BitVec.ofNat 32 c.val = BitVec.ofNat 32 J.val
  · rw [decide_eq_true (e.2 h), h, bne_self_eq_false]; rfl
  · rw [decide_eq_false (fun q => h (e.1 q)), bne_iff_ne.2 h]; rfl

theorem marked_succ (v : Fin 100 → BitVec 1) (n : ℕ) (hn : n < 100) :
    marked v (n + 1) = marked v n + if v ⟨n, hn⟩ = 1#1 then 1 else 0 := by
  unfold marked
  by_cases h : v ⟨n, hn⟩ = 1#1
  · have e : (Finset.univ.filter fun r : Fin 100 => r.val < n + 1 ∧ v r = 1#1) = insert (⟨n, hn⟩ : Fin 100) (Finset.univ.filter fun r : Fin 100 => r.val < n ∧ v r = 1#1) := by
      refine Finset.ext fun r => ?_
      simp only [Finset.mem_filter, Finset.mem_univ, true_and, Finset.mem_insert, Fin.ext_iff]
      constructor
      · rintro ⟨h1, h2⟩
        by_cases q : r.val = n
        · exact .inl q
        · exact .inr ⟨by omega, h2⟩
      · rintro (q | ⟨h1, h2⟩)
        · exact ⟨by omega, by rw [show r = ⟨n, hn⟩ from Fin.ext q]; exact h⟩
        · exact ⟨by omega, h2⟩
    rw [if_pos h, e]
    exact Finset.card_insert_of_notMem (by simp)
  · rw [if_neg h]
    refine Eq.trans (congrArg Finset.card (Finset.ext fun r => ?_)) (Nat.add_zero _).symm
    simp only [Finset.mem_filter, Finset.mem_univ, true_and]
    constructor
    · rintro ⟨h1, h2⟩
      refine ⟨?_, h2⟩
      by_contra q
      exact h (by rw [← h2]; exact congrArg v (Fin.ext (by show n = r.val; omega)))
    · exact fun ⟨h1, h2⟩ => ⟨by omega, h2⟩

theorem marked_congr (v w : Fin 100 → BitVec 1) (n : ℕ) (h : ∀ r : Fin 100, r.val < n → v r = w r) : marked v n = marked w n := by
  unfold marked
  refine congrArg Finset.card (Finset.ext fun r => ?_)
  simp only [Finset.mem_filter, Finset.mem_univ, true_and]
  exact and_congr_right fun q => by rw [h r q]

theorem bit_real (v : BitVec 1) : (((v.setWidth 32).toInt : ℝ) : EReal) = (((if v = 1#1 then 1 else 0 : ℕ) : ℝ) : EReal) := by
  rcases bit_cases v with h | h <;> subst h <;> norm_num

variable {s0 s1 s2 s3 s4 s5 s6}
variable {K : Carry Ideal} {a : Vec Ideal S4x20480 .f32} {T : State Ideal} {n : ℕ}

/-- The masked scores agree on the priors. -/
theorem masked_in (hs : Same s0 s1 s2 s3 s4 T) (h : Agree s0 s1 s2 s3 s4 s6 K a T n) (b : Fin 4) (c : Fin 20000) :
    k0_pay2 s0 (FloatOps.ofBits .f32 4286578688#32 : Ideal .f32) a (ix2 b (up c)) = Cert.SelectRefIdeal.Step.b3 n T (ix2 b c) := by
  rw [masked_apply, h.inside, select_pos, hs.score]
  rfl

theorem masked_out (h : Agree s0 s1 s2 s3 s4 s6 K a T n) (b : Fin 4) (c : Fin 20480) (hc : 20000 ≤ c.val) :
    k0_pay2 s0 (FloatOps.ofBits .f32 4286578688#32 : Ideal .f32) a (ix2 b c) = (⊥ : EReal) := by
  rw [masked_apply, h.outside b c hc, if_neg (lt_irrefl _)]
  exact word_bot

/-- Both sides pick the same prior. -/
theorem pick (hs : Same s0 s1 s2 s3 s4 T) (h : Agree s0 s1 s2 s3 s4 s6 K a T n) :
    ∃ J : Fin 4 → Fin 20000, (∀ b, IsFirst (fun c => Cert.SelectRefIdeal.Step.b3 n T (ix2 b c)) (J b))
      ∧ ∀ b, IsFirst (fun c => k0_pay2 s0 (FloatOps.ofBits .f32 4286578688#32 : Ideal .f32) a (ix2 b c)) (up (J b)) := by
  have e := fun b : Fin 4 => exists_first (fun c : Fin 20000 => Cert.SelectRefIdeal.Step.b3 n T (ix2 b c)) (by norm_num)
  refine ⟨fun b => (e b).choose, fun b => (e b).choose_spec, fun b => (e b).choose_spec.extend rfl (fun c hc => ?_) (fun c hc => masked_out h b c hc)⟩
  exact masked_in hs h b ⟨c.val, hc⟩

set_option maxHeartbeats 1000000 in
/-- One more round on both sides. -/
theorem agree_step (hs : Same s0 s1 s2 s3 s4 T) (har : ∀ i, s5 i = (s3 i - s1 i) * (s4 i - s2 i)) (hn : n < 100)
    (h : Agree s0 s1 s2 s3 s4 s6 K a T n) :
    Agree s0 s1 s2 s3 s4 s6 (carryStep s0 (iota .tc S4x20480 32 [1] iota_S4x20480_d1_w32) s1 s2 s3 s4 s5 s6 (iota .tc S4x100 32 [1] iota_S4x100_d1_w32) (FloatOps.ofBits .f32 4286578688#32 : Ideal .f32) (BitVec.ofNat 32 n) K a) (activeStep s0 (iota .tc S4x20480 32 [1] iota_S4x20480_d1_w32) s1 s2 s3 s4 s5 s6 (iota .tc S4x100 32 [1] iota_S4x100_d1_w32) (FloatOps.ofBits .f32 4286578688#32 : Ideal .f32) a) (step n T) (n + 1) := by
  obtain ⟨J, hR, hK⟩ := pick hs h
  have act := fun b c => active_apply s0 (iota .tc S4x20480 32 [1] iota_S4x20480_d1_w32) (FloatOps.ofBits .f32 4286578688#32 : Ideal .f32) a (fun b => up (J b)) columns_at hK s1 s2 s3 s4 s5 har b c
  have hv : ∀ b, k0_pay6 s0 (FloatOps.ofBits .f32 4286578688#32 : Ideal .f32) a (ix2 b 0) = Cert.SelectRefIdeal.Step.b16 n T (ix1 b) := fun b => by
    rw [valid_apply s0 (FloatOps.ofBits .f32 4286578688#32 : Ideal .f32) a (fun b => up (J b)) hK, valid_ref n T J hR, masked_in hs h]
  have h8 : ∀ (b : Fin 4) (r : Fin 100), (step n T).main_v29_8 (ix2 r b) = if r.val = n then Cert.SelectRefIdeal.Step.b16 n T (ix1 b) else T.main_v29_8 (ix2 r b) := fun b r => by
    rw [step_main_v29_8]
    refine (row_update n T.main_v29_8 (Cert.SelectRefIdeal.Step.b85 n T) hn (Cert.SelectRefIdeal.Step.b86 n T) (fun _ => rfl) r b).trans ?_
    refine congrArg (fun z => if r.val = n then z else T.main_v29_8 (ix2 r b)) ?_
    exact congrArg (Cert.SelectRefIdeal.Step.b16 n T) (by funext q; match q with | ⟨0, _⟩ => rfl)
  have h7 : ∀ (b : Fin 4) (r : Fin 100), (step n T).main_v29_7 (ix2 r b) = if r.val = n then BitVec.ofNat 32 (J b).val else T.main_v29_7 (ix2 r b) := fun b r => by
    rw [step_main_v29_7]
    refine (row_update n T.main_v29_7 (Cert.SelectRefIdeal.Step.b82 n T) hn (Cert.SelectRefIdeal.Step.b83 n T) (fun _ => rfl) r b).trans ?_
    refine congrArg (fun z => if r.val = n then z else T.main_v29_7 (ix2 r b)) ?_
    exact (congrArg (Cert.SelectRefIdeal.Step.b8 n T) (by funext q; match q with | ⟨0, _⟩ => rfl)).trans (chosen n T J hR b)
  refine ⟨fun b c => ?_, fun b c hc => ?_, fun b r hr => ?_, fun b => ?_⟩
  · rw [step_main_v29_6, active_ref n T J hR]
    refine (act b (up c)).trans ?_
    rw [h.inside, bit_pos, hs.left, hs.top, hs.right, hs.bottom, hs.left, hs.top, hs.right, hs.bottom, other_column]
  · refine (act b c).trans ?_
    rw [h.outside b c hc]
    have z : Ideal.cmp .ogt (0 : EReal) (0 : EReal) = 0#1 := congrArg BitVec.ofBool (decide_eq_false (lt_irrefl _))
    rw [z]
    generalize Ideal.cmp _ _ _ = p
    generalize IntOp.xori _ _ = q
    have : IntOp.andi (IntOp.andi 0#1 p) q = 0#1 := by revert p q; decide
    rw [this, select_none]
  · have t4 := first_index s0 (iota .tc S4x20480 32 [1] iota_S4x20480_d1_w32) (FloatOps.ofBits .f32 4286578688#32 : Ideal .f32) a (fun b => up (J b)) columns_at hK b
    have t3 := first_value s0 (FloatOps.ofBits .f32 4286578688#32 : Ideal .f32) a (fun b => up (J b)) hK b
    have t7 := taken7 s0 (iota .tc S4x20480 32 [1] iota_S4x20480_d1_w32) (FloatOps.ofBits .f32 4286578688#32 : Ideal .f32) a (fun b => up (J b)) columns_at hK s1 b
    have t8 := taken8 s0 (iota .tc S4x20480 32 [1] iota_S4x20480_d1_w32) (FloatOps.ofBits .f32 4286578688#32 : Ideal .f32) a (fun b => up (J b)) columns_at hK s2 b
    have t9 := taken9 s0 (iota .tc S4x20480 32 [1] iota_S4x20480_d1_w32) (FloatOps.ofBits .f32 4286578688#32 : Ideal .f32) a (fun b => up (J b)) columns_at hK s3 b
    have t10 := taken10 s0 (iota .tc S4x20480 32 [1] iota_S4x20480_d1_w32) (FloatOps.ofBits .f32 4286578688#32 : Ideal .f32) a (fun b => up (J b)) columns_at hK s4 b
    have t11 := taken_word s0 (iota .tc S4x20480 32 [1] iota_S4x20480_d1_w32) (FloatOps.ofBits .f32 4286578688#32 : Ideal .f32) a (fun b => up (J b)) columns_at hK s6 b
    have row := fun {α : Type} (x : S4x1.Idx → α) (y : S4x100.Idx → α) => row_select (iota .tc S4x100 32 [1] iota_S4x100_d1_w32) rows_at n hn x y b r
    by_cases q : r.val = n
    · refine ⟨J b, ⟨?_, ?_, ?_, ?_, ?_, ?_, ?_, ?_⟩⟩
      · exact (row _ _).trans ((if_pos q).trans t4)
      · rw [h7, if_pos q]
      · exact (row _ _).trans ((if_pos q).trans t7)
      · exact (row _ _).trans ((if_pos q).trans t8)
      · exact (row _ _).trans ((if_pos q).trans t9)
      · exact (row _ _).trans ((if_pos q).trans t10)
      · rw [h8, if_pos q]
        refine (row _ _).trans ((if_pos q).trans ?_)
        refine Eq.trans (b := Scalar.select (k0_pay6 s0 (FloatOps.ofBits .f32 4286578688#32 : Ideal .f32) a (ix2 b 0)) (k0_pay3 s0 (FloatOps.ofBits .f32 4286578688#32 : Ideal .f32) a (ix2 b 0)) (FloatOps.ofBits .f32 0x00000000#32 : Ideal .f32)) rfl ?_
        rw [t3, hv, zero_word]
        have hb := hv b
        rw [valid_apply s0 (FloatOps.ofBits .f32 4286578688#32 : Ideal .f32) a (fun b => up (J b)) hK] at hb
        rw [masked_apply] at hb ⊢
        by_cases ha : (0 : EReal) < a (ix2 b (up (J b)))
        · rw [if_pos ha]
        · rw [if_neg ha] at hb ⊢
          have z : Ideal.cmp .ogt (FloatOps.ofBits .f32 4286578688#32 : Ideal .f32) (FloatOps.ofBits .f32 0x3E800000#32 : Ideal .f32) = 0#1 :=
            congrArg BitVec.ofBool (decide_eq_false (by rw [show (FloatOps.ofBits .f32 4286578688#32 : Ideal .f32) = (⊥ : EReal) from word_bot]; exact not_lt_bot))
          rw [← hb, z, select_none, select_none]
      · exact (row _ _).trans ((if_pos q).trans t11)
    · obtain ⟨j, hj⟩ := h.rows b r (by omega)
      refine ⟨j, ⟨?_, ?_, ?_, ?_, ?_, ?_, ?_, ?_⟩⟩
      · exact (row _ _).trans ((if_neg q).trans hj.here)
      · rw [h7, if_neg q]; exact hj.there
      · exact (row _ _).trans ((if_neg q).trans hj.left)
      · exact (row _ _).trans ((if_neg q).trans hj.top)
      · exact (row _ _).trans ((if_neg q).trans hj.right)
      · exact (row _ _).trans ((if_neg q).trans hj.bottom)
      · rw [h8, if_neg q]; exact (row _ _).trans ((if_neg q).trans hj.best)
      · exact (row _ _).trans ((if_neg q).trans hj.kind)
  · refine (count_apply _ _ b).trans ?_
    rw [hv, h.count, marked_succ _ n hn, h8, if_pos rfl, bit_real]
    rw [marked_congr (fun r => (step n T).main_v29_8 (ix2 r b)) (fun r => T.main_v29_8 (ix2 r b)) n (fun r hr => by
      rw [h8, if_neg (by omega)])]
    rw [Nat.cast_add, EReal.coe_add]

/-- Before the first round the two sides agree. -/
theorem agree_zero (hs : Same s0 s1 s2 s3 s4 T)
    (h6 : ∀ b c, T.main_v29_6 (ix2 b c) = Ideal.cmp .ogt (T.main_v29_0 (ix2 b c)) (FloatOps.ofBits .f32 0x3E800000#32 : Ideal .f32)) :
    Agree s0 s1 s2 s3 s4 s6 (k0_pay25, k0_pay24, k0_pay23, k0_pay23, k0_pay23, k0_pay23, k0_pay23, k0_pay24) (k0_pay22 s0) T 0 := by
  have e : ∀ b c, k0_pay22 s0 (ix2 b c) = Scalar.select (IntOp.andi (Ideal.cmp .ogt (s0 (ix2 b c)) (FloatOps.ofBits .f32 0x3E800000#32 : Ideal .f32))
      (IntOp.cmpi .slt (BitVec.ofNat 32 c.val) 20000#32)) (1 : EReal) (0 : EReal) := fun b c => by
    rw [← word_one', ← zero_word, ← columns_at b c]
    unfold k0_pay22
    rw [shapeCast_self]
    rfl
  have lt : ∀ c : Fin 20480, IntOp.cmpi .slt (BitVec.ofNat 32 c.val) 20000#32 = BitVec.ofBool (decide (c.val < 20000)) := fun c => by
    show BitVec.ofBool (decide ((BitVec.ofNat 32 c.val).toInt < (20000#32 : BitVec 32).toInt)) = _
    rw [toInt_ofNat (by omega)]
    have : (20000#32 : BitVec 32).toInt = 20000 := by decide
    rw [this]
    exact congrArg BitVec.ofBool (decide_eq_decide.2 (by omega))
  refine ⟨fun b c => ?_, fun b c hc => ?_, fun b r hr => absurd hr (Nat.not_lt_zero _), fun b => ?_⟩
  · rw [e, lt, hs.score, h6, decide_eq_true (show (up c).val < 20000 from c.isLt)]
    generalize Ideal.cmp _ _ _ = p
    have : IntOp.andi p (BitVec.ofBool true) = p := by revert p; decide
    rw [this]
  · rw [e, lt, decide_eq_false (by omega)]
    generalize Ideal.cmp _ _ _ = p
    have : IntOp.andi p (BitVec.ofBool false) = 0#1 := by revert p; decide
    rw [this, select_none]
  · refine Eq.trans (b := (FloatOps.ofBits .f32 0x00000000#32 : Ideal .f32)) rfl ?_
    rw [zero_word]
    have : marked (fun r => T.main_v29_8 (ix2 r b)) 0 = 0 := by unfold marked; simp
    rw [this]; simp

/-- After all rounds the two sides agree. -/
theorem agree_result (it : ℕ → State Ideal) (hit : ∀ n, it (n + 1) = step n (it n)) (hs : Same s0 s1 s2 s3 s4 (it 0))
    (har : ∀ i, s5 i = (s3 i - s1 i) * (s4 i - s2 i))
    (h6 : ∀ b c, (it 0).main_v29_6 (ix2 b c) = Ideal.cmp .ogt ((it 0).main_v29_0 (ix2 b c)) (FloatOps.ofBits .f32 0x3E800000#32 : Ideal .f32)) :
    Agree s0 s1 s2 s3 s4 s6 (result s0 s1 s2 s3 s4 s5 s6).1 (result s0 s1 s2 s3 s4 s5 s6).2 (it 100) 100 := by
  have same : ∀ n, Same s0 s1 s2 s3 s4 (it n) := fun n => by
    induction n with
    | zero => exact hs
    | succ n ih => rw [hit]; exact ⟨ih.score, ih.left, ih.top, ih.right, ih.bottom⟩
  have all : ∀ n, n ≤ 100 → Agree s0 s1 s2 s3 s4 s6
      (iter s0 (iota .tc S4x20480 32 [1] iota_S4x20480_d1_w32) s1 s2 s3 s4 s5 s6 (iota .tc S4x100 32 [1] iota_S4x100_d1_w32) (FloatOps.ofBits .f32 4286578688#32 : Ideal .f32) (k0_pay25, k0_pay24, k0_pay23, k0_pay23, k0_pay23, k0_pay23, k0_pay23, k0_pay24) (k0_pay22 s0) n).1
      (iter s0 (iota .tc S4x20480 32 [1] iota_S4x20480_d1_w32) s1 s2 s3 s4 s5 s6 (iota .tc S4x100 32 [1] iota_S4x100_d1_w32) (FloatOps.ofBits .f32 4286578688#32 : Ideal .f32) (k0_pay25, k0_pay24, k0_pay23, k0_pay23, k0_pay23, k0_pay23, k0_pay23, k0_pay24) (k0_pay22 s0) n).2 (it n) n := fun n => by
    induction n with
    | zero => exact fun _ => agree_zero hs h6
    | succ n ih => exact fun hn => by rw [hit]; exact agree_step (same n) har (by omega) (ih (by omega))
  exact all 100 le_rfl

end Cert.Proof.Sel

end
-- ==== Proof.SelClaim.lean ====
/-
  The selection's equality: every result of the kernel is the reference's, from the same argument.
-/
module

public import proofs.«01_k».proof.Defs
public import proofs.«01_k».proof.Proof.SelRun
public import proofs.«01_k».proof.Proof.SelRounds
public import proofs.«01_k».proof.Proof.SelRefStepRun
public import Idealize.ShloMosaic.Lib.Pipeline.ArrRel

@[expose] public section

set_option maxRecDepth 16384

noncomputable section

namespace Cert.Proof.Sel

open Idealize.ShloMosaic Idealize.ShloMosaic.TcCoe Idealize.ShloMosaic.ValueIdx Idealize.SL.Sem
open Cert.SelectIdeal Cert.SelectIdeal.Gen Cert.SelectIdeal.Pick
open Cert.SelectRefIdeal.Step (State init step R_main_v41 R_main_v52 R_main_v55 R_main_v58 R_main_v61 R_main_v67 R_main_v69 R_main_v70)

variable (m : (ℓ : Loc nD τ sig) → Buf (Elt Ideal) ℓ)

/-- The argument as device `c` is given it. -/
abbrev given (c : Dev nD) : S4x20000x117.Idx → EReal := m ((c : Thread nD τ).loc main_arg0)

/-- The reference's states from a given argument. -/
def rounds (x : S4x20000x117.Idx → EReal) : ℕ → State Ideal := fun k => Nat.rec (init (F := Ideal) x) (fun n s => step n s) k

theorem input_index : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem input_extent : ∀ t : Fin cfg0.N, win0_0.xsize (grid0.coords t) 0 = 4 ∧ win0_0.xsize (grid0.coords t) 1 = min 2048 (20000 - t.val * 2048) ∧ win0_0.xsize (grid0.coords t) 2 = 117 :=
  (by decide +kernel : ∀ t : Fin grid0.N, win0_0.xsize (grid0.coords t) 0 = 4 ∧ win0_0.xsize (grid0.coords t) 1 = min 2048 (20000 - t.val * 2048) ∧ win0_0.xsize (grid0.coords t) 2 = 117)

/-- A fetched block's row is the prior's row of the argument. -/
theorem moved_row (c : Dev nD) (u : Fin cfg0.N) (x : Vec Ideal S4x2048x117 .f32) (h : Moved m c u x) (b : Fin 4) (q : Fin 2048) (k : Fin 117)
    (hq : u.val * 2048 + q.val < 20000) : x (ix3 b q k) = given m c (ix3 b ⟨u.val * 2048 + q.val, hq⟩ k) := by
  obtain ⟨d, rfl⟩ := h
  obtain ⟨x0, x1, x2⟩ := input_extent u
  obtain ⟨i0, i1, i2⟩ := input_index u
  have mv : (cfg0.win 0).moved (grid0.coords u) (ix3 b q k) = true := ((cfg0.win 0).moved_iff _ _).mpr fun a => by
    match a with
    | ⟨0, _⟩ => show b.val < win0_0.xsize (grid0.coords u) 0; rw [x0]; exact b.isLt
    | ⟨1, _⟩ => show q.val < win0_0.xsize (grid0.coords u) 1; rw [x1]; omega
    | ⟨2, _⟩ => show k.val < win0_0.xsize (grid0.coords u) 2; rw [x2]; exact k.isLt
  unfold Pipeline.Window.fill
  rw [dif_pos mv]
  show V m c main_arg0 ((win0_0.rect u).emb _) = _
  rw [V_main_arg0]
  refine congrArg (m ((c : Thread nD τ).loc main_arg0)) (funext fun a => Fin.ext ?_)
  refine (Pipeline.Window.rect_emb_val win0_0 u _ a).trans ?_
  match a with
  | ⟨0, _⟩ => show win0_0.index u 0 * 4 + b.val = b.val; omega
  | ⟨1, _⟩ => show win0_0.index u 1 * 2048 + q.val = u.val * 2048 + q.val; omega
  | ⟨2, _⟩ => show win0_0.index u 2 * 117 + k.val = k.val; omega

variable {m} {c : Dev nD} {s0 s1 s2 s3 s4 s5 : Vec Ideal S4x20480 .f32} {s6 : Vec Ideal S4x20480 .i32} {s7 : Vec Ideal S4x32x20480 .f32}

/-- Every column of the scratch arrays comes from one row, which is the prior's where there is one. -/
theorem columns_of (h : Track m c 10 s0 s1 s2 s3 s4 s5 s6 s7) (b : Fin 4) (j : Fin 20480) :
    ∃ R : Fin 117 → EReal, (∀ hj : j.val < 20000, R = priorRow (given m c) b ⟨j.val, hj⟩)
      ∧ s0 (ix2 b j) = score R ∧ s1 (ix2 b j) = low R 0 2 ∧ s2 (ix2 b j) = low R 1 3 ∧ s3 (ix2 b j) = high R 0 2 ∧ s4 (ix2 b j) = high R 1 3
      ∧ s5 (ix2 b j) = (high R 0 2 - low R 0 2) * (high R 1 3 - low R 1 3)
      ∧ (∀ k, IsFirst (scores R) k → s6 (ix2 b j) = BitVec.ofNat 32 k.val) ∧ ∀ d : Fin 32, s7 (ix3 b d j) = R ⟨85 + d.val, by omega⟩ := by
  obtain ⟨X, hX, hH⟩ := h
  have hlt : j.val / 2048 < 10 := by omega
  have hcol : j.val / 2048 * 2048 + j.val % 2048 < 20480 := by omega
  have e : (⟨j.val / 2048 * 2048 + j.val % 2048, hcol⟩ : Fin 20480) = j := Fin.ext (by show j.val / 2048 * 2048 + j.val % 2048 = j.val; omega)
  have hs := hH (j.val / 2048) hlt b ⟨j.val % 2048, by omega⟩ hcol
  simp only [e] at hs
  obtain ⟨a0, a1, a2, a3, a4, a5, a6, a7⟩ := hs
  obtain ⟨b0, b1, b2, b3, b4, b5, b6, b7⟩ := stored (X (j.val / 2048)) b ⟨j.val % 2048, by omega⟩ (fun k => X (j.val / 2048) (ix3 b ⟨j.val % 2048, by omega⟩ k)) (fun _ => rfl)
  refine ⟨fun k => X (j.val / 2048) (ix3 b ⟨j.val % 2048, by omega⟩ k), fun hj => funext fun k => ?_, a0.trans b0, a1.trans b1, a2.trans b2, a3.trans b3, a4.trans b4, a5.trans b5,
    fun k hk => a6.trans (b6 k hk), fun d => (a7 d).trans (b7 d)⟩
  have hr : j.val / 2048 * 2048 + j.val % 2048 < 20000 := by omega
  refine (moved_row m c ⟨j.val / 2048, hlt⟩ _ (hX ⟨j.val / 2048, hlt⟩ hlt) b ⟨j.val % 2048, by omega⟩ k hr).trans ?_
  refine congrArg (fun z => given m c (ix3 b z k)) (Fin.ext ?_)
  show j.val / 2048 * 2048 + j.val % 2048 = j.val; omega

/-- The kernel's results from tracked scratch arrays are the reference's. -/
theorem same_results (h : Track m c 10 s0 s1 s2 s3 s4 s5 s6 s7) :
    (∀ b, k0_pay29 (F := Ideal) (result s0 s1 s2 s3 s4 s5 s6).1.1 (ix2 b 0) = R_main_v41 (rounds (given m c) 100) (ix2 b 0))
      ∧ (∀ b r, (result s0 s1 s2 s3 s4 s5 s6).1.2.2.1 (ix2 b r) = R_main_v52 (rounds (given m c) 100) (given m c) (ix2 b r))
      ∧ (∀ b r, (result s0 s1 s2 s3 s4 s5 s6).1.2.2.2.1 (ix2 b r) = R_main_v55 (rounds (given m c) 100) (given m c) (ix2 b r))
      ∧ (∀ b r, (result s0 s1 s2 s3 s4 s5 s6).1.2.2.2.2.1 (ix2 b r) = R_main_v58 (rounds (given m c) 100) (given m c) (ix2 b r))
      ∧ (∀ b r, (result s0 s1 s2 s3 s4 s5 s6).1.2.2.2.2.2.1 (ix2 b r) = R_main_v61 (rounds (given m c) 100) (given m c) (ix2 b r))
      ∧ (∀ b r, (result s0 s1 s2 s3 s4 s5 s6).1.2.2.2.2.2.2.1 (ix2 b r) = R_main_v67 (rounds (given m c) 100) (given m c) (ix2 b r))
      ∧ (∀ b r, (result s0 s1 s2 s3 s4 s5 s6).1.2.2.2.2.2.2.2 (ix2 b r) = R_main_v69 (rounds (given m c) 100) (given m c) (ix2 b r))
      ∧ ∀ X, CoefAt s0 s1 s2 s3 s4 s5 s6 s7 X → ∀ b r d, X (ix3 b r d) = R_main_v70 (rounds (given m c) 100) (given m c) (ix3 b r d) := by
  have prior : ∀ (b : Fin 4) (j : Fin 20000), s0 (ix2 b (up j)) = score (priorRow (given m c) b j)
      ∧ s1 (ix2 b (up j)) = low (priorRow (given m c) b j) 0 2 ∧ s2 (ix2 b (up j)) = low (priorRow (given m c) b j) 1 3
      ∧ s3 (ix2 b (up j)) = high (priorRow (given m c) b j) 0 2 ∧ s4 (ix2 b (up j)) = high (priorRow (given m c) b j) 1 3
      ∧ (∀ k, IsFirst (scores (priorRow (given m c) b j)) k → s6 (ix2 b (up j)) = BitVec.ofNat 32 k.val)
      ∧ ∀ d : Fin 32, s7 (ix3 b d (up j)) = priorRow (given m c) b j ⟨85 + d.val, by omega⟩ := fun b j => by
    obtain ⟨R, hR, a0, a1, a2, a3, a4, a5, a6, a7⟩ := columns_of h b (up j)
    obtain rfl : R = priorRow (given m c) b j := hR j.isLt
    exact ⟨a0, a1, a2, a3, a4, a6, a7⟩
  have area : ∀ i, s5 i = (s3 i - s1 i) * (s4 i - s2 i) := fun i => by
    obtain ⟨b, j, rfl⟩ : ∃ (b : Fin 4) (j : Fin 20480), i = ix2 b j := ⟨i 0, i 1, by funext a; match a with | ⟨0, _⟩ => rfl | ⟨1, _⟩ => rfl⟩
    obtain ⟨R, hR, a0, a1, a2, a3, a4, a5, a6, a7⟩ := columns_of h b j
    rw [a5, a1, a2, a3, a4]
  have hs : Same s0 s1 s2 s3 s4 (rounds (given m c) 0) :=
    ⟨fun b j => (prior b j).1.trans (score_init (given m c) b j).symm, fun b j => (prior b j).2.1.trans (corners_init (given m c) b j).1.symm,
      fun b j => (prior b j).2.2.1.trans (corners_init (given m c) b j).2.1.symm, fun b j => (prior b j).2.2.2.1.trans (corners_init (given m c) b j).2.2.1.symm,
      fun b j => (prior b j).2.2.2.2.1.trans (corners_init (given m c) b j).2.2.2.symm⟩
  have A := agree_result (s6 := s6) (rounds (given m c)) (fun _ => rfl) hs area (fun b j =>
    (active_init (given m c) b j).trans (congrArg (fun z => Ideal.cmp .ogt z (FloatOps.ofBits .f32 0x3E800000#32 : Ideal .f32)) (score_init (given m c) b j).symm))
  choose I hI using fun b (r : Fin 100) => A.rows b r r.isLt
  have hT : ∀ b r, (rounds (given m c) 100).main_v29_7 (ix2 r b) = BitVec.ofNat 32 (I b r).val := fun b r => (hI b r).there
  have corner := corners_out (given m c) (rounds (given m c) 100) I hT
  refine ⟨fun b => ?_, fun b r => (hI b r).left.trans ((prior b (I b r)).2.1.trans (corner b r).1.symm),
    fun b r => (hI b r).top.trans ((prior b (I b r)).2.2.1.trans (corner b r).2.1.symm),
    fun b r => (hI b r).right.trans ((prior b (I b r)).2.2.2.1.trans (corner b r).2.2.1.symm),
    fun b r => (hI b r).bottom.trans ((prior b (I b r)).2.2.2.2.1.trans (corner b r).2.2.2.symm),
    fun b r => ?_, fun b r => ?_, fun X hX b r d => ?_⟩
  · refine Eq.trans (b := shapeCast S4x1 (fptosi 32 (result s0 s1 s2 s3 s4 s5 s6).1.1 : IVec S4 32) shapeCasts_S4_S4x1 (ix2 b 0)) rfl ?_
    refine (cast_column _ _ b).trans ?_
    refine Eq.trans (b := Ideal.fptosi 32 ((result s0 s1 s2 s3 s4 s5 s6).1.1 (ix1 b))) rfl ?_
    have hle : marked (fun r => (rounds (given m c) 100).main_v29_8 (ix2 r b)) 100 ≤ 100 :=
      (Finset.card_le_univ _).trans (by simp)
    rw [A.count b, count_out]
    have w := word_back (marked (fun r => (rounds (given m c) 100).main_v29_8 (ix2 r b)) 100) (by omega)
    rw [toInt_ofNat (by omega)] at w
    exact_mod_cast w
  · rw [score_out (given m c) _ I hT b r, ← (prior b (I b r)).1]
    exact (hI b r).best
  · obtain ⟨k, hk⟩ := exists_first (scores (priorRow (given m c) b (I b r))) (by norm_num)
    rw [class_out (given m c) _ I hT b r k hk, ← (prior b (I b r)).2.2.2.2.2.1 k hk]
    exact (hI b r).kind
  · rw [coef_out (given m c) _ I hT b r d, ← (prior b (I b r)).2.2.2.2.2.2 d]
    exact hX b r d (up (I b r)) (hI b r).here

/-- The last point. -/
def last : Fin cfg0.N := ⟨9, by decide⟩

/-- What a result array holds at the end: what the last point's body left. -/
theorem result_array {w : Fin cfg0.W} {G : Buf (Elt Ideal) ((cfg0.win w).arr.view.loc (c.tc : Thread nD τ))} (hG : (tdat m c).ArrAt w cfg0.N G)
    (h : (cfg0.win w).WholeAt last) : ∃ X, (∃ Y, (tdat m c).after w last Y X) ∧ ∀ j : (cfg0.win w).shape.Idx,
      G ((cfg0.win w).arr.view.emb j) = _root_.cast (congrArg (Elt Ideal) (cfg0.win w).arr.view.elt_eq.symm) (X fun a => ⟨j a, h.lt_size j a⟩) := by
  obtain ⟨X, ⟨Y, _, hY⟩, e⟩ := hG.emb_eq_of_wholeAt h
  exact ⟨X, ⟨Y, hY⟩, e⟩

theorem pair (j : S4x100.Idx) : ∃ (b : Fin 4) (r : Fin 100), j = ix2 b r :=
  ⟨j 0, j 1, by funext a; match a with | ⟨0, _⟩ => rfl | ⟨1, _⟩ => rfl⟩

theorem count_array {G : S4x1.Idx → BitVec 32} (hG : (tdat m c).ArrAt 1 cfg0.N G) : G = R_main_v41 (rounds (given m c) 100) := by
  obtain ⟨X, ⟨Y, hY⟩, e⟩ := result_array hG (by decide +kernel)
  obtain ⟨s0, s1, s2, s3, s4, s5, s6, s7, hT, rfl⟩ := (hY : ends1 m c last X) rfl
  funext j
  obtain ⟨b, rfl⟩ : ∃ b : Fin 4, j = ix2 b 0 := ⟨j 0, by funext a; match a with | ⟨0, _⟩ => rfl | ⟨1, _⟩ => exact Subsingleton.elim (α := Fin 1) _ _⟩
  exact (e (ix2 b 0)).trans ((same_results hT).1 b)

theorem left_array {G : S4x100.Idx → EReal} (hG : (tdat m c).ArrAt 2 cfg0.N G) : G = R_main_v52 (rounds (given m c) 100) (given m c) := by
  obtain ⟨X, ⟨Y, hY⟩, e⟩ := result_array hG (by decide +kernel)
  obtain ⟨s0, s1, s2, s3, s4, s5, s6, s7, hT, rfl⟩ := (hY : ends2 m c last X) rfl
  funext j
  obtain ⟨b, r, rfl⟩ := pair j
  exact (e (ix2 b r)).trans ((same_results hT).2.1 b r)

theorem top_array {G : S4x100.Idx → EReal} (hG : (tdat m c).ArrAt 3 cfg0.N G) : G = R_main_v55 (rounds (given m c) 100) (given m c) := by
  obtain ⟨X, ⟨Y, hY⟩, e⟩ := result_array hG (by decide +kernel)
  obtain ⟨s0, s1, s2, s3, s4, s5, s6, s7, hT, rfl⟩ := (hY : ends3 m c last X) rfl
  funext j
  obtain ⟨b, r, rfl⟩ := pair j
  exact (e (ix2 b r)).trans ((same_results hT).2.2.1 b r)

theorem right_array {G : S4x100.Idx → EReal} (hG : (tdat m c).ArrAt 4 cfg0.N G) : G = R_main_v58 (rounds (given m c) 100) (given m c) := by
  obtain ⟨X, ⟨Y, hY⟩, e⟩ := result_array hG (by decide +kernel)
  obtain ⟨s0, s1, s2, s3, s4, s5, s6, s7, hT, rfl⟩ := (hY : ends4 m c last X) rfl
  funext j
  obtain ⟨b, r, rfl⟩ := pair j
  exact (e (ix2 b r)).trans ((same_results hT).2.2.2.1 b r)

theorem bottom_array {G : S4x100.Idx → EReal} (hG : (tdat m c).ArrAt 5 cfg0.N G) : G = R_main_v61 (rounds (given m c) 100) (given m c) := by
  obtain ⟨X, ⟨Y, hY⟩, e⟩ := result_array hG (by decide +kernel)
  obtain ⟨s0, s1, s2, s3, s4, s5, s6, s7, hT, rfl⟩ := (hY : ends5 m c last X) rfl
  funext j
  obtain ⟨b, r, rfl⟩ := pair j
  exact (e (ix2 b r)).trans ((same_results hT).2.2.2.2.1 b r)

theorem score_array {G : S4x100.Idx → EReal} (hG : (tdat m c).ArrAt 6 cfg0.N G) : G = R_main_v67 (rounds (given m c) 100) (given m c) := by
  obtain ⟨X, ⟨Y, hY⟩, e⟩ := result_array hG (by decide +kernel)
  obtain ⟨s0, s1, s2, s3, s4, s5, s6, s7, hT, rfl⟩ := (hY : ends6 m c last X) rfl
  funext j
  obtain ⟨b, r, rfl⟩ := pair j
  exact (e (ix2 b r)).trans ((same_results hT).2.2.2.2.2.1 b r)

theorem class_array {G : S4x100.Idx → BitVec 32} (hG : (tdat m c).ArrAt 7 cfg0.N G) : G = R_main_v69 (rounds (given m c) 100) (given m c) := by
  obtain ⟨X, ⟨Y, hY⟩, e⟩ := result_array hG (by decide +kernel)
  obtain ⟨s0, s1, s2, s3, s4, s5, s6, s7, hT, rfl⟩ := (hY : ends7 m c last X) rfl
  funext j
  obtain ⟨b, r, rfl⟩ := pair j
  exact (e (ix2 b r)).trans ((same_results hT).2.2.2.2.2.2.1 b r)

theorem coef_array {G : S4x100x32.Idx → EReal} (hG : (tdat m c).ArrAt 8 cfg0.N G) : G = R_main_v70 (rounds (given m c) 100) (given m c) := by
  obtain ⟨X, ⟨Y, hY⟩, e⟩ := result_array hG (by decide +kernel)
  obtain ⟨s0, s1, s2, s3, s4, s5, s6, s7, hT, hX⟩ := (hY : ends8 m c last X) rfl
  funext j
  obtain ⟨b, r, d, rfl⟩ : ∃ (b : Fin 4) (r : Fin 100) (d : Fin 32), j = ix3 b r d := ⟨j 0, j 1, j 2, by funext a; match a with | ⟨0, _⟩ => rfl | ⟨1, _⟩ => rfl | ⟨2, _⟩ => rfl⟩
  exact (e (ix3 b r d)).trans ((same_results hT).2.2.2.2.2.2.2 X hX b r d)

/-- The selection's equality. -/
theorem picks : Cert.algebraic_SelectIdeal_SelectRefIdeal (hSelectIdeal := Cert.SelectIdeal.Gen.facts) (hSelectRefIdeal := Cert.SelectRefIdeal.Gen.facts) := by
  intro m g m' g' _ hag
  refine ⟨fun c => R_main_v41 (rounds (given m c) 100), fun c => R_main_v52 (rounds (given m c) 100) (given m c), fun c => R_main_v55 (rounds (given m c) 100) (given m c),
    fun c => R_main_v58 (rounds (given m c) 100) (given m c), fun c => R_main_v61 (rounds (given m c) 100) (given m c), fun c => R_main_v67 (rounds (given m c) 100) (given m c),
    fun c => R_main_v69 (rounds (given m c) 100) (given m c), fun c => R_main_v70 (rounds (given m c) 100) (given m c),
    (θ_run Cert.SelectIdeal.defs _ _).mono (fun r h c => ?_) (run_tracked m g),
    (θ_run Cert.SelectRefIdeal.defs _ _).mono (fun r h c => ?_)
      (Cert.SelectRefIdeal.StepRun.run_iter m' g' (fun c => rounds (m' ((c.tc : Thread Cert.SelectRefIdeal.nD Cert.SelectRefIdeal.τ).loc Cert.SelectRefIdeal.main_arg0))) (fun _ => rfl) (fun _ _ => rfl))⟩
  · have hc := (h.1 c).1
    exact ⟨count_array (hc 1), left_array (hc 2), top_array (hc 3), right_array (hc 4), bottom_array (hc 5), score_array (hc 6), class_array (hc 7), coef_array (hc 8),
      (Pipeline.RDat.FramePost.arr_in h.1 c 0 rfl).trans (V_main_arg0 m c)⟩
  · obtain ⟨h0, h1, h2, h3, h4, h5, h6, h7, h8⟩ := h c
    exact ⟨h0.trans (congrArg (fun x => R_main_v41 (rounds x 100)) (hag c)), h1.trans (congrArg (fun x => R_main_v52 (rounds x 100) x) (hag c)),
      h2.trans (congrArg (fun x => R_main_v55 (rounds x 100) x) (hag c)), h3.trans (congrArg (fun x => R_main_v58 (rounds x 100) x) (hag c)),
      h4.trans (congrArg (fun x => R_main_v61 (rounds x 100) x) (hag c)), h5.trans (congrArg (fun x => R_main_v67 (rounds x 100) x) (hag c)),
      h6.trans (congrArg (fun x => R_main_v69 (rounds x 100) x) (hag c)), h7.trans (congrArg (fun x => R_main_v70 (rounds x 100) x) (hag c)), h8⟩

end Cert.Proof.Sel

end
-- ==== Proof.lean ====
/- The certificate of the two calls. Mask call: the frames of the kernel, of its idealization and of the reference, and the
   equality of the idealized kernel's masks with the reference's where the planes and the coefficients are finite. Selection
   call: the frames of the kernel, of its idealization and of the reference, and the equality of every result of the
   idealized kernel with the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Select
public import proofs.«01_k».proof.Proof.Gen.Select.Skeleton
public import proofs.«01_k».proof.Proof.Gen.Select.Loops
public import proofs.«01_k».proof.Proof.Gen.Select.Launch
public import proofs.«01_k».proof.Proof.Gen.Select.Points
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Loops
public import proofs.«01_k».proof.Proof.Gen.SelectIdeal.Launch
public import proofs.«01_k».proof.Proof.Gen.SelectIdeal.Points
public import proofs.«01_k».proof.Proof.Gen.SelectIdeal.Frame
public import proofs.«01_k».proof.Proof.Gen.SelectRefIdeal
public import proofs.«01_k».proof.Proof.Gen.ReferenceIdeal
public import proofs.«01_k».proof.Proof.Gen.ReferenceIdeal.Read
public import proofs.«01_k».proof.Proof.Gen.KernelIdeal.Value
public import proofs.«01_k».proof.Proof.MaskOut
public import proofs.«01_k».proof.Proof.SelFrame
public import proofs.«01_k».proof.Proof.SelFrameBits
public import proofs.«01_k».proof.Proof.SelRefStepRun
public import proofs.«01_k».proof.Proof.SelClaim
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The precondition's side conditions. -/
theorem pre_facts : Cert.Pre_finite.Facts := ⟨by decide, by decide⟩

theorem frame_k : Cert.quiescent_Kernel (hKernel := Cert.Kernel.Gen.facts) := fun m g _ => Cert.Kernel.Gen.frame m g

theorem frame_ki : Cert.quiescent_KernelIdeal (hKernelIdeal := Cert.KernelIdeal.Gen.facts) := fun m g _ => Cert.KernelIdeal.Gen.frame m g

theorem frame_r : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- An ordered comparison with +∞ that came out set: the number's size is below +∞. -/
theorem lt_top_of_bit {z : EReal} (h : BitVec.ofBool (decide (max z (-z) < (⊤ : EReal))) = 1#1) : ∃ r : ℝ, z = (r : EReal) := by
  by_cases hz : max z (-z) < ⊤
  · exact Mask.exists_real hz
  · rw [decide_eq_false hz] at h; exact absurd h (by decide)

section Value

open Cert.KernelIdeal Cert.KernelIdeal.Gen

/-- With finite planes and coefficients, the kernel's array of masks is the reference's function of the same arguments. -/
theorem masks_eq (m : (ℓ : Loc nD τ sig) → Buf (Elt Ideal) ℓ) (c : Dev nD)
    (ha : ∀ j : S4x100x32.Idx, ∃ r : ℝ, Mask.in5 m c j = (r : EReal)) (hP : ∀ j : S4x32x160x160.Idx, ∃ r : ℝ, Mask.in0 m c j = (r : EReal)) :
    ((dats (F := Ideal) m 0 c).arrAt 6 cfg0.N : S4x100x56x56.Idx → EReal)
      = Cert.ReferenceIdeal.Read.val_main_v134 (F := Ideal) (Mask.in0 m c) (Mask.in1 m c) (Mask.in2 m c) (Mask.in3 m c) (Mask.in4 m c) (Mask.in5 m c) := by
  funext j
  obtain ⟨b, r, y, z, rfl⟩ : ∃ (b : Fin 4) (r : Fin 100) (y z : Fin 56), j = ix4 b r y z := ⟨j 0, j 1, j 2, j 3, by funext a; match a with | ⟨0, _⟩ => rfl | ⟨1, _⟩ => rfl | ⟨2, _⟩ => rfl | ⟨3, _⟩ => rfl⟩
  obtain ⟨X, Y, c0, c1, r0, r1, hX, hY, hX9, hY9, hc0, hc1, hr0, hr1, he⟩ :=
    Mask.ref_apply (Mask.in1 m c) (Mask.in2 m c) (Mask.in3 m c) (Mask.in4 m c) (Mask.in0 m c) (Mask.in5 m c) b r y z
  rw [Mask.final_apply m c b r y z X Y hX hY, he]
  exact congrArg Ideal.logistic (Mask.combine (fun f => Mask.in5 m c (ix3 b r f)) (fun f p q => Mask.in0 m c (ix4 b f p q)) X Y hX9 hY9
    (fun f => ha _) (fun f p q => hP _) c0 c1 r0 r1 hc0 hc1 hr0 hr1)

end Value

theorem masks : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hag
  refine ⟨fun c => (Cert.KernelIdeal.Gen.dats (F := Ideal) m 0 c).arrAt 6 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨e0, e1, e2, e3, e4, e5⟩ := hag c
  rw [Cert.ReferenceIdeal.Read.val_main_v134_eq, e0, e1, e2, e3, e4, e5]
  obtain ⟨h0, h5⟩ := hpre c
  refine (masks_eq m c (fun j => lt_top_of_bit ?_) (fun j => lt_top_of_bit ?_)).symm
  · have := congrFun h5 j
    rw [← Mask.word_inf]
    exact this
  · have := congrFun h0 j
    rw [← Mask.word_inf]
    exact this

theorem frame_s : Cert.quiescent_Select (hSelect := Cert.Select.Gen.facts) := fun m g _ => Cert.Select.Pick.frame_run m g

theorem frame_si : Cert.quiescent_SelectIdeal (hSelectIdeal := Cert.SelectIdeal.Gen.facts) := fun m g _ => Cert.SelectIdeal.Pick.frame_run m g

theorem frame_sr : Cert.quiescent_SelectRefIdeal (hSelectRefIdeal := Cert.SelectRefIdeal.Gen.facts) := fun m g _ =>
  (θ_run Cert.SelectRefIdeal.defs _ _).mono
    (fun r h => ⟨fun c => (h c).2.2.2.2.2.2.2.2, sem_eq_zero_of_no_sems (by decide) r.2⟩)
    (Cert.SelectRefIdeal.StepRun.run_iter m g (fun c k => Nat.rec (Cert.SelectRefIdeal.StepRun.initState m c) (fun n s => Cert.SelectRefIdeal.Step.step n s) k)
      (fun _ => rfl) (fun _ _ => rfl))

theorem claim : Cert.Claim := ⟨Cert.Kernel.Gen.facts, Cert.KernelIdeal.Gen.facts, Cert.ReferenceIdeal.Gen.facts, Cert.Select.Gen.facts,
  Cert.SelectIdeal.Gen.facts, Cert.SelectRefIdeal.Gen.facts, pre_facts,
  frame_k, frame_ki, fun m g _ => frame_ki m g trivial, frame_r, fun m g _ => frame_r m g trivial, frame_s, frame_si, frame_sr, trivial, masks, trivial, Sel.picks⟩

end Cert.Proof

end
